-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x512 : Shape := ⟨2, ![1024, 512]⟩
abbrev S9x256x512 : Shape := ⟨3, ![9, 256, 512]⟩
abbrev S24576x9 : Shape := ⟨2, ![24576, 9]⟩
abbrev S24576 : Shape := ⟨1, ![24576]⟩
abbrev S256 : Shape := ⟨1, ![256]⟩
abbrev S2304x512 : Shape := ⟨2, ![2304, 512]⟩
abbrev S3328x512 : Shape := ⟨2, ![3328, 512]⟩
abbrev S_ : Shape := ⟨0, ![]⟩

class Facts : Prop where
  shapeCasts_S9x256x512_S2304x512 : S9x256x512.ShapeCasts S2304x512
  concatenates_S1024x512_S2304x512_S3328x512_d0 : Shape.Concatenates [S1024x512, S2304x512] S3328x512 0
  bcast_S_S3328x512 : S_.BroadcastsInDim S3328x512 (![] : Fin 0 → Fin S3328x512.rank)

variable [Facts]

def fn {F : FTy → Type} [FloatOps F] (main_arg0 : FVec F S1024x512 .bf16) (main_arg1 : FVec F S9x256x512 .bf16) (main_arg2 : IVec S24576x9 8) (main_arg3 : IVec S24576 8) (main_arg4 : FVec F S256 .f32) : IVec S3328x512 1 :=
  let main_v0 : FVec F S2304x512 .bf16 := shapeCast S2304x512 main_arg1 shapeCasts_S9x256x512_S2304x512
  let main_v1 : FVec F S3328x512 .bf16 := (fun a b => concatenate S3328x512 0 [⟨S1024x512, a⟩, ⟨S2304x512, b⟩] concatenates_S1024x512_S2304x512_S3328x512_d0) main_arg0 main_v0
  let main_v2 : FVec F S3328x512 .bf16 := Host.absf main_v1
  let main_cst : FVec F S_ .bf16 := constant S_ .bf16 0x7F80#16
  let main_v3 : FVec F S3328x512 .bf16 := broadcastInDim S3328x512 ![] bcast_S_S3328x512 main_cst
  let main_v4 : IVec S3328x512 1 := cmpf .olt main_v2 main_v3
  main_v4
-- ==== Kernel.lean ====
abbrev S1024x512 : Shape := ⟨2, ![1024, 512]⟩
abbrev S9x256x512 : Shape := ⟨3, ![9, 256, 512]⟩
abbrev S24576x9 : Shape := ⟨2, ![24576, 9]⟩
abbrev S24576 : Shape := ⟨1, ![24576]⟩
abbrev S256 : Shape := ⟨1, ![256]⟩
abbrev S2304x512 : Shape := ⟨2, ![2304, 512]⟩
abbrev S9x24576 : Shape := ⟨2, ![9, 24576]⟩
abbrev S_ : Shape := ⟨0, ![]⟩
abbrev S16x24576 : Shape := ⟨2, ![16, 24576]⟩
abbrev S16x48x512 : Shape := ⟨3, ![16, 48, 512]⟩
abbrev S48x16x512 : Shape := ⟨3, ![48, 16, 512]⟩
abbrev S192x128 : Shape := ⟨2, ![192, 128]⟩
abbrev S1x256 : Shape := ⟨2, ![1, 256]⟩
abbrev S1024x24576 : Shape := ⟨2, ![1024, 24576]⟩
abbrev S1024x2304 : Shape := ⟨2, ![1024, 2304]⟩
abbrev S1x16x512 : Shape := ⟨3, ![1, 16, 512]⟩
abbrev S18432x128 : Shape := ⟨2, ![18432, 128]⟩
abbrev S9x512x256 : Shape := ⟨3, ![9, 512, 256]⟩
abbrev S1024x128 : Shape := ⟨2, ![1024, 128]⟩
abbrev S2x1056x128 : Shape := ⟨3, ![2, 1056, 128]⟩
abbrev S2x16x256 : Shape := ⟨3, ![2, 16, 256]⟩
abbrev S16x256 : Shape := ⟨2, ![16, 256]⟩
abbrev S16x512 : Shape := ⟨2, ![16, 512]⟩
abbrev S1x16x256 : Shape := ⟨3, ![1, 16, 256]⟩
abbrev S1024 : Shape := ⟨1, ![1024]⟩
abbrev S1024x1 : Shape := ⟨2, ![1024, 1]⟩
abbrev S256x512 : Shape := ⟨2, ![256, 512]⟩
abbrev S1024x256 : Shape := ⟨2, ![1024, 256]⟩
abbrev S512x256 : Shape := ⟨2, ![512, 256]⟩
abbrev S1x512x256 : Shape := ⟨3, ![1, 512, 256]⟩
abbrev S128x512 : Shape := ⟨2, ![128, 512]⟩
abbrev S256x128 : Shape := ⟨2, ![256, 128]⟩
abbrev S128x128 : Shape := ⟨2, ![128, 128]⟩
abbrev S1x128 : Shape := ⟨2, ![1, 128]⟩
abbrev S8x128 : Shape := ⟨2, ![8, 128]⟩
abbrev S8x128x1 : Shape := ⟨3, ![8, 128, 1]⟩
abbrev S1x1 : Shape := ⟨2, ![1, 1]⟩
abbrev S1x8x128 : Shape := ⟨3, ![1, 8, 128]⟩
abbrev S1x128x128 : Shape := ⟨3, ![1, 128, 128]⟩
abbrev S256x256 : Shape := ⟨2, ![256, 256]⟩

abbrev nBuf : Space → Nat
  | .hbm => 18
  | .vmem => 17
  | .smem => 2
  | _ => 0

abbrev bufTy : (tb : Table) → Fin (tcTables nBuf tb) → BufTy
  | .hbm, ⟨0, _⟩ => ⟨S1024x512, .bf16⟩
  | .hbm, ⟨1, _⟩ => ⟨S9x256x512, .bf16⟩
  | .hbm, ⟨2, _⟩ => ⟨S24576x9, .i8⟩
  | .hbm, ⟨3, _⟩ => ⟨S24576, .i8⟩
  | .hbm, ⟨4, _⟩ => ⟨S256, .f32⟩
  | .hbm, ⟨5, _⟩ => ⟨S2304x512, .bf16⟩
  | .hbm, ⟨6, _⟩ => ⟨S24576x9, .i32⟩
  | .hbm, ⟨7, _⟩ => ⟨S9x24576, .i32⟩
  | .hbm, ⟨8, _⟩ => ⟨S_, .i32⟩
  | .hbm, ⟨9, _⟩ => ⟨S_, .i32⟩
  | .hbm, ⟨10, _⟩ => ⟨S16x24576, .i32⟩
  | .hbm, ⟨11, _⟩ => ⟨S16x48x512, .i32⟩
  | .hbm, ⟨12, _⟩ => ⟨S48x16x512, .i32⟩
  | .hbm, ⟨13, _⟩ => ⟨S192x128, .i8⟩
  | .hbm, ⟨14, _⟩ => ⟨S192x128, .i32⟩
  | .hbm, ⟨15, _⟩ => ⟨S1x256, .f32⟩
  | .hbm, ⟨16, _⟩ => ⟨S1024x24576, .f32⟩
  | .hbm, ⟨17, _⟩ => ⟨S1024x2304, .f32⟩
  | .local _ .vmem, ⟨0, _⟩ => ⟨S1024x512, .bf16⟩
  | .local _ .vmem, ⟨1, _⟩ => ⟨S2304x512, .bf16⟩
  | .local _ .vmem, ⟨2, _⟩ => ⟨S192x128, .i32⟩
  | .local _ .vmem, ⟨3, _⟩ => ⟨S1x256, .f32⟩
  | .local _ .vmem, ⟨4, _⟩ => ⟨S1x16x512, .i32⟩
  | .local _ .vmem, ⟨5, _⟩ => ⟨S1x16x512, .i32⟩
  | .local _ .vmem, ⟨6, _⟩ => ⟨S1x16x512, .i32⟩
  | .local _ .vmem, ⟨7, _⟩ => ⟨S1x16x512, .i32⟩
  | .local _ .vmem, ⟨8, _⟩ => ⟨S1024x512, .f32⟩
  | .local _ .vmem, ⟨9, _⟩ => ⟨S1024x512, .f32⟩
  | .local _ .vmem, ⟨10, _⟩ => ⟨S1024x2304, .f32⟩
  | .local _ .vmem, ⟨11, _⟩ => ⟨S18432x128, .f32⟩
  | .local _ .vmem, ⟨12, _⟩ => ⟨S9x512x256, .bf16⟩
  | .local _ .vmem, ⟨13, _⟩ => ⟨S1024x128, .f32⟩
  | .local _ .vmem, ⟨14, _⟩ => ⟨S192x128, .f32⟩
  | .local _ .vmem, ⟨15, _⟩ => ⟨S2x1056x128, .f32⟩
  | .local _ .vmem, ⟨16, _⟩ => ⟨S2x16x256, .i32⟩
  | .local _ .smem, ⟨0, _⟩ => ⟨S16x256, .i32⟩
  | .local _ .smem, ⟨1, _⟩ => ⟨S16x256, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.smem, 0, rfl⟩
abbrev cc0_scratch8 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def k0_mult1 : BitVec 32 :=
  let c0_i32_19 : BitVec 32 := 0#32
  c0_i32_19
@[reducible] def k0_t1_loop : Scf.Loop 32 :=
  let c0_i32_27 : BitVec 32 := 0#32
  let c8_i32_28 : BitVec 32 := 8#32
  let v54 : BitVec 32 := Scalar.addi c0_i32_27 c8_i32_28
  let c1_i32 : BitVec 32 := 1#32
  ⟨c0_i32_27, v54, c1_i32⟩
def k0_mult2 (k0_t1 : Fin k0_t1_loop.trips) : BitVec 32 :=
  let c0_i32_27 : BitVec 32 := 0#32
  let c1_i32 : BitVec 32 := 1#32
  let arg21 : BitVec 32 := Scf.iv c0_i32_27 c1_i32 k0_t1
  let c128_i32 : BitVec 32 := 128#32
  let v65 : BitVec 32 := Scalar.muli arg21 c128_i32
  v65
def k0_off1 (k0_t1 : Fin k0_t1_loop.trips) : Fin 2 → Nat :=
  let c0_i32_27 : BitVec 32 := 0#32
  let c1_i32 : BitVec 32 := 1#32
  let arg21 : BitVec 32 := Scf.iv c0_i32_27 c1_i32 k0_t1
  let c128_i32 : BitVec 32 := 128#32
  let v65 : BitVec 32 := Scalar.muli arg21 c128_i32
  let v66 : BitVec 32 := v65
  let v67 : Index := Scalar.indexCast v66
  let c0_39 : Index := 0#32
  ![v67.toNat, 0]
def k0_off2 (k0_t1 : Fin k0_t1_loop.trips) : Fin 2 → Nat :=
  let c0_i32_27 : BitVec 32 := 0#32
  let c1_i32 : BitVec 32 := 1#32
  let arg21 : BitVec 32 := Scf.iv c0_i32_27 c1_i32 k0_t1
  let c128_i32 : BitVec 32 := 128#32
  let v65 : BitVec 32 := Scalar.muli arg21 c128_i32
  let v66 : BitVec 32 := v65
  let v72 : Index := Scalar.indexCast v66
  let c0_42 : Index := 0#32
  ![v72.toNat, 0]
def k0_off3 (k0_t1 : Fin k0_t1_loop.trips) (c0_i32_43 : BitVec 32) : Fin 2 → Nat :=
  let c0_i32_27 : BitVec 32 := 0#32
  let c1_i32 : BitVec 32 := 1#32
  let arg21 : BitVec 32 := Scf.iv c0_i32_27 c1_i32 k0_t1
  let v79 : BitVec 32 := Scalar.addi c0_i32_43 arg21
  let v80 : Index := Scalar.indexCast v79
  let c0_44 : Index := 0#32
  ![v80.toNat, 0]
@[reducible] def k0_t2_loop : Scf.Loop 32 :=
  let c1_i32_30 : BitVec 32 := 1#32
  let c8_i32_31 : BitVec 32 := 8#32
  let v55 : BitVec 32 := Scalar.addi c1_i32_30 c8_i32_31
  let c1_i32_32 : BitVec 32 := 1#32
  ⟨c1_i32_30, v55, c1_i32_32⟩
def k0_mult3 (k0_t2 : Fin k0_t2_loop.trips) : BitVec 32 :=
  let c1_i32_30 : BitVec 32 := 1#32
  let c1_i32_32 : BitVec 32 := 1#32
  let arg21 : BitVec 32 := Scf.iv c1_i32_30 c1_i32_32 k0_t2
  let c256_i32 : BitVec 32 := 256#32
  let v66 : BitVec 32 := Scalar.muli arg21 c256_i32
  v66
def k0_off4 (k0_t2 : Fin k0_t2_loop.trips) : Fin 2 → Nat :=
  let c1_i32_30 : BitVec 32 := 1#32
  let c1_i32_32 : BitVec 32 := 1#32
  let arg21 : BitVec 32 := Scf.iv c1_i32_30 c1_i32_32 k0_t2
  let c256_i32 : BitVec 32 := 256#32
  let v66 : BitVec 32 := Scalar.muli arg21 c256_i32
  let v67 : BitVec 32 := v66
  let v68 : Index := Scalar.indexCast v67
  let c0_41 : Index := 0#32
  ![v68.toNat, 0]
def k0_off5 (k0_t2 : Fin k0_t2_loop.trips) : Fin 2 → Nat :=
  let c0_43 : Index := 0#32
  let c1_i32_30 : BitVec 32 := 1#32
  let c1_i32_32 : BitVec 32 := 1#32
  let arg21 : BitVec 32 := Scf.iv c1_i32_30 c1_i32_32 k0_t2
  let c256_i32 : BitVec 32 := 256#32
  let v66 : BitVec 32 := Scalar.muli arg21 c256_i32
  let v67 : BitVec 32 := v66
  let v72 : Index := Scalar.indexCast v67
  ![0, v72.toNat]
def k0_off6 (k0_t2 : Fin k0_t2_loop.trips) : Fin 3 → Nat :=
  let c1_i32_30 : BitVec 32 := 1#32
  let c1_i32_32 : BitVec 32 := 1#32
  let arg21 : BitVec 32 := Scf.iv c1_i32_30 c1_i32_32 k0_t2
  let v79 : Index := Scalar.indexCast arg21
  let c0_45 : Index := 0#32
  let c0_46 : Index := 0#32
  ![v79.toNat, 0, 0]
@[reducible] def k0_t3_loop : Scf.Loop 32 :=
  let c0_i32_47 : BitVec 32 := 0#32
  let c8_i32_48 : BitVec 32 := 8#32
  let v83 : BitVec 32 := Scalar.addi c0_i32_47 c8_i32_48
  let c1_i32_49 : BitVec 32 := 1#32
  ⟨c0_i32_47, v83, c1_i32_49⟩
def k0_mult4 (k0_t3 : Fin k0_t3_loop.trips) : BitVec 32 :=
  let c0_i32_47 : BitVec 32 := 0#32
  let c1_i32_49 : BitVec 32 := 1#32
  let arg22 : BitVec 32 := Scf.iv c0_i32_47 c1_i32_49 k0_t3
  let c128_i32 : BitVec 32 := 128#32
  let v84 : BitVec 32 := Scalar.muli arg22 c128_i32
  v84
def k0_off7 (k0_t3 : Fin k0_t3_loop.trips) : Fin 2 → Nat :=
  let c0_i32_47 : BitVec 32 := 0#32
  let c1_i32_49 : BitVec 32 := 1#32
  let arg22 : BitVec 32 := Scf.iv c0_i32_47 c1_i32_49 k0_t3
  let c128_i32 : BitVec 32 := 128#32
  let v84 : BitVec 32 := Scalar.muli arg22 c128_i32
  let v85 : BitVec 32 := v84
  let v86 : Index := Scalar.indexCast v85
  let c0_51 : Index := 0#32
  ![v86.toNat, 0]
def k0_off8 (k0_t2 : Fin k0_t2_loop.trips) (k0_t3 : Fin k0_t3_loop.trips) (c0_i32_55 : BitVec 32) : Fin 2 → Nat :=
  let c1_i32_30 : BitVec 32 := 1#32
  let c1_i32_32 : BitVec 32 := 1#32
  let arg21 : BitVec 32 := Scf.iv c1_i32_30 c1_i32_32 k0_t2
  let c256_i32_54 : BitVec 32 := 256#32
  let v92 : BitVec 32 := Scalar.muli arg21 c256_i32_54
  let v93 : BitVec 32 := Scalar.addi v92 c0_i32_55
  let c8_i32_56 : BitVec 32 := 8#32
  let v94 : BitVec 32 := Scalar.muli v93 c8_i32_56
  let c0_i32_47 : BitVec 32 := 0#32
  let c1_i32_49 : BitVec 32 := 1#32
  let arg22 : BitVec 32 := Scf.iv c0_i32_47 c1_i32_49 k0_t3
  let v95 : BitVec 32 := Scalar.addi v94 arg22
  let v96 : Index := Scalar.indexCast v95
  let c0_57 : Index := 0#32
  ![v96.toNat, 0]
@[reducible] def k0_t4_loop : Scf.Loop 32 :=
  let c0_i32_36 : BitVec 32 := 0#32
  let c24_i32 : BitVec 32 := 24#32
  let v64 : BitVec 32 := Scalar.addi c0_i32_36 c24_i32
  let c1_i32_37 : BitVec 32 := 1#32
  ⟨c0_i32_36, v64, c1_i32_37⟩
def k0_mult5 (k0_t4 : Fin k0_t4_loop.trips) : BitVec 32 :=
  let c0_i32_36 : BitVec 32 := 0#32
  let c1_i32_37 : BitVec 32 := 1#32
  let arg21 : BitVec 32 := Scf.iv c0_i32_36 c1_i32_37 k0_t4
  let c8_i32_39 : BitVec 32 := 8#32
  let v65 : BitVec 32 := Scalar.muli arg21 c8_i32_39
  v65
def k0_off9 (k0_t4 : Fin k0_t4_loop.trips) : Fin 2 → Nat :=
  let c0_i32_36 : BitVec 32 := 0#32
  let c1_i32_37 : BitVec 32 := 1#32
  let arg21 : BitVec 32 := Scf.iv c0_i32_36 c1_i32_37 k0_t4
  let c8_i32_39 : BitVec 32 := 8#32
  let v65 : BitVec 32 := Scalar.muli arg21 c8_i32_39
  let v66 : BitVec 32 := v65
  let v67 : Index := Scalar.indexCast v66
  let c0_40 : Index := 0#32
  ![v67.toNat, 0]
def k0_cond2 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v9 : BitVec 32 := Scalar.extui v1
  let c0_i32_2 : BitVec 32 := 0#32
  let v10 : BitVec 1 := Scalar.cmpi .ne v9 c0_i32_2
  v10

@[reducible] def k0_t5_loop : Scf.Loop 32 :=
  let c0_i32_9 : BitVec 32 := 0#32
  let c128_i32 : BitVec 32 := 128#32
  let v23 : BitVec 32 := Scalar.addi c0_i32_9 c128_i32
  let c1_i32_10 : BitVec 32 := 1#32
  ⟨c0_i32_9, v23, c1_i32_10⟩
def k0_off10 (k0_t5 : Fin k0_t5_loop.trips) : Fin 2 → Nat :=
  let c0_153 : Index := 0#32
  let c0_i32_152 : BitVec 32 := 0#32
  let c0_i32_9 : BitVec 32 := 0#32
  let c1_i32_10 : BitVec 32 := 1#32
  let arg21 : BitVec 32 := Scf.iv c0_i32_9 c1_i32_10 k0_t5
  let v269 : BitVec 32 := Scalar.addi c0_i32_152 arg21
  let v270 : Index := Scalar.indexCast v269
  ![0, v270.toNat]
def k0_mult6 (v271 : BitVec 32) : BitVec 32 :=
  v271

def k0_off11 (v271 : BitVec 32) : Fin 2 → Nat :=
  let v272 : BitVec 32 := v271
  let v273 : Index := Scalar.indexCast v272
  let c0_154 : Index := 0#32
  ![v273.toNat, 0]

def k0_chk1 (i : grid0.Coords) (v271 : BitVec 32) : Prop :=
  (∀ (k0_h2 : k0_cond2 i = 1#1), 8 ∣ (k0_mult6 v271).toNat) ∧
  (∀ (k0_h2 : k0_cond2 i = 1#1), ∀ a, (k0_off11 v271) a + S8x128.size a ≤ S18432x128.size a)
theorem k0_mult6_dvd : ∀ (i : grid0.Coords) (v271 : BitVec 32) (k0_hw1 : k0_chk1 i v271), ∀ (k0_h2 : k0_cond2 i = 1#1), 8 ∣ (k0_mult6 v271).toNat := fun i v271 k0_hw1 k0_h2 => k0_hw1.1 k0_h2
theorem k0_off11_inb : ∀ (i : grid0.Coords) (v271 : BitVec 32) (k0_hw1 : k0_chk1 i v271), ∀ (k0_h2 : k0_cond2 i = 1#1), ∀ a, (k0_off11 v271) a + S8x128.size a ≤ S18432x128.size a := fun i v271 k0_hw1 k0_h2 => k0_hw1.2 k0_h2

def k0_off12 (k0_t5 : Fin k0_t5_loop.trips) : Fin 2 → Nat :=
  let c1_156 : Index := 1#32
  let c0_i32_155 : BitVec 32 := 0#32
  let c0_i32_9 : BitVec 32 := 0#32
  let c1_i32_10 : BitVec 32 := 1#32
  let arg21 : BitVec 32 := Scf.iv c0_i32_9 c1_i32_10 k0_t5
  let v275 : BitVec 32 := Scalar.addi c0_i32_155 arg21
  let v276 : Index := Scalar.indexCast v275
  ![1, v276.toNat]
def k0_mult7 (v277 : BitVec 32) : BitVec 32 :=
  v277

def k0_off13 (v277 : BitVec 32) : Fin 2 → Nat :=
  let v278 : BitVec 32 := v277
  let v279 : Index := Scalar.indexCast v278
  let c0_157 : Index := 0#32
  ![v279.toNat, 0]

def k0_chk2 (i : grid0.Coords) (v277 : BitVec 32) : Prop :=
  (∀ (k0_h2 : k0_cond2 i = 1#1), 8 ∣ (k0_mult7 v277).toNat) ∧
  (∀ (k0_h2 : k0_cond2 i = 1#1), ∀ a, (k0_off13 v277) a + S8x128.size a ≤ S18432x128.size a)
theorem k0_mult7_dvd : ∀ (i : grid0.Coords) (v277 : BitVec 32) (k0_hw2 : k0_chk2 i v277), ∀ (k0_h2 : k0_cond2 i = 1#1), 8 ∣ (k0_mult7 v277).toNat := fun i v277 k0_hw2 k0_h2 => k0_hw2.1 k0_h2
theorem k0_off13_inb : ∀ (i : grid0.Coords) (v277 : BitVec 32) (k0_hw2 : k0_chk2 i v277), ∀ (k0_h2 : k0_cond2 i = 1#1), ∀ a, (k0_off13 v277) a + S8x128.size a ≤ S18432x128.size a := fun i v277 k0_hw2 k0_h2 => k0_hw2.2 k0_h2

def k0_off14 (k0_t5 : Fin k0_t5_loop.trips) : Fin 2 → Nat :=
  let c2_159 : Index := 2#32
  let c0_i32_158 : BitVec 32 := 0#32
  let c0_i32_9 : BitVec 32 := 0#32
  let c1_i32_10 : BitVec 32 := 1#32
  let arg21 : BitVec 32 := Scf.iv c0_i32_9 c1_i32_10 k0_t5
  let v282 : BitVec 32 := Scalar.addi c0_i32_158 arg21
  let v283 : Index := Scalar.indexCast v282
  ![2, v283.toNat]
def k0_mult8 (v284 : BitVec 32) : BitVec 32 :=
  v284

def k0_off15 (v284 : BitVec 32) : Fin 2 → Nat :=
  let v285 : BitVec 32 := v284
  let v286 : Index := Scalar.indexCast v285
  let c0_160 : Index := 0#32
  ![v286.toNat, 0]

def k0_chk3 (i : grid0.Coords) (v284 : BitVec 32) : Prop :=
  (∀ (k0_h2 : k0_cond2 i = 1#1), 8 ∣ (k0_mult8 v284).toNat) ∧
  (∀ (k0_h2 : k0_cond2 i = 1#1), ∀ a, (k0_off15 v284) a + S8x128.size a ≤ S18432x128.size a)
theorem k0_mult8_dvd : ∀ (i : grid0.Coords) (v284 : BitVec 32) (k0_hw3 : k0_chk3 i v284), ∀ (k0_h2 : k0_cond2 i = 1#1), 8 ∣ (k0_mult8 v284).toNat := fun i v284 k0_hw3 k0_h2 => k0_hw3.1 k0_h2
theorem k0_off15_inb : ∀ (i : grid0.Coords) (v284 : BitVec 32) (k0_hw3 : k0_chk3 i v284), ∀ (k0_h2 : k0_cond2 i = 1#1), ∀ a, (k0_off15 v284) a + S8x128.size a ≤ S18432x128.size a := fun i v284 k0_hw3 k0_h2 => k0_hw3.2 k0_h2

def k0_off16 (k0_t5 : Fin k0_t5_loop.trips) : Fin 2 → Nat :=
  let c3_162 : Index := 3#32
  let c0_i32_161 : BitVec 32 := 0#32
  let c0_i32_9 : BitVec 32 := 0#32
  let c1_i32_10 : BitVec 32 := 1#32
  let arg21 : BitVec 32 := Scf.iv c0_i32_9 c1_i32_10 k0_t5
  let v289 : BitVec 32 := Scalar.addi c0_i32_161 arg21
  let v290 : Index := Scalar.indexCast v289
  ![3, v290.toNat]
def k0_mult9 (v291 : BitVec 32) : BitVec 32 :=
  v291

def k0_off17 (v291 : BitVec 32) : Fin 2 → Nat :=
  let v292 : BitVec 32 := v291
  let v293 : Index := Scalar.indexCast v292
  let c0_163 : Index := 0#32
  ![v293.toNat, 0]

def k0_chk4 (i : grid0.Coords) (v291 : BitVec 32) : Prop :=
  (∀ (k0_h2 : k0_cond2 i = 1#1), 8 ∣ (k0_mult9 v291).toNat) ∧
  (∀ (k0_h2 : k0_cond2 i = 1#1), ∀ a, (k0_off17 v291) a + S8x128.size a ≤ S18432x128.size a)
theorem k0_mult9_dvd : ∀ (i : grid0.Coords) (v291 : BitVec 32) (k0_hw4 : k0_chk4 i v291), ∀ (k0_h2 : k0_cond2 i = 1#1), 8 ∣ (k0_mult9 v291).toNat := fun i v291 k0_hw4 k0_h2 => k0_hw4.1 k0_h2
theorem k0_off17_inb : ∀ (i : grid0.Coords) (v291 : BitVec 32) (k0_hw4 : k0_chk4 i v291), ∀ (k0_h2 : k0_cond2 i = 1#1), ∀ a, (k0_off17 v291) a + S8x128.size a ≤ S18432x128.size a := fun i v291 k0_hw4 k0_h2 => k0_hw4.2 k0_h2

def k0_off18 (k0_t5 : Fin k0_t5_loop.trips) : Fin 2 → Nat :=
  let c4_165 : Index := 4#32
  let c0_i32_164 : BitVec 32 := 0#32
  let c0_i32_9 : BitVec 32 := 0#32
  let c1_i32_10 : BitVec 32 := 1#32
  let arg21 : BitVec 32 := Scf.iv c0_i32_9 c1_i32_10 k0_t5
  let v296 : BitVec 32 := Scalar.addi c0_i32_164 arg21
  let v297 : Index := Scalar.indexCast v296
  ![4, v297.toNat]
def k0_mult10 (v298 : BitVec 32) : BitVec 32 :=
  v298

def k0_off19 (v298 : BitVec 32) : Fin 2 → Nat :=
  let v299 : BitVec 32 := v298
  let v300 : Index := Scalar.indexCast v299
  let c0_166 : Index := 0#32
  ![v300.toNat, 0]

def k0_chk5 (i : grid0.Coords) (v298 : BitVec 32) : Prop :=
  (∀ (k0_h2 : k0_cond2 i = 1#1), 8 ∣ (k0_mult10 v298).toNat) ∧
  (∀ (k0_h2 : k0_cond2 i = 1#1), ∀ a, (k0_off19 v298) a + S8x128.size a ≤ S18432x128.size a)
theorem k0_mult10_dvd : ∀ (i : grid0.Coords) (v298 : BitVec 32) (k0_hw5 : k0_chk5 i v298), ∀ (k0_h2 : k0_cond2 i = 1#1), 8 ∣ (k0_mult10 v298).toNat := fun i v298 k0_hw5 k0_h2 => k0_hw5.1 k0_h2
theorem k0_off19_inb : ∀ (i : grid0.Coords) (v298 : BitVec 32) (k0_hw5 : k0_chk5 i v298), ∀ (k0_h2 : k0_cond2 i = 1#1), ∀ a, (k0_off19 v298) a + S8x128.size a ≤ S18432x128.size a := fun i v298 k0_hw5 k0_h2 => k0_hw5.2 k0_h2

def k0_off20 (k0_t5 : Fin k0_t5_loop.trips) : Fin 2 → Nat :=
  let c5_168 : Index := 5#32
  let c0_i32_167 : BitVec 32 := 0#32
  let c0_i32_9 : BitVec 32 := 0#32
  let c1_i32_10 : BitVec 32 := 1#32
  let arg21 : BitVec 32 := Scf.iv c0_i32_9 c1_i32_10 k0_t5
  let v303 : BitVec 32 := Scalar.addi c0_i32_167 arg21
  let v304 : Index := Scalar.indexCast v303
  ![5, v304.toNat]
def k0_mult11 (v305 : BitVec 32) : BitVec 32 :=
  v305

def k0_off21 (v305 : BitVec 32) : Fin 2 → Nat :=
  let v306 : BitVec 32 := v305
  let v307 : Index := Scalar.indexCast v306
  let c0_169 : Index := 0#32
  ![v307.toNat, 0]

def k0_chk6 (i : grid0.Coords) (v305 : BitVec 32) : Prop :=
  (∀ (k0_h2 : k0_cond2 i = 1#1), 8 ∣ (k0_mult11 v305).toNat) ∧
  (∀ (k0_h2 : k0_cond2 i = 1#1), ∀ a, (k0_off21 v305) a + S8x128.size a ≤ S18432x128.size a)
theorem k0_mult11_dvd : ∀ (i : grid0.Coords) (v305 : BitVec 32) (k0_hw6 : k0_chk6 i v305), ∀ (k0_h2 : k0_cond2 i = 1#1), 8 ∣ (k0_mult11 v305).toNat := fun i v305 k0_hw6 k0_h2 => k0_hw6.1 k0_h2
theorem k0_off21_inb : ∀ (i : grid0.Coords) (v305 : BitVec 32) (k0_hw6 : k0_chk6 i v305), ∀ (k0_h2 : k0_cond2 i = 1#1), ∀ a, (k0_off21 v305) a + S8x128.size a ≤ S18432x128.size a := fun i v305 k0_hw6 k0_h2 => k0_hw6.2 k0_h2

def k0_off22 (k0_t5 : Fin k0_t5_loop.trips) : Fin 2 → Nat :=
  let c6_171 : Index := 6#32
  let c0_i32_170 : BitVec 32 := 0#32
  let c0_i32_9 : BitVec 32 := 0#32
  let c1_i32_10 : BitVec 32 := 1#32
  let arg21 : BitVec 32 := Scf.iv c0_i32_9 c1_i32_10 k0_t5
  let v310 : BitVec 32 := Scalar.addi c0_i32_170 arg21
  let v311 : Index := Scalar.indexCast v310
  ![6, v311.toNat]
def k0_mult12 (v312 : BitVec 32) : BitVec 32 :=
  v312

def k0_off23 (v312 : BitVec 32) : Fin 2 → Nat :=
  let v313 : BitVec 32 := v312
  let v314 : Index := Scalar.indexCast v313
  let c0_172 : Index := 0#32
  ![v314.toNat, 0]

def k0_chk7 (i : grid0.Coords) (v312 : BitVec 32) : Prop :=
  (∀ (k0_h2 : k0_cond2 i = 1#1), 8 ∣ (k0_mult12 v312).toNat) ∧
  (∀ (k0_h2 : k0_cond2 i = 1#1), ∀ a, (k0_off23 v312) a + S8x128.size a ≤ S18432x128.size a)
theorem k0_mult12_dvd : ∀ (i : grid0.Coords) (v312 : BitVec 32) (k0_hw7 : k0_chk7 i v312), ∀ (k0_h2 : k0_cond2 i = 1#1), 8 ∣ (k0_mult12 v312).toNat := fun i v312 k0_hw7 k0_h2 => k0_hw7.1 k0_h2
theorem k0_off23_inb : ∀ (i : grid0.Coords) (v312 : BitVec 32) (k0_hw7 : k0_chk7 i v312), ∀ (k0_h2 : k0_cond2 i = 1#1), ∀ a, (k0_off23 v312) a + S8x128.size a ≤ S18432x128.size a := fun i v312 k0_hw7 k0_h2 => k0_hw7.2 k0_h2

def k0_off24 (k0_t5 : Fin k0_t5_loop.trips) : Fin 2 → Nat :=
  let c7_174 : Index := 7#32
  let c0_i32_173 : BitVec 32 := 0#32
  let c0_i32_9 : BitVec 32 := 0#32
  let c1_i32_10 : BitVec 32 := 1#32
  let arg21 : BitVec 32 := Scf.iv c0_i32_9 c1_i32_10 k0_t5
  let v317 : BitVec 32 := Scalar.addi c0_i32_173 arg21
  let v318 : Index := Scalar.indexCast v317
  ![7, v318.toNat]
def k0_mult13 (v319 : BitVec 32) : BitVec 32 :=
  v319

def k0_off25 (v319 : BitVec 32) : Fin 2 → Nat :=
  let v320 : BitVec 32 := v319
  let v321 : Index := Scalar.indexCast v320
  let c0_175 : Index := 0#32
  ![v321.toNat, 0]

def k0_chk8 (i : grid0.Coords) (v319 : BitVec 32) : Prop :=
  (∀ (k0_h2 : k0_cond2 i = 1#1), 8 ∣ (k0_mult13 v319).toNat) ∧
  (∀ (k0_h2 : k0_cond2 i = 1#1), ∀ a, (k0_off25 v319) a + S8x128.size a ≤ S18432x128.size a)
theorem k0_mult13_dvd : ∀ (i : grid0.Coords) (v319 : BitVec 32) (k0_hw8 : k0_chk8 i v319), ∀ (k0_h2 : k0_cond2 i = 1#1), 8 ∣ (k0_mult13 v319).toNat := fun i v319 k0_hw8 k0_h2 => k0_hw8.1 k0_h2
theorem k0_off25_inb : ∀ (i : grid0.Coords) (v319 : BitVec 32) (k0_hw8 : k0_chk8 i v319), ∀ (k0_h2 : k0_cond2 i = 1#1), ∀ a, (k0_off25 v319) a + S8x128.size a ≤ S18432x128.size a := fun i v319 k0_hw8 k0_h2 => k0_hw8.2 k0_h2

def k0_off26 (k0_t5 : Fin k0_t5_loop.trips) : Fin 2 → Nat :=
  let c8_177 : Index := 8#32
  let c0_i32_176 : BitVec 32 := 0#32
  let c0_i32_9 : BitVec 32 := 0#32
  let c1_i32_10 : BitVec 32 := 1#32
  let arg21 : BitVec 32 := Scf.iv c0_i32_9 c1_i32_10 k0_t5
  let v324 : BitVec 32 := Scalar.addi c0_i32_176 arg21
  let v325 : Index := Scalar.indexCast v324
  ![8, v325.toNat]
def k0_mult14 (v326 : BitVec 32) : BitVec 32 :=
  v326

def k0_off27 (v326 : BitVec 32) : Fin 2 → Nat :=
  let v327 : BitVec 32 := v326
  let v328 : Index := Scalar.indexCast v327
  let c0_178 : Index := 0#32
  ![v328.toNat, 0]

def k0_chk9 (i : grid0.Coords) (v326 : BitVec 32) : Prop :=
  (∀ (k0_h2 : k0_cond2 i = 1#1), 8 ∣ (k0_mult14 v326).toNat) ∧
  (∀ (k0_h2 : k0_cond2 i = 1#1), ∀ a, (k0_off27 v326) a + S8x128.size a ≤ S18432x128.size a)
theorem k0_mult14_dvd : ∀ (i : grid0.Coords) (v326 : BitVec 32) (k0_hw9 : k0_chk9 i v326), ∀ (k0_h2 : k0_cond2 i = 1#1), 8 ∣ (k0_mult14 v326).toNat := fun i v326 k0_hw9 k0_h2 => k0_hw9.1 k0_h2
theorem k0_off27_inb : ∀ (i : grid0.Coords) (v326 : BitVec 32) (k0_hw9 : k0_chk9 i v326), ∀ (k0_h2 : k0_cond2 i = 1#1), ∀ a, (k0_off27 v326) a + S8x128.size a ≤ S18432x128.size a := fun i v326 k0_hw9 k0_h2 => k0_hw9.2 k0_h2

def k0_off28 (k0_t5 : Fin k0_t5_loop.trips) : Fin 3 → Nat :=
  let c0_179 : Index := 0#32
  let c0_i32_9 : BitVec 32 := 0#32
  let c1_i32_10 : BitVec 32 := 1#32
  let arg21 : BitVec 32 := Scf.iv c0_i32_9 c1_i32_10 k0_t5
  let v331 : Index := Scalar.indexCast arg21
  let c0_180 : Index := 0#32
  ![0, v331.toNat, 0]
def k0_off29 (i : grid0.Coords) (c0_i32_12 : BitVec 32) : Fin 2 → Nat :=
  let arg0 : BitVec 32 := BitVec.ofNat 32 (i 0).val
  let c4_i32 : BitVec 32 := 4#32
  let v8 : BitVec 32 := Scalar.muli arg0 c4_i32
  let v24 : BitVec 32 := Scalar.addi v8 c0_i32_12
  let v25 : Index := Scalar.indexCast v24
  let c0 : Index := 0#32
  ![v25.toNat, 0]
@[reducible] def k0_t6_loop : Scf.Loop 32 :=
  let c0_i32_39 : BitVec 32 := 0#32
  let c128_i32_40 : BitVec 32 := 128#32
  let v75 : BitVec 32 := Scalar.addi c0_i32_39 c128_i32_40
  let c1_i32_41 : BitVec 32 := 1#32
  ⟨c0_i32_39, v75, c1_i32_41⟩
def k0_off30 (k0_t6 : Fin k0_t6_loop.trips) : Fin 2 → Nat :=
  let c0_153 : Index := 0#32
  let c128_i32_152 : BitVec 32 := 128#32
  let c0_i32_39 : BitVec 32 := 0#32
  let c1_i32_41 : BitVec 32 := 1#32
  let arg21 : BitVec 32 := Scf.iv c0_i32_39 c1_i32_41 k0_t6
  let v269 : BitVec 32 := Scalar.addi c128_i32_152 arg21
  let v270 : Index := Scalar.indexCast v269
  ![0, v270.toNat]
def k0_mult15 (v271 : BitVec 32) : BitVec 32 :=
  v271

def k0_off31 (v271 : BitVec 32) : Fin 2 → Nat :=
  let v272 : BitVec 32 := v271
  let v273 : Index := Scalar.indexCast v272
  let c0_154 : Index := 0#32
  ![v273.toNat, 0]

def k0_chk10 (i : grid0.Coords) (v271 : BitVec 32) : Prop :=
  (∀ (k0_h2 : k0_cond2 i = 1#1), 8 ∣ (k0_mult15 v271).toNat) ∧
  (∀ (k0_h2 : k0_cond2 i = 1#1), ∀ a, (k0_off31 v271) a + S8x128.size a ≤ S18432x128.size a)
theorem k0_mult15_dvd : ∀ (i : grid0.Coords) (v271 : BitVec 32) (k0_hw10 : k0_chk10 i v271), ∀ (k0_h2 : k0_cond2 i = 1#1), 8 ∣ (k0_mult15 v271).toNat := fun i v271 k0_hw10 k0_h2 => k0_hw10.1 k0_h2
theorem k0_off31_inb : ∀ (i : grid0.Coords) (v271 : BitVec 32) (k0_hw10 : k0_chk10 i v271), ∀ (k0_h2 : k0_cond2 i = 1#1), ∀ a, (k0_off31 v271) a + S8x128.size a ≤ S18432x128.size a := fun i v271 k0_hw10 k0_h2 => k0_hw10.2 k0_h2

def k0_off32 (k0_t6 : Fin k0_t6_loop.trips) : Fin 2 → Nat :=
  let c1_156 : Index := 1#32
  let c128_i32_155 : BitVec 32 := 128#32
  let c0_i32_39 : BitVec 32 := 0#32
  let c1_i32_41 : BitVec 32 := 1#32
  let arg21 : BitVec 32 := Scf.iv c0_i32_39 c1_i32_41 k0_t6
  let v275 : BitVec 32 := Scalar.addi c128_i32_155 arg21
  let v276 : Index := Scalar.indexCast v275
  ![1, v276.toNat]
def k0_mult16 (v277 : BitVec 32) : BitVec 32 :=
  v277

def k0_off33 (v277 : BitVec 32) : Fin 2 → Nat :=
  let v278 : BitVec 32 := v277
  let v279 : Index := Scalar.indexCast v278
  let c0_157 : Index := 0#32
  ![v279.toNat, 0]

def k0_chk11 (i : grid0.Coords) (v277 : BitVec 32) : Prop :=
  (∀ (k0_h2 : k0_cond2 i = 1#1), 8 ∣ (k0_mult16 v277).toNat) ∧
  (∀ (k0_h2 : k0_cond2 i = 1#1), ∀ a, (k0_off33 v277) a + S8x128.size a ≤ S18432x128.size a)
theorem k0_mult16_dvd : ∀ (i : grid0.Coords) (v277 : BitVec 32) (k0_hw11 : k0_chk11 i v277), ∀ (k0_h2 : k0_cond2 i = 1#1), 8 ∣ (k0_mult16 v277).toNat := fun i v277 k0_hw11 k0_h2 => k0_hw11.1 k0_h2
theorem k0_off33_inb : ∀ (i : grid0.Coords) (v277 : BitVec 32) (k0_hw11 : k0_chk11 i v277), ∀ (k0_h2 : k0_cond2 i = 1#1), ∀ a, (k0_off33 v277) a + S8x128.size a ≤ S18432x128.size a := fun i v277 k0_hw11 k0_h2 => k0_hw11.2 k0_h2

def k0_off34 (k0_t6 : Fin k0_t6_loop.trips) : Fin 2 → Nat :=
  let c2_159 : Index := 2#32
  let c128_i32_158 : BitVec 32 := 128#32
  let c0_i32_39 : BitVec 32 := 0#32
  let c1_i32_41 : BitVec 32 := 1#32
  let arg21 : BitVec 32 := Scf.iv c0_i32_39 c1_i32_41 k0_t6
  let v282 : BitVec 32 := Scalar.addi c128_i32_158 arg21
  let v283 : Index := Scalar.indexCast v282
  ![2, v283.toNat]
def k0_mult17 (v284 : BitVec 32) : BitVec 32 :=
  v284

def k0_off35 (v284 : BitVec 32) : Fin 2 → Nat :=
  let v285 : BitVec 32 := v284
  let v286 : Index := Scalar.indexCast v285
  let c0_160 : Index := 0#32
  ![v286.toNat, 0]

def k0_chk12 (i : grid0.Coords) (v284 : BitVec 32) : Prop :=
  (∀ (k0_h2 : k0_cond2 i = 1#1), 8 ∣ (k0_mult17 v284).toNat) ∧
  (∀ (k0_h2 : k0_cond2 i = 1#1), ∀ a, (k0_off35 v284) a + S8x128.size a ≤ S18432x128.size a)
theorem k0_mult17_dvd : ∀ (i : grid0.Coords) (v284 : BitVec 32) (k0_hw12 : k0_chk12 i v284), ∀ (k0_h2 : k0_cond2 i = 1#1), 8 ∣ (k0_mult17 v284).toNat := fun i v284 k0_hw12 k0_h2 => k0_hw12.1 k0_h2
theorem k0_off35_inb : ∀ (i : grid0.Coords) (v284 : BitVec 32) (k0_hw12 : k0_chk12 i v284), ∀ (k0_h2 : k0_cond2 i = 1#1), ∀ a, (k0_off35 v284) a + S8x128.size a ≤ S18432x128.size a := fun i v284 k0_hw12 k0_h2 => k0_hw12.2 k0_h2

def k0_off36 (k0_t6 : Fin k0_t6_loop.trips) : Fin 2 → Nat :=
  let c3_162 : Index := 3#32
  let c128_i32_161 : BitVec 32 := 128#32
  let c0_i32_39 : BitVec 32 := 0#32
  let c1_i32_41 : BitVec 32 := 1#32
  let arg21 : BitVec 32 := Scf.iv c0_i32_39 c1_i32_41 k0_t6
  let v289 : BitVec 32 := Scalar.addi c128_i32_161 arg21
  let v290 : Index := Scalar.indexCast v289
  ![3, v290.toNat]
def k0_mult18 (v291 : BitVec 32) : BitVec 32 :=
  v291

def k0_off37 (v291 : BitVec 32) : Fin 2 → Nat :=
  let v292 : BitVec 32 := v291
  let v293 : Index := Scalar.indexCast v292
  let c0_163 : Index := 0#32
  ![v293.toNat, 0]

def k0_chk13 (i : grid0.Coords) (v291 : BitVec 32) : Prop :=
  (∀ (k0_h2 : k0_cond2 i = 1#1), 8 ∣ (k0_mult18 v291).toNat) ∧
  (∀ (k0_h2 : k0_cond2 i = 1#1), ∀ a, (k0_off37 v291) a + S8x128.size a ≤ S18432x128.size a)
theorem k0_mult18_dvd : ∀ (i : grid0.Coords) (v291 : BitVec 32) (k0_hw13 : k0_chk13 i v291), ∀ (k0_h2 : k0_cond2 i = 1#1), 8 ∣ (k0_mult18 v291).toNat := fun i v291 k0_hw13 k0_h2 => k0_hw13.1 k0_h2
theorem k0_off37_inb : ∀ (i : grid0.Coords) (v291 : BitVec 32) (k0_hw13 : k0_chk13 i v291), ∀ (k0_h2 : k0_cond2 i = 1#1), ∀ a, (k0_off37 v291) a + S8x128.size a ≤ S18432x128.size a := fun i v291 k0_hw13 k0_h2 => k0_hw13.2 k0_h2

def k0_off38 (k0_t6 : Fin k0_t6_loop.trips) : Fin 2 → Nat :=
  let c4_165 : Index := 4#32
  let c128_i32_164 : BitVec 32 := 128#32
  let c0_i32_39 : BitVec 32 := 0#32
  let c1_i32_41 : BitVec 32 := 1#32
  let arg21 : BitVec 32 := Scf.iv c0_i32_39 c1_i32_41 k0_t6
  let v296 : BitVec 32 := Scalar.addi c128_i32_164 arg21
  let v297 : Index := Scalar.indexCast v296
  ![4, v297.toNat]
def k0_mult19 (v298 : BitVec 32) : BitVec 32 :=
  v298

def k0_off39 (v298 : BitVec 32) : Fin 2 → Nat :=
  let v299 : BitVec 32 := v298
  let v300 : Index := Scalar.indexCast v299
  let c0_166 : Index := 0#32
  ![v300.toNat, 0]

def k0_chk14 (i : grid0.Coords) (v298 : BitVec 32) : Prop :=
  (∀ (k0_h2 : k0_cond2 i = 1#1), 8 ∣ (k0_mult19 v298).toNat) ∧
  (∀ (k0_h2 : k0_cond2 i = 1#1), ∀ a, (k0_off39 v298) a + S8x128.size a ≤ S18432x128.size a)
theorem k0_mult19_dvd : ∀ (i : grid0.Coords) (v298 : BitVec 32) (k0_hw14 : k0_chk14 i v298), ∀ (k0_h2 : k0_cond2 i = 1#1), 8 ∣ (k0_mult19 v298).toNat := fun i v298 k0_hw14 k0_h2 => k0_hw14.1 k0_h2
theorem k0_off39_inb : ∀ (i : grid0.Coords) (v298 : BitVec 32) (k0_hw14 : k0_chk14 i v298), ∀ (k0_h2 : k0_cond2 i = 1#1), ∀ a, (k0_off39 v298) a + S8x128.size a ≤ S18432x128.size a := fun i v298 k0_hw14 k0_h2 => k0_hw14.2 k0_h2

def k0_off40 (k0_t6 : Fin k0_t6_loop.trips) : Fin 2 → Nat :=
  let c5_168 : Index := 5#32
  let c128_i32_167 : BitVec 32 := 128#32
  let c0_i32_39 : BitVec 32 := 0#32
  let c1_i32_41 : BitVec 32 := 1#32
  let arg21 : BitVec 32 := Scf.iv c0_i32_39 c1_i32_41 k0_t6
  let v303 : BitVec 32 := Scalar.addi c128_i32_167 arg21
  let v304 : Index := Scalar.indexCast v303
  ![5, v304.toNat]
def k0_mult20 (v305 : BitVec 32) : BitVec 32 :=
  v305

def k0_off41 (v305 : BitVec 32) : Fin 2 → Nat :=
  let v306 : BitVec 32 := v305
  let v307 : Index := Scalar.indexCast v306
  let c0_169 : Index := 0#32
  ![v307.toNat, 0]

def k0_chk15 (i : grid0.Coords) (v305 : BitVec 32) : Prop :=
  (∀ (k0_h2 : k0_cond2 i = 1#1), 8 ∣ (k0_mult20 v305).toNat) ∧
  (∀ (k0_h2 : k0_cond2 i = 1#1), ∀ a, (k0_off41 v305) a + S8x128.size a ≤ S18432x128.size a)
theorem k0_mult20_dvd : ∀ (i : grid0.Coords) (v305 : BitVec 32) (k0_hw15 : k0_chk15 i v305), ∀ (k0_h2 : k0_cond2 i = 1#1), 8 ∣ (k0_mult20 v305).toNat := fun i v305 k0_hw15 k0_h2 => k0_hw15.1 k0_h2
theorem k0_off41_inb : ∀ (i : grid0.Coords) (v305 : BitVec 32) (k0_hw15 : k0_chk15 i v305), ∀ (k0_h2 : k0_cond2 i = 1#1), ∀ a, (k0_off41 v305) a + S8x128.size a ≤ S18432x128.size a := fun i v305 k0_hw15 k0_h2 => k0_hw15.2 k0_h2

def k0_off42 (k0_t6 : Fin k0_t6_loop.trips) : Fin 2 → Nat :=
  let c6_171 : Index := 6#32
  let c128_i32_170 : BitVec 32 := 128#32
  let c0_i32_39 : BitVec 32 := 0#32
  let c1_i32_41 : BitVec 32 := 1#32
  let arg21 : BitVec 32 := Scf.iv c0_i32_39 c1_i32_41 k0_t6
  let v310 : BitVec 32 := Scalar.addi c128_i32_170 arg21
  let v311 : Index := Scalar.indexCast v310
  ![6, v311.toNat]
def k0_mult21 (v312 : BitVec 32) : BitVec 32 :=
  v312

def k0_off43 (v312 : BitVec 32) : Fin 2 → Nat :=
  let v313 : BitVec 32 := v312
  let v314 : Index := Scalar.indexCast v313
  let c0_172 : Index := 0#32
  ![v314.toNat, 0]

def k0_chk16 (i : grid0.Coords) (v312 : BitVec 32) : Prop :=
  (∀ (k0_h2 : k0_cond2 i = 1#1), 8 ∣ (k0_mult21 v312).toNat) ∧
  (∀ (k0_h2 : k0_cond2 i = 1#1), ∀ a, (k0_off43 v312) a + S8x128.size a ≤ S18432x128.size a)
theorem k0_mult21_dvd : ∀ (i : grid0.Coords) (v312 : BitVec 32) (k0_hw16 : k0_chk16 i v312), ∀ (k0_h2 : k0_cond2 i = 1#1), 8 ∣ (k0_mult21 v312).toNat := fun i v312 k0_hw16 k0_h2 => k0_hw16.1 k0_h2
theorem k0_off43_inb : ∀ (i : grid0.Coords) (v312 : BitVec 32) (k0_hw16 : k0_chk16 i v312), ∀ (k0_h2 : k0_cond2 i = 1#1), ∀ a, (k0_off43 v312) a + S8x128.size a ≤ S18432x128.size a := fun i v312 k0_hw16 k0_h2 => k0_hw16.2 k0_h2

def k0_off44 (k0_t6 : Fin k0_t6_loop.trips) : Fin 2 → Nat :=
  let c7_174 : Index := 7#32
  let c128_i32_173 : BitVec 32 := 128#32
  let c0_i32_39 : BitVec 32 := 0#32
  let c1_i32_41 : BitVec 32 := 1#32
  let arg21 : BitVec 32 := Scf.iv c0_i32_39 c1_i32_41 k0_t6
  let v317 : BitVec 32 := Scalar.addi c128_i32_173 arg21
  let v318 : Index := Scalar.indexCast v317
  ![7, v318.toNat]
def k0_mult22 (v319 : BitVec 32) : BitVec 32 :=
  v319

def k0_off45 (v319 : BitVec 32) : Fin 2 → Nat :=
  let v320 : BitVec 32 := v319
  let v321 : Index := Scalar.indexCast v320
  let c0_175 : Index := 0#32
  ![v321.toNat, 0]

def k0_chk17 (i : grid0.Coords) (v319 : BitVec 32) : Prop :=
  (∀ (k0_h2 : k0_cond2 i = 1#1), 8 ∣ (k0_mult22 v319).toNat) ∧
  (∀ (k0_h2 : k0_cond2 i = 1#1), ∀ a, (k0_off45 v319) a + S8x128.size a ≤ S18432x128.size a)
theorem k0_mult22_dvd : ∀ (i : grid0.Coords) (v319 : BitVec 32) (k0_hw17 : k0_chk17 i v319), ∀ (k0_h2 : k0_cond2 i = 1#1), 8 ∣ (k0_mult22 v319).toNat := fun i v319 k0_hw17 k0_h2 => k0_hw17.1 k0_h2
theorem k0_off45_inb : ∀ (i : grid0.Coords) (v319 : BitVec 32) (k0_hw17 : k0_chk17 i v319), ∀ (k0_h2 : k0_cond2 i = 1#1), ∀ a, (k0_off45 v319) a + S8x128.size a ≤ S18432x128.size a := fun i v319 k0_hw17 k0_h2 => k0_hw17.2 k0_h2

def k0_off46 (k0_t6 : Fin k0_t6_loop.trips) : Fin 2 → Nat :=
  let c8_177 : Index := 8#32
  let c128_i32_176 : BitVec 32 := 128#32
  let c0_i32_39 : BitVec 32 := 0#32
  let c1_i32_41 : BitVec 32 := 1#32
  let arg21 : BitVec 32 := Scf.iv c0_i32_39 c1_i32_41 k0_t6
  let v324 : BitVec 32 := Scalar.addi c128_i32_176 arg21
  let v325 : Index := Scalar.indexCast v324
  ![8, v325.toNat]
def k0_mult23 (v326 : BitVec 32) : BitVec 32 :=
  v326

def k0_off47 (v326 : BitVec 32) : Fin 2 → Nat :=
  let v327 : BitVec 32 := v326
  let v328 : Index := Scalar.indexCast v327
  let c0_178 : Index := 0#32
  ![v328.toNat, 0]

def k0_chk18 (i : grid0.Coords) (v326 : BitVec 32) : Prop :=
  (∀ (k0_h2 : k0_cond2 i = 1#1), 8 ∣ (k0_mult23 v326).toNat) ∧
  (∀ (k0_h2 : k0_cond2 i = 1#1), ∀ a, (k0_off47 v326) a + S8x128.size a ≤ S18432x128.size a)
theorem k0_mult23_dvd : ∀ (i : grid0.Coords) (v326 : BitVec 32) (k0_hw18 : k0_chk18 i v326), ∀ (k0_h2 : k0_cond2 i = 1#1), 8 ∣ (k0_mult23 v326).toNat := fun i v326 k0_hw18 k0_h2 => k0_hw18.1 k0_h2
theorem k0_off47_inb : ∀ (i : grid0.Coords) (v326 : BitVec 32) (k0_hw18 : k0_chk18 i v326), ∀ (k0_h2 : k0_cond2 i = 1#1), ∀ a, (k0_off47 v326) a + S8x128.size a ≤ S18432x128.size a := fun i v326 k0_hw18 k0_h2 => k0_hw18.2 k0_h2

def k0_off48 (k0_t6 : Fin k0_t6_loop.trips) : Fin 3 → Nat :=
  let c1_179 : Index := 1#32
  let c0_i32_39 : BitVec 32 := 0#32
  let c1_i32_41 : BitVec 32 := 1#32
  let arg21 : BitVec 32 := Scf.iv c0_i32_39 c1_i32_41 k0_t6
  let v331 : Index := Scalar.indexCast arg21
  let c0_180 : Index := 0#32
  ![1, v331.toNat, 0]
def k0_off49 (i : grid0.Coords) (c0_i32_139 : BitVec 32) : Fin 2 → Nat :=
  let arg0 : BitVec 32 := BitVec.ofNat 32 (i 0).val
  let c4_i32 : BitVec 32 := 4#32
  let v8 : BitVec 32 := Scalar.muli arg0 c4_i32
  let c2_i32_138 : BitVec 32 := 2#32
  let v249 : BitVec 32 := Scalar.addi v8 c2_i32_138
  let v250 : BitVec 32 := Scalar.addi v249 c0_i32_139
  let v251 : Index := Scalar.indexCast v250
  let c0_140 : Index := 0#32
  ![v251.toNat, 0]
def k0_cond4 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v11 : BitVec 1 := Scalar.xori v1 v_true
  let v12 : BitVec 32 := Scalar.extui v11
  let c0_i32_3 : BitVec 32 := 0#32
  let v13 : BitVec 1 := Scalar.cmpi .ne v12 c0_i32_3
  v13

@[reducible] def k0_t7_loop : Scf.Loop 32 :=
  let c0_i32_9 : BitVec 32 := 0#32
  let c128_i32 : BitVec 32 := 128#32
  let v23 : BitVec 32 := Scalar.addi c0_i32_9 c128_i32
  let c1_i32_10 : BitVec 32 := 1#32
  ⟨c0_i32_9, v23, c1_i32_10⟩
def k0_off50 (k0_t7 : Fin k0_t7_loop.trips) : Fin 2 → Nat :=
  let c0_153 : Index := 0#32
  let c0_i32_152 : BitVec 32 := 0#32
  let c0_i32_9 : BitVec 32 := 0#32
  let c1_i32_10 : BitVec 32 := 1#32
  let arg21 : BitVec 32 := Scf.iv c0_i32_9 c1_i32_10 k0_t7
  let v269 : BitVec 32 := Scalar.addi c0_i32_152 arg21
  let v270 : Index := Scalar.indexCast v269
  ![0, v270.toNat]
def k0_mult24 (v271 : BitVec 32) : BitVec 32 :=
  v271

def k0_off51 (v271 : BitVec 32) : Fin 2 → Nat :=
  let v272 : BitVec 32 := v271
  let v273 : Index := Scalar.indexCast v272
  let c0_154 : Index := 0#32
  ![v273.toNat, 0]

def k0_chk19 (i : grid0.Coords) (v271 : BitVec 32) : Prop :=
  (∀ (k0_h4 : k0_cond4 i = 1#1), 8 ∣ (k0_mult24 v271).toNat) ∧
  (∀ (k0_h4 : k0_cond4 i = 1#1), ∀ a, (k0_off51 v271) a + S8x128.size a ≤ S18432x128.size a)
theorem k0_mult24_dvd : ∀ (i : grid0.Coords) (v271 : BitVec 32) (k0_hw19 : k0_chk19 i v271), ∀ (k0_h4 : k0_cond4 i = 1#1), 8 ∣ (k0_mult24 v271).toNat := fun i v271 k0_hw19 k0_h4 => k0_hw19.1 k0_h4
theorem k0_off51_inb : ∀ (i : grid0.Coords) (v271 : BitVec 32) (k0_hw19 : k0_chk19 i v271), ∀ (k0_h4 : k0_cond4 i = 1#1), ∀ a, (k0_off51 v271) a + S8x128.size a ≤ S18432x128.size a := fun i v271 k0_hw19 k0_h4 => k0_hw19.2 k0_h4

def k0_off52 (k0_t7 : Fin k0_t7_loop.trips) : Fin 2 → Nat :=
  let c1_156 : Index := 1#32
  let c0_i32_155 : BitVec 32 := 0#32
  let c0_i32_9 : BitVec 32 := 0#32
  let c1_i32_10 : BitVec 32 := 1#32
  let arg21 : BitVec 32 := Scf.iv c0_i32_9 c1_i32_10 k0_t7
  let v275 : BitVec 32 := Scalar.addi c0_i32_155 arg21
  let v276 : Index := Scalar.indexCast v275
  ![1, v276.toNat]
def k0_mult25 (v277 : BitVec 32) : BitVec 32 :=
  v277

def k0_off53 (v277 : BitVec 32) : Fin 2 → Nat :=
  let v278 : BitVec 32 := v277
  let v279 : Index := Scalar.indexCast v278
  let c0_157 : Index := 0#32
  ![v279.toNat, 0]

def k0_chk20 (i : grid0.Coords) (v277 : BitVec 32) : Prop :=
  (∀ (k0_h4 : k0_cond4 i = 1#1), 8 ∣ (k0_mult25 v277).toNat) ∧
  (∀ (k0_h4 : k0_cond4 i = 1#1), ∀ a, (k0_off53 v277) a + S8x128.size a ≤ S18432x128.size a)
theorem k0_mult25_dvd : ∀ (i : grid0.Coords) (v277 : BitVec 32) (k0_hw20 : k0_chk20 i v277), ∀ (k0_h4 : k0_cond4 i = 1#1), 8 ∣ (k0_mult25 v277).toNat := fun i v277 k0_hw20 k0_h4 => k0_hw20.1 k0_h4
theorem k0_off53_inb : ∀ (i : grid0.Coords) (v277 : BitVec 32) (k0_hw20 : k0_chk20 i v277), ∀ (k0_h4 : k0_cond4 i = 1#1), ∀ a, (k0_off53 v277) a + S8x128.size a ≤ S18432x128.size a := fun i v277 k0_hw20 k0_h4 => k0_hw20.2 k0_h4

def k0_off54 (k0_t7 : Fin k0_t7_loop.trips) : Fin 2 → Nat :=
  let c2_159 : Index := 2#32
  let c0_i32_158 : BitVec 32 := 0#32
  let c0_i32_9 : BitVec 32 := 0#32
  let c1_i32_10 : BitVec 32 := 1#32
  let arg21 : BitVec 32 := Scf.iv c0_i32_9 c1_i32_10 k0_t7
  let v282 : BitVec 32 := Scalar.addi c0_i32_158 arg21
  let v283 : Index := Scalar.indexCast v282
  ![2, v283.toNat]
def k0_mult26 (v284 : BitVec 32) : BitVec 32 :=
  v284

def k0_off55 (v284 : BitVec 32) : Fin 2 → Nat :=
  let v285 : BitVec 32 := v284
  let v286 : Index := Scalar.indexCast v285
  let c0_160 : Index := 0#32
  ![v286.toNat, 0]

def k0_chk21 (i : grid0.Coords) (v284 : BitVec 32) : Prop :=
  (∀ (k0_h4 : k0_cond4 i = 1#1), 8 ∣ (k0_mult26 v284).toNat) ∧
  (∀ (k0_h4 : k0_cond4 i = 1#1), ∀ a, (k0_off55 v284) a + S8x128.size a ≤ S18432x128.size a)
theorem k0_mult26_dvd : ∀ (i : grid0.Coords) (v284 : BitVec 32) (k0_hw21 : k0_chk21 i v284), ∀ (k0_h4 : k0_cond4 i = 1#1), 8 ∣ (k0_mult26 v284).toNat := fun i v284 k0_hw21 k0_h4 => k0_hw21.1 k0_h4
theorem k0_off55_inb : ∀ (i : grid0.Coords) (v284 : BitVec 32) (k0_hw21 : k0_chk21 i v284), ∀ (k0_h4 : k0_cond4 i = 1#1), ∀ a, (k0_off55 v284) a + S8x128.size a ≤ S18432x128.size a := fun i v284 k0_hw21 k0_h4 => k0_hw21.2 k0_h4

def k0_off56 (k0_t7 : Fin k0_t7_loop.trips) : Fin 2 → Nat :=
  let c3_162 : Index := 3#32
  let c0_i32_161 : BitVec 32 := 0#32
  let c0_i32_9 : BitVec 32 := 0#32
  let c1_i32_10 : BitVec 32 := 1#32
  let arg21 : BitVec 32 := Scf.iv c0_i32_9 c1_i32_10 k0_t7
  let v289 : BitVec 32 := Scalar.addi c0_i32_161 arg21
  let v290 : Index := Scalar.indexCast v289
  ![3, v290.toNat]
def k0_mult27 (v291 : BitVec 32) : BitVec 32 :=
  v291

def k0_off57 (v291 : BitVec 32) : Fin 2 → Nat :=
  let v292 : BitVec 32 := v291
  let v293 : Index := Scalar.indexCast v292
  let c0_163 : Index := 0#32
  ![v293.toNat, 0]

def k0_chk22 (i : grid0.Coords) (v291 : BitVec 32) : Prop :=
  (∀ (k0_h4 : k0_cond4 i = 1#1), 8 ∣ (k0_mult27 v291).toNat) ∧
  (∀ (k0_h4 : k0_cond4 i = 1#1), ∀ a, (k0_off57 v291) a + S8x128.size a ≤ S18432x128.size a)
theorem k0_mult27_dvd : ∀ (i : grid0.Coords) (v291 : BitVec 32) (k0_hw22 : k0_chk22 i v291), ∀ (k0_h4 : k0_cond4 i = 1#1), 8 ∣ (k0_mult27 v291).toNat := fun i v291 k0_hw22 k0_h4 => k0_hw22.1 k0_h4
theorem k0_off57_inb : ∀ (i : grid0.Coords) (v291 : BitVec 32) (k0_hw22 : k0_chk22 i v291), ∀ (k0_h4 : k0_cond4 i = 1#1), ∀ a, (k0_off57 v291) a + S8x128.size a ≤ S18432x128.size a := fun i v291 k0_hw22 k0_h4 => k0_hw22.2 k0_h4

def k0_off58 (k0_t7 : Fin k0_t7_loop.trips) : Fin 2 → Nat :=
  let c4_165 : Index := 4#32
  let c0_i32_164 : BitVec 32 := 0#32
  let c0_i32_9 : BitVec 32 := 0#32
  let c1_i32_10 : BitVec 32 := 1#32
  let arg21 : BitVec 32 := Scf.iv c0_i32_9 c1_i32_10 k0_t7
  let v296 : BitVec 32 := Scalar.addi c0_i32_164 arg21
  let v297 : Index := Scalar.indexCast v296
  ![4, v297.toNat]
def k0_mult28 (v298 : BitVec 32) : BitVec 32 :=
  v298

def k0_off59 (v298 : BitVec 32) : Fin 2 → Nat :=
  let v299 : BitVec 32 := v298
  let v300 : Index := Scalar.indexCast v299
  let c0_166 : Index := 0#32
  ![v300.toNat, 0]

def k0_chk23 (i : grid0.Coords) (v298 : BitVec 32) : Prop :=
  (∀ (k0_h4 : k0_cond4 i = 1#1), 8 ∣ (k0_mult28 v298).toNat) ∧
  (∀ (k0_h4 : k0_cond4 i = 1#1), ∀ a, (k0_off59 v298) a + S8x128.size a ≤ S18432x128.size a)
theorem k0_mult28_dvd : ∀ (i : grid0.Coords) (v298 : BitVec 32) (k0_hw23 : k0_chk23 i v298), ∀ (k0_h4 : k0_cond4 i = 1#1), 8 ∣ (k0_mult28 v298).toNat := fun i v298 k0_hw23 k0_h4 => k0_hw23.1 k0_h4
theorem k0_off59_inb : ∀ (i : grid0.Coords) (v298 : BitVec 32) (k0_hw23 : k0_chk23 i v298), ∀ (k0_h4 : k0_cond4 i = 1#1), ∀ a, (k0_off59 v298) a + S8x128.size a ≤ S18432x128.size a := fun i v298 k0_hw23 k0_h4 => k0_hw23.2 k0_h4

def k0_off60 (k0_t7 : Fin k0_t7_loop.trips) : Fin 2 → Nat :=
  let c5_168 : Index := 5#32
  let c0_i32_167 : BitVec 32 := 0#32
  let c0_i32_9 : BitVec 32 := 0#32
  let c1_i32_10 : BitVec 32 := 1#32
  let arg21 : BitVec 32 := Scf.iv c0_i32_9 c1_i32_10 k0_t7
  let v303 : BitVec 32 := Scalar.addi c0_i32_167 arg21
  let v304 : Index := Scalar.indexCast v303
  ![5, v304.toNat]
def k0_mult29 (v305 : BitVec 32) : BitVec 32 :=
  v305

def k0_off61 (v305 : BitVec 32) : Fin 2 → Nat :=
  let v306 : BitVec 32 := v305
  let v307 : Index := Scalar.indexCast v306
  let c0_169 : Index := 0#32
  ![v307.toNat, 0]

def k0_chk24 (i : grid0.Coords) (v305 : BitVec 32) : Prop :=
  (∀ (k0_h4 : k0_cond4 i = 1#1), 8 ∣ (k0_mult29 v305).toNat) ∧
  (∀ (k0_h4 : k0_cond4 i = 1#1), ∀ a, (k0_off61 v305) a + S8x128.size a ≤ S18432x128.size a)
theorem k0_mult29_dvd : ∀ (i : grid0.Coords) (v305 : BitVec 32) (k0_hw24 : k0_chk24 i v305), ∀ (k0_h4 : k0_cond4 i = 1#1), 8 ∣ (k0_mult29 v305).toNat := fun i v305 k0_hw24 k0_h4 => k0_hw24.1 k0_h4
theorem k0_off61_inb : ∀ (i : grid0.Coords) (v305 : BitVec 32) (k0_hw24 : k0_chk24 i v305), ∀ (k0_h4 : k0_cond4 i = 1#1), ∀ a, (k0_off61 v305) a + S8x128.size a ≤ S18432x128.size a := fun i v305 k0_hw24 k0_h4 => k0_hw24.2 k0_h4

def k0_off62 (k0_t7 : Fin k0_t7_loop.trips) : Fin 2 → Nat :=
  let c6_171 : Index := 6#32
  let c0_i32_170 : BitVec 32 := 0#32
  let c0_i32_9 : BitVec 32 := 0#32
  let c1_i32_10 : BitVec 32 := 1#32
  let arg21 : BitVec 32 := Scf.iv c0_i32_9 c1_i32_10 k0_t7
  let v310 : BitVec 32 := Scalar.addi c0_i32_170 arg21
  let v311 : Index := Scalar.indexCast v310
  ![6, v311.toNat]
def k0_mult30 (v312 : BitVec 32) : BitVec 32 :=
  v312

def k0_off63 (v312 : BitVec 32) : Fin 2 → Nat :=
  let v313 : BitVec 32 := v312
  let v314 : Index := Scalar.indexCast v313
  let c0_172 : Index := 0#32
  ![v314.toNat, 0]

def k0_chk25 (i : grid0.Coords) (v312 : BitVec 32) : Prop :=
  (∀ (k0_h4 : k0_cond4 i = 1#1), 8 ∣ (k0_mult30 v312).toNat) ∧
  (∀ (k0_h4 : k0_cond4 i = 1#1), ∀ a, (k0_off63 v312) a + S8x128.size a ≤ S18432x128.size a)
theorem k0_mult30_dvd : ∀ (i : grid0.Coords) (v312 : BitVec 32) (k0_hw25 : k0_chk25 i v312), ∀ (k0_h4 : k0_cond4 i = 1#1), 8 ∣ (k0_mult30 v312).toNat := fun i v312 k0_hw25 k0_h4 => k0_hw25.1 k0_h4
theorem k0_off63_inb : ∀ (i : grid0.Coords) (v312 : BitVec 32) (k0_hw25 : k0_chk25 i v312), ∀ (k0_h4 : k0_cond4 i = 1#1), ∀ a, (k0_off63 v312) a + S8x128.size a ≤ S18432x128.size a := fun i v312 k0_hw25 k0_h4 => k0_hw25.2 k0_h4

def k0_off64 (k0_t7 : Fin k0_t7_loop.trips) : Fin 2 → Nat :=
  let c7_174 : Index := 7#32
  let c0_i32_173 : BitVec 32 := 0#32
  let c0_i32_9 : BitVec 32 := 0#32
  let c1_i32_10 : BitVec 32 := 1#32
  let arg21 : BitVec 32 := Scf.iv c0_i32_9 c1_i32_10 k0_t7
  let v317 : BitVec 32 := Scalar.addi c0_i32_173 arg21
  let v318 : Index := Scalar.indexCast v317
  ![7, v318.toNat]
def k0_mult31 (v319 : BitVec 32) : BitVec 32 :=
  v319

def k0_off65 (v319 : BitVec 32) : Fin 2 → Nat :=
  let v320 : BitVec 32 := v319
  let v321 : Index := Scalar.indexCast v320
  let c0_175 : Index := 0#32
  ![v321.toNat, 0]

def k0_chk26 (i : grid0.Coords) (v319 : BitVec 32) : Prop :=
  (∀ (k0_h4 : k0_cond4 i = 1#1), 8 ∣ (k0_mult31 v319).toNat) ∧
  (∀ (k0_h4 : k0_cond4 i = 1#1), ∀ a, (k0_off65 v319) a + S8x128.size a ≤ S18432x128.size a)
theorem k0_mult31_dvd : ∀ (i : grid0.Coords) (v319 : BitVec 32) (k0_hw26 : k0_chk26 i v319), ∀ (k0_h4 : k0_cond4 i = 1#1), 8 ∣ (k0_mult31 v319).toNat := fun i v319 k0_hw26 k0_h4 => k0_hw26.1 k0_h4
theorem k0_off65_inb : ∀ (i : grid0.Coords) (v319 : BitVec 32) (k0_hw26 : k0_chk26 i v319), ∀ (k0_h4 : k0_cond4 i = 1#1), ∀ a, (k0_off65 v319) a + S8x128.size a ≤ S18432x128.size a := fun i v319 k0_hw26 k0_h4 => k0_hw26.2 k0_h4

def k0_off66 (k0_t7 : Fin k0_t7_loop.trips) : Fin 2 → Nat :=
  let c8_177 : Index := 8#32
  let c0_i32_176 : BitVec 32 := 0#32
  let c0_i32_9 : BitVec 32 := 0#32
  let c1_i32_10 : BitVec 32 := 1#32
  let arg21 : BitVec 32 := Scf.iv c0_i32_9 c1_i32_10 k0_t7
  let v324 : BitVec 32 := Scalar.addi c0_i32_176 arg21
  let v325 : Index := Scalar.indexCast v324
  ![8, v325.toNat]
def k0_mult32 (v326 : BitVec 32) : BitVec 32 :=
  v326

def k0_off67 (v326 : BitVec 32) : Fin 2 → Nat :=
  let v327 : BitVec 32 := v326
  let v328 : Index := Scalar.indexCast v327
  let c0_178 : Index := 0#32
  ![v328.toNat, 0]

def k0_chk27 (i : grid0.Coords) (v326 : BitVec 32) : Prop :=
  (∀ (k0_h4 : k0_cond4 i = 1#1), 8 ∣ (k0_mult32 v326).toNat) ∧
  (∀ (k0_h4 : k0_cond4 i = 1#1), ∀ a, (k0_off67 v326) a + S8x128.size a ≤ S18432x128.size a)
theorem k0_mult32_dvd : ∀ (i : grid0.Coords) (v326 : BitVec 32) (k0_hw27 : k0_chk27 i v326), ∀ (k0_h4 : k0_cond4 i = 1#1), 8 ∣ (k0_mult32 v326).toNat := fun i v326 k0_hw27 k0_h4 => k0_hw27.1 k0_h4
theorem k0_off67_inb : ∀ (i : grid0.Coords) (v326 : BitVec 32) (k0_hw27 : k0_chk27 i v326), ∀ (k0_h4 : k0_cond4 i = 1#1), ∀ a, (k0_off67 v326) a + S8x128.size a ≤ S18432x128.size a := fun i v326 k0_hw27 k0_h4 => k0_hw27.2 k0_h4

def k0_off68 (k0_t7 : Fin k0_t7_loop.trips) : Fin 3 → Nat :=
  let c0_179 : Index := 0#32
  let c0_i32_9 : BitVec 32 := 0#32
  let c1_i32_10 : BitVec 32 := 1#32
  let arg21 : BitVec 32 := Scf.iv c0_i32_9 c1_i32_10 k0_t7
  let v331 : Index := Scalar.indexCast arg21
  let c0_180 : Index := 0#32
  ![0, v331.toNat, 0]
def k0_off69 (i : grid0.Coords) (c0_i32_12 : BitVec 32) : Fin 2 → Nat :=
  let arg0 : BitVec 32 := BitVec.ofNat 32 (i 0).val
  let c4_i32 : BitVec 32 := 4#32
  let v8 : BitVec 32 := Scalar.muli arg0 c4_i32
  let v24 : BitVec 32 := Scalar.addi v8 c0_i32_12
  let v25 : Index := Scalar.indexCast v24
  let c0 : Index := 0#32
  ![v25.toNat, 0]
@[reducible] def k0_t8_loop : Scf.Loop 32 :=
  let c0_i32_39 : BitVec 32 := 0#32
  let c128_i32_40 : BitVec 32 := 128#32
  let v75 : BitVec 32 := Scalar.addi c0_i32_39 c128_i32_40
  let c1_i32_41 : BitVec 32 := 1#32
  ⟨c0_i32_39, v75, c1_i32_41⟩
def k0_off70 (k0_t8 : Fin k0_t8_loop.trips) : Fin 2 → Nat :=
  let c0_153 : Index := 0#32
  let c128_i32_152 : BitVec 32 := 128#32
  let c0_i32_39 : BitVec 32 := 0#32
  let c1_i32_41 : BitVec 32 := 1#32
  let arg21 : BitVec 32 := Scf.iv c0_i32_39 c1_i32_41 k0_t8
  let v269 : BitVec 32 := Scalar.addi c128_i32_152 arg21
  let v270 : Index := Scalar.indexCast v269
  ![0, v270.toNat]
def k0_mult33 (v271 : BitVec 32) : BitVec 32 :=
  v271

def k0_off71 (v271 : BitVec 32) : Fin 2 → Nat :=
  let v272 : BitVec 32 := v271
  let v273 : Index := Scalar.indexCast v272
  let c0_154 : Index := 0#32
  ![v273.toNat, 0]

def k0_chk28 (i : grid0.Coords) (v271 : BitVec 32) : Prop :=
  (∀ (k0_h4 : k0_cond4 i = 1#1), 8 ∣ (k0_mult33 v271).toNat) ∧
  (∀ (k0_h4 : k0_cond4 i = 1#1), ∀ a, (k0_off71 v271) a + S8x128.size a ≤ S18432x128.size a)
theorem k0_mult33_dvd : ∀ (i : grid0.Coords) (v271 : BitVec 32) (k0_hw28 : k0_chk28 i v271), ∀ (k0_h4 : k0_cond4 i = 1#1), 8 ∣ (k0_mult33 v271).toNat := fun i v271 k0_hw28 k0_h4 => k0_hw28.1 k0_h4
theorem k0_off71_inb : ∀ (i : grid0.Coords) (v271 : BitVec 32) (k0_hw28 : k0_chk28 i v271), ∀ (k0_h4 : k0_cond4 i = 1#1), ∀ a, (k0_off71 v271) a + S8x128.size a ≤ S18432x128.size a := fun i v271 k0_hw28 k0_h4 => k0_hw28.2 k0_h4

def k0_off72 (k0_t8 : Fin k0_t8_loop.trips) : Fin 2 → Nat :=
  let c1_156 : Index := 1#32
  let c128_i32_155 : BitVec 32 := 128#32
  let c0_i32_39 : BitVec 32 := 0#32
  let c1_i32_41 : BitVec 32 := 1#32
  let arg21 : BitVec 32 := Scf.iv c0_i32_39 c1_i32_41 k0_t8
  let v275 : BitVec 32 := Scalar.addi c128_i32_155 arg21
  let v276 : Index := Scalar.indexCast v275
  ![1, v276.toNat]
def k0_mult34 (v277 : BitVec 32) : BitVec 32 :=
  v277

def k0_off73 (v277 : BitVec 32) : Fin 2 → Nat :=
  let v278 : BitVec 32 := v277
  let v279 : Index := Scalar.indexCast v278
  let c0_157 : Index := 0#32
  ![v279.toNat, 0]

def k0_chk29 (i : grid0.Coords) (v277 : BitVec 32) : Prop :=
  (∀ (k0_h4 : k0_cond4 i = 1#1), 8 ∣ (k0_mult34 v277).toNat) ∧
  (∀ (k0_h4 : k0_cond4 i = 1#1), ∀ a, (k0_off73 v277) a + S8x128.size a ≤ S18432x128.size a)
theorem k0_mult34_dvd : ∀ (i : grid0.Coords) (v277 : BitVec 32) (k0_hw29 : k0_chk29 i v277), ∀ (k0_h4 : k0_cond4 i = 1#1), 8 ∣ (k0_mult34 v277).toNat := fun i v277 k0_hw29 k0_h4 => k0_hw29.1 k0_h4
theorem k0_off73_inb : ∀ (i : grid0.Coords) (v277 : BitVec 32) (k0_hw29 : k0_chk29 i v277), ∀ (k0_h4 : k0_cond4 i = 1#1), ∀ a, (k0_off73 v277) a + S8x128.size a ≤ S18432x128.size a := fun i v277 k0_hw29 k0_h4 => k0_hw29.2 k0_h4

def k0_off74 (k0_t8 : Fin k0_t8_loop.trips) : Fin 2 → Nat :=
  let c2_159 : Index := 2#32
  let c128_i32_158 : BitVec 32 := 128#32
  let c0_i32_39 : BitVec 32 := 0#32
  let c1_i32_41 : BitVec 32 := 1#32
  let arg21 : BitVec 32 := Scf.iv c0_i32_39 c1_i32_41 k0_t8
  let v282 : BitVec 32 := Scalar.addi c128_i32_158 arg21
  let v283 : Index := Scalar.indexCast v282
  ![2, v283.toNat]
def k0_mult35 (v284 : BitVec 32) : BitVec 32 :=
  v284

def k0_off75 (v284 : BitVec 32) : Fin 2 → Nat :=
  let v285 : BitVec 32 := v284
  let v286 : Index := Scalar.indexCast v285
  let c0_160 : Index := 0#32
  ![v286.toNat, 0]

def k0_chk30 (i : grid0.Coords) (v284 : BitVec 32) : Prop :=
  (∀ (k0_h4 : k0_cond4 i = 1#1), 8 ∣ (k0_mult35 v284).toNat) ∧
  (∀ (k0_h4 : k0_cond4 i = 1#1), ∀ a, (k0_off75 v284) a + S8x128.size a ≤ S18432x128.size a)
theorem k0_mult35_dvd : ∀ (i : grid0.Coords) (v284 : BitVec 32) (k0_hw30 : k0_chk30 i v284), ∀ (k0_h4 : k0_cond4 i = 1#1), 8 ∣ (k0_mult35 v284).toNat := fun i v284 k0_hw30 k0_h4 => k0_hw30.1 k0_h4
theorem k0_off75_inb : ∀ (i : grid0.Coords) (v284 : BitVec 32) (k0_hw30 : k0_chk30 i v284), ∀ (k0_h4 : k0_cond4 i = 1#1), ∀ a, (k0_off75 v284) a + S8x128.size a ≤ S18432x128.size a := fun i v284 k0_hw30 k0_h4 => k0_hw30.2 k0_h4

def k0_off76 (k0_t8 : Fin k0_t8_loop.trips) : Fin 2 → Nat :=
  let c3_162 : Index := 3#32
  let c128_i32_161 : BitVec 32 := 128#32
  let c0_i32_39 : BitVec 32 := 0#32
  let c1_i32_41 : BitVec 32 := 1#32
  let arg21 : BitVec 32 := Scf.iv c0_i32_39 c1_i32_41 k0_t8
  let v289 : BitVec 32 := Scalar.addi c128_i32_161 arg21
  let v290 : Index := Scalar.indexCast v289
  ![3, v290.toNat]
def k0_mult36 (v291 : BitVec 32) : BitVec 32 :=
  v291

def k0_off77 (v291 : BitVec 32) : Fin 2 → Nat :=
  let v292 : BitVec 32 := v291
  let v293 : Index := Scalar.indexCast v292
  let c0_163 : Index := 0#32
  ![v293.toNat, 0]

def k0_chk31 (i : grid0.Coords) (v291 : BitVec 32) : Prop :=
  (∀ (k0_h4 : k0_cond4 i = 1#1), 8 ∣ (k0_mult36 v291).toNat) ∧
  (∀ (k0_h4 : k0_cond4 i = 1#1), ∀ a, (k0_off77 v291) a + S8x128.size a ≤ S18432x128.size a)
theorem k0_mult36_dvd : ∀ (i : grid0.Coords) (v291 : BitVec 32) (k0_hw31 : k0_chk31 i v291), ∀ (k0_h4 : k0_cond4 i = 1#1), 8 ∣ (k0_mult36 v291).toNat := fun i v291 k0_hw31 k0_h4 => k0_hw31.1 k0_h4
theorem k0_off77_inb : ∀ (i : grid0.Coords) (v291 : BitVec 32) (k0_hw31 : k0_chk31 i v291), ∀ (k0_h4 : k0_cond4 i = 1#1), ∀ a, (k0_off77 v291) a + S8x128.size a ≤ S18432x128.size a := fun i v291 k0_hw31 k0_h4 => k0_hw31.2 k0_h4

def k0_off78 (k0_t8 : Fin k0_t8_loop.trips) : Fin 2 → Nat :=
  let c4_165 : Index := 4#32
  let c128_i32_164 : BitVec 32 := 128#32
  let c0_i32_39 : BitVec 32 := 0#32
  let c1_i32_41 : BitVec 32 := 1#32
  let arg21 : BitVec 32 := Scf.iv c0_i32_39 c1_i32_41 k0_t8
  let v296 : BitVec 32 := Scalar.addi c128_i32_164 arg21
  let v297 : Index := Scalar.indexCast v296
  ![4, v297.toNat]
def k0_mult37 (v298 : BitVec 32) : BitVec 32 :=
  v298

def k0_off79 (v298 : BitVec 32) : Fin 2 → Nat :=
  let v299 : BitVec 32 := v298
  let v300 : Index := Scalar.indexCast v299
  let c0_166 : Index := 0#32
  ![v300.toNat, 0]

def k0_chk32 (i : grid0.Coords) (v298 : BitVec 32) : Prop :=
  (∀ (k0_h4 : k0_cond4 i = 1#1), 8 ∣ (k0_mult37 v298).toNat) ∧
  (∀ (k0_h4 : k0_cond4 i = 1#1), ∀ a, (k0_off79 v298) a + S8x128.size a ≤ S18432x128.size a)
theorem k0_mult37_dvd : ∀ (i : grid0.Coords) (v298 : BitVec 32) (k0_hw32 : k0_chk32 i v298), ∀ (k0_h4 : k0_cond4 i = 1#1), 8 ∣ (k0_mult37 v298).toNat := fun i v298 k0_hw32 k0_h4 => k0_hw32.1 k0_h4
theorem k0_off79_inb : ∀ (i : grid0.Coords) (v298 : BitVec 32) (k0_hw32 : k0_chk32 i v298), ∀ (k0_h4 : k0_cond4 i = 1#1), ∀ a, (k0_off79 v298) a + S8x128.size a ≤ S18432x128.size a := fun i v298 k0_hw32 k0_h4 => k0_hw32.2 k0_h4

def k0_off80 (k0_t8 : Fin k0_t8_loop.trips) : Fin 2 → Nat :=
  let c5_168 : Index := 5#32
  let c128_i32_167 : BitVec 32 := 128#32
  let c0_i32_39 : BitVec 32 := 0#32
  let c1_i32_41 : BitVec 32 := 1#32
  let arg21 : BitVec 32 := Scf.iv c0_i32_39 c1_i32_41 k0_t8
  let v303 : BitVec 32 := Scalar.addi c128_i32_167 arg21
  let v304 : Index := Scalar.indexCast v303
  ![5, v304.toNat]
def k0_mult38 (v305 : BitVec 32) : BitVec 32 :=
  v305

def k0_off81 (v305 : BitVec 32) : Fin 2 → Nat :=
  let v306 : BitVec 32 := v305
  let v307 : Index := Scalar.indexCast v306
  let c0_169 : Index := 0#32
  ![v307.toNat, 0]

def k0_chk33 (i : grid0.Coords) (v305 : BitVec 32) : Prop :=
  (∀ (k0_h4 : k0_cond4 i = 1#1), 8 ∣ (k0_mult38 v305).toNat) ∧
  (∀ (k0_h4 : k0_cond4 i = 1#1), ∀ a, (k0_off81 v305) a + S8x128.size a ≤ S18432x128.size a)
theorem k0_mult38_dvd : ∀ (i : grid0.Coords) (v305 : BitVec 32) (k0_hw33 : k0_chk33 i v305), ∀ (k0_h4 : k0_cond4 i = 1#1), 8 ∣ (k0_mult38 v305).toNat := fun i v305 k0_hw33 k0_h4 => k0_hw33.1 k0_h4
theorem k0_off81_inb : ∀ (i : grid0.Coords) (v305 : BitVec 32) (k0_hw33 : k0_chk33 i v305), ∀ (k0_h4 : k0_cond4 i = 1#1), ∀ a, (k0_off81 v305) a + S8x128.size a ≤ S18432x128.size a := fun i v305 k0_hw33 k0_h4 => k0_hw33.2 k0_h4

def k0_off82 (k0_t8 : Fin k0_t8_loop.trips) : Fin 2 → Nat :=
  let c6_171 : Index := 6#32
  let c128_i32_170 : BitVec 32 := 128#32
  let c0_i32_39 : BitVec 32 := 0#32
  let c1_i32_41 : BitVec 32 := 1#32
  let arg21 : BitVec 32 := Scf.iv c0_i32_39 c1_i32_41 k0_t8
  let v310 : BitVec 32 := Scalar.addi c128_i32_170 arg21
  let v311 : Index := Scalar.indexCast v310
  ![6, v311.toNat]
def k0_mult39 (v312 : BitVec 32) : BitVec 32 :=
  v312

def k0_off83 (v312 : BitVec 32) : Fin 2 → Nat :=
  let v313 : BitVec 32 := v312
  let v314 : Index := Scalar.indexCast v313
  let c0_172 : Index := 0#32
  ![v314.toNat, 0]

def k0_chk34 (i : grid0.Coords) (v312 : BitVec 32) : Prop :=
  (∀ (k0_h4 : k0_cond4 i = 1#1), 8 ∣ (k0_mult39 v312).toNat) ∧
  (∀ (k0_h4 : k0_cond4 i = 1#1), ∀ a, (k0_off83 v312) a + S8x128.size a ≤ S18432x128.size a)
theorem k0_mult39_dvd : ∀ (i : grid0.Coords) (v312 : BitVec 32) (k0_hw34 : k0_chk34 i v312), ∀ (k0_h4 : k0_cond4 i = 1#1), 8 ∣ (k0_mult39 v312).toNat := fun i v312 k0_hw34 k0_h4 => k0_hw34.1 k0_h4
theorem k0_off83_inb : ∀ (i : grid0.Coords) (v312 : BitVec 32) (k0_hw34 : k0_chk34 i v312), ∀ (k0_h4 : k0_cond4 i = 1#1), ∀ a, (k0_off83 v312) a + S8x128.size a ≤ S18432x128.size a := fun i v312 k0_hw34 k0_h4 => k0_hw34.2 k0_h4

def k0_off84 (k0_t8 : Fin k0_t8_loop.trips) : Fin 2 → Nat :=
  let c7_174 : Index := 7#32
  let c128_i32_173 : BitVec 32 := 128#32
  let c0_i32_39 : BitVec 32 := 0#32
  let c1_i32_41 : BitVec 32 := 1#32
  let arg21 : BitVec 32 := Scf.iv c0_i32_39 c1_i32_41 k0_t8
  let v317 : BitVec 32 := Scalar.addi c128_i32_173 arg21
  let v318 : Index := Scalar.indexCast v317
  ![7, v318.toNat]
def k0_mult40 (v319 : BitVec 32) : BitVec 32 :=
  v319

def k0_off85 (v319 : BitVec 32) : Fin 2 → Nat :=
  let v320 : BitVec 32 := v319
  let v321 : Index := Scalar.indexCast v320
  let c0_175 : Index := 0#32
  ![v321.toNat, 0]

def k0_chk35 (i : grid0.Coords) (v319 : BitVec 32) : Prop :=
  (∀ (k0_h4 : k0_cond4 i = 1#1), 8 ∣ (k0_mult40 v319).toNat) ∧
  (∀ (k0_h4 : k0_cond4 i = 1#1), ∀ a, (k0_off85 v319) a + S8x128.size a ≤ S18432x128.size a)
theorem k0_mult40_dvd : ∀ (i : grid0.Coords) (v319 : BitVec 32) (k0_hw35 : k0_chk35 i v319), ∀ (k0_h4 : k0_cond4 i = 1#1), 8 ∣ (k0_mult40 v319).toNat := fun i v319 k0_hw35 k0_h4 => k0_hw35.1 k0_h4
theorem k0_off85_inb : ∀ (i : grid0.Coords) (v319 : BitVec 32) (k0_hw35 : k0_chk35 i v319), ∀ (k0_h4 : k0_cond4 i = 1#1), ∀ a, (k0_off85 v319) a + S8x128.size a ≤ S18432x128.size a := fun i v319 k0_hw35 k0_h4 => k0_hw35.2 k0_h4

def k0_off86 (k0_t8 : Fin k0_t8_loop.trips) : Fin 2 → Nat :=
  let c8_177 : Index := 8#32
  let c128_i32_176 : BitVec 32 := 128#32
  let c0_i32_39 : BitVec 32 := 0#32
  let c1_i32_41 : BitVec 32 := 1#32
  let arg21 : BitVec 32 := Scf.iv c0_i32_39 c1_i32_41 k0_t8
  let v324 : BitVec 32 := Scalar.addi c128_i32_176 arg21
  let v325 : Index := Scalar.indexCast v324
  ![8, v325.toNat]
def k0_mult41 (v326 : BitVec 32) : BitVec 32 :=
  v326

def k0_off87 (v326 : BitVec 32) : Fin 2 → Nat :=
  let v327 : BitVec 32 := v326
  let v328 : Index := Scalar.indexCast v327
  let c0_178 : Index := 0#32
  ![v328.toNat, 0]

def k0_chk36 (i : grid0.Coords) (v326 : BitVec 32) : Prop :=
  (∀ (k0_h4 : k0_cond4 i = 1#1), 8 ∣ (k0_mult41 v326).toNat) ∧
  (∀ (k0_h4 : k0_cond4 i = 1#1), ∀ a, (k0_off87 v326) a + S8x128.size a ≤ S18432x128.size a)
theorem k0_mult41_dvd : ∀ (i : grid0.Coords) (v326 : BitVec 32) (k0_hw36 : k0_chk36 i v326), ∀ (k0_h4 : k0_cond4 i = 1#1), 8 ∣ (k0_mult41 v326).toNat := fun i v326 k0_hw36 k0_h4 => k0_hw36.1 k0_h4
theorem k0_off87_inb : ∀ (i : grid0.Coords) (v326 : BitVec 32) (k0_hw36 : k0_chk36 i v326), ∀ (k0_h4 : k0_cond4 i = 1#1), ∀ a, (k0_off87 v326) a + S8x128.size a ≤ S18432x128.size a := fun i v326 k0_hw36 k0_h4 => k0_hw36.2 k0_h4

def k0_off88 (k0_t8 : Fin k0_t8_loop.trips) : Fin 3 → Nat :=
  let c1_179 : Index := 1#32
  let c0_i32_39 : BitVec 32 := 0#32
  let c1_i32_41 : BitVec 32 := 1#32
  let arg21 : BitVec 32 := Scf.iv c0_i32_39 c1_i32_41 k0_t8
  let v331 : Index := Scalar.indexCast arg21
  let c0_180 : Index := 0#32
  ![1, v331.toNat, 0]
def k0_off89 (i : grid0.Coords) (c0_i32_139 : BitVec 32) : Fin 2 → Nat :=
  let arg0 : BitVec 32 := BitVec.ofNat 32 (i 0).val
  let c4_i32 : BitVec 32 := 4#32
  let v8 : BitVec 32 := Scalar.muli arg0 c4_i32
  let c2_i32_138 : BitVec 32 := 2#32
  let v249 : BitVec 32 := Scalar.addi v8 c2_i32_138
  let v250 : BitVec 32 := Scalar.addi v249 c0_i32_139
  let v251 : Index := Scalar.indexCast v250
  let c0_140 : Index := 0#32
  ![v251.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c47_i32 : BitVec 32 := 47#32
  let v1 : BitVec 32 := Scalar.minsi v0 c47_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2304x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x512 : Shape := ⟨2, ![1024, 512]⟩
abbrev S9x256x512 : Shape := ⟨3, ![9, 256, 512]⟩
abbrev S24576x9 : Shape := ⟨2, ![24576, 9]⟩
abbrev S24576 : Shape := ⟨1, ![24576]⟩
abbrev S256 : Shape := ⟨1, ![256]⟩
abbrev S1024x9x256 : Shape := ⟨3, ![1024, 9, 256]⟩
abbrev S_ : Shape := ⟨0, ![]⟩
abbrev S1024 : Shape := ⟨1, ![1024]⟩
abbrev S9 : Shape := ⟨1, ![9]⟩
abbrev S1x9 : Shape := ⟨2, ![1, 9]⟩
abbrev S1024x2304 : Shape := ⟨2, ![1024, 2304]⟩
abbrev S24576x9x1 : Shape := ⟨3, ![24576, 9, 1]⟩
abbrev S1024x24576x9 : Shape := ⟨3, ![1024, 24576, 9]⟩
abbrev S1024x24576 : Shape := ⟨2, ![1024, 24576]⟩
abbrev S24576x1 : Shape := ⟨2, ![24576, 1]⟩
abbrev S1024x1 : Shape := ⟨2, ![1024, 1]⟩
abbrev S1x24576 : Shape := ⟨2, ![1, 24576]⟩

abbrev nBuf : Space → Nat
  | .hbm => 50
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S9x256x512, .bf16⟩
  | .hbm, ⟨2, _⟩ => ⟨S24576x9, .i8⟩
  | .hbm, ⟨3, _⟩ => ⟨S24576, .i8⟩
  | .hbm, ⟨4, _⟩ => ⟨S256, .f32⟩
  | .hbm, ⟨5, _⟩ => ⟨S1024x9x256, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S24576x9, .i32⟩
  | .hbm, ⟨11, _⟩ => ⟨S9, .i32⟩
  | .hbm, ⟨12, _⟩ => ⟨S1x9, .i32⟩
  | .hbm, ⟨13, _⟩ => ⟨S_, .i32⟩
  | .hbm, ⟨14, _⟩ => ⟨S1x9, .i32⟩
  | .hbm, ⟨15, _⟩ => ⟨S1x9, .i32⟩
  | .hbm, ⟨16, _⟩ => ⟨S24576x9, .i32⟩
  | .hbm, ⟨17, _⟩ => ⟨S24576x9, .i32⟩
  | .hbm, ⟨18, _⟩ => ⟨S1024x2304, .f32⟩
  | .hbm, ⟨19, _⟩ => ⟨S_, .i32⟩
  | .hbm, ⟨20, _⟩ => ⟨S24576x9, .i32⟩
  | .hbm, ⟨21, _⟩ => ⟨S24576x9, .i1⟩
  | .hbm, ⟨22, _⟩ => ⟨S_, .i32⟩
  | .hbm, ⟨23, _⟩ => ⟨S24576x9, .i32⟩
  | .hbm, ⟨24, _⟩ => ⟨S24576x9, .i32⟩
  | .hbm, ⟨25, _⟩ => ⟨S24576x9, .i32⟩
  | .hbm, ⟨26, _⟩ => ⟨S24576x9x1, .i32⟩
  | .hbm, ⟨27, _⟩ => ⟨S1024x24576x9, .f32⟩
  | .hbm, ⟨28, _⟩ => ⟨S_, .f32⟩
  | .hbm, ⟨29, _⟩ => ⟨S1024x24576, .f32⟩
  | .hbm, ⟨30, _⟩ => ⟨S24576, .i32⟩
  | .hbm, ⟨31, _⟩ => ⟨S_, .i32⟩
  | .hbm, ⟨32, _⟩ => ⟨S24576, .i32⟩
  | .hbm, ⟨33, _⟩ => ⟨S24576, .i1⟩
  | .hbm, ⟨34, _⟩ => ⟨S_, .i32⟩
  | .hbm, ⟨35, _⟩ => ⟨S24576, .i32⟩
  | .hbm, ⟨36, _⟩ => ⟨S24576, .i32⟩
  | .hbm, ⟨37, _⟩ => ⟨S24576, .i32⟩
  | .hbm, ⟨38, _⟩ => ⟨S24576x1, .i32⟩
  | .hbm, ⟨39, _⟩ => ⟨S24576, .f32⟩
  | .hbm, ⟨40, _⟩ => ⟨S1024x1, .f32⟩
  | .hbm, ⟨41, _⟩ => ⟨S_, .f32⟩
  | .hbm, ⟨42, _⟩ => ⟨S1024x24576, .f32⟩
  | .hbm, ⟨43, _⟩ => ⟨S1024x24576, .f32⟩
  | .hbm, ⟨44, _⟩ => ⟨S1024x24576, .f32⟩
  | .hbm, ⟨45, _⟩ => ⟨S1024x24576, .f32⟩
  | .hbm, ⟨46, _⟩ => ⟨S1x24576, .f32⟩
  | .hbm, ⟨47, _⟩ => ⟨S1024x24576, .f32⟩
  | .hbm, ⟨48, _⟩ => ⟨S1024x24576, .f32⟩
  | .hbm, ⟨49, _⟩ => ⟨S1024x2304, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Ki.Base.lean ====
/- What a buffer holds, told by coordinates: a view of rank 2 or 3 agrees with a function of natural numbers where a
   predicate of the coordinates is true. The loops' invariants are stated in these words. -/
module

public import Idealize.ShloMosaic.Lib.Exec
public import Idealize.ShloMosaic.Lib.Tactic
public import Idealize.ShloMosaic.Lib.Writes
public import Idealize.ShloMosaic.Lib.Pipeline.Value

@[expose] public section

namespace Cert.Proof.Hold

open Idealize.ShloMosaic

variable {Val : EltTy → Type} {sig : RefSig} {κ : Kind} {sp : Space} {s : Shape} {e : EltTy} {n0 n1 n2 : ℕ}

/-- A read at the index `x` of a rectangle is the read at the placed index. -/
theorem at_idx {v : View sig κ sp s e} {f : v.ty.Contents Val} {G : s.Idx → Val e} (h : ∀ y, v.read Val f y = G y)
    (r : LoadRect s) : v.readAt Val r f = fun x => G (r.idx x) := funext fun x => h _

/-- One more write keeps an agreement: its payload agrees where it lands, and elsewhere the rest agreed. -/
theorem write {v : View sig κ sp s e} {f : v.ty.Contents Val} {P : s.Idx → Prop} {G : s.Idx → Val e}
    (r : Rect s) (w : r.shape.Idx → Val e) (L : List (View.Piece Val s e))
    (hw : ∀ x, w x = G (r.idx x))
    (hL : ∀ y, P y → (∀ x, r.idx x ≠ y) → v.read Val (v.writes Val f L) y = G y) :
    ∀ y, P y → v.read Val (v.writes Val f (⟨r, w⟩ :: L)) y = G y := by
  intro y hy
  by_cases hm : y ∈ r.set
  · obtain ⟨x, rfl⟩ := r.exists_idx_of_mem hm
    exact (View.read_writes_cons_emb v f r w L x).trans (hw x)
  · rw [View.read_writes_cons_miss v f ⟨r, w⟩ L y hm]
    exact hL y hy fun x h => hm (h ▸ r.idx_mem x)

/-- A rank-2 view agrees with `G` where `D` is true of the coordinates. -/
def On2 (v : View sig κ sp ⟨2, ![n0, n1]⟩ e) (f : v.ty.Contents Val) (D : ℕ → ℕ → Prop) (G : ℕ → ℕ → Val e) : Prop :=
  ∀ y : (⟨2, ![n0, n1]⟩ : Shape).Idx, D (y 0).val (y 1).val → v.read Val f y = G (y 0).val (y 1).val

/-- A rank-3 view agrees with `G` where `D` is true of the coordinates. -/
def On3 (v : View sig κ sp ⟨3, ![n0, n1, n2]⟩ e) (f : v.ty.Contents Val) (D : ℕ → ℕ → ℕ → Prop) (G : ℕ → ℕ → ℕ → Val e) : Prop :=
  ∀ y : (⟨3, ![n0, n1, n2]⟩ : Shape).Idx, D (y 0).val (y 1).val (y 2).val → v.read Val f y = G (y 0).val (y 1).val (y 2).val

/-- A rank-2 view holds `G`. -/
abbrev Is2 (v : View sig κ sp ⟨2, ![n0, n1]⟩ e) (f : v.ty.Contents Val) (G : ℕ → ℕ → Val e) : Prop := On2 v f (fun _ _ => True) G
/-- A rank-3 view holds `G`. -/
abbrev Is3 (v : View sig κ sp ⟨3, ![n0, n1, n2]⟩ e) (f : v.ty.Contents Val) (G : ℕ → ℕ → ℕ → Val e) : Prop :=
  On3 v f (fun _ _ _ => True) G

/-- A load of a rank-2 view, by coordinates. -/
theorem On2.readAt {v : View sig κ sp ⟨2, ![n0, n1]⟩ e} {f : v.ty.Contents Val} {D : ℕ → ℕ → Prop} {G : ℕ → ℕ → Val e} (h : On2 v f D G)
    {o : Fin 2 → ℕ} (r : LoadRect ⟨2, ![n0, n1]⟩) (ho : r.off = o) (x : r.shape.Idx)
    (hD : D (o 0 + r.stride 0 * (x 0).val) (o 1 + r.stride 1 * (x 1).val)) :
    v.readAt Val r f x = G (o 0 + r.stride 0 * (x 0).val) (o 1 + r.stride 1 * (x 1).val) := by
  subst ho; exact h (r.idx x) hD

/-- A load of a rank-3 view, by coordinates. -/
theorem On3.readAt {v : View sig κ sp ⟨3, ![n0, n1, n2]⟩ e} {f : v.ty.Contents Val} {D : ℕ → ℕ → ℕ → Prop} {G : ℕ → ℕ → ℕ → Val e}
    (h : On3 v f D G) {o : Fin 3 → ℕ} (r : LoadRect ⟨3, ![n0, n1, n2]⟩) (ho : r.off = o) (x : r.shape.Idx)
    (hD : D (o 0 + r.stride 0 * (x 0).val) (o 1 + r.stride 1 * (x 1).val) (o 2 + r.stride 2 * (x 2).val)) :
    v.readAt Val r f x = G (o 0 + r.stride 0 * (x 0).val) (o 1 + r.stride 1 * (x 1).val) (o 2 + r.stride 2 * (x 2).val) := by
  subst ho; exact h (r.idx x) hD

theorem On2.mono {v : View sig κ sp ⟨2, ![n0, n1]⟩ e} {f : v.ty.Contents Val} {D D' : ℕ → ℕ → Prop} {G : ℕ → ℕ → Val e} (h : On2 v f D G)
    (hD : ∀ a b, a < n0 → b < n1 → D' a b → D a b) : On2 v f D' G := fun y hy => h y (hD _ _ (y 0).isLt (y 1).isLt hy)

theorem On3.mono {v : View sig κ sp ⟨3, ![n0, n1, n2]⟩ e} {f : v.ty.Contents Val} {D D' : ℕ → ℕ → ℕ → Prop} {G : ℕ → ℕ → ℕ → Val e}
    (h : On3 v f D G) (hD : ∀ a b c, a < n0 → b < n1 → c < n2 → D' a b c → D a b c) : On3 v f D' G :=
  fun y hy => h y (hD _ _ _ (y 0).isLt (y 1).isLt (y 2).isLt hy)

/-- One more write into a rank-2 view. -/
theorem On2.write {v : View sig κ sp ⟨2, ![n0, n1]⟩ e} {f : v.ty.Contents Val} {D D' : ℕ → ℕ → Prop} {G : ℕ → ℕ → Val e}
    {o : Fin 2 → ℕ} (r : Rect ⟨2, ![n0, n1]⟩) (w : r.shape.Idx → Val e) (L : List (View.Piece Val ⟨2, ![n0, n1]⟩ e)) (ho : r.off = o)
    (hw : ∀ x, w x = G (o 0 + r.stride 0 * (x 0).val) (o 1 + r.stride 1 * (x 1).val))
    (hL : On2 v (v.writes Val f L) D' G)
    (hD : ∀ a b, a < n0 → b < n1 → D a b → D' a b ∨ (∃ j < r.size 0, a = o 0 + r.stride 0 * j) ∧ (∃ j < r.size 1, b = o 1 + r.stride 1 * j)) :
    On2 v (v.writes Val f (⟨r, w⟩ :: L)) D G := by
  subst ho
  refine Hold.write (G := fun y => G (y 0).val (y 1).val) r w L hw fun y hy hn => hL y ?_
  rcases hD _ _ (y 0).isLt (y 1).isLt hy with h | ⟨h0, h1⟩
  · exact h
  · have hm : y ∈ r.set := r.mem_set.mpr fun a => by
      fin_cases a
      · exact h0
      · exact h1
    obtain ⟨x, hx⟩ := r.exists_idx_of_mem hm
    exact (hn x hx).elim

/-- One more write into a rank-3 view. -/
theorem On3.write {v : View sig κ sp ⟨3, ![n0, n1, n2]⟩ e} {f : v.ty.Contents Val} {D D' : ℕ → ℕ → ℕ → Prop} {G : ℕ → ℕ → ℕ → Val e}
    {o : Fin 3 → ℕ} (r : Rect ⟨3, ![n0, n1, n2]⟩) (w : r.shape.Idx → Val e) (L : List (View.Piece Val ⟨3, ![n0, n1, n2]⟩ e)) (ho : r.off = o)
    (hw : ∀ x, w x = G (o 0 + r.stride 0 * (x 0).val) (o 1 + r.stride 1 * (x 1).val) (o 2 + r.stride 2 * (x 2).val))
    (hL : On3 v (v.writes Val f L) D' G)
    (hD : ∀ a b c, a < n0 → b < n1 → c < n2 → D a b c → D' a b c ∨
      (∃ j < r.size 0, a = o 0 + r.stride 0 * j) ∧ (∃ j < r.size 1, b = o 1 + r.stride 1 * j) ∧ (∃ j < r.size 2, c = o 2 + r.stride 2 * j)) :
    On3 v (v.writes Val f (⟨r, w⟩ :: L)) D G := by
  subst ho
  refine Hold.write (G := fun y => G (y 0).val (y 1).val (y 2).val) r w L hw fun y hy hn => hL y ?_
  rcases hD _ _ _ (y 0).isLt (y 1).isLt (y 2).isLt hy with h | ⟨h0, h1, h2⟩
  · exact h
  · have hm : y ∈ r.set := r.mem_set.mpr fun a => by
      fin_cases a
      · exact h0
      · exact h1
      · exact h2
    obtain ⟨x, hx⟩ := r.exists_idx_of_mem hm
    exact (hn x hx).elim

end Cert.Proof.Hold
-- ==== Proof.Kc.Model.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
/-- The algebra of the frame: the points-tos beside the counters of the kernel's own transfers. -/
abbrev UU (nD : Nat) (τ : Topo) : Type := UR sig nD τ × Counters
abbrev 𝒱₀ : Variants := Variants.none

local notation "𝕄U" => MT nD τ sig Unit (Elt F) ℕ (UU nD τ) ℕ

/-! ## Rows summed from the table -/

/-- Nine terms added from the left, as the kernel adds a row's nine table slices. -/
def sum9 (a : ℕ → F .f32) : F .f32 :=
  FloatOps.addf (FloatOps.addf (FloatOps.addf (FloatOps.addf (FloatOps.addf (FloatOps.addf (FloatOps.addf (FloatOps.addf
    (a 0) (a 1)) (a 2)) (a 3)) (a 4)) (a 5)) (a 6)) (a 7)) (a 8)

/-- The table's sum for database row `s`, batch chunk `j`, lane `l`: `T` is the table, `W` the offsets. -/
def rowN (T : ℕ → ℕ → F .f32) (W : ℕ → ℕ → BitVec 32) (s j l : ℕ) : F .f32 :=
  sum9 fun m => T ((W m s).toNat + j) l

/-- What the staging buffer holds once both groups of rows are summed: row `r` of chunk `j` at line `132 * j + r`. -/
def stageN (T : ℕ → ℕ → F .f32) (W : ℕ → ℕ → BitVec 32) (g row l : ℕ) : F .f32 :=
  rowN T W (g * 128 + row % 132) (row / 132) l

/-- The lines done before trip `k` of group `g`. -/
def rowsDone (g k a b _c : ℕ) : Prop := (a < g ∧ b % 132 < 128) ∨ (a = g ∧ b % 132 < k)

/-- An offset names an aligned table slice of eight lines. -/
def Good (w : BitVec 32) : Prop := 8 ∣ w.toNat ∧ w.toNat + 8 ≤ 18432

/-- The offsets of the nine books are good. -/
def AllGood (W : ℕ → ℕ → BitVec 32) : Prop := ∀ m s, m < 9 → s < 256 → Good (W m s)

/-- A slice of eight table lines loaded at an offset. -/
theorem slice_at {v : View sig .tc .vmem S18432x128 .f32} {X : v.ty.Contents (Elt F)} {T : ℕ → ℕ → F .f32} (hT : Is2 v X T)
    {w w' : BitVec 32} (hw : w = w') {off : Fin 2 → ℕ} (ho : off = ![w.toNat, 0]) {h} (x : S8x128.Idx) :
    v.readAt (Elt F) (Rect.unit (s := S18432x128) off S8x128.size h).toLoadRect X x = T (w'.toNat + (x 0).val) (x 1).val := by
  subst hw
  subst ho
  rw [On2.readAt hT _ rfl _ trivial]
  simp [Rect.unit]

/-- The staging buffer where the write of trip `k` lands. -/
theorem stageN_at (T : ℕ → ℕ → F .f32) (W : ℕ → ℕ → BitVec 32) {g k x0 x1 x2 : ℕ} (h0 : x0 < 1) (hk : k < 128) :
    stageN T W (g + 1 * x0) (k + 132 * x1) (0 + 1 * x2) = sum9 fun m => T ((W m (g * 128 + k)).toNat + x1) x2 := by
  have e1 : (g + 1 * x0) * 128 + (k + 132 * x1) % 132 = g * 128 + k := by omega
  have e2 : (k + 132 * x1) / 132 = x1 := by omega
  have e3 : 0 + 1 * x2 = x2 := by omega
  show rowN T W ((g + 1 * x0) * 128 + (k + 132 * x1) % 132) ((k + 132 * x1) / 132) (0 + 1 * x2) = _
  rw [e1, e2, e3]; rfl

/-- A line done after trip `k` was done before it or is one that the trip writes. -/
theorem rowsDone_step {g k a b c : ℕ} (hb : b < 1056) (hk : k < 128) (hc : c < 128) (hd : rowsDone g (k + 1) a b c) :
    rowsDone g k a b c ∨ (∃ j < 1, a = g + 1 * j) ∧ (∃ j < 8, b = k + 132 * j) ∧ (∃ j < 128, c = 0 + 1 * j) := by
  by_cases h : rowsDone g k a b c
  · exact .inl h
  · unfold rowsDone at h hd
    exact .inr ⟨⟨0, by omega, by omega⟩, ⟨b / 132, by omega, by omega⟩, ⟨c, hc, by omega⟩⟩

/-- What a trip of this loop stores, line by line. -/
theorem row_pay5 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay95 (k0_pay92 a0 a1 a2 a3 a4) a5 a6 a7 a8 x = sum9 b := by
  unfold k0_pay95 k0_pay92
  refine (shapeCast_addUnit_apply (n := 2) ![8, 128] _ _ x).trans ?_
  unfold sum9
  rw [← h0, ← h1, ← h2, ← h3, ← h4, ← h5, ← h6, ← h7, ← h8]
  rfl

theorem k0_off10_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off10 k) S1x1.size h).toLoadRect X (Shape.Idx.first (s := S1x1) h') = W 0 (0 * 128 + k.val) := by
  rw [On2.readAt hX _ (k0_off10_eq k) _ trivial]
  simp [Rect.unit, Shape.Idx.first, Nat.add_comm]

theorem k0_chk1_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk1 i (v.readAt (Elt F) (Rect.unit (s := S16x256) (k0_off10 k) S1x1.size h).toLoadRect X (Shape.Idx.first (s := S1x1) h')) := by
  have g : Good (v.readAt (Elt F) (Rect.unit (s := S16x256) (k0_off10 k) S1x1.size h).toLoadRect X (Shape.Idx.first (s := S1x1) h')) := by
    have hk : k.val < 128 := k.isLt
    rw [k0_off10_word k hX]; exact hW _ _ (by omega) (by omega)
  exact ⟨fun _ => g.1, fun _ a => by fin_cases a; exacts [g.2, Nat.le_refl _]⟩

theorem k0_off12_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off12 k) S1x1.size h).toLoadRect X (Shape.Idx.first (s := S1x1) h') = W 1 (0 * 128 + k.val) := by
  rw [On2.readAt hX _ (k0_off12_eq k) _ trivial]
  simp [Rect.unit, Shape.Idx.first, Nat.add_comm]

theorem k0_chk2_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk2 i (v.readAt (Elt F) (Rect.unit (s := S16x256) (k0_off12 k) S1x1.size h).toLoadRect X (Shape.Idx.first (s := S1x1) h')) := by
  have g : Good (v.readAt (Elt F) (Rect.unit (s := S16x256) (k0_off12 k) S1x1.size h).toLoadRect X (Shape.Idx.first (s := S1x1) h')) := by
    have hk : k.val < 128 := k.isLt
    rw [k0_off12_word k hX]; exact hW _ _ (by omega) (by omega)
  exact ⟨fun _ => g.1, fun _ a => by fin_cases a; exacts [g.2, Nat.le_refl _]⟩

theorem k0_off14_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off14 k) S1x1.size h).toLoadRect X (Shape.Idx.first (s := S1x1) h') = W 2 (0 * 128 + k.val) := by
  rw [On2.readAt hX _ (k0_off14_eq k) _ trivial]
  simp [Rect.unit, Shape.Idx.first, Nat.add_comm]

theorem k0_chk3_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk3 i (v.readAt (Elt F) (Rect.unit (s := S16x256) (k0_off14 k) S1x1.size h).toLoadRect X (Shape.Idx.first (s := S1x1) h')) := by
  have g : Good (v.readAt (Elt F) (Rect.unit (s := S16x256) (k0_off14 k) S1x1.size h).toLoadRect X (Shape.Idx.first (s := S1x1) h')) := by
    have hk : k.val < 128 := k.isLt
    rw [k0_off14_word k hX]; exact hW _ _ (by omega) (by omega)
  exact ⟨fun _ => g.1, fun _ a => by fin_cases a; exacts [g.2, Nat.le_refl _]⟩

theorem k0_off16_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off16 k) S1x1.size h).toLoadRect X (Shape.Idx.first (s := S1x1) h') = W 3 (0 * 128 + k.val) := by
  rw [On2.readAt hX _ (k0_off16_eq k) _ trivial]
  simp [Rect.unit, Shape.Idx.first, Nat.add_comm]

theorem k0_chk4_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk4 i (v.readAt (Elt F) (Rect.unit (s := S16x256) (k0_off16 k) S1x1.size h).toLoadRect X (Shape.Idx.first (s := S1x1) h')) := by
  have g : Good (v.readAt (Elt F) (Rect.unit (s := S16x256) (k0_off16 k) S1x1.size h).toLoadRect X (Shape.Idx.first (s := S1x1) h')) := by
    have hk : k.val < 128 := k.isLt
    rw [k0_off16_word k hX]; exact hW _ _ (by omega) (by omega)
  exact ⟨fun _ => g.1, fun _ a => by fin_cases a; exacts [g.2, Nat.le_refl _]⟩

theorem k0_off18_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off18 k) S1x1.size h).toLoadRect X (Shape.Idx.first (s := S1x1) h') = W 4 (0 * 128 + k.val) := by
  rw [On2.readAt hX _ (k0_off18_eq k) _ trivial]
  simp [Rect.unit, Shape.Idx.first, Nat.add_comm]

theorem k0_chk5_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk5 i (v.readAt (Elt F) (Rect.unit (s := S16x256) (k0_off18 k) S1x1.size h).toLoadRect X (Shape.Idx.first (s := S1x1) h')) := by
  have g : Good (v.readAt (Elt F) (Rect.unit (s := S16x256) (k0_off18 k) S1x1.size h).toLoadRect X (Shape.Idx.first (s := S1x1) h')) := by
    have hk : k.val < 128 := k.isLt
    rw [k0_off18_word k hX]; exact hW _ _ (by omega) (by omega)
  exact ⟨fun _ => g.1, fun _ a => by fin_cases a; exacts [g.2, Nat.le_refl _]⟩

theorem k0_off20_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off20 k) S1x1.size h).toLoadRect X (Shape.Idx.first (s := S1x1) h') = W 5 (0 * 128 + k.val) := by
  rw [On2.readAt hX _ (k0_off20_eq k) _ trivial]
  simp [Rect.unit, Shape.Idx.first, Nat.add_comm]

theorem k0_chk6_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk6 i (v.readAt (Elt F) (Rect.unit (s := S16x256) (k0_off20 k) S1x1.size h).toLoadRect X (Shape.Idx.first (s := S1x1) h')) := by
  have g : Good (v.readAt (Elt F) (Rect.unit (s := S16x256) (k0_off20 k) S1x1.size h).toLoadRect X (Shape.Idx.first (s := S1x1) h')) := by
    have hk : k.val < 128 := k.isLt
    rw [k0_off20_word k hX]; exact hW _ _ (by omega) (by omega)
  exact ⟨fun _ => g.1, fun _ a => by fin_cases a; exacts [g.2, Nat.le_refl _]⟩

theorem k0_off22_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off22 k) S1x1.size h).toLoadRect X (Shape.Idx.first (s := S1x1) h') = W 6 (0 * 128 + k.val) := by
  rw [On2.readAt hX _ (k0_off22_eq k) _ trivial]
  simp [Rect.unit, Shape.Idx.first, Nat.add_comm]

theorem k0_chk7_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk7 i (v.readAt (Elt F) (Rect.unit (s := S16x256) (k0_off22 k) S1x1.size h).toLoadRect X (Shape.Idx.first (s := S1x1) h')) := by
  have g : Good (v.readAt (Elt F) (Rect.unit (s := S16x256) (k0_off22 k) S1x1.size h).toLoadRect X (Shape.Idx.first (s := S1x1) h')) := by
    have hk : k.val < 128 := k.isLt
    rw [k0_off22_word k hX]; exact hW _ _ (by omega) (by omega)
  exact ⟨fun _ => g.1, fun _ a => by fin_cases a; exacts [g.2, Nat.le_refl _]⟩

theorem k0_off24_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off24 k) S1x1.size h).toLoadRect X (Shape.Idx.first (s := S1x1) h') = W 7 (0 * 128 + k.val) := by
  rw [On2.readAt hX _ (k0_off24_eq k) _ trivial]
  simp [Rect.unit, Shape.Idx.first, Nat.add_comm]

theorem k0_chk8_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk8 i (v.readAt (Elt F) (Rect.unit (s := S16x256) (k0_off24 k) S1x1.size h).toLoadRect X (Shape.Idx.first (s := S1x1) h')) := by
  have g : Good (v.readAt (Elt F) (Rect.unit (s := S16x256) (k0_off24 k) S1x1.size h).toLoadRect X (Shape.Idx.first (s := S1x1) h')) := by
    have hk : k.val < 128 := k.isLt
    rw [k0_off24_word k hX]; exact hW _ _ (by omega) (by omega)
  exact ⟨fun _ => g.1, fun _ a => by fin_cases a; exacts [g.2, Nat.le_refl _]⟩

theorem k0_off26_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off26 k) S1x1.size h).toLoadRect X (Shape.Idx.first (s := S1x1) h') = W 8 (0 * 128 + k.val) := by
  rw [On2.readAt hX _ (k0_off26_eq k) _ trivial]
  simp [Rect.unit, Shape.Idx.first, Nat.add_comm]

theorem k0_chk9_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk9 i (v.readAt (Elt F) (Rect.unit (s := S16x256) (k0_off26 k) S1x1.size h).toLoadRect X (Shape.Idx.first (s := S1x1) h')) := by
  have g : Good (v.readAt (Elt F) (Rect.unit (s := S16x256) (k0_off26 k) S1x1.size h).toLoadRect X (Shape.Idx.first (s := S1x1) h')) := by
    have hk : k.val < 128 := k.isLt
    rw [k0_off26_word k hX]; exact hW _ _ (by omega) (by omega)
  exact ⟨fun _ => g.1, fun _ a => by fin_cases a; exacts [g.2, Nat.le_refl _]⟩

/-- What a trip of this loop stores, line by line. -/
theorem row_pay6 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay104 (k0_pay93 a0 a1 a2 a3 a4) a5 a6 a7 a8 x = sum9 b := by
  unfold k0_pay104 k0_pay93
  refine (shapeCast_addUnit_apply (n := 2) ![8, 128] _ _ x).trans ?_
  unfold sum9
  rw [← h0, ← h1, ← h2, ← h3, ← h4, ← h5, ← h6, ← h7, ← h8]
  rfl

theorem k0_off30_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off30 k) S1x1.size h).toLoadRect X (Shape.Idx.first (s := S1x1) h') = W 0 (1 * 128 + k.val) := by
  rw [On2.readAt hX _ (k0_off30_eq k) _ trivial]
  simp [Rect.unit, Shape.Idx.first, Nat.add_comm]

theorem k0_chk10_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk10 i (v.readAt (Elt F) (Rect.unit (s := S16x256) (k0_off30 k) S1x1.size h).toLoadRect X (Shape.Idx.first (s := S1x1) h')) := by
  have g : Good (v.readAt (Elt F) (Rect.unit (s := S16x256) (k0_off30 k) S1x1.size h).toLoadRect X (Shape.Idx.first (s := S1x1) h')) := by
    have hk : k.val < 128 := k.isLt
    rw [k0_off30_word k hX]; exact hW _ _ (by omega) (by omega)
  exact ⟨fun _ => g.1, fun _ a => by fin_cases a; exacts [g.2, Nat.le_refl _]⟩

theorem k0_off32_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off32 k) S1x1.size h).toLoadRect X (Shape.Idx.first (s := S1x1) h') = W 1 (1 * 128 + k.val) := by
  rw [On2.readAt hX _ (k0_off32_eq k) _ trivial]
  simp [Rect.unit, Shape.Idx.first, Nat.add_comm]

theorem k0_chk11_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk11 i (v.readAt (Elt F) (Rect.unit (s := S16x256) (k0_off32 k) S1x1.size h).toLoadRect X (Shape.Idx.first (s := S1x1) h')) := by
  have g : Good (v.readAt (Elt F) (Rect.unit (s := S16x256) (k0_off32 k) S1x1.size h).toLoadRect X (Shape.Idx.first (s := S1x1) h')) := by
    have hk : k.val < 128 := k.isLt
    rw [k0_off32_word k hX]; exact hW _ _ (by omega) (by omega)
  exact ⟨fun _ => g.1, fun _ a => by fin_cases a; exacts [g.2, Nat.le_refl _]⟩

theorem k0_off34_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off34 k) S1x1.size h).toLoadRect X (Shape.Idx.first (s := S1x1) h') = W 2 (1 * 128 + k.val) := by
  rw [On2.readAt hX _ (k0_off34_eq k) _ trivial]
  simp [Rect.unit, Shape.Idx.first, Nat.add_comm]

theorem k0_chk12_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk12 i (v.readAt (Elt F) (Rect.unit (s := S16x256) (k0_off34 k) S1x1.size h).toLoadRect X (Shape.Idx.first (s := S1x1) h')) := by
  have g : Good (v.readAt (Elt F) (Rect.unit (s := S16x256) (k0_off34 k) S1x1.size h).toLoadRect X (Shape.Idx.first (s := S1x1) h')) := by
    have hk : k.val < 128 := k.isLt
    rw [k0_off34_word k hX]; exact hW _ _ (by omega) (by omega)
  exact ⟨fun _ => g.1, fun _ a => by fin_cases a; exacts [g.2, Nat.le_refl _]⟩

theorem k0_off36_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off36 k) S1x1.size h).toLoadRect X (Shape.Idx.first (s := S1x1) h') = W 3 (1 * 128 + k.val) := by
  rw [On2.readAt hX _ (k0_off36_eq k) _ trivial]
  simp [Rect.unit, Shape.Idx.first, Nat.add_comm]

theorem k0_chk13_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk13 i (v.readAt (Elt F) (Rect.unit (s := S16x256) (k0_off36 k) S1x1.size h).toLoadRect X (Shape.Idx.first (s := S1x1) h')) := by
  have g : Good (v.readAt (Elt F) (Rect.unit (s := S16x256) (k0_off36 k) S1x1.size h).toLoadRect X (Shape.Idx.first (s := S1x1) h')) := by
    have hk : k.val < 128 := k.isLt
    rw [k0_off36_word k hX]; exact hW _ _ (by omega) (by omega)
  exact ⟨fun _ => g.1, fun _ a => by fin_cases a; exacts [g.2, Nat.le_refl _]⟩

theorem k0_off38_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off38 k) S1x1.size h).toLoadRect X (Shape.Idx.first (s := S1x1) h') = W 4 (1 * 128 + k.val) := by
  rw [On2.readAt hX _ (k0_off38_eq k) _ trivial]
  simp [Rect.unit, Shape.Idx.first, Nat.add_comm]

theorem k0_chk14_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk14 i (v.readAt (Elt F) (Rect.unit (s := S16x256) (k0_off38 k) S1x1.size h).toLoadRect X (Shape.Idx.first (s := S1x1) h')) := by
  have g : Good (v.readAt (Elt F) (Rect.unit (s := S16x256) (k0_off38 k) S1x1.size h).toLoadRect X (Shape.Idx.first (s := S1x1) h')) := by
    have hk : k.val < 128 := k.isLt
    rw [k0_off38_word k hX]; exact hW _ _ (by omega) (by omega)
  exact ⟨fun _ => g.1, fun _ a => by fin_cases a; exacts [g.2, Nat.le_refl _]⟩

theorem k0_off40_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off40 k) S1x1.size h).toLoadRect X (Shape.Idx.first (s := S1x1) h') = W 5 (1 * 128 + k.val) := by
  rw [On2.readAt hX _ (k0_off40_eq k) _ trivial]
  simp [Rect.unit, Shape.Idx.first, Nat.add_comm]

theorem k0_chk15_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk15 i (v.readAt (Elt F) (Rect.unit (s := S16x256) (k0_off40 k) S1x1.size h).toLoadRect X (Shape.Idx.first (s := S1x1) h')) := by
  have g : Good (v.readAt (Elt F) (Rect.unit (s := S16x256) (k0_off40 k) S1x1.size h).toLoadRect X (Shape.Idx.first (s := S1x1) h')) := by
    have hk : k.val < 128 := k.isLt
    rw [k0_off40_word k hX]; exact hW _ _ (by omega) (by omega)
  exact ⟨fun _ => g.1, fun _ a => by fin_cases a; exacts [g.2, Nat.le_refl _]⟩

theorem k0_off42_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off42 k) S1x1.size h).toLoadRect X (Shape.Idx.first (s := S1x1) h') = W 6 (1 * 128 + k.val) := by
  rw [On2.readAt hX _ (k0_off42_eq k) _ trivial]
  simp [Rect.unit, Shape.Idx.first, Nat.add_comm]

theorem k0_chk16_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk16 i (v.readAt (Elt F) (Rect.unit (s := S16x256) (k0_off42 k) S1x1.size h).toLoadRect X (Shape.Idx.first (s := S1x1) h')) := by
  have g : Good (v.readAt (Elt F) (Rect.unit (s := S16x256) (k0_off42 k) S1x1.size h).toLoadRect X (Shape.Idx.first (s := S1x1) h')) := by
    have hk : k.val < 128 := k.isLt
    rw [k0_off42_word k hX]; exact hW _ _ (by omega) (by omega)
  exact ⟨fun _ => g.1, fun _ a => by fin_cases a; exacts [g.2, Nat.le_refl _]⟩

theorem k0_off44_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off44 k) S1x1.size h).toLoadRect X (Shape.Idx.first (s := S1x1) h') = W 7 (1 * 128 + k.val) := by
  rw [On2.readAt hX _ (k0_off44_eq k) _ trivial]
  simp [Rect.unit, Shape.Idx.first, Nat.add_comm]

theorem k0_chk17_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk17 i (v.readAt (Elt F) (Rect.unit (s := S16x256) (k0_off44 k) S1x1.size h).toLoadRect X (Shape.Idx.first (s := S1x1) h')) := by
  have g : Good (v.readAt (Elt F) (Rect.unit (s := S16x256) (k0_off44 k) S1x1.size h).toLoadRect X (Shape.Idx.first (s := S1x1) h')) := by
    have hk : k.val < 128 := k.isLt
    rw [k0_off44_word k hX]; exact hW _ _ (by omega) (by omega)
  exact ⟨fun _ => g.1, fun _ a => by fin_cases a; exacts [g.2, Nat.le_refl _]⟩

theorem k0_off46_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off46 k) S1x1.size h).toLoadRect X (Shape.Idx.first (s := S1x1) h') = W 8 (1 * 128 + k.val) := by
  rw [On2.readAt hX _ (k0_off46_eq k) _ trivial]
  simp [Rect.unit, Shape.Idx.first, Nat.add_comm]

theorem k0_chk18_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk18 i (v.readAt (Elt F) (Rect.unit (s := S16x256) (k0_off46 k) S1x1.size h).toLoadRect X (Shape.Idx.first (s := S1x1) h')) := by
  have g : Good (v.readAt (Elt F) (Rect.unit (s := S16x256) (k0_off46 k) S1x1.size h).toLoadRect X (Shape.Idx.first (s := S1x1) h')) := by
    have hk : k.val < 128 := k.isLt
    rw [k0_off46_word k hX]; exact hW _ _ (by omega) (by omega)
  exact ⟨fun _ => g.1, fun _ a => by fin_cases a; exacts [g.2, Nat.le_refl _]⟩

/-- What a trip of this loop stores, line by line. -/
theorem row_pay7 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay125 (k0_pay122 a0 a1 a2 a3 a4) a5 a6 a7 a8 x = sum9 b := by
  unfold k0_pay125 k0_pay122
  refine (shapeCast_addUnit_apply (n := 2) ![8, 128] _ _ x).trans ?_
  unfold sum9
  rw [← h0, ← h1, ← h2, ← h3, ← h4, ← h5, ← h6, ← h7, ← h8]
  rfl

theorem k0_off50_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off50 k) S1x1.size h).toLoadRect X (Shape.Idx.first (s := S1x1) h') = W 0 (0 * 128 + k.val) := by
  rw [On2.readAt hX _ (k0_off50_eq k) _ trivial]
  simp [Rect.unit, Shape.Idx.first, Nat.add_comm]

theorem k0_chk19_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk19 i (v.readAt (Elt F) (Rect.unit (s := S16x256) (k0_off50 k) S1x1.size h).toLoadRect X (Shape.Idx.first (s := S1x1) h')) := by
  have g : Good (v.readAt (Elt F) (Rect.unit (s := S16x256) (k0_off50 k) S1x1.size h).toLoadRect X (Shape.Idx.first (s := S1x1) h')) := by
    have hk : k.val < 128 := k.isLt
    rw [k0_off50_word k hX]; exact hW _ _ (by omega) (by omega)
  exact ⟨fun _ => g.1, fun _ a => by fin_cases a; exacts [g.2, Nat.le_refl _]⟩

theorem k0_off52_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off52 k) S1x1.size h).toLoadRect X (Shape.Idx.first (s := S1x1) h') = W 1 (0 * 128 + k.val) := by
  rw [On2.readAt hX _ (k0_off52_eq k) _ trivial]
  simp [Rect.unit, Shape.Idx.first, Nat.add_comm]

theorem k0_chk20_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk20 i (v.readAt (Elt F) (Rect.unit (s := S16x256) (k0_off52 k) S1x1.size h).toLoadRect X (Shape.Idx.first (s := S1x1) h')) := by
  have g : Good (v.readAt (Elt F) (Rect.unit (s := S16x256) (k0_off52 k) S1x1.size h).toLoadRect X (Shape.Idx.first (s := S1x1) h')) := by
    have hk : k.val < 128 := k.isLt
    rw [k0_off52_word k hX]; exact hW _ _ (by omega) (by omega)
  exact ⟨fun _ => g.1, fun _ a => by fin_cases a; exacts [g.2, Nat.le_refl _]⟩

theorem k0_off54_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off54 k) S1x1.size h).toLoadRect X (Shape.Idx.first (s := S1x1) h') = W 2 (0 * 128 + k.val) := by
  rw [On2.readAt hX _ (k0_off54_eq k) _ trivial]
  simp [Rect.unit, Shape.Idx.first, Nat.add_comm]

theorem k0_chk21_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk21 i (v.readAt (Elt F) (Rect.unit (s := S16x256) (k0_off54 k) S1x1.size h).toLoadRect X (Shape.Idx.first (s := S1x1) h')) := by
  have g : Good (v.readAt (Elt F) (Rect.unit (s := S16x256) (k0_off54 k) S1x1.size h).toLoadRect X (Shape.Idx.first (s := S1x1) h')) := by
    have hk : k.val < 128 := k.isLt
    rw [k0_off54_word k hX]; exact hW _ _ (by omega) (by omega)
  exact ⟨fun _ => g.1, fun _ a => by fin_cases a; exacts [g.2, Nat.le_refl _]⟩

theorem k0_off56_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off56 k) S1x1.size h).toLoadRect X (Shape.Idx.first (s := S1x1) h') = W 3 (0 * 128 + k.val) := by
  rw [On2.readAt hX _ (k0_off56_eq k) _ trivial]
  simp [Rect.unit, Shape.Idx.first, Nat.add_comm]

theorem k0_chk22_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk22 i (v.readAt (Elt F) (Rect.unit (s := S16x256) (k0_off56 k) S1x1.size h).toLoadRect X (Shape.Idx.first (s := S1x1) h')) := by
  have g : Good (v.readAt (Elt F) (Rect.unit (s := S16x256) (k0_off56 k) S1x1.size h).toLoadRect X (Shape.Idx.first (s := S1x1) h')) := by
    have hk : k.val < 128 := k.isLt
    rw [k0_off56_word k hX]; exact hW _ _ (by omega) (by omega)
  exact ⟨fun _ => g.1, fun _ a => by fin_cases a; exacts [g.2, Nat.le_refl _]⟩

theorem k0_off58_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off58 k) S1x1.size h).toLoadRect X (Shape.Idx.first (s := S1x1) h') = W 4 (0 * 128 + k.val) := by
  rw [On2.readAt hX _ (k0_off58_eq k) _ trivial]
  simp [Rect.unit, Shape.Idx.first, Nat.add_comm]

theorem k0_chk23_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk23 i (v.readAt (Elt F) (Rect.unit (s := S16x256) (k0_off58 k) S1x1.size h).toLoadRect X (Shape.Idx.first (s := S1x1) h')) := by
  have g : Good (v.readAt (Elt F) (Rect.unit (s := S16x256) (k0_off58 k) S1x1.size h).toLoadRect X (Shape.Idx.first (s := S1x1) h')) := by
    have hk : k.val < 128 := k.isLt
    rw [k0_off58_word k hX]; exact hW _ _ (by omega) (by omega)
  exact ⟨fun _ => g.1, fun _ a => by fin_cases a; exacts [g.2, Nat.le_refl _]⟩

theorem k0_off60_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off60 k) S1x1.size h).toLoadRect X (Shape.Idx.first (s := S1x1) h') = W 5 (0 * 128 + k.val) := by
  rw [On2.readAt hX _ (k0_off60_eq k) _ trivial]
  simp [Rect.unit, Shape.Idx.first, Nat.add_comm]

theorem k0_chk24_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk24 i (v.readAt (Elt F) (Rect.unit (s := S16x256) (k0_off60 k) S1x1.size h).toLoadRect X (Shape.Idx.first (s := S1x1) h')) := by
  have g : Good (v.readAt (Elt F) (Rect.unit (s := S16x256) (k0_off60 k) S1x1.size h).toLoadRect X (Shape.Idx.first (s := S1x1) h')) := by
    have hk : k.val < 128 := k.isLt
    rw [k0_off60_word k hX]; exact hW _ _ (by omega) (by omega)
  exact ⟨fun _ => g.1, fun _ a => by fin_cases a; exacts [g.2, Nat.le_refl _]⟩

theorem k0_off62_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off62 k) S1x1.size h).toLoadRect X (Shape.Idx.first (s := S1x1) h') = W 6 (0 * 128 + k.val) := by
  rw [On2.readAt hX _ (k0_off62_eq k) _ trivial]
  simp [Rect.unit, Shape.Idx.first, Nat.add_comm]

theorem k0_chk25_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk25 i (v.readAt (Elt F) (Rect.unit (s := S16x256) (k0_off62 k) S1x1.size h).toLoadRect X (Shape.Idx.first (s := S1x1) h')) := by
  have g : Good (v.readAt (Elt F) (Rect.unit (s := S16x256) (k0_off62 k) S1x1.size h).toLoadRect X (Shape.Idx.first (s := S1x1) h')) := by
    have hk : k.val < 128 := k.isLt
    rw [k0_off62_word k hX]; exact hW _ _ (by omega) (by omega)
  exact ⟨fun _ => g.1, fun _ a => by fin_cases a; exacts [g.2, Nat.le_refl _]⟩

theorem k0_off64_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off64 k) S1x1.size h).toLoadRect X (Shape.Idx.first (s := S1x1) h') = W 7 (0 * 128 + k.val) := by
  rw [On2.readAt hX _ (k0_off64_eq k) _ trivial]
  simp [Rect.unit, Shape.Idx.first, Nat.add_comm]

theorem k0_chk26_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk26 i (v.readAt (Elt F) (Rect.unit (s := S16x256) (k0_off64 k) S1x1.size h).toLoadRect X (Shape.Idx.first (s := S1x1) h')) := by
  have g : Good (v.readAt (Elt F) (Rect.unit (s := S16x256) (k0_off64 k) S1x1.size h).toLoadRect X (Shape.Idx.first (s := S1x1) h')) := by
    have hk : k.val < 128 := k.isLt
    rw [k0_off64_word k hX]; exact hW _ _ (by omega) (by omega)
  exact ⟨fun _ => g.1, fun _ a => by fin_cases a; exacts [g.2, Nat.le_refl _]⟩

theorem k0_off66_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off66 k) S1x1.size h).toLoadRect X (Shape.Idx.first (s := S1x1) h') = W 8 (0 * 128 + k.val) := by
  rw [On2.readAt hX _ (k0_off66_eq k) _ trivial]
  simp [Rect.unit, Shape.Idx.first, Nat.add_comm]

theorem k0_chk27_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk27 i (v.readAt (Elt F) (Rect.unit (s := S16x256) (k0_off66 k) S1x1.size h).toLoadRect X (Shape.Idx.first (s := S1x1) h')) := by
  have g : Good (v.readAt (Elt F) (Rect.unit (s := S16x256) (k0_off66 k) S1x1.size h).toLoadRect X (Shape.Idx.first (s := S1x1) h')) := by
    have hk : k.val < 128 := k.isLt
    rw [k0_off66_word k hX]; exact hW _ _ (by omega) (by omega)
  exact ⟨fun _ => g.1, fun _ a => by fin_cases a; exacts [g.2, Nat.le_refl _]⟩

/-- What a trip of this loop stores, line by line. -/
theorem row_pay8 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay134 (k0_pay123 a0 a1 a2 a3 a4) a5 a6 a7 a8 x = sum9 b := by
  unfold k0_pay134 k0_pay123
  refine (shapeCast_addUnit_apply (n := 2) ![8, 128] _ _ x).trans ?_
  unfold sum9
  rw [← h0, ← h1, ← h2, ← h3, ← h4, ← h5, ← h6, ← h7, ← h8]
  rfl

theorem k0_off70_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off70 k) S1x1.size h).toLoadRect X (Shape.Idx.first (s := S1x1) h') = W 0 (1 * 128 + k.val) := by
  rw [On2.readAt hX _ (k0_off70_eq k) _ trivial]
  simp [Rect.unit, Shape.Idx.first, Nat.add_comm]

theorem k0_chk28_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk28 i (v.readAt (Elt F) (Rect.unit (s := S16x256) (k0_off70 k) S1x1.size h).toLoadRect X (Shape.Idx.first (s := S1x1) h')) := by
  have g : Good (v.readAt (Elt F) (Rect.unit (s := S16x256) (k0_off70 k) S1x1.size h).toLoadRect X (Shape.Idx.first (s := S1x1) h')) := by
    have hk : k.val < 128 := k.isLt
    rw [k0_off70_word k hX]; exact hW _ _ (by omega) (by omega)
  exact ⟨fun _ => g.1, fun _ a => by fin_cases a; exacts [g.2, Nat.le_refl _]⟩

theorem k0_off72_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off72 k) S1x1.size h).toLoadRect X (Shape.Idx.first (s := S1x1) h') = W 1 (1 * 128 + k.val) := by
  rw [On2.readAt hX _ (k0_off72_eq k) _ trivial]
  simp [Rect.unit, Shape.Idx.first, Nat.add_comm]

theorem k0_chk29_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk29 i (v.readAt (Elt F) (Rect.unit (s := S16x256) (k0_off72 k) S1x1.size h).toLoadRect X (Shape.Idx.first (s := S1x1) h')) := by
  have g : Good (v.readAt (Elt F) (Rect.unit (s := S16x256) (k0_off72 k) S1x1.size h).toLoadRect X (Shape.Idx.first (s := S1x1) h')) := by
    have hk : k.val < 128 := k.isLt
    rw [k0_off72_word k hX]; exact hW _ _ (by omega) (by omega)
  exact ⟨fun _ => g.1, fun _ a => by fin_cases a; exacts [g.2, Nat.le_refl _]⟩

theorem k0_off74_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off74 k) S1x1.size h).toLoadRect X (Shape.Idx.first (s := S1x1) h') = W 2 (1 * 128 + k.val) := by
  rw [On2.readAt hX _ (k0_off74_eq k) _ trivial]
  simp [Rect.unit, Shape.Idx.first, Nat.add_comm]

theorem k0_chk30_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk30 i (v.readAt (Elt F) (Rect.unit (s := S16x256) (k0_off74 k) S1x1.size h).toLoadRect X (Shape.Idx.first (s := S1x1) h')) := by
  have g : Good (v.readAt (Elt F) (Rect.unit (s := S16x256) (k0_off74 k) S1x1.size h).toLoadRect X (Shape.Idx.first (s := S1x1) h')) := by
    have hk : k.val < 128 := k.isLt
    rw [k0_off74_word k hX]; exact hW _ _ (by omega) (by omega)
  exact ⟨fun _ => g.1, fun _ a => by fin_cases a; exacts [g.2, Nat.le_refl _]⟩

theorem k0_off76_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off76 k) S1x1.size h).toLoadRect X (Shape.Idx.first (s := S1x1) h') = W 3 (1 * 128 + k.val) := by
  rw [On2.readAt hX _ (k0_off76_eq k) _ trivial]
  simp [Rect.unit, Shape.Idx.first, Nat.add_comm]

theorem k0_chk31_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk31 i (v.readAt (Elt F) (Rect.unit (s := S16x256) (k0_off76 k) S1x1.size h).toLoadRect X (Shape.Idx.first (s := S1x1) h')) := by
  have g : Good (v.readAt (Elt F) (Rect.unit (s := S16x256) (k0_off76 k) S1x1.size h).toLoadRect X (Shape.Idx.first (s := S1x1) h')) := by
    have hk : k.val < 128 := k.isLt
    rw [k0_off76_word k hX]; exact hW _ _ (by omega) (by omega)
  exact ⟨fun _ => g.1, fun _ a => by fin_cases a; exacts [g.2, Nat.le_refl _]⟩

theorem k0_off78_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off78 k) S1x1.size h).toLoadRect X (Shape.Idx.first (s := S1x1) h') = W 4 (1 * 128 + k.val) := by
  rw [On2.readAt hX _ (k0_off78_eq k) _ trivial]
  simp [Rect.unit, Shape.Idx.first, Nat.add_comm]

theorem k0_chk32_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk32 i (v.readAt (Elt F) (Rect.unit (s := S16x256) (k0_off78 k) S1x1.size h).toLoadRect X (Shape.Idx.first (s := S1x1) h')) := by
  have g : Good (v.readAt (Elt F) (Rect.unit (s := S16x256) (k0_off78 k) S1x1.size h).toLoadRect X (Shape.Idx.first (s := S1x1) h')) := by
    have hk : k.val < 128 := k.isLt
    rw [k0_off78_word k hX]; exact hW _ _ (by omega) (by omega)
  exact ⟨fun _ => g.1, fun _ a => by fin_cases a; exacts [g.2, Nat.le_refl _]⟩

theorem k0_off80_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off80 k) S1x1.size h).toLoadRect X (Shape.Idx.first (s := S1x1) h') = W 5 (1 * 128 + k.val) := by
  rw [On2.readAt hX _ (k0_off80_eq k) _ trivial]
  simp [Rect.unit, Shape.Idx.first, Nat.add_comm]

theorem k0_chk33_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk33 i (v.readAt (Elt F) (Rect.unit (s := S16x256) (k0_off80 k) S1x1.size h).toLoadRect X (Shape.Idx.first (s := S1x1) h')) := by
  have g : Good (v.readAt (Elt F) (Rect.unit (s := S16x256) (k0_off80 k) S1x1.size h).toLoadRect X (Shape.Idx.first (s := S1x1) h')) := by
    have hk : k.val < 128 := k.isLt
    rw [k0_off80_word k hX]; exact hW _ _ (by omega) (by omega)
  exact ⟨fun _ => g.1, fun _ a => by fin_cases a; exacts [g.2, Nat.le_refl _]⟩

theorem k0_off82_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off82 k) S1x1.size h).toLoadRect X (Shape.Idx.first (s := S1x1) h') = W 6 (1 * 128 + k.val) := by
  rw [On2.readAt hX _ (k0_off82_eq k) _ trivial]
  simp [Rect.unit, Shape.Idx.first, Nat.add_comm]

theorem k0_chk34_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk34 i (v.readAt (Elt F) (Rect.unit (s := S16x256) (k0_off82 k) S1x1.size h).toLoadRect X (Shape.Idx.first (s := S1x1) h')) := by
  have g : Good (v.readAt (Elt F) (Rect.unit (s := S16x256) (k0_off82 k) S1x1.size h).toLoadRect X (Shape.Idx.first (s := S1x1) h')) := by
    have hk : k.val < 128 := k.isLt
    rw [k0_off82_word k hX]; exact hW _ _ (by omega) (by omega)
  exact ⟨fun _ => g.1, fun _ a => by fin_cases a; exacts [g.2, Nat.le_refl _]⟩

theorem k0_off84_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off84 k) S1x1.size h).toLoadRect X (Shape.Idx.first (s := S1x1) h') = W 7 (1 * 128 + k.val) := by
  rw [On2.readAt hX _ (k0_off84_eq k) _ trivial]
  simp [Rect.unit, Shape.Idx.first, Nat.add_comm]

theorem k0_chk35_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk35 i (v.readAt (Elt F) (Rect.unit (s := S16x256) (k0_off84 k) S1x1.size h).toLoadRect X (Shape.Idx.first (s := S1x1) h')) := by
  have g : Good (v.readAt (Elt F) (Rect.unit (s := S16x256) (k0_off84 k) S1x1.size h).toLoadRect X (Shape.Idx.first (s := S1x1) h')) := by
    have hk : k.val < 128 := k.isLt
    rw [k0_off84_word k hX]; exact hW _ _ (by omega) (by omega)
  exact ⟨fun _ => g.1, fun _ a => by fin_cases a; exacts [g.2, Nat.le_refl _]⟩

theorem k0_off86_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off86 k) S1x1.size h).toLoadRect X (Shape.Idx.first (s := S1x1) h') = W 8 (1 * 128 + k.val) := by
  rw [On2.readAt hX _ (k0_off86_eq k) _ trivial]
  simp [Rect.unit, Shape.Idx.first, Nat.add_comm]

theorem k0_chk36_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk36 i (v.readAt (Elt F) (Rect.unit (s := S16x256) (k0_off86 k) S1x1.size h).toLoadRect X (Shape.Idx.first (s := S1x1) h')) := by
  have g : Good (v.readAt (Elt F) (Rect.unit (s := S16x256) (k0_off86 k) S1x1.size h).toLoadRect X (Shape.Idx.first (s := S1x1) h')) := by
    have hk : k.val < 128 := k.isLt
    rw [k0_off86_word k hX]; exact hW _ _ (by omega) (by omega)
  exact ⟨fun _ => g.1, fun _ a => by fin_cases a; exacts [g.2, Nat.le_refl _]⟩
-- ==== Proof.Kc.Tab.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import Idealize.ShloMosaic.Lib.ValueIdxCore

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-! ## The tables that step 0 builds -/

section Tables
variable {α : Type} {n0 n1 n2 : ℕ}

/-- An array of two axes as a function of natural numbers. -/
def at2 [NeZero n0] [NeZero n1] (v : (⟨2, ![n0, n1]⟩ : Shape).Idx → α) (a b : ℕ) : α := v (ValueIdx.ix2 (Fin.ofNat n0 a) (Fin.ofNat n1 b))

/-- The part of a function of natural numbers that begins at line `r` and column `l`. -/
def blk2 (Q : ℕ → ℕ → α) (r l : ℕ) : (⟨2, ![n0, n1]⟩ : Shape).Idx → α := fun x => Q (r + (x 0).val) (l + (x 1).val)

theorem at2_idx [NeZero n0] [NeZero n1] (v : (⟨2, ![n0, n1]⟩ : Shape).Idx → α) (x : (⟨2, ![n0, n1]⟩ : Shape).Idx) {a b : ℕ}
    (ha : a = (x 0).val) (hb : b = (x 1).val) : at2 v a b = v x := by
  subst ha hb
  refine congrArg v (funext fun d => ?_)
  match d with
  | ⟨0, _⟩ => exact Fin.ext (Nat.mod_eq_of_lt (x 0).isLt)
  | ⟨1, _⟩ => exact Fin.ext (Nat.mod_eq_of_lt (x 1).isLt)

theorem idx2_ext {x y : (⟨2, ![n0, n1]⟩ : Shape).Idx} (h0 : (x 0).val = (y 0).val) (h1 : (x 1).val = (y 1).val) : x = y :=
  funext fun d => match d with
    | ⟨0, _⟩ => Fin.ext h0
    | ⟨1, _⟩ => Fin.ext h1

end Tables

/-- A contiguous load of a rank-2 buffer that holds `G` is the block of `G` there. -/
theorem load2 {Val : EltTy → Type} {κ : Kind} {sp : Space} {e : EltTy} {n0 n1 m0 m1 : ℕ} {v : View sig κ sp ⟨2, ![n0, n1]⟩ e} {f : v.ty.Contents Val}
    {G : ℕ → ℕ → Val e} (h : Is2 v f G) {o : Fin 2 → ℕ} {r l : ℕ} (ho : o = ![r, l]) (inb) :
    v.readAt Val (Rect.unit (s := ⟨2, ![n0, n1]⟩) o ![m0, m1] inb).toLoadRect f = (blk2 G r l : (⟨2, ![m0, m1]⟩ : Shape).Idx → Val e) := by
  subst ho
  funext x
  rw [On2.readAt h _ rfl _ trivial]
  simp [Rect.unit, blk2]

/-- Eight lines cut out of a value and recast to their own shape. -/
theorem slice8 {n0 n1 m0 m1 : ℕ} [NeZero n0] [NeZero n1] {t : FTy} (v : FVec F ⟨2, ![n0, n1]⟩ t) (o : ℕ) (h) (h') (x : (⟨2, ![m0, m1]⟩ : Shape).Idx) :
    shapeCast ⟨2, ![m0, m1]⟩ (extractStridedSlice ⟨2, ![m0, m1]⟩ ![o, 0] v h) h' x = at2 v (o + (x 0).val) (x 1).val := by
  rw [shapeCast_self]
  exact (at2_idx v _ rfl (Nat.zero_add _).symm).symm

/-- The part of the distance table of book `m` and batch chunk `j`: codes by lanes. -/
def tabV (Q CB : ℕ → ℕ → F .bf16) (N : ℕ → ℕ → F .f32) (m j : ℕ) : FVec F S256x128 .f32 :=
  if m = 0 then k0_pay15 (k0_pay89 (blk2 CB 0 0)) (blk2 Q (128 * j) 0) (blk2 N (128 * j) 0)
  else k0_pay51 (k0_pay4 (blk2 CB (256 * m) 0)) (blk2 Q (128 * j) 0)

/-- The distance table: line `2048 * m + 8 * code + j`. -/
def tabN (Q CB : ℕ → ℕ → F .bf16) (N : ℕ → ℕ → F .f32) (row l : ℕ) : F .f32 :=
  at2 (tabV Q CB N (row / 2048) (row % 8)) (row % 2048 / 8) l

/-- The table's lines written before the `c`-th store of chunk `k` of book `m`. -/
def tabDone (m k c a : ℕ) : Prop := a < 2048 * m ∨ (a / 2048 = m ∧ (a % 8 < k ∨ (a % 8 = k ∧ a % 2048 / 64 < c)))

/-- One store of eight table lines. -/
theorem tab_write {v : View sig .tc .vmem S18432x128 .f32} {f : v.ty.Contents (Elt F)} {Q CB : ℕ → ℕ → F .bf16} {N : ℕ → ℕ → F .f32}
    {m k : ℕ} (c : ℕ) (hc : c < 32) (hk : k < 8) {off : Fin 2 → ℕ} (ho : off = ![2048 * m + 64 * c + k, 0])
    (inb) (sp) (w : S8x128.Idx → F .f32) (L : List (View.Piece (Elt F) S18432x128 .f32))
    (hw : ∀ x, w x = at2 (tabV Q CB N m k) (8 * c + (x 0).val) (x 1).val)
    (hL : On2 v (v.writes (Elt F) f L) (fun a _ => tabDone m k c a) (tabN Q CB N)) :
    On2 v (v.writes (Elt F) f (⟨⟨⟨off, S8x128.size, ![8, 1], inb⟩, sp⟩, w⟩ :: L)) (fun a _ => tabDone m k (c + 1) a) (tabN Q CB N) := by
  refine On2.write _ _ _ ho (fun x => ?_) hL ?_
  · have hx : (x 0).val < 8 := (x 0).isLt
    have e1 : (2048 * m + 64 * c + k + 8 * (x 0).val) / 2048 = m := by omega
    have e2 : (2048 * m + 64 * c + k + 8 * (x 0).val) % 8 = k := by omega
    have e3 : (2048 * m + 64 * c + k + 8 * (x 0).val) % 2048 / 8 = 8 * c + (x 0).val := by omega
    have e4 : 0 + 1 * (x 1).val = (x 1).val := by omega
    refine (hw x).trans ?_
    show _ = at2 (tabV Q CB N ((2048 * m + 64 * c + k + 8 * (x 0).val) / 2048) ((2048 * m + 64 * c + k + 8 * (x 0).val) % 8))
      ((2048 * m + 64 * c + k + 8 * (x 0).val) % 2048 / 8) (0 + 1 * (x 1).val)
    rw [e1, e2, e3, e4]
  · intro a b ha hb hd
    by_cases h : tabDone m k c a
    · exact .inl h
    · unfold tabDone at h hd
      exact .inr ⟨⟨a % 64 / 8, show a % 64 / 8 < 8 by omega, show a = 2048 * m + 64 * c + k + 8 * (a % 64 / 8) by omega⟩, ⟨b, hb, show b = 0 + 1 * b by omega⟩⟩

theorem tabDone_next {m k a : ℕ} (h : tabDone m (k + 1) 0 a) : tabDone m k 32 a := by unfold tabDone at *; omega
theorem tabDone_book {m a : ℕ} (h : tabDone (m + 1) 0 0 a) : tabDone m 8 0 a := by unfold tabDone at *; omega
theorem tabDone_all {a : ℕ} (h : a < 18432) : tabDone 9 0 0 a := by unfold tabDone; omega

theorem tabV_0 (Q CB : ℕ → ℕ → F .bf16) (N : ℕ → ℕ → F .f32) (j : ℕ) :
    tabV Q CB N 0 j = k0_pay15 (k0_pay89 (blk2 CB 0 0)) (blk2 Q (128 * j) 0) (blk2 N (128 * j) 0) := if_pos rfl
theorem tabV_succ (Q CB : ℕ → ℕ → F .bf16) (N : ℕ → ℕ → F .f32) (m j : ℕ) :
    tabV Q CB N (m + 1) j = k0_pay51 (k0_pay4 (blk2 CB (256 * (m + 1)) 0)) (blk2 Q (128 * j) 0) := if_neg (Nat.succ_ne_zero m)

/-- The inner products of all queries with all codewords of the nine books side by side. -/
def lutN (Q CB : ℕ → ℕ → F .bf16) (a b : ℕ) : F .f32 := at2 (k0_pay5 (blk2 Q 0 0) (blk2 CB (256 * (b / 256)) 0)) a (b % 256)

/-- The books transposed and scaled by minus two. -/
def cbtN (CB : ℕ → ℕ → F .bf16) (m a b : ℕ) : F .bf16 :=
  k0_pay6 (blk2 CB (256 * m) 0) (ValueIdx.ix3 (0 : Fin 1) (Fin.ofNat 512 a) (Fin.ofNat 256 b))

/-- The queries' squared norms, the same in every lane. -/
def qnN (Q : ℕ → ℕ → F .bf16) (a b : ℕ) : F .f32 := at2 (k0_pay88 (blk2 Q 0 0)) a b

/-- The norms of the database rows looked up in the norm table. -/
def xnN (NC : ℕ → ℕ → BitVec 32) (NT : ℕ → ℕ → F .f32) (a b : ℕ) : F .f32 :=
  at2 (k0_pay10 (blk2 NT 0 0) (blk2 NC (8 * (a / 8)) 0)) (a % 8) b
-- ==== Proof.Kc.Out.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab

public import Idealize.ShloMosaic.Lib.Pointwise
@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-! ## What one point of the grid leaves in the block of distances -/

section Load3
variable {α : Type} {n0 n1 n2 : ℕ}

/-- The part of a function of three natural numbers that begins at the named corner. -/
def blk3 (G : ℕ → ℕ → ℕ → α) (a b c : ℕ) : (⟨3, ![n0, n1, n2]⟩ : Shape).Idx → α := fun x => G (a + (x 0).val) (b + (x 1).val) (c + (x 2).val)

theorem load3 {Val : EltTy → Type} {κ : Kind} {sp : Space} {e : EltTy} {n0 n1 n2 m0 m1 m2 : ℕ} {v : View sig κ sp ⟨3, ![n0, n1, n2]⟩ e} {f : v.ty.Contents Val}
    {G : ℕ → ℕ → ℕ → Val e} (h : Is3 v f G) {o : Fin 3 → ℕ} {a b c : ℕ} (ho : o = ![a, b, c]) (inb) :
    v.readAt Val (Rect.unit (s := ⟨3, ![n0, n1, n2]⟩) o ![m0, m1, m2] inb).toLoadRect f = (blk3 G a b c : (⟨3, ![m0, m1, m2]⟩ : Shape).Idx → Val e) := by
  subst ho
  funext x
  rw [On3.readAt h _ rfl _ trivial]
  simp [Rect.unit, blk3]

end Load3

/-- The table offset of a code: book `m`'s part of the table begins at line `2048 * m`, and a code has eight lines. -/
def wordN (C : ℕ → ℕ → BitVec 32) (m s : ℕ) : BitVec 32 := IntOp.addi (IntOp.muli (C m s) 8#32) (IntOp.muli (BitVec.ofNat 32 m) 2048#32)

/-- What a point stores as table offsets. -/
theorem word_pay (C : ℕ → ℕ → BitVec 32) (x : S1x16x256.Idx) :
    k0_pay94 (F := F) k0_pay1 (blk3 (n0 := 1) (n1 := 16) (n2 := 512) (fun _ => C) 0 0 0) x = wordN C (x 1).val (x 2).val := by
  unfold k0_pay94
  refine (shapeCast_addUnit_apply (α := BitVec 32) (n := 2) ![16, 256] _ _ x).trans ?_
  unfold wordN
  refine congrArg₂ IntOp.addi (congrArg₂ IntOp.muli ?_ rfl) ?_
  · refine (shapeCast_dropUnit_apply (α := BitVec 32) (n := 2) ![16, 512] _ _ _).trans ?_
    show C _ _ = C _ _
    congr 1
    · show 0 + (0 + (x 1).val) = _; omega
    · show 0 + (0 + (x 2).val) = _; omega
  · refine congrArg₂ IntOp.muli (x' := BitVec.ofNat 32 (x 1).val) (congrArg (BitVec.ofNat 32) (?_ : 0 * 16 + (x 1).val = (x 1).val)) rfl
    omega

/-- The offsets read back from a slot through the view that the transfer uses. -/
theorem slot_words {v : Memref sig .tc .vmem S2x16x256 .i32} (C : ℕ → ℕ → BitVec 32) {o : Fin 3 → ℕ} (inb) (hh) (hq) (f : v.view.ty.Contents (Elt F)) (w : S1x16x256.Idx → BitVec 32)
    (hw : ∀ x, w x = wordN C (x 1).val (x 2).val) (L : List (View.Piece (Elt F) S2x16x256 .i32)) (y : S16x256.Idx) :
    View.read (Elt F) ((v.slice (Rect.unit (s := S2x16x256) o S1x16x256.size inb) hh).squeeze S16x256 hq).view
      (v.view.writes (Elt F) f (⟨Rect.unit (s := S2x16x256) o S1x16x256.size inb, w⟩ :: L)) y = wordN C (y 0).val (y 1).val := by
  refine (View.read_writes_cons_emb v.view f (Rect.unit (s := S2x16x256) o S1x16x256.size inb) w L (Shape.reshapeEquiv hq.numel_eq y)).trans ?_
  have e := shapeCast_dropUnit_apply (n := 2) ![16, 256] w hq.numel_eq y
  refine Eq.trans (b := w (Fin.cons ⟨0, Nat.one_pos⟩ y)) e ?_
  exact hw _

/-- A whole buffer that a transfer has just written holds what was sent. -/
theorem whole_words {sp : Space} {n0 n1 : ℕ} {e : EltTy} {v : View sig .tc sp ⟨2, ![n0, n1]⟩ e} {G : ℕ → ℕ → Elt F e} (f : v.ty.Contents (Elt F))
    (w : (⟨2, ![n0, n1]⟩ : Shape).Idx → Elt F e) (hw : ∀ y, w y = G (y 0).val (y 1).val) :
    Is2 v (v.writes (Elt F) f [⟨Rect.whole ⟨2, ![n0, n1]⟩, w⟩]) G := by
  intro y _
  have h := View.read_writes_cons_emb v f (Rect.whole ⟨2, ![n0, n1]⟩) w [] y
  refine Eq.trans ?_ (h.trans (hw y))
  congr 1
  funext a
  exact Fin.ext (by show (y a).val = 0 + 1 * (y a).val; omega)

/-! ## The block of distances -/

/-- The products of the queries with the database vectors that the matrix unit rebuilds from one-hot rows. -/
def mxuV (Q : ℕ → ℕ → F .bf16) (B : ℕ → ℕ → ℕ → F .bf16) (C : ℕ → ℕ → BitVec 32) : FVec F S1024x256 .f32 :=
  have c : Vec F S1x16x512 .i32 := blk3 (fun _ => C) 0 0 0
  k0_pay120 (k0_pay113 c)
    (k0_pay118 (k0_pay113 c)
      (k0_pay116 (k0_pay113 c) (k0_pay114 c) (Scalar.ofBits .f32 0x00000000#32) (k0_pay115 (F := F)) (blk3 B 0 0 0) (blk3 B 1 0 0) (blk3 B 2 0 0))
      (k0_pay117 (F := F) (k0_pay113 c)) (blk3 B 3 0 0) (blk3 B 4 0 0) (blk3 B 5 0 0) (blk3 B 6 0 0))
    (k0_pay119 (k0_pay113 c)) (iota .tc S256x256 32 [0] iota_S256x256_d0_w32) (blk3 B 7 0 0) (blk3 B 8 0 0) (blk2 Q 0 0)

/-- The distance of query `b` to column `s` of point `r`'s block: the first 256 columns by table look-up, the others by the matrix unit. -/
def outN (Q : ℕ → ℕ → F .bf16) (T : ℕ → ℕ → F .f32) (B : ℕ → ℕ → ℕ → F .bf16) (N X : ℕ → ℕ → F .f32) (C : ℕ → ℕ → BitVec 32) (r b s : ℕ) : F .f32 :=
  FloatOps.addf (if s < 256 then rowN T (wordN C) s (b / 128) (b % 128) else FloatOps.addf (at2 (mxuV Q B C) b (s - 256)) (N b (s % 128)))
    (X (4 * r + s / 128) (s % 128))

theorem row_pay {Q : ℕ → ℕ → F .bf16} {T : ℕ → ℕ → F .f32} {B : ℕ → ℕ → ℕ → F .bf16} {N X : ℕ → ℕ → F .f32} {C : ℕ → ℕ → BitVec 32} {r g j : ℕ} (hg : g < 2)
    {v13 : View sig .tc .vmem S192x128 .f32} {f13 : v13.ty.Contents (Elt F)} (hX : Is2 v13 f13 X)
    {v14 : View sig .tc .vmem S2x1056x128 .f32} {f14 : v14.ty.Contents (Elt F)} (hS : On3 v14 f14 (rowsDone g 128) (stageN T (wordN C)))
    {o : Fin 2 → ℕ} (ho : o = ![4 * r + g, 0]) (inb) {o' : Fin 3 → ℕ} (ho' : o' = ![g, 132 * j, 0]) (inb') (x : S128x128.Idx) :
    k0_pay96 (v13.readAt (Elt F) (Rect.unit (s := S192x128) o S1x128.size inb).toLoadRect f13)
      (v14.readAt (Elt F) (Rect.unit (s := S2x1056x128) o' S1x128x128.size inb').toLoadRect f14) x
      = outN Q T B N X C r (128 * j + 1 * (x 0).val) (128 * g + 1 * (x 1).val) := by
  have hx0 : (x 0).val < 128 := (x 0).isLt
  have hx1 : (x 1).val < 128 := (x 1).isLt
  subst ho ho'
  unfold k0_pay96 outN
  rw [if_pos (by omega)]
  refine congrArg₂ FloatOps.addf ?_ ?_
  · refine (shapeCast_dropUnit_apply (n := 2) ![128, 128] _ _ _).trans ?_
    refine (On3.readAt hS _ rfl _ ?_).trans ?_
    · show rowsDone g 128 (g + 1 * 0) (132 * j + 1 * (x 1).val) _
      unfold rowsDone; omega
    · show stageN T (wordN C) (g + 1 * 0) (132 * j + 1 * (x 1).val) (0 + 1 * (x 0).val) = _
      unfold stageN
      congr 1 <;> omega
  · refine (On2.readAt hX _ rfl _ trivial).trans ?_
    show X (4 * r + g + 1 * 0) (0 + 1 * (x 1).val) = _
    congr 1 <;> omega

theorem mxu_pay11 {Q : ℕ → ℕ → F .bf16} {T : ℕ → ℕ → F .f32} {B : ℕ → ℕ → ℕ → F .bf16} {N X : ℕ → ℕ → F .f32} {C : ℕ → ℕ → BitVec 32} {r : ℕ}
    {v13 : View sig .tc .vmem S192x128 .f32} {f13 : v13.ty.Contents (Elt F)} (hX : Is2 v13 f13 X)
    {v12 : View sig .tc .vmem S1024x128 .f32} {f12 : v12.ty.Contents (Elt F)} (hN : Is2 v12 f12 N)
    {o : Fin 2 → ℕ} (ho : o = ![4 * r + 2, 0]) (inb) (inb') (w : FVec F S1024x128 .f32) (hw : w = extractStridedSlice S1024x128 ![0, 0] (mxuV Q B C) slices_S1024x256_o0_0_S1024x128) (x : S1024x128.Idx) :
    k0_pay11 (v13.readAt (Elt F) (Rect.unit (s := S192x128) o S1x128.size inb).toLoadRect f13) w
      (v12.readAt (Elt F) (Rect.unit (s := S1024x128) ![0, 0] S1024x128.size inb').toLoadRect f12) x
      = outN Q T B N X C r (0 + 1 * (x 0).val) (256 + 1 * (x 1).val) := by
  have hx0 : (x 0).val < 1024 := (x 0).isLt
  have hx1 : (x 1).val < 128 := (x 1).isLt
  subst ho hw
  unfold k0_pay11 outN
  rw [if_neg (by omega)]
  refine congrArg₂ FloatOps.addf (congrArg₂ FloatOps.addf ?_ ?_) ?_
  · refine (at2_idx (mxuV Q B C) _ ?_ ?_).symm
    · show 0 + 1 * (x 0).val = 0 + (x 0).val; omega
    · show 256 + 1 * (x 1).val - 256 = 0 + (x 1).val; omega
  · refine (On2.readAt hN _ rfl _ trivial).trans ?_
    show N (0 + 1 * (x 0).val) (0 + 1 * (x 1).val) = _
    congr 1; omega
  · refine (On2.readAt hX _ rfl _ trivial).trans ?_
    show X (4 * r + 2 + 1 * 0) (0 + 1 * (x 1).val) = _
    congr 1 <;> omega

theorem mxu_pay12 {Q : ℕ → ℕ → F .bf16} {T : ℕ → ℕ → F .f32} {B : ℕ → ℕ → ℕ → F .bf16} {N X : ℕ → ℕ → F .f32} {C : ℕ → ℕ → BitVec 32} {r : ℕ}
    {v13 : View sig .tc .vmem S192x128 .f32} {f13 : v13.ty.Contents (Elt F)} (hX : Is2 v13 f13 X)
    {v12 : View sig .tc .vmem S1024x128 .f32} {f12 : v12.ty.Contents (Elt F)} (hN : Is2 v12 f12 N)
    {o : Fin 2 → ℕ} (ho : o = ![4 * r + 3, 0]) (inb) (inb') (w : FVec F S1024x256 .f32) (hw : w = mxuV Q B C) (x : S1024x128.Idx) :
    k0_pay12 w (v13.readAt (Elt F) (Rect.unit (s := S192x128) o S1x128.size inb).toLoadRect f13)
      (v12.readAt (Elt F) (Rect.unit (s := S1024x128) ![0, 0] S1024x128.size inb').toLoadRect f12) x
      = outN Q T B N X C r (0 + 1 * (x 0).val) (384 + 1 * (x 1).val) := by
  have hx0 : (x 0).val < 1024 := (x 0).isLt
  have hx1 : (x 1).val < 128 := (x 1).isLt
  subst ho hw
  unfold k0_pay12 outN
  rw [if_neg (by omega)]
  refine congrArg₂ FloatOps.addf (congrArg₂ FloatOps.addf ?_ ?_) ?_
  · refine (at2_idx (mxuV Q B C) _ ?_ ?_).symm
    · show 0 + 1 * (x 0).val = 0 + (x 0).val; omega
    · show 384 + 1 * (x 1).val - 256 = 128 + (x 1).val; omega
  · refine (On2.readAt hN _ rfl _ trivial).trans ?_
    show N (0 + 1 * (x 0).val) (0 + 1 * (x 1).val) = _
    congr 1 <;> omega
  · refine (On2.readAt hX _ rfl _ trivial).trans ?_
    show X (4 * r + 3 + 1 * 0) (0 + 1 * (x 1).val) = _
    congr 1 <;> omega

/-- The eighteen stores that fill the block. -/
theorem out_pieces {v : View sig .tc .vmem S1024x512 .f32} {f : v.ty.Contents (Elt F)} {G : ℕ → ℕ → F .f32}
    {u384 : S1024x128.Idx → F .f32} (hu384 : ∀ x, u384 x = G (0 + 1 * (x 0).val) (384 + 1 * (x 1).val))
    {u256 : S1024x128.Idx → F .f32} (hu256 : ∀ x, u256 x = G (0 + 1 * (x 0).val) (256 + 1 * (x 1).val))
    {w17 : S128x128.Idx → F .f32} (hw17 : ∀ x, w17 x = G (896 + 1 * (x 0).val) (128 + 1 * (x 1).val))
    {w16 : S128x128.Idx → F .f32} (hw16 : ∀ x, w16 x = G (768 + 1 * (x 0).val) (128 + 1 * (x 1).val))
    {w15 : S128x128.Idx → F .f32} (hw15 : ∀ x, w15 x = G (640 + 1 * (x 0).val) (128 + 1 * (x 1).val))
    {w14 : S128x128.Idx → F .f32} (hw14 : ∀ x, w14 x = G (512 + 1 * (x 0).val) (128 + 1 * (x 1).val))
    {w13 : S128x128.Idx → F .f32} (hw13 : ∀ x, w13 x = G (384 + 1 * (x 0).val) (128 + 1 * (x 1).val))
    {w12 : S128x128.Idx → F .f32} (hw12 : ∀ x, w12 x = G (256 + 1 * (x 0).val) (128 + 1 * (x 1).val))
    {w11 : S128x128.Idx → F .f32} (hw11 : ∀ x, w11 x = G (128 + 1 * (x 0).val) (128 + 1 * (x 1).val))
    {w10 : S128x128.Idx → F .f32} (hw10 : ∀ x, w10 x = G (0 + 1 * (x 0).val) (128 + 1 * (x 1).val))
    {w07 : S128x128.Idx → F .f32} (hw07 : ∀ x, w07 x = G (896 + 1 * (x 0).val) (0 + 1 * (x 1).val))
    {w06 : S128x128.Idx → F .f32} (hw06 : ∀ x, w06 x = G (768 + 1 * (x 0).val) (0 + 1 * (x 1).val))
    {w05 : S128x128.Idx → F .f32} (hw05 : ∀ x, w05 x = G (640 + 1 * (x 0).val) (0 + 1 * (x 1).val))
    {w04 : S128x128.Idx → F .f32} (hw04 : ∀ x, w04 x = G (512 + 1 * (x 0).val) (0 + 1 * (x 1).val))
    {w03 : S128x128.Idx → F .f32} (hw03 : ∀ x, w03 x = G (384 + 1 * (x 0).val) (0 + 1 * (x 1).val))
    {w02 : S128x128.Idx → F .f32} (hw02 : ∀ x, w02 x = G (256 + 1 * (x 0).val) (0 + 1 * (x 1).val))
    {w01 : S128x128.Idx → F .f32} (hw01 : ∀ x, w01 x = G (128 + 1 * (x 0).val) (0 + 1 * (x 1).val))
    {w00 : S128x128.Idx → F .f32} (hw00 : ∀ x, w00 x = G (0 + 1 * (x 0).val) (0 + 1 * (x 1).val)) :
    Is2 (Val := Elt F) v (v.writes (Elt F) f [⟨Rect.unit (s := S1024x512) ![0, 384] S1024x128.size inb_S1024x512_S1024x128_0_384, u384⟩,
      ⟨Rect.unit (s := S1024x512) ![0, 256] S1024x128.size inb_S1024x512_S1024x128_0_256, u256⟩,
      ⟨Rect.unit (s := S1024x512) ![896, 128] S128x128.size inb_S1024x512_S128x128_896_128, w17⟩,
      ⟨Rect.unit (s := S1024x512) ![768, 128] S128x128.size inb_S1024x512_S128x128_768_128, w16⟩,
      ⟨Rect.unit (s := S1024x512) ![640, 128] S128x128.size inb_S1024x512_S128x128_640_128, w15⟩,
      ⟨Rect.unit (s := S1024x512) ![512, 128] S128x128.size inb_S1024x512_S128x128_512_128, w14⟩,
      ⟨Rect.unit (s := S1024x512) ![384, 128] S128x128.size inb_S1024x512_S128x128_384_128, w13⟩,
      ⟨Rect.unit (s := S1024x512) ![256, 128] S128x128.size inb_S1024x512_S128x128_256_128, w12⟩,
      ⟨Rect.unit (s := S1024x512) ![128, 128] S128x128.size inb_S1024x512_S128x128_128_128, w11⟩,
      ⟨Rect.unit (s := S1024x512) ![0, 128] S128x128.size inb_S1024x512_S128x128_0_128, w10⟩,
      ⟨Rect.unit (s := S1024x512) ![896, 0] S128x128.size inb_S1024x512_S128x128_896_0, w07⟩,
      ⟨Rect.unit (s := S1024x512) ![768, 0] S128x128.size inb_S1024x512_S128x128_768_0, w06⟩,
      ⟨Rect.unit (s := S1024x512) ![640, 0] S128x128.size inb_S1024x512_S128x128_640_0, w05⟩,
      ⟨Rect.unit (s := S1024x512) ![512, 0] S128x128.size inb_S1024x512_S128x128_512_0, w04⟩,
      ⟨Rect.unit (s := S1024x512) ![384, 0] S128x128.size inb_S1024x512_S128x128_384_0, w03⟩,
      ⟨Rect.unit (s := S1024x512) ![256, 0] S128x128.size inb_S1024x512_S128x128_256_0, w02⟩,
      ⟨Rect.unit (s := S1024x512) ![128, 0] S128x128.size inb_S1024x512_S128x128_128_0, w01⟩,
      ⟨Rect.unit (s := S1024x512) ![0, 0] S128x128.size inb_S1024x512_S128x128_0_0, w00⟩]) G := by
  refine On2.write (D' := fun _ b => b < 384) _ _ _ rfl hu384 ?_ (fun a b ha hb hd => (Decidable.em ((fun _ b => b < 384) a b)).imp id fun hn => ⟨⟨a - 0, by show _ < 1024; dsimp only at hn hd; omega, by show a = 0 + 1 * (a - 0); dsimp only at hn hd; omega⟩, ⟨b - 384, by show _ < 128; dsimp only at hn hd; omega, by show b = 384 + 1 * (b - 384); dsimp only at hn hd; omega⟩⟩)
  refine On2.write (D' := fun _ b => b < 256) _ _ _ rfl hu256 ?_ (fun a b ha hb hd => (Decidable.em ((fun _ b => b < 256) a b)).imp id fun hn => ⟨⟨a - 0, by show _ < 1024; dsimp only at hn hd; omega, by show a = 0 + 1 * (a - 0); dsimp only at hn hd; omega⟩, ⟨b - 256, by show _ < 128; dsimp only at hn hd; omega, by show b = 256 + 1 * (b - 256); dsimp only at hn hd; omega⟩⟩)
  refine On2.write (D' := fun a b => b < 128 ∨ (b < 256 ∧ a < 896)) _ _ _ rfl hw17 ?_ (fun a b ha hb hd => (Decidable.em ((fun a b => b < 128 ∨ (b < 256 ∧ a < 896)) a b)).imp id fun hn => ⟨⟨a - 896, by show _ < 128; dsimp only at hn hd; omega, by show a = 896 + 1 * (a - 896); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 768)) _ _ _ rfl hw16 ?_ (fun a b ha hb hd => (Decidable.em ((fun a b => b < 128 ∨ (b < 256 ∧ a < 768)) a b)).imp id fun hn => ⟨⟨a - 768, by show _ < 128; dsimp only at hn hd; omega, by show a = 768 + 1 * (a - 768); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 640)) _ _ _ rfl hw15 ?_ (fun a b ha hb hd => (Decidable.em ((fun a b => b < 128 ∨ (b < 256 ∧ a < 640)) a b)).imp id fun hn => ⟨⟨a - 640, by show _ < 128; dsimp only at hn hd; omega, by show a = 640 + 1 * (a - 640); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 512)) _ _ _ rfl hw14 ?_ (fun a b ha hb hd => (Decidable.em ((fun a b => b < 128 ∨ (b < 256 ∧ a < 512)) a b)).imp id fun hn => ⟨⟨a - 512, by show _ < 128; dsimp only at hn hd; omega, by show a = 512 + 1 * (a - 512); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 384)) _ _ _ rfl hw13 ?_ (fun a b ha hb hd => (Decidable.em ((fun a b => b < 128 ∨ (b < 256 ∧ a < 384)) a b)).imp id fun hn => ⟨⟨a - 384, by show _ < 128; dsimp only at hn hd; omega, by show a = 384 + 1 * (a - 384); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 256)) _ _ _ rfl hw12 ?_ (fun a b ha hb hd => (Decidable.em ((fun a b => b < 128 ∨ (b < 256 ∧ a < 256)) a b)).imp id fun hn => ⟨⟨a - 256, by show _ < 128; dsimp only at hn hd; omega, by show a = 256 + 1 * (a - 256); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 128)) _ _ _ rfl hw11 ?_ (fun a b ha hb hd => (Decidable.em ((fun a b => b < 128 ∨ (b < 256 ∧ a < 128)) a b)).imp id fun hn => ⟨⟨a - 128, by show _ < 128; dsimp only at hn hd; omega, by show a = 128 + 1 * (a - 128); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 0)) _ _ _ rfl hw10 ?_ (fun a b ha hb hd => (Decidable.em ((fun a b => b < 128 ∨ (b < 256 ∧ a < 0)) a b)).imp id fun hn => ⟨⟨a - 0, by show _ < 128; dsimp only at hn hd; omega, by show a = 0 + 1 * (a - 0); dsimp only at hn hd; omega⟩, ⟨b - 128, by show _ < 128; dsimp only at hn hd; omega, by show b = 128 + 1 * (b - 128); dsimp only at hn hd; omega⟩⟩)
  refine On2.write (D' := fun a b => b < 128 ∧ a < 896) _ _ _ rfl hw07 ?_ (fun a b ha hb hd => (Decidable.em ((fun a b => b < 128 ∧ a < 896) a b)).imp id fun hn => ⟨⟨a - 896, by show _ < 128; dsimp only at hn hd; omega, by show a = 896 + 1 * (a - 896); dsimp only at hn hd; omega⟩, ⟨b - 0, by show _ < 128; dsimp only at hn hd; omega, by show b = 0 + 1 * (b - 0); dsimp only at hn hd; omega⟩⟩)
  refine On2.write (D' := fun a b => b < 128 ∧ a < 768) _ _ _ rfl hw06 ?_ (fun a b ha hb hd => (Decidable.em ((fun a b => b < 128 ∧ a < 768) a b)).imp id fun hn => ⟨⟨a - 768, by show _ < 128; dsimp only at hn hd; omega, by show a = 768 + 1 * (a - 768); dsimp only at hn hd; omega⟩, ⟨b - 0, by show _ < 128; dsimp only at hn hd; omega, by show b = 0 + 1 * (b - 0); dsimp only at hn hd; omega⟩⟩)
  refine On2.write (D' := fun a b => b < 128 ∧ a < 640) _ _ _ rfl hw05 ?_ (fun a b ha hb hd => (Decidable.em ((fun a b => b < 128 ∧ a < 640) a b)).imp id fun hn => ⟨⟨a - 640, by show _ < 128; dsimp only at hn hd; omega, by show a = 640 + 1 * (a - 640); dsimp only at hn hd; omega⟩, ⟨b - 0, by show _ < 128; dsimp only at hn hd; omega, by show b = 0 + 1 * (b - 0); dsimp only at hn hd; omega⟩⟩)
  refine On2.write (D' := fun a b => b < 128 ∧ a < 512) _ _ _ rfl hw04 ?_ (fun a b ha hb hd => (Decidable.em ((fun a b => b < 128 ∧ a < 512) a b)).imp id fun hn => ⟨⟨a - 512, by show _ < 128; dsimp only at hn hd; omega, by show a = 512 + 1 * (a - 512); dsimp only at hn hd; omega⟩, ⟨b - 0, by show _ < 128; dsimp only at hn hd; omega, by show b = 0 + 1 * (b - 0); dsimp only at hn hd; omega⟩⟩)
  refine On2.write (D' := fun a b => b < 128 ∧ a < 384) _ _ _ rfl hw03 ?_ (fun a b ha hb hd => (Decidable.em ((fun a b => b < 128 ∧ a < 384) a b)).imp id fun hn => ⟨⟨a - 384, by show _ < 128; dsimp only at hn hd; omega, by show a = 384 + 1 * (a - 384); dsimp only at hn hd; omega⟩, ⟨b - 0, by show _ < 128; dsimp only at hn hd; omega, by show b = 0 + 1 * (b - 0); dsimp only at hn hd; omega⟩⟩)
  refine On2.write (D' := fun a b => b < 128 ∧ a < 256) _ _ _ rfl hw02 ?_ (fun a b ha hb hd => (Decidable.em ((fun a b => b < 128 ∧ a < 256) a b)).imp id fun hn => ⟨⟨a - 256, by show _ < 128; dsimp only at hn hd; omega, by show a = 256 + 1 * (a - 256); dsimp only at hn hd; omega⟩, ⟨b - 0, by show _ < 128; dsimp only at hn hd; omega, by show b = 0 + 1 * (b - 0); dsimp only at hn hd; omega⟩⟩)
  refine On2.write (D' := fun a b => b < 128 ∧ a < 128) _ _ _ rfl hw01 ?_ (fun a b ha hb hd => (Decidable.em ((fun a b => b < 128 ∧ a < 128) a b)).imp id fun hn => ⟨⟨a - 128, by show _ < 128; dsimp only at hn hd; omega, by show a = 128 + 1 * (a - 128); dsimp only at hn hd; omega⟩, ⟨b - 0, by show _ < 128; dsimp only at hn hd; omega, by show b = 0 + 1 * (b - 0); dsimp only at hn hd; omega⟩⟩)
  refine On2.write (D' := fun a b => b < 128 ∧ a < 0) _ _ _ rfl hw00 ?_ (fun a b ha hb hd => (Decidable.em ((fun a b => b < 128 ∧ a < 0) a b)).imp id fun hn => ⟨⟨a - 0, by show _ < 128; dsimp only at hn hd; omega, by show a = 0 + 1 * (a - 0); dsimp only at hn hd; omega⟩, ⟨b - 0, by show _ < 128; dsimp only at hn hd; omega, by show b = 0 + 1 * (b - 0); dsimp only at hn hd; omega⟩⟩)
  exact fun y h => absurd h.2 (Nat.not_lt_zero _)
-- ==== Proof.Kc.State.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Out

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-- A buffer that holds `G`. -/
def held2 {sp : Space} {n0 n1 : ℕ} {e : EltTy} (c : Dev nD) (m : Memref sig .tc sp ⟨2, ![n0, n1]⟩ e) (G : ℕ → ℕ → Elt F e) : sProp 𝕄U :=
  iprop(∃ f, (m.view.loc (c : Thread nD τ) ↦[m.view.set]{fullShare} f) ∗ ⌜Is2 (Val := Elt F) m.view f G⌝)

/-- A buffer that holds `G`. -/
def held3 {sp : Space} {n0 n1 n2 : ℕ} {e : EltTy} (c : Dev nD) (m : Memref sig .tc sp ⟨3, ![n0, n1, n2]⟩ e) (G : ℕ → ℕ → ℕ → Elt F e) : sProp 𝕄U :=
  iprop(∃ f, (m.view.loc (c : Thread nD τ) ↦[m.view.set]{fullShare} f) ∗ ⌜Is3 (Val := Elt F) m.view f G⌝)

/-- A buffer with whatever it holds. -/
def held {sp : Space} {s : Shape} {e : EltTy} (c : Dev nD) (m : Memref sig .tc sp s e) : sProp 𝕄U :=
  iprop(∃ f, m.view.loc (c : Thread nD τ) ↦[m.view.set]{fullShare} f)

/-- The table of products is on its way to the second result. -/
def lutFly (c : Dev nD) (arg8 : Memref sig .tc .hbm S1024x2304 .f32) (arg9 : Memref sig .tc .vmem S1024x2304 .f32) (arg18 : DmaSems sig S_) (L : ℕ → ℕ → F .f32) : sProp 𝕄U :=
  iprop(∃ fd fs, Transfers.Flight (countersEmb (U := UU nD τ)) (c : Thread nD τ) (SemLoc.dma arg18.sem) default 294912
      iprop((arg8.view.loc (c : Thread nD τ) ↦[arg8.view.set]{fullShare} fd) ∗ (arg9.view.loc (c : Thread nD τ) ↦[arg9.view.set]{fullShare} fs))
    ∗ ⌜Is2 (Val := Elt F) arg8.view fd L⌝)

/-- The offsets `W` are on their way from slot 0 to their scalar memory; the rest of the slots is at hand. -/
def offFly0 (c : Dev nD) (arg15 : Memref sig .tc .vmem S2x16x256 .i32) (arg16 : Memref sig .tc .smem S16x256 .i32) (arg19 : DmaSems sig S_) (W : ℕ → ℕ → BitVec 32) : sProp 𝕄U :=
  iprop(∃ fd fs, Transfers.Flight (countersEmb (U := UU nD τ)) (c : Thread nD τ) (SemLoc.dma arg19.sem) default 512
      iprop((arg16.view.loc (c : Thread nD τ) ↦[arg16.view.set]{fullShare} fd)
        ∗ (arg15.view.loc (c : Thread nD τ) ↦[((arg15.slice (Rect.unit (s := S2x16x256) ![0, 0, 0] S1x16x256.size inb_S2x16x256_S1x16x256_0_0_0) (fun _ => rfl)).squeeze S16x256 squeezes_S1x16x256_S16x256).view.set]{fullShare} fs))
    ∗ (arg15.view.loc (c : Thread nD τ) ↦[arg15.view.set \ ((arg15.slice (Rect.unit (s := S2x16x256) ![0, 0, 0] S1x16x256.size inb_S2x16x256_S1x16x256_0_0_0) (fun _ => rfl)).squeeze S16x256 squeezes_S1x16x256_S16x256).view.set]{fullShare} fs)
    ∗ ⌜Is2 (Val := Elt F) arg16.view fd W⌝)

/-- The offsets `W` are on their way from slot 1 to their scalar memory; the rest of the slots is at hand. -/
def offFly1 (c : Dev nD) (arg15 : Memref sig .tc .vmem S2x16x256 .i32) (arg17 : Memref sig .tc .smem S16x256 .i32) (arg20 : DmaSems sig S_) (W : ℕ → ℕ → BitVec 32) : sProp 𝕄U :=
  iprop(∃ fd fs, Transfers.Flight (countersEmb (U := UU nD τ)) (c : Thread nD τ) (SemLoc.dma arg20.sem) default 512
      iprop((arg17.view.loc (c : Thread nD τ) ↦[arg17.view.set]{fullShare} fd)
        ∗ (arg15.view.loc (c : Thread nD τ) ↦[((arg15.slice (Rect.unit (s := S2x16x256) ![1, 0, 0] S1x16x256.size inb_S2x16x256_S1x16x256_1_0_0) (fun _ => rfl)).squeeze S16x256 squeezes_S1x16x256_S16x256).view.set]{fullShare} fs))
    ∗ (arg15.view.loc (c : Thread nD τ) ↦[arg15.view.set \ ((arg15.slice (Rect.unit (s := S2x16x256) ![1, 0, 0] S1x16x256.size inb_S2x16x256_S1x16x256_1_0_0) (fun _ => rfl)).squeeze S16x256 squeezes_S1x16x256_S16x256).view.set]{fullShare} fs)
    ∗ ⌜Is2 (Val := Elt F) arg17.view fd W⌝)
-- ==== Proof.Kc.Host.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.ValueKit
public import proofs.«01_k».proof.Proof.Ki.Base
public import proofs.«01_k».proof.Proof.Kc.Model
public import proofs.«01_k».proof.Proof.Kc.Tab
public import proofs.«01_k».proof.Proof.Kc.Out

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxRecDepth 16384
variable (m : (ℓ : Loc nD τ sig) → Buf (Elt F) ℓ)

/-- The grid point's number, and every window's block there. -/
theorem coords_val : ∀ t : Fin cfg0.N, (grid0.coords t 0).val = t.val := (by decide +kernel : ∀ t : Fin grid0.N, _)
theorem idx_val : ∀ t : Fin cfg0.N, win0_0.index t = ![0, 0] ∧ win0_1.index t = ![0, 0] ∧ win0_2.index t = ![0, 0] ∧ win0_3.index t = ![0, 0]
    ∧ win0_4.index t = ![t.val, 0, 0] ∧ win0_5.index t = ![min (t.val + 1) 47, 0, 0] ∧ win0_6.index t = ![0, t.val] :=
  (by decide +kernel : ∀ t : Fin grid0.N, _)

/-- The query rows. -/
def qA (Q : FVec F S1024x512 .bf16) (a b : ℕ) : F .bf16 := at2 Q a b
/-- The codebooks' rows, one book after the other. -/
def cbA (CB : FVec F S9x256x512 .bf16) (a b : ℕ) : F .bf16 := CB (ValueIdx.ix3 (Fin.ofNat 9 (a / 256)) (Fin.ofNat 256 (a % 256)) (Fin.ofNat 512 b))
/-- The codes of the norms, 128 to a row. -/
def ncA (NC : IVec S24576 8) (a b : ℕ) : BitVec 32 := (NC (ValueIdx.ix1 (Fin.ofNat 24576 (128 * a + b)))).setWidth 32
/-- The table of norms. -/
def ntA (NT : FVec F S256 .f32) (_a b : ℕ) : F .f32 := NT (ValueIdx.ix1 (Fin.ofNat 256 b))
/-- The codes of block `t`: book `r`, database row `s` of the block. -/
def coA (CO : IVec S24576x9 8) (t r s : ℕ) : BitVec 32 :=
  if r < 9 then (CO (ValueIdx.ix2 (Fin.ofNat 24576 (512 * t + s)) (Fin.ofNat 9 r))).setWidth 32 else 0#32

theorem coA_pos (CO : IVec S24576x9 8) (t : ℕ) {r : ℕ} (s : ℕ) (h : r < 9) :
    coA CO t r s = (CO (ValueIdx.ix2 (Fin.ofNat 24576 (512 * t + s)) (Fin.ofNat 9 r))).setWidth 32 := if_pos h
theorem coA_neg (CO : IVec S24576x9 8) (t : ℕ) {r : ℕ} (s : ℕ) (h : ¬ r < 9) : coA CO t r s = 0#32 := if_neg h

theorem V_v0 (c : Dev nD) : V m c main_v0 = shapeCast S2304x512 (m ((c : Thread nD τ).loc main_arg1) : FVec F S9x256x512 .bf16) shapeCasts_S9x256x512_S2304x512 := by
  unfold V; simp only [hostOps0, hostOps0_1, hostOps0_2, List.flatten_cons, List.flatten_nil, List.append_nil, List.cons_append, List.nil_append]
  entry_read; rfl
theorem V_v5 (c : Dev nD) : V m c main_v5 = transpose S48x16x512 [1, 0, 2] (shapeCast S16x48x512 (pad S16x24576 ![0, 0] ![7, 0] ![0, 0] (transpose S9x24576 [1, 0] (extui 32 (m ((c : Thread nD τ).loc main_arg2) : IVec S24576x9 8) natLt_8_32) transposes_S24576x9_S9x24576_1_0) (constantI S_ 32 0#32) pads_S9x24576_S16x24576_070_000 h_S_) shapeCasts_S16x24576_S16x48x512) transposes_S16x48x512_S48x16x512_1_0_2 := by
  unfold V; simp only [hostOps0, hostOps0_1, hostOps0_2, List.flatten_cons, List.flatten_nil, List.append_nil, List.cons_append, List.nil_append]
  entry_read; rfl
theorem V_v7 (c : Dev nD) : V m c main_v7 = extui 32 (shapeCast S192x128 (m ((c : Thread nD τ).loc main_arg3) : IVec S24576 8) shapeCasts_S24576_S192x128) natLt_8_32 := by
  unfold V; simp only [hostOps0, hostOps0_1, hostOps0_2, List.flatten_cons, List.flatten_nil, List.append_nil, List.cons_append, List.nil_append]
  entry_read; rfl
theorem V_v8 (c : Dev nD) : V m c main_v8 = shapeCast S1x256 (m ((c : Thread nD τ).loc main_arg4) : FVec F S256 .f32) shapeCasts_S256_S1x256 := by
  unfold V; simp only [hostOps0, hostOps0_1, hostOps0_2, List.flatten_cons, List.flatten_nil, List.append_nil, List.cons_append, List.nil_append]
  entry_read; rfl

theorem iblk0 (c : Dev nD) (t : Fin cfg0.N) (y : S1024x512.Idx) : iblk m c 0 t y = qA (m ((c : Thread nD τ).loc main_arg0)) (y 0).val (y 1).val := by
  unfold qA at2
  blk_ext [iblk, V, idx_val t] <;> simp only [ValueIdx.ix2, Fin.ofNat] <;> exact (Nat.mod_eq_of_lt (by assumption)).symm
theorem cb_cast {α : Type} (X : S9x256x512.Idx → α) (i : S2304x512.Idx) : shapeCast S2304x512 X shapeCasts_S9x256x512_S2304x512 i
    = X (ValueIdx.ix3 (Fin.ofNat 9 ((i 0).val / 256)) (Fin.ofNat 256 ((i 0).val % 256)) (Fin.ofNat 512 (i 1).val)) := by
  have h0 : (i 0).val < 2304 := (i 0).isLt
  have h1 : (i 1).val < 512 := (i 1).isLt
  refine shapeCast_apply _ _ _ _ ?_
  rw [Shape.rowMajor_val_three, Shape.rowMajor_val_two]
  show ((i 0).val / 256 % 9 * 256 + (i 0).val % 256 % 256) * 512 + (i 1).val % 512 = (i 0).val * 512 + (i 1).val
  omega
theorem iblk1 (c : Dev nD) (t : Fin cfg0.N) (y : S2304x512.Idx) : iblk m c 1 t y = cbA (m ((c : Thread nD τ).loc main_arg1)) (y 0).val (y 1).val := by
  unfold cbA
  blk_simp [iblk]
  rw [V_v0]
  refine (cb_cast (m ((c : Thread nD τ).loc main_arg1) : FVec F S9x256x512 .bf16) _).trans ?_
  blk_simp [idx_val t]
theorem iblk4 (c : Dev nD) (t : Fin cfg0.N) (y : S1x16x512.Idx) : iblk m c 4 t y = coA (m ((c : Thread nD τ).loc main_arg2)) t.val (y 1).val (y 2).val := by
  have h0 : (y 0).val < 1 := (y 0).isLt
  have h2 : (y 2).val < 512 := (y 2).isLt
  have ht : t.val < 48 := t.isLt
  blk_simp [iblk]
  rw [V_v5]; pointwise; blk_simp [idx_val t]
  by_cases h : (y 1).val < 9
  · have hc : (y 1).val < 9 ∧ t.val * 512 + (y 2).val < 24576 := ⟨h, by omega⟩
    refine (dif_pos hc).trans (Eq.trans ?_ (coA_pos _ _ _ h).symm)
    refine congrArg₂ (fun (k : Fin 24576) (l : Fin 9) => BitVec.setWidth 32 ((m ((c : Thread nD τ).loc main_arg2) : IVec S24576x9 8) (ValueIdx.ix2 k l))) (Fin.ext ?_) (Fin.ext ?_)
    · show t.val * 512 + (y 2).val = (512 * t.val + (y 2).val) % 24576; omega
    · show (y 1).val = (y 1).val % 9; omega
  · have hc : ¬ ((y 1).val < 9 ∧ t.val * 512 + (y 2).val < 24576) := fun q => h q.1
    exact (dif_neg hc).trans (coA_neg _ _ _ h).symm
theorem iblk5 (c : Dev nD) (t : Fin cfg0.N) (y : S1x16x512.Idx) : iblk m c 5 t y = coA (m ((c : Thread nD τ).loc main_arg2)) (min (t.val + 1) 47) (y 1).val (y 2).val := by
  have h0 : (y 0).val < 1 := (y 0).isLt
  have h2 : (y 2).val < 512 := (y 2).isLt
  have ht : min (t.val + 1) 47 < 48 := by omega
  blk_simp [iblk]
  rw [V_v5]; pointwise; blk_simp [idx_val t]
  by_cases h : (y 1).val < 9
  · have hc : (y 1).val < 9 ∧ min (t.val + 1) 47 * 512 + (y 2).val < 24576 := ⟨h, by omega⟩
    refine (dif_pos hc).trans (Eq.trans ?_ (coA_pos _ _ _ h).symm)
    refine congrArg₂ (fun (k : Fin 24576) (l : Fin 9) => BitVec.setWidth 32 ((m ((c : Thread nD τ).loc main_arg2) : IVec S24576x9 8) (ValueIdx.ix2 k l))) (Fin.ext ?_) (Fin.ext ?_)
    · show min (t.val + 1) 47 * 512 + (y 2).val = (512 * min (t.val + 1) 47 + (y 2).val) % 24576; omega
    · show (y 1).val = (y 1).val % 9; omega
  · have hc : ¬ ((y 1).val < 9 ∧ min (t.val + 1) 47 * 512 + (y 2).val < 24576) := fun q => h q.1
    exact (dif_neg hc).trans (coA_neg _ _ _ h).symm
theorem good_code (CO : IVec S24576x9 8) (t : ℕ) : AllGood (wordN (coA CO t)) := by
  intro r s hr _
  have hc : (coA CO t r s).toNat < 256 := by
    rw [coA_pos _ _ _ hr, BitVec.toNat_setWidth]
    have := (CO (ValueIdx.ix2 (Fin.ofNat 24576 (512 * t + s)) (Fin.ofNat 9 r))).isLt
    omega
  have e : (wordN (coA CO t) r s).toNat = (coA CO t r s).toNat * 8 + r * 2048 := by
    show ((coA CO t r s) * 8#32 + BitVec.ofNat 32 r * 2048#32).toNat = _
    simp only [BitVec.toNat_add, BitVec.toNat_mul, BitVec.toNat_ofNat]
    omega
  refine ⟨?_, ?_⟩ <;> rw [e] <;> omega
theorem iblk2 (c : Dev nD) (t : Fin cfg0.N) (y : S192x128.Idx) : iblk m c 2 t y = ncA (m ((c : Thread nD τ).loc main_arg3)) (y 0).val (y 1).val := by
  unfold ncA
  have h0 : (y 0).val < 192 := (y 0).isLt
  have h1 : (y 1).val < 128 := (y 1).isLt
  blk_simp [iblk]
  rw [V_v7]; pointwise; blk_simp [idx_val t]
  refine congrArg (fun (k : Fin 24576) => BitVec.setWidth 32 ((m ((c : Thread nD τ).loc main_arg3) : IVec S24576 8) (ValueIdx.ix1 k))) (Fin.ext ?_)
  show (y 0).val * 128 + (y 1).val = (128 * (y 0).val + (y 1).val) % 24576
  omega
theorem iblk3 (c : Dev nD) (t : Fin cfg0.N) (y : S1x256.Idx) : iblk m c 3 t y = ntA (m ((c : Thread nD τ).loc main_arg4)) (y 0).val (y 1).val := by
  unfold ntA
  have h1 : (y 1).val < 256 := (y 1).isLt
  blk_simp [iblk]
  rw [V_v8]; pointwise; blk_ext [idx_val t]
  exact (Nat.mod_eq_of_lt h1).symm
-- ==== Proof.Kc.Trip.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36

/-- One trip sums one row of group 0 from the table into the staging buffer. -/
theorem trip5 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h2 : k0_cond2 i = 1#1) (T : ℕ → ℕ → F .f32) (W : ℕ → ℕ → BitVec 32)
    (X10 : BufTy.Contents (Elt F) arg10.view.ty) (XW : BufTy.Contents (Elt F) arg16.view.ty)
    (hT : Is2 arg10.view X10 T) (hX : Is2 arg16.view XW W) (hW : AllGood W) (k : Fin k0_t5_loop.trips) :
    (iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 0 k) (stageN T W)⌝)) : sProp 𝕄U)
    ⊢ wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 k PUnit.unit)
      (fun _ => iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 0 (k + 1)) (stageN T W)⌝))) := by
  unfold k0_t5_body
  iintro ⟨H10, HW, ⟨%f14, H14, %h14⟩⟩
  sl_exec (disch := first | exact k0_chk1_ok i k hX hW | exact k0_chk2_ok i k hX hW | exact k0_chk3_ok i k hX hW | exact k0_chk4_ok i k hX hW | exact k0_chk5_ok i k hX hW | exact k0_chk6_ok i k hX hW | exact k0_chk7_ok i k hX hW | exact k0_chk8_ok i k hX hW | exact k0_chk9_ok i k hX hW)
  sl_step
  isplitl [H10]; · iexact H10
  isplitl [HW]; · iexact HW
  iexists _; isplitl [H14]; · iexact H14
  ipureintro
  refine On3.write _ _ [] (k0_off28_eq k) (fun x => ?_) (D' := rowsDone 0 k) h14 ?_
  · refine Eq.trans ?_ (stageN_at T W (g := 0) (x 0).isLt k.isLt).symm
    exact row_pay5 _ _ _ _ _ _ _ _ _ _ x (slice_at hT (k0_off10_word k hX) rfl _) (slice_at hT (k0_off12_word k hX) rfl _) (slice_at hT (k0_off14_word k hX) rfl _) (slice_at hT (k0_off16_word k hX) rfl _) (slice_at hT (k0_off18_word k hX) rfl _) (slice_at hT (k0_off20_word k hX) rfl _) (slice_at hT (k0_off22_word k hX) rfl _) (slice_at hT (k0_off24_word k hX) rfl _) (slice_at hT (k0_off26_word k hX) rfl _)
  · intro a b c' ha hb hc hd
    exact rowsDone_step hb k.isLt hc hd

/-- One trip sums one row of group 1 from the table into the staging buffer. -/
theorem trip6 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h2 : k0_cond2 i = 1#1) (v73 : FVec F S128x128 .f32) (T : ℕ → ℕ → F .f32) (W : ℕ → ℕ → BitVec 32)
    (X10 : BufTy.Contents (Elt F) arg10.view.ty) (XW : BufTy.Contents (Elt F) arg16.view.ty)
    (hT : Is2 arg10.view X10 T) (hX : Is2 arg16.view XW W) (hW : AllGood W) (k : Fin k0_t6_loop.trips) :
    (iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 1 k) (stageN T W)⌝)) : sProp 𝕄U)
    ⊢ wp frame (wpE (defs₀ (F := F)) 𝒱₀ (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 k PUnit.unit)
      (fun _ => iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 1 (k + 1)) (stageN T W)⌝))) := by
  unfold k0_t6_body
  iintro ⟨H10, HW, ⟨%f14, H14, %h14⟩⟩
  sl_exec (disch := first | exact k0_chk10_ok i k hX hW | exact k0_chk11_ok i k hX hW | exact k0_chk12_ok i k hX hW | exact k0_chk13_ok i k hX hW | exact k0_chk14_ok i k hX hW | exact k0_chk15_ok i k hX hW | exact k0_chk16_ok i k hX hW | exact k0_chk17_ok i k hX hW | exact k0_chk18_ok i k hX hW)
  sl_step
  isplitl [H10]; · iexact H10
  isplitl [HW]; · iexact HW
  iexists _; isplitl [H14]; · iexact H14
  ipureintro
  refine On3.write _ _ [] (k0_off48_eq k) (fun x => ?_) (D' := rowsDone 1 k) h14 ?_
  · refine Eq.trans ?_ (stageN_at T W (g := 1) (x 0).isLt k.isLt).symm
    exact row_pay6 _ _ _ _ _ _ _ _ _ _ x (slice_at hT (k0_off30_word k hX) rfl _) (slice_at hT (k0_off32_word k hX) rfl _) (slice_at hT (k0_off34_word k hX) rfl _) (slice_at hT (k0_off36_word k hX) rfl _) (slice_at hT (k0_off38_word k hX) rfl _) (slice_at hT (k0_off40_word k hX) rfl _) (slice_at hT (k0_off42_word k hX) rfl _) (slice_at hT (k0_off44_word k hX) rfl _) (slice_at hT (k0_off46_word k hX) rfl _)
  · intro a b c' ha hb hc hd
    exact rowsDone_step hb k.isLt hc hd

/-- One trip sums one row of group 0 from the table into the staging buffer. -/
theorem trip7 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h4 : k0_cond4 i = 1#1) (T : ℕ → ℕ → F .f32) (W : ℕ → ℕ → BitVec 32)
    (X10 : BufTy.Contents (Elt F) arg10.view.ty) (XW : BufTy.Contents (Elt F) arg17.view.ty)
    (hT : Is2 arg10.view X10 T) (hX : Is2 arg17.view XW W) (hW : AllGood W) (k : Fin k0_t7_loop.trips) :
    (iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 0 k) (stageN T W)⌝)) : sProp 𝕄U)
    ⊢ wp frame (wpE (defs₀ (F := F)) 𝒱₀ (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 k PUnit.unit)
      (fun _ => iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 0 (k + 1)) (stageN T W)⌝))) := by
  unfold k0_t7_body
  iintro ⟨H10, HW, ⟨%f14, H14, %h14⟩⟩
  sl_exec (disch := first | exact k0_chk19_ok i k hX hW | exact k0_chk20_ok i k hX hW | exact k0_chk21_ok i k hX hW | exact k0_chk22_ok i k hX hW | exact k0_chk23_ok i k hX hW | exact k0_chk24_ok i k hX hW | exact k0_chk25_ok i k hX hW | exact k0_chk26_ok i k hX hW | exact k0_chk27_ok i k hX hW)
  sl_step
  isplitl [H10]; · iexact H10
  isplitl [HW]; · iexact HW
  iexists _; isplitl [H14]; · iexact H14
  ipureintro
  refine On3.write _ _ [] (k0_off68_eq k) (fun x => ?_) (D' := rowsDone 0 k) h14 ?_
  · refine Eq.trans ?_ (stageN_at T W (g := 0) (x 0).isLt k.isLt).symm
    exact row_pay7 _ _ _ _ _ _ _ _ _ _ x (slice_at hT (k0_off50_word k hX) rfl _) (slice_at hT (k0_off52_word k hX) rfl _) (slice_at hT (k0_off54_word k hX) rfl _) (slice_at hT (k0_off56_word k hX) rfl _) (slice_at hT (k0_off58_word k hX) rfl _) (slice_at hT (k0_off60_word k hX) rfl _) (slice_at hT (k0_off62_word k hX) rfl _) (slice_at hT (k0_off64_word k hX) rfl _) (slice_at hT (k0_off66_word k hX) rfl _)
  · intro a b c' ha hb hc hd
    exact rowsDone_step hb k.isLt hc hd

/-- One trip sums one row of group 1 from the table into the staging buffer. -/
theorem trip8 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h4 : k0_cond4 i = 1#1) (v73 : FVec F S128x128 .f32) (T : ℕ → ℕ → F .f32) (W : ℕ → ℕ → BitVec 32)
    (X10 : BufTy.Contents (Elt F) arg10.view.ty) (XW : BufTy.Contents (Elt F) arg17.view.ty)
    (hT : Is2 arg10.view X10 T) (hX : Is2 arg17.view XW W) (hW : AllGood W) (k : Fin k0_t8_loop.trips) :
    (iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 1 k) (stageN T W)⌝)) : sProp 𝕄U)
    ⊢ wp frame (wpE (defs₀ (F := F)) 𝒱₀ (c : Thread nD τ) none) Set.univ (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 k PUnit.unit)
      (fun _ => iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 1 (k + 1)) (stageN T W)⌝))) := by
  unfold k0_t8_body
  iintro ⟨H10, HW, ⟨%f14, H14, %h14⟩⟩
  sl_exec (disch := first | exact k0_chk28_ok i k hX hW | exact k0_chk29_ok i k hX hW | exact k0_chk30_ok i k hX hW | exact k0_chk31_ok i k hX hW | exact k0_chk32_ok i k hX hW | exact k0_chk33_ok i k hX hW | exact k0_chk34_ok i k hX hW | exact k0_chk35_ok i k hX hW | exact k0_chk36_ok i k hX hW)
  sl_step
  isplitl [H10]; · iexact H10
  isplitl [HW]; · iexact HW
  iexists _; isplitl [H14]; · iexact H14
  ipureintro
  refine On3.write _ _ [] (k0_off88_eq k) (fun x => ?_) (D' := rowsDone 1 k) h14 ?_
  · refine Eq.trans ?_ (stageN_at T W (g := 1) (x 0).isLt k.isLt).symm
    exact row_pay8 _ _ _ _ _ _ _ _ _ _ x (slice_at hT (k0_off70_word k hX) rfl _) (slice_at hT (k0_off72_word k hX) rfl _) (slice_at hT (k0_off74_word k hX) rfl _) (slice_at hT (k0_off76_word k hX) rfl _) (slice_at hT (k0_off78_word k hX) rfl _) (slice_at hT (k0_off80_word k hX) rfl _) (slice_at hT (k0_off82_word k hX) rfl _) (slice_at hT (k0_off84_word k hX) rfl _) (slice_at hT (k0_off86_word k hX) rfl _)
  · intro a b c' ha hb hc hd
    exact rowsDone_step hb k.isLt hc hd
-- ==== Proof.Kc.Trip1.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-- One trip writes the table's lines of book 0 and one batch chunk. -/
theorem trip1 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v42 : FVec F S256x512 .bf16) (Q CB : ℕ → ℕ → F .bf16) (N : ℕ → ℕ → F .f32) (X1 : BufTy.Contents (Elt F) arg1.view.ty) (X12 : BufTy.Contents (Elt F) arg12.view.ty) (hQ : Is2 arg1.view X1 Q) (hN : Is2 arg12.view X12 N) (hv : v42 = k0_pay89 (blk2 CB 0 0)) (k : Fin k0_t1_loop.trips) :
    (iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 k 0 a) (tabN Q CB N)⌝)) : sProp 𝕄U)
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 k PUnit.unit)
      (fun _ => iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 (k + 1) 0 a) (tabN Q CB N)⌝))) := by
  have hk : k.val < 8 := k.isLt
  subst hv
  unfold k0_t1_body
  iintro ⟨H1, H12, ⟨%f, H10, %h10⟩⟩
  sl_exec
  sl_step
  isplitl [H1]; · iexact H1
  isplitl [H12]; · iexact H12
  iexists _; isplitl [H10]; · iexact H10
  ipureintro
  have hV : tabV Q CB N 0 k = k0_pay15 (k0_pay89 (blk2 CB 0 0)) (arg1.view.readAt (Elt F) (Rect.unit (s := S1024x512) (k0_off1 k) S128x512.size (k0_off1_inb i k k0_h1)).toLoadRect X1)
      (arg12.view.readAt (Elt F) (Rect.unit (s := S1024x128) (k0_off2 k) S128x128.size (k0_off2_inb i k k0_h1)).toLoadRect X12) := by
    rw [tabV_0, load2 hQ (k0_off1_eq k), load2 hN (k0_off2_eq k)]
  refine On2.mono (D := fun a _ => tabDone 0 k 32 a) ?_ (fun a b _ _ h => tabDone_next h)
  have h10 : On2 arg10.view (arg10.view.writes (Elt F) f []) (fun a _ => tabDone 0 k 0 a) (tabN Q CB N) := h10

  refine tab_write (m := 0) (k := k) 31 (by decide) hk ((k0_off3_eq k 31).trans ?_) _ _ _ _ (fun x => ?_) ?_
  · simp
  · rw [hV]; refine Eq.trans ?_ (slice8 (F := F) _ (8 * 31) slices_S256x128_o248_0_S8x128 shapeCasts_S8x128_S8x128 x); rfl
  refine tab_write (m := 0) (k := k) 30 (by decide) hk ((k0_off3_eq k 30).trans ?_) _ _ _ _ (fun x => ?_) ?_
  · simp
  · rw [hV]; refine Eq.trans ?_ (slice8 (F := F) _ (8 * 30) slices_S256x128_o240_0_S8x128 shapeCasts_S8x128_S8x128 x); rfl
  refine tab_write (m := 0) (k := k) 29 (by decide) hk ((k0_off3_eq k 29).trans ?_) _ _ _ _ (fun x => ?_) ?_
  · simp
  · rw [hV]; refine Eq.trans ?_ (slice8 (F := F) _ (8 * 29) slices_S256x128_o232_0_S8x128 shapeCasts_S8x128_S8x128 x); rfl
  refine tab_write (m := 0) (k := k) 28 (by decide) hk ((k0_off3_eq k 28).trans ?_) _ _ _ _ (fun x => ?_) ?_
  · simp
  · rw [hV]; refine Eq.trans ?_ (slice8 (F := F) _ (8 * 28) slices_S256x128_o224_0_S8x128 shapeCasts_S8x128_S8x128 x); rfl
  refine tab_write (m := 0) (k := k) 27 (by decide) hk ((k0_off3_eq k 27).trans ?_) _ _ _ _ (fun x => ?_) ?_
  · simp
  · rw [hV]; refine Eq.trans ?_ (slice8 (F := F) _ (8 * 27) slices_S256x128_o216_0_S8x128 shapeCasts_S8x128_S8x128 x); rfl
  refine tab_write (m := 0) (k := k) 26 (by decide) hk ((k0_off3_eq k 26).trans ?_) _ _ _ _ (fun x => ?_) ?_
  · simp
  · rw [hV]; refine Eq.trans ?_ (slice8 (F := F) _ (8 * 26) slices_S256x128_o208_0_S8x128 shapeCasts_S8x128_S8x128 x); rfl
  refine tab_write (m := 0) (k := k) 25 (by decide) hk ((k0_off3_eq k 25).trans ?_) _ _ _ _ (fun x => ?_) ?_
  · simp
  · rw [hV]; refine Eq.trans ?_ (slice8 (F := F) _ (8 * 25) slices_S256x128_o200_0_S8x128 shapeCasts_S8x128_S8x128 x); rfl
  refine tab_write (m := 0) (k := k) 24 (by decide) hk ((k0_off3_eq k 24).trans ?_) _ _ _ _ (fun x => ?_) ?_
  · simp
  · rw [hV]; refine Eq.trans ?_ (slice8 (F := F) _ (8 * 24) slices_S256x128_o192_0_S8x128 shapeCasts_S8x128_S8x128 x); rfl
  refine tab_write (m := 0) (k := k) 23 (by decide) hk ((k0_off3_eq k 23).trans ?_) _ _ _ _ (fun x => ?_) ?_
  · simp
  · rw [hV]; refine Eq.trans ?_ (slice8 (F := F) _ (8 * 23) slices_S256x128_o184_0_S8x128 shapeCasts_S8x128_S8x128 x); rfl
  refine tab_write (m := 0) (k := k) 22 (by decide) hk ((k0_off3_eq k 22).trans ?_) _ _ _ _ (fun x => ?_) ?_
  · simp
  · rw [hV]; refine Eq.trans ?_ (slice8 (F := F) _ (8 * 22) slices_S256x128_o176_0_S8x128 shapeCasts_S8x128_S8x128 x); rfl
  refine tab_write (m := 0) (k := k) 21 (by decide) hk ((k0_off3_eq k 21).trans ?_) _ _ _ _ (fun x => ?_) ?_
  · simp
  · rw [hV]; refine Eq.trans ?_ (slice8 (F := F) _ (8 * 21) slices_S256x128_o168_0_S8x128 shapeCasts_S8x128_S8x128 x); rfl
  refine tab_write (m := 0) (k := k) 20 (by decide) hk ((k0_off3_eq k 20).trans ?_) _ _ _ _ (fun x => ?_) ?_
  · simp
  · rw [hV]; refine Eq.trans ?_ (slice8 (F := F) _ (8 * 20) slices_S256x128_o160_0_S8x128 shapeCasts_S8x128_S8x128 x); rfl
  refine tab_write (m := 0) (k := k) 19 (by decide) hk ((k0_off3_eq k 19).trans ?_) _ _ _ _ (fun x => ?_) ?_
  · simp
  · rw [hV]; refine Eq.trans ?_ (slice8 (F := F) _ (8 * 19) slices_S256x128_o152_0_S8x128 shapeCasts_S8x128_S8x128 x); rfl
  refine tab_write (m := 0) (k := k) 18 (by decide) hk ((k0_off3_eq k 18).trans ?_) _ _ _ _ (fun x => ?_) ?_
  · simp
  · rw [hV]; refine Eq.trans ?_ (slice8 (F := F) _ (8 * 18) slices_S256x128_o144_0_S8x128 shapeCasts_S8x128_S8x128 x); rfl
  refine tab_write (m := 0) (k := k) 17 (by decide) hk ((k0_off3_eq k 17).trans ?_) _ _ _ _ (fun x => ?_) ?_
  · simp
  · rw [hV]; refine Eq.trans ?_ (slice8 (F := F) _ (8 * 17) slices_S256x128_o136_0_S8x128 shapeCasts_S8x128_S8x128 x); rfl
  refine tab_write (m := 0) (k := k) 16 (by decide) hk ((k0_off3_eq k 16).trans ?_) _ _ _ _ (fun x => ?_) ?_
  · simp
  · rw [hV]; refine Eq.trans ?_ (slice8 (F := F) _ (8 * 16) slices_S256x128_o128_0_S8x128 shapeCasts_S8x128_S8x128 x); rfl
  refine tab_write (m := 0) (k := k) 15 (by decide) hk ((k0_off3_eq k 15).trans ?_) _ _ _ _ (fun x => ?_) ?_
  · simp
  · rw [hV]; refine Eq.trans ?_ (slice8 (F := F) _ (8 * 15) slices_S256x128_o120_0_S8x128 shapeCasts_S8x128_S8x128 x); rfl
  refine tab_write (m := 0) (k := k) 14 (by decide) hk ((k0_off3_eq k 14).trans ?_) _ _ _ _ (fun x => ?_) ?_
  · simp
  · rw [hV]; refine Eq.trans ?_ (slice8 (F := F) _ (8 * 14) slices_S256x128_o112_0_S8x128 shapeCasts_S8x128_S8x128 x); rfl
  refine tab_write (m := 0) (k := k) 13 (by decide) hk ((k0_off3_eq k 13).trans ?_) _ _ _ _ (fun x => ?_) ?_
  · simp
  · rw [hV]; refine Eq.trans ?_ (slice8 (F := F) _ (8 * 13) slices_S256x128_o104_0_S8x128 shapeCasts_S8x128_S8x128 x); rfl
  refine tab_write (m := 0) (k := k) 12 (by decide) hk ((k0_off3_eq k 12).trans ?_) _ _ _ _ (fun x => ?_) ?_
  · simp
  · rw [hV]; refine Eq.trans ?_ (slice8 (F := F) _ (8 * 12) slices_S256x128_o96_0_S8x128 shapeCasts_S8x128_S8x128 x); rfl
  refine tab_write (m := 0) (k := k) 11 (by decide) hk ((k0_off3_eq k 11).trans ?_) _ _ _ _ (fun x => ?_) ?_
  · simp
  · rw [hV]; refine Eq.trans ?_ (slice8 (F := F) _ (8 * 11) slices_S256x128_o88_0_S8x128 shapeCasts_S8x128_S8x128 x); rfl
  refine tab_write (m := 0) (k := k) 10 (by decide) hk ((k0_off3_eq k 10).trans ?_) _ _ _ _ (fun x => ?_) ?_
  · simp
  · rw [hV]; refine Eq.trans ?_ (slice8 (F := F) _ (8 * 10) slices_S256x128_o80_0_S8x128 shapeCasts_S8x128_S8x128 x); rfl
  refine tab_write (m := 0) (k := k) 9 (by decide) hk ((k0_off3_eq k 9).trans ?_) _ _ _ _ (fun x => ?_) ?_
  · simp
  · rw [hV]; refine Eq.trans ?_ (slice8 (F := F) _ (8 * 9) slices_S256x128_o72_0_S8x128 shapeCasts_S8x128_S8x128 x); rfl
  refine tab_write (m := 0) (k := k) 8 (by decide) hk ((k0_off3_eq k 8).trans ?_) _ _ _ _ (fun x => ?_) ?_
  · simp
  · rw [hV]; refine Eq.trans ?_ (slice8 (F := F) _ (8 * 8) slices_S256x128_o64_0_S8x128 shapeCasts_S8x128_S8x128 x); rfl
  refine tab_write (m := 0) (k := k) 7 (by decide) hk ((k0_off3_eq k 7).trans ?_) _ _ _ _ (fun x => ?_) ?_
  · simp
  · rw [hV]; refine Eq.trans ?_ (slice8 (F := F) _ (8 * 7) slices_S256x128_o56_0_S8x128 shapeCasts_S8x128_S8x128 x); rfl
  refine tab_write (m := 0) (k := k) 6 (by decide) hk ((k0_off3_eq k 6).trans ?_) _ _ _ _ (fun x => ?_) ?_
  · simp
  · rw [hV]; refine Eq.trans ?_ (slice8 (F := F) _ (8 * 6) slices_S256x128_o48_0_S8x128 shapeCasts_S8x128_S8x128 x); rfl
  refine tab_write (m := 0) (k := k) 5 (by decide) hk ((k0_off3_eq k 5).trans ?_) _ _ _ _ (fun x => ?_) ?_
  · simp
  · rw [hV]; refine Eq.trans ?_ (slice8 (F := F) _ (8 * 5) slices_S256x128_o40_0_S8x128 shapeCasts_S8x128_S8x128 x); rfl
  refine tab_write (m := 0) (k := k) 4 (by decide) hk ((k0_off3_eq k 4).trans ?_) _ _ _ _ (fun x => ?_) ?_
  · simp
  · rw [hV]; refine Eq.trans ?_ (slice8 (F := F) _ (8 * 4) slices_S256x128_o32_0_S8x128 shapeCasts_S8x128_S8x128 x); rfl
  refine tab_write (m := 0) (k := k) 3 (by decide) hk ((k0_off3_eq k 3).trans ?_) _ _ _ _ (fun x => ?_) ?_
  · simp
  · rw [hV]; refine Eq.trans ?_ (slice8 (F := F) _ (8 * 3) slices_S256x128_o24_0_S8x128 shapeCasts_S8x128_S8x128 x); rfl
  refine tab_write (m := 0) (k := k) 2 (by decide) hk ((k0_off3_eq k 2).trans ?_) _ _ _ _ (fun x => ?_) ?_
  · simp
  · rw [hV]; refine Eq.trans ?_ (slice8 (F := F) _ (8 * 2) slices_S256x128_o16_0_S8x128 shapeCasts_S8x128_S8x128 x); rfl
  refine tab_write (m := 0) (k := k) 1 (by decide) hk ((k0_off3_eq k 1).trans ?_) _ _ _ _ (fun x => ?_) ?_
  · simp
  · rw [hV]; refine Eq.trans ?_ (slice8 (F := F) _ (8 * 1) slices_S256x128_o8_0_S8x128 shapeCasts_S8x128_S8x128 x); rfl
  refine tab_write (m := 0) (k := k) 0 (by decide) hk ((k0_off3_eq k 0).trans ?_) _ _ _ _ (fun x => ?_) ?_
  · simp
  · rw [hV]; refine Eq.trans ?_ (slice8 (F := F) _ (8 * 0) slices_S256x128_o0_0_S8x128 shapeCasts_S8x128_S8x128 x); rfl
  exact h10
-- ==== Proof.Kc.Trip3.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

theorem vec2_ext {a b : ℕ} (h : a = b) : (![a, 0] : Fin 2 → ℕ) = ![b, 0] := by rw [h]

/-- One trip writes the table's lines of one later book and one batch chunk. -/
theorem trip3 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (k0_t2 : Fin k0_t2_loop.trips) (arg21 : BitVec 32) (v69 : Vec F S256x512 .bf16) (Q CB : ℕ → ℕ → F .bf16) (N : ℕ → ℕ → F .f32) (X1 : BufTy.Contents (Elt F) arg1.view.ty) (hQ : Is2 arg1.view X1 Q) (hv : v69 = blk2 CB (256 * (k0_t2.val + 1)) 0) (k : Fin k0_t3_loop.trips) :
    (iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2 + 1) k 0 a) (tabN Q CB N)⌝)) : sProp 𝕄U)
    ⊢ wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 k PUnit.unit)
      (fun _ => iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2 + 1) (k + 1) 0 a) (tabN Q CB N)⌝))) := by
  have hk : k.val < 8 := k.isLt
  subst hv
  unfold k0_t3_body
  iintro ⟨H1, ⟨%f, H10, %h10⟩⟩
  sl_exec
  sl_step
  isplitl [H1]; · iexact H1
  iexists _; isplitl [H10]; · iexact H10
  ipureintro
  have hV : tabV Q CB N (k0_t2 + 1) k = k0_pay51 (k0_pay4 (blk2 CB (256 * (k0_t2 + 1)) 0)) (arg1.view.readAt (Elt F) (Rect.unit (s := S1024x512) (k0_off7 k) S128x512.size (k0_off7_inb i k k0_h1)).toLoadRect X1) := by
    rw [tabV_succ, load2 hQ (k0_off7_eq k)]
  refine On2.mono (D := fun a _ => tabDone (k0_t2 + 1) k 32 a) ?_ (fun a b _ _ h => tabDone_next h)
  have h10 : On2 arg10.view (arg10.view.writes (Elt F) f []) (fun a _ => tabDone (k0_t2 + 1) k 0 a) (tabN Q CB N) := h10

  refine tab_write (m := (k0_t2 + 1)) (k := k) 31 (by decide) hk ((k0_off8_eq k0_t2 k 31).trans ?_) _ _ _ _ (fun x => ?_) ?_
  · exact vec2_ext (show 2048 * k0_t2.val + 64 * 31 + k.val + 2048 = 2048 * (k0_t2.val + 1) + 64 * 31 + k.val by omega)
  · rw [hV]; refine Eq.trans ?_ (slice8 (F := F) _ (8 * 31) slices_S256x128_o248_0_S8x128 shapeCasts_S8x128_S8x128 x); rfl
  refine tab_write (m := (k0_t2 + 1)) (k := k) 30 (by decide) hk ((k0_off8_eq k0_t2 k 30).trans ?_) _ _ _ _ (fun x => ?_) ?_
  · exact vec2_ext (show 2048 * k0_t2.val + 64 * 30 + k.val + 2048 = 2048 * (k0_t2.val + 1) + 64 * 30 + k.val by omega)
  · rw [hV]; refine Eq.trans ?_ (slice8 (F := F) _ (8 * 30) slices_S256x128_o240_0_S8x128 shapeCasts_S8x128_S8x128 x); rfl
  refine tab_write (m := (k0_t2 + 1)) (k := k) 29 (by decide) hk ((k0_off8_eq k0_t2 k 29).trans ?_) _ _ _ _ (fun x => ?_) ?_
  · exact vec2_ext (show 2048 * k0_t2.val + 64 * 29 + k.val + 2048 = 2048 * (k0_t2.val + 1) + 64 * 29 + k.val by omega)
  · rw [hV]; refine Eq.trans ?_ (slice8 (F := F) _ (8 * 29) slices_S256x128_o232_0_S8x128 shapeCasts_S8x128_S8x128 x); rfl
  refine tab_write (m := (k0_t2 + 1)) (k := k) 28 (by decide) hk ((k0_off8_eq k0_t2 k 28).trans ?_) _ _ _ _ (fun x => ?_) ?_
  · exact vec2_ext (show 2048 * k0_t2.val + 64 * 28 + k.val + 2048 = 2048 * (k0_t2.val + 1) + 64 * 28 + k.val by omega)
  · rw [hV]; refine Eq.trans ?_ (slice8 (F := F) _ (8 * 28) slices_S256x128_o224_0_S8x128 shapeCasts_S8x128_S8x128 x); rfl
  refine tab_write (m := (k0_t2 + 1)) (k := k) 27 (by decide) hk ((k0_off8_eq k0_t2 k 27).trans ?_) _ _ _ _ (fun x => ?_) ?_
  · exact vec2_ext (show 2048 * k0_t2.val + 64 * 27 + k.val + 2048 = 2048 * (k0_t2.val + 1) + 64 * 27 + k.val by omega)
  · rw [hV]; refine Eq.trans ?_ (slice8 (F := F) _ (8 * 27) slices_S256x128_o216_0_S8x128 shapeCasts_S8x128_S8x128 x); rfl
  refine tab_write (m := (k0_t2 + 1)) (k := k) 26 (by decide) hk ((k0_off8_eq k0_t2 k 26).trans ?_) _ _ _ _ (fun x => ?_) ?_
  · exact vec2_ext (show 2048 * k0_t2.val + 64 * 26 + k.val + 2048 = 2048 * (k0_t2.val + 1) + 64 * 26 + k.val by omega)
  · rw [hV]; refine Eq.trans ?_ (slice8 (F := F) _ (8 * 26) slices_S256x128_o208_0_S8x128 shapeCasts_S8x128_S8x128 x); rfl
  refine tab_write (m := (k0_t2 + 1)) (k := k) 25 (by decide) hk ((k0_off8_eq k0_t2 k 25).trans ?_) _ _ _ _ (fun x => ?_) ?_
  · exact vec2_ext (show 2048 * k0_t2.val + 64 * 25 + k.val + 2048 = 2048 * (k0_t2.val + 1) + 64 * 25 + k.val by omega)
  · rw [hV]; refine Eq.trans ?_ (slice8 (F := F) _ (8 * 25) slices_S256x128_o200_0_S8x128 shapeCasts_S8x128_S8x128 x); rfl
  refine tab_write (m := (k0_t2 + 1)) (k := k) 24 (by decide) hk ((k0_off8_eq k0_t2 k 24).trans ?_) _ _ _ _ (fun x => ?_) ?_
  · exact vec2_ext (show 2048 * k0_t2.val + 64 * 24 + k.val + 2048 = 2048 * (k0_t2.val + 1) + 64 * 24 + k.val by omega)
  · rw [hV]; refine Eq.trans ?_ (slice8 (F := F) _ (8 * 24) slices_S256x128_o192_0_S8x128 shapeCasts_S8x128_S8x128 x); rfl
  refine tab_write (m := (k0_t2 + 1)) (k := k) 23 (by decide) hk ((k0_off8_eq k0_t2 k 23).trans ?_) _ _ _ _ (fun x => ?_) ?_
  · exact vec2_ext (show 2048 * k0_t2.val + 64 * 23 + k.val + 2048 = 2048 * (k0_t2.val + 1) + 64 * 23 + k.val by omega)
  · rw [hV]; refine Eq.trans ?_ (slice8 (F := F) _ (8 * 23) slices_S256x128_o184_0_S8x128 shapeCasts_S8x128_S8x128 x); rfl
  refine tab_write (m := (k0_t2 + 1)) (k := k) 22 (by decide) hk ((k0_off8_eq k0_t2 k 22).trans ?_) _ _ _ _ (fun x => ?_) ?_
  · exact vec2_ext (show 2048 * k0_t2.val + 64 * 22 + k.val + 2048 = 2048 * (k0_t2.val + 1) + 64 * 22 + k.val by omega)
  · rw [hV]; refine Eq.trans ?_ (slice8 (F := F) _ (8 * 22) slices_S256x128_o176_0_S8x128 shapeCasts_S8x128_S8x128 x); rfl
  refine tab_write (m := (k0_t2 + 1)) (k := k) 21 (by decide) hk ((k0_off8_eq k0_t2 k 21).trans ?_) _ _ _ _ (fun x => ?_) ?_
  · exact vec2_ext (show 2048 * k0_t2.val + 64 * 21 + k.val + 2048 = 2048 * (k0_t2.val + 1) + 64 * 21 + k.val by omega)
  · rw [hV]; refine Eq.trans ?_ (slice8 (F := F) _ (8 * 21) slices_S256x128_o168_0_S8x128 shapeCasts_S8x128_S8x128 x); rfl
  refine tab_write (m := (k0_t2 + 1)) (k := k) 20 (by decide) hk ((k0_off8_eq k0_t2 k 20).trans ?_) _ _ _ _ (fun x => ?_) ?_
  · exact vec2_ext (show 2048 * k0_t2.val + 64 * 20 + k.val + 2048 = 2048 * (k0_t2.val + 1) + 64 * 20 + k.val by omega)
  · rw [hV]; refine Eq.trans ?_ (slice8 (F := F) _ (8 * 20) slices_S256x128_o160_0_S8x128 shapeCasts_S8x128_S8x128 x); rfl
  refine tab_write (m := (k0_t2 + 1)) (k := k) 19 (by decide) hk ((k0_off8_eq k0_t2 k 19).trans ?_) _ _ _ _ (fun x => ?_) ?_
  · exact vec2_ext (show 2048 * k0_t2.val + 64 * 19 + k.val + 2048 = 2048 * (k0_t2.val + 1) + 64 * 19 + k.val by omega)
  · rw [hV]; refine Eq.trans ?_ (slice8 (F := F) _ (8 * 19) slices_S256x128_o152_0_S8x128 shapeCasts_S8x128_S8x128 x); rfl
  refine tab_write (m := (k0_t2 + 1)) (k := k) 18 (by decide) hk ((k0_off8_eq k0_t2 k 18).trans ?_) _ _ _ _ (fun x => ?_) ?_
  · exact vec2_ext (show 2048 * k0_t2.val + 64 * 18 + k.val + 2048 = 2048 * (k0_t2.val + 1) + 64 * 18 + k.val by omega)
  · rw [hV]; refine Eq.trans ?_ (slice8 (F := F) _ (8 * 18) slices_S256x128_o144_0_S8x128 shapeCasts_S8x128_S8x128 x); rfl
  refine tab_write (m := (k0_t2 + 1)) (k := k) 17 (by decide) hk ((k0_off8_eq k0_t2 k 17).trans ?_) _ _ _ _ (fun x => ?_) ?_
  · exact vec2_ext (show 2048 * k0_t2.val + 64 * 17 + k.val + 2048 = 2048 * (k0_t2.val + 1) + 64 * 17 + k.val by omega)
  · rw [hV]; refine Eq.trans ?_ (slice8 (F := F) _ (8 * 17) slices_S256x128_o136_0_S8x128 shapeCasts_S8x128_S8x128 x); rfl
  refine tab_write (m := (k0_t2 + 1)) (k := k) 16 (by decide) hk ((k0_off8_eq k0_t2 k 16).trans ?_) _ _ _ _ (fun x => ?_) ?_
  · exact vec2_ext (show 2048 * k0_t2.val + 64 * 16 + k.val + 2048 = 2048 * (k0_t2.val + 1) + 64 * 16 + k.val by omega)
  · rw [hV]; refine Eq.trans ?_ (slice8 (F := F) _ (8 * 16) slices_S256x128_o128_0_S8x128 shapeCasts_S8x128_S8x128 x); rfl
  refine tab_write (m := (k0_t2 + 1)) (k := k) 15 (by decide) hk ((k0_off8_eq k0_t2 k 15).trans ?_) _ _ _ _ (fun x => ?_) ?_
  · exact vec2_ext (show 2048 * k0_t2.val + 64 * 15 + k.val + 2048 = 2048 * (k0_t2.val + 1) + 64 * 15 + k.val by omega)
  · rw [hV]; refine Eq.trans ?_ (slice8 (F := F) _ (8 * 15) slices_S256x128_o120_0_S8x128 shapeCasts_S8x128_S8x128 x); rfl
  refine tab_write (m := (k0_t2 + 1)) (k := k) 14 (by decide) hk ((k0_off8_eq k0_t2 k 14).trans ?_) _ _ _ _ (fun x => ?_) ?_
  · exact vec2_ext (show 2048 * k0_t2.val + 64 * 14 + k.val + 2048 = 2048 * (k0_t2.val + 1) + 64 * 14 + k.val by omega)
  · rw [hV]; refine Eq.trans ?_ (slice8 (F := F) _ (8 * 14) slices_S256x128_o112_0_S8x128 shapeCasts_S8x128_S8x128 x); rfl
  refine tab_write (m := (k0_t2 + 1)) (k := k) 13 (by decide) hk ((k0_off8_eq k0_t2 k 13).trans ?_) _ _ _ _ (fun x => ?_) ?_
  · exact vec2_ext (show 2048 * k0_t2.val + 64 * 13 + k.val + 2048 = 2048 * (k0_t2.val + 1) + 64 * 13 + k.val by omega)
  · rw [hV]; refine Eq.trans ?_ (slice8 (F := F) _ (8 * 13) slices_S256x128_o104_0_S8x128 shapeCasts_S8x128_S8x128 x); rfl
  refine tab_write (m := (k0_t2 + 1)) (k := k) 12 (by decide) hk ((k0_off8_eq k0_t2 k 12).trans ?_) _ _ _ _ (fun x => ?_) ?_
  · exact vec2_ext (show 2048 * k0_t2.val + 64 * 12 + k.val + 2048 = 2048 * (k0_t2.val + 1) + 64 * 12 + k.val by omega)
  · rw [hV]; refine Eq.trans ?_ (slice8 (F := F) _ (8 * 12) slices_S256x128_o96_0_S8x128 shapeCasts_S8x128_S8x128 x); rfl
  refine tab_write (m := (k0_t2 + 1)) (k := k) 11 (by decide) hk ((k0_off8_eq k0_t2 k 11).trans ?_) _ _ _ _ (fun x => ?_) ?_
  · exact vec2_ext (show 2048 * k0_t2.val + 64 * 11 + k.val + 2048 = 2048 * (k0_t2.val + 1) + 64 * 11 + k.val by omega)
  · rw [hV]; refine Eq.trans ?_ (slice8 (F := F) _ (8 * 11) slices_S256x128_o88_0_S8x128 shapeCasts_S8x128_S8x128 x); rfl
  refine tab_write (m := (k0_t2 + 1)) (k := k) 10 (by decide) hk ((k0_off8_eq k0_t2 k 10).trans ?_) _ _ _ _ (fun x => ?_) ?_
  · exact vec2_ext (show 2048 * k0_t2.val + 64 * 10 + k.val + 2048 = 2048 * (k0_t2.val + 1) + 64 * 10 + k.val by omega)
  · rw [hV]; refine Eq.trans ?_ (slice8 (F := F) _ (8 * 10) slices_S256x128_o80_0_S8x128 shapeCasts_S8x128_S8x128 x); rfl
  refine tab_write (m := (k0_t2 + 1)) (k := k) 9 (by decide) hk ((k0_off8_eq k0_t2 k 9).trans ?_) _ _ _ _ (fun x => ?_) ?_
  · exact vec2_ext (show 2048 * k0_t2.val + 64 * 9 + k.val + 2048 = 2048 * (k0_t2.val + 1) + 64 * 9 + k.val by omega)
  · rw [hV]; refine Eq.trans ?_ (slice8 (F := F) _ (8 * 9) slices_S256x128_o72_0_S8x128 shapeCasts_S8x128_S8x128 x); rfl
  refine tab_write (m := (k0_t2 + 1)) (k := k) 8 (by decide) hk ((k0_off8_eq k0_t2 k 8).trans ?_) _ _ _ _ (fun x => ?_) ?_
  · exact vec2_ext (show 2048 * k0_t2.val + 64 * 8 + k.val + 2048 = 2048 * (k0_t2.val + 1) + 64 * 8 + k.val by omega)
  · rw [hV]; refine Eq.trans ?_ (slice8 (F := F) _ (8 * 8) slices_S256x128_o64_0_S8x128 shapeCasts_S8x128_S8x128 x); rfl
  refine tab_write (m := (k0_t2 + 1)) (k := k) 7 (by decide) hk ((k0_off8_eq k0_t2 k 7).trans ?_) _ _ _ _ (fun x => ?_) ?_
  · exact vec2_ext (show 2048 * k0_t2.val + 64 * 7 + k.val + 2048 = 2048 * (k0_t2.val + 1) + 64 * 7 + k.val by omega)
  · rw [hV]; refine Eq.trans ?_ (slice8 (F := F) _ (8 * 7) slices_S256x128_o56_0_S8x128 shapeCasts_S8x128_S8x128 x); rfl
  refine tab_write (m := (k0_t2 + 1)) (k := k) 6 (by decide) hk ((k0_off8_eq k0_t2 k 6).trans ?_) _ _ _ _ (fun x => ?_) ?_
  · exact vec2_ext (show 2048 * k0_t2.val + 64 * 6 + k.val + 2048 = 2048 * (k0_t2.val + 1) + 64 * 6 + k.val by omega)
  · rw [hV]; refine Eq.trans ?_ (slice8 (F := F) _ (8 * 6) slices_S256x128_o48_0_S8x128 shapeCasts_S8x128_S8x128 x); rfl
  refine tab_write (m := (k0_t2 + 1)) (k := k) 5 (by decide) hk ((k0_off8_eq k0_t2 k 5).trans ?_) _ _ _ _ (fun x => ?_) ?_
  · exact vec2_ext (show 2048 * k0_t2.val + 64 * 5 + k.val + 2048 = 2048 * (k0_t2.val + 1) + 64 * 5 + k.val by omega)
  · rw [hV]; refine Eq.trans ?_ (slice8 (F := F) _ (8 * 5) slices_S256x128_o40_0_S8x128 shapeCasts_S8x128_S8x128 x); rfl
  refine tab_write (m := (k0_t2 + 1)) (k := k) 4 (by decide) hk ((k0_off8_eq k0_t2 k 4).trans ?_) _ _ _ _ (fun x => ?_) ?_
  · exact vec2_ext (show 2048 * k0_t2.val + 64 * 4 + k.val + 2048 = 2048 * (k0_t2.val + 1) + 64 * 4 + k.val by omega)
  · rw [hV]; refine Eq.trans ?_ (slice8 (F := F) _ (8 * 4) slices_S256x128_o32_0_S8x128 shapeCasts_S8x128_S8x128 x); rfl
  refine tab_write (m := (k0_t2 + 1)) (k := k) 3 (by decide) hk ((k0_off8_eq k0_t2 k 3).trans ?_) _ _ _ _ (fun x => ?_) ?_
  · exact vec2_ext (show 2048 * k0_t2.val + 64 * 3 + k.val + 2048 = 2048 * (k0_t2.val + 1) + 64 * 3 + k.val by omega)
  · rw [hV]; refine Eq.trans ?_ (slice8 (F := F) _ (8 * 3) slices_S256x128_o24_0_S8x128 shapeCasts_S8x128_S8x128 x); rfl
  refine tab_write (m := (k0_t2 + 1)) (k := k) 2 (by decide) hk ((k0_off8_eq k0_t2 k 2).trans ?_) _ _ _ _ (fun x => ?_) ?_
  · exact vec2_ext (show 2048 * k0_t2.val + 64 * 2 + k.val + 2048 = 2048 * (k0_t2.val + 1) + 64 * 2 + k.val by omega)
  · rw [hV]; refine Eq.trans ?_ (slice8 (F := F) _ (8 * 2) slices_S256x128_o16_0_S8x128 shapeCasts_S8x128_S8x128 x); rfl
  refine tab_write (m := (k0_t2 + 1)) (k := k) 1 (by decide) hk ((k0_off8_eq k0_t2 k 1).trans ?_) _ _ _ _ (fun x => ?_) ?_
  · exact vec2_ext (show 2048 * k0_t2.val + 64 * 1 + k.val + 2048 = 2048 * (k0_t2.val + 1) + 64 * 1 + k.val by omega)
  · rw [hV]; refine Eq.trans ?_ (slice8 (F := F) _ (8 * 1) slices_S256x128_o8_0_S8x128 shapeCasts_S8x128_S8x128 x); rfl
  refine tab_write (m := (k0_t2 + 1)) (k := k) 0 (by decide) hk ((k0_off8_eq k0_t2 k 0).trans ?_) _ _ _ _ (fun x => ?_) ?_
  · exact vec2_ext (show 2048 * k0_t2.val + 64 * 0 + k.val + 2048 = 2048 * (k0_t2.val + 1) + 64 * 0 + k.val by omega)
  · rw [hV]; refine Eq.trans ?_ (slice8 (F := F) _ (8 * 0) slices_S256x128_o0_0_S8x128 shapeCasts_S8x128_S8x128 x); rfl
  exact h10
-- ==== Proof.Kc.Loop.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Trip
public import proofs.«01_k».proof.Proof.Kc.Trip1
public import proofs.«01_k».proof.Proof.Kc.Trip3

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option warn.classDefReducibility false in
/-- The loop by its invariant. -/
def linv1 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v42 : FVec F S256x512 .bf16) (Q CB : ℕ → ℕ → F .bf16) (N : ℕ → ℕ → F .f32) (X1 : BufTy.Contents (Elt F) arg1.view.ty) (X12 : BufTy.Contents (Elt F) arg12.view.ty) (hQ : Is2 arg1.view X1 Q) (hN : Is2 arg12.view X12 N) (hv : v42 = k0_pay89 (blk2 CB 0 0)) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 where
  inv k _ := iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 k 0 a) (tabN Q CB N)⌝))
  step k _ := trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 Q CB N X1 X12 hQ hN hv k

set_option warn.classDefReducibility false in
/-- The loop by its invariant. -/
def linv3 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (k0_t2 : Fin k0_t2_loop.trips) (arg21 : BitVec 32) (v69 : Vec F S256x512 .bf16) (Q CB : ℕ → ℕ → F .bf16) (N : ℕ → ℕ → F .f32) (X1 : BufTy.Contents (Elt F) arg1.view.ty) (hQ : Is2 arg1.view X1 Q) (hv : v69 = blk2 CB (256 * (k0_t2.val + 1)) 0) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 where
  inv k _ := iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2.val + 1) k 0 a) (tabN Q CB N)⌝))
  step k _ := trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 Q CB N X1 hQ hv k

/-- The inner products of one book. -/
theorem lutN_at (Q CB : ℕ → ℕ → F .bf16) {m : ℕ} (x : S1024x256.Idx) {a b : ℕ} (ha : a = (x 0).val) (hb : b = 256 * m + (x 1).val) :
    lutN Q CB a b = k0_pay5 (blk2 Q 0 0) (blk2 CB (256 * m) 0) x := by
  have hx : (x 1).val < 256 := (x 1).isLt
  have e1 : b / 256 = m := by omega
  have e2 : b % 256 = (x 1).val := by omega
  unfold lutN
  rw [e1]
  exact at2_idx _ x ha e2

/-- Eight lines of norms. -/
theorem xnN_at (NC : ℕ → ℕ → BitVec 32) (NT : ℕ → ℕ → F .f32) {m : ℕ} (x : S8x128.Idx) {a b : ℕ} (ha : a = 8 * m + (x 0).val) (hb : b = (x 1).val) :
    xnN NC NT a b = k0_pay10 (blk2 NT 0 0) (blk2 NC (8 * m) 0) x := by
  have hx : (x 0).val < 8 := (x 0).isLt
  have e1 : a / 8 = m := by omega
  have e2 : a % 8 = (x 0).val := by omega
  unfold xnN
  rw [e1]
  exact at2_idx _ x e2 hb

/-- One book transposed and scaled. -/
theorem cbtN_at (CB : ℕ → ℕ → F .bf16) {m m' : ℕ} (x : S1x512x256.Idx) {a b : ℕ} (hm : m' = m) (ha : a = (x 1).val) (hb : b = (x 2).val) :
    cbtN CB m' a b = k0_pay6 (blk2 CB (256 * m) 0) x := by
  subst hm ha hb
  refine congrArg (k0_pay6 (blk2 CB (256 * m') 0)) (funext fun d => ?_)
  match d with
  | ⟨0, _⟩ => exact (Fin.ext (by show 0 = (x 0).val; have := (x 0).isLt; have h : (x 0).val < 1 := this; omega))
  | ⟨1, _⟩ => exact Fin.ext (Nat.mod_eq_of_lt (x 1).isLt)
  | ⟨2, _⟩ => exact Fin.ext (Nat.mod_eq_of_lt (x 2).isLt)

/-- One trip builds the tables of one later book. -/
theorem trip2 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (Q CB : ℕ → ℕ → F .bf16) (N : ℕ → ℕ → F .f32) (X1 : BufTy.Contents (Elt F) arg1.view.ty) (X2 : BufTy.Contents (Elt F) arg2.view.ty) (hQ : Is2 arg1.view X1 Q) (hC : Is2 arg2.view X2 CB) (k : Fin k0_t2_loop.trips) :
    (iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * (k.val + 1)) (lutN Q CB)⌝) ∗ (∃ f, (arg11.view.loc (c : Thread nD τ) ↦[arg11.view.set]{fullShare} f) ∗ ⌜On3 arg11.view f (fun m _ _ => m < k.val + 1) (cbtN CB)⌝) ∗ (∃ f, (arg10.view.loc (c : Thread nD τ) ↦[arg10.view.set]{fullShare} f) ∗ ⌜On2 arg10.view f (fun a _ => tabDone (k.val + 1) 0 0 a) (tabN Q CB N)⌝)) : sProp 𝕄U)
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k PUnit.unit)
      (fun _ => iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * ((k.val + 1) + 1)) (lutN Q CB)⌝) ∗ (∃ f, (arg11.view.loc (c : Thread nD τ) ↦[arg11.view.set]{fullShare} f) ∗ ⌜On3 arg11.view f (fun m _ _ => m < (k.val + 1) + 1) (cbtN CB)⌝) ∗ (∃ f, (arg10.view.loc (c : Thread nD τ) ↦[arg10.view.set]{fullShare} f) ∗ ⌜On2 arg10.view f (fun a _ => tabDone ((k.val + 1) + 1) 0 0 a) (tabN Q CB N)⌝))) := by
  have hk : k.val < 8 := k.isLt
  unfold k0_t2_body
  iintro ⟨H1, H2, ⟨%f9, H9, %h9⟩, ⟨%f11, H11, %h11⟩, ⟨%f10, H10, %h10⟩⟩
  have hv : arg2.view.readAt (Elt F) (Rect.unit (s := S2304x512) (k0_off4 k) S256x512.size (k0_off4_inb i k k0_h1)).toLoadRect X2 = blk2 CB (256 * (k.val + 1)) 0 :=
    load2 hC (k0_off4_eq k) _
  have hq : arg1.view.readAt (Elt F) (Rect.unit (s := S1024x512) ![0, 0] S1024x512.size inb_S1024x512_S1024x512_0_0).toLoadRect X1 = blk2 Q 0 0 := load2 hQ rfl _
  let L3 := linv3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k (Scf.iv 1#32 1#32 k) (blk2 CB (256 * (k.val + 1)) 0) Q CB N X1 hQ rfl
  sl_exec
  sl_step
  isplitl [H1]; · iexact H1
  isplitl [H2]; · iexact H2
  isplitl [H9]
  · iexists _; isplitl [H9]; · iexact H9
    ipureintro
    refine On2.write _ _ [] (k0_off5_eq k) (fun x => ?_) (D' := fun _ b => b < 256 * (k.val + 1)) h9 ?_
    · exact (lutN_at Q CB x (Nat.zero_add _ ▸ Nat.one_mul _) (by show 256 * k.val + 256 + 1 * (x 1).val = _; omega)).symm
    · intro a b ha hb hd
      by_cases h : b < 256 * (k.val + 1)
      · exact .inl h
      · exact .inr ⟨⟨a, ha, show a = 0 + 1 * a by omega⟩, ⟨b - (256 * k.val + 256), show b - (256 * k.val + 256) < 256 by omega, show b = 256 * k.val + 256 + 1 * (b - (256 * k.val + 256)) by omega⟩⟩
  isplitl [H11]
  · iexists _; isplitl [H11]; · iexact H11
    ipureintro
    refine On3.write _ _ [] (k0_off6_eq k) (fun x => ?_) (D' := fun m _ _ => m < k.val + 1) h11 ?_
    · have hx : (x 0).val < 1 := (x 0).isLt
      exact (cbtN_at CB x (by show k.val + 1 + 1 * (x 0).val = _; omega) (by show 0 + 1 * (x 1).val = _; omega) (by show 0 + 1 * (x 2).val = _; omega)).symm
    · intro a b c' ha hb hc hd
      by_cases h : a < k.val + 1
      · exact .inl h
      · exact .inr ⟨⟨0, Nat.one_pos, show a = k.val + 1 + 1 * 0 by omega⟩, ⟨b, hb, show b = 0 + 1 * b by omega⟩, ⟨c', hc, show c' = 0 + 1 * c' by omega⟩⟩
  iexists _; isplitl [H10]; · iexact H10
  ipureintro
  exact On2.mono hL2 fun a b _ _ h => (show Scf.trips k0_t3_loop.lb k0_t3_loop.ub k0_t3_loop.st = 8 from rfl) ▸ tabDone_book h

set_option warn.classDefReducibility false in
/-- The loop by its invariant. -/
def linv2 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (Q CB : ℕ → ℕ → F .bf16) (N : ℕ → ℕ → F .f32) (X1 : BufTy.Contents (Elt F) arg1.view.ty) (X2 : BufTy.Contents (Elt F) arg2.view.ty) (hQ : Is2 arg1.view X1 Q) (hC : Is2 arg2.view X2 CB) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 where
  inv k _ := iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * (k + 1)) (lutN Q CB)⌝) ∗ (∃ f, (arg11.view.loc (c : Thread nD τ) ↦[arg11.view.set]{fullShare} f) ∗ ⌜On3 arg11.view f (fun m _ _ => m < k + 1) (cbtN CB)⌝) ∗ (∃ f, (arg10.view.loc (c : Thread nD τ) ↦[arg10.view.set]{fullShare} f) ∗ ⌜On2 arg10.view f (fun a _ => tabDone (k + 1) 0 0 a) (tabN Q CB N)⌝))
  step k _ := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 Q CB N X1 X2 hQ hC k

/-- One trip looks up eight lines of norms. -/
theorem trip4 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v56 : Vec F S1x256 .f32) (NC : ℕ → ℕ → BitVec 32) (NT : ℕ → ℕ → F .f32) (X3 : BufTy.Contents (Elt F) arg3.view.ty) (hN : Is2 (Val := Elt F) arg3.view X3 NC) (hv : v56 = blk2 NT 0 0) (k : Fin k0_t4_loop.trips) :
    (iprop((arg3.view.loc (c : Thread nD τ) ↦[arg3.view.set]{fullShare} X3) ∗ (∃ f, (arg13.view.loc (c : Thread nD τ) ↦[arg13.view.set]{fullShare} f) ∗ ⌜On2 arg13.view f (fun a _ => a < 8 * k.val) (xnN NC NT)⌝)) : sProp 𝕄U)
    ⊢ wp frame (wpE (defs₀ (F := F)) 𝒱₀ (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 k PUnit.unit)
      (fun _ => iprop((arg3.view.loc (c : Thread nD τ) ↦[arg3.view.set]{fullShare} X3) ∗ (∃ f, (arg13.view.loc (c : Thread nD τ) ↦[arg13.view.set]{fullShare} f) ∗ ⌜On2 arg13.view f (fun a _ => a < 8 * (k.val + 1)) (xnN NC NT)⌝))) := by
  have hk : k.val < 24 := k.isLt
  subst hv
  unfold k0_t4_body
  iintro ⟨H3, ⟨%f, H13, %h13⟩⟩
  have hl : arg3.view.readAt (Elt F) (Rect.unit (s := S192x128) (k0_off9 k) S8x128.size (k0_off9_inb i k k0_h1)).toLoadRect X3 = (blk2 NC (8 * k.val) 0 : S8x128.Idx → BitVec 32) := load2 hN (k0_off9_eq k) _
  sl_exec
  sl_step
  isplitl [H3]; · iexact H3
  iexists _; isplitl [H13]; · iexact H13
  ipureintro
  refine On2.write _ _ [] (k0_off9_eq k) (fun x => ?_) (D' := fun a _ => a < 8 * k.val) h13 ?_
  · have hx : (x 0).val < 8 := (x 0).isLt
    exact (xnN_at NC NT x (m := k.val) (by show 8 * k.val + 1 * (x 0).val = _; omega) (by show 0 + 1 * (x 1).val = _; omega)).symm
  · intro a b ha hb hd
    by_cases h : a < 8 * k.val
    · exact .inl h
    · exact .inr ⟨⟨a - 8 * k.val, show a - 8 * k.val < 8 by omega, show a = 8 * k.val + 1 * (a - 8 * k.val) by omega⟩, ⟨b, hb, show b = 0 + 1 * b by omega⟩⟩

set_option warn.classDefReducibility false in
/-- The loop by its invariant. -/
def linv4 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v56 : Vec F S1x256 .f32) (NC : ℕ → ℕ → BitVec 32) (NT : ℕ → ℕ → F .f32) (X3 : BufTy.Contents (Elt F) arg3.view.ty) (hN : Is2 (Val := Elt F) arg3.view X3 NC) (hv : v56 = blk2 NT 0 0) :
    LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 where
  inv k _ := iprop((arg3.view.loc (c : Thread nD τ) ↦[arg3.view.set]{fullShare} X3) ∗ (∃ f, (arg13.view.loc (c : Thread nD τ) ↦[arg13.view.set]{fullShare} f) ∗ ⌜On2 arg13.view f (fun a _ => a < 8 * k) (xnN NC NT)⌝))
  step k _ := trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 NC NT X3 hN hv k

set_option warn.classDefReducibility false in
/-- The loop by its invariant. -/
def linv5 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h2 : k0_cond2 i = 1#1) (T : ℕ → ℕ → F .f32) (W : ℕ → ℕ → BitVec 32) (X10 : BufTy.Contents (Elt F) arg10.view.ty) (XW : BufTy.Contents (Elt F) arg16.view.ty) (hT : Is2 arg10.view X10 T) (hX : Is2 arg16.view XW W) (hW : AllGood W) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 where
  inv k _ := iprop((arg10.view.loc (c : Thread nD τ) ↦[arg10.view.set]{fullShare} X10) ∗ (arg16.view.loc (c : Thread nD τ) ↦[arg16.view.set]{fullShare} XW) ∗ (∃ f, (arg14.view.loc (c : Thread nD τ) ↦[arg14.view.set]{fullShare} f) ∗ ⌜On3 arg14.view f (rowsDone 0 k) (stageN T W)⌝))
  step k _ := trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 T W X10 XW hT hX hW k

set_option warn.classDefReducibility false in
/-- The loop by its invariant. -/
def linv6 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h2 : k0_cond2 i = 1#1) (v73 : FVec F S128x128 .f32) (T : ℕ → ℕ → F .f32) (W : ℕ → ℕ → BitVec 32) (X10 : BufTy.Contents (Elt F) arg10.view.ty) (XW : BufTy.Contents (Elt F) arg16.view.ty) (hT : Is2 arg10.view X10 T) (hX : Is2 arg16.view XW W) (hW : AllGood W) :
    LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 where
  inv k _ := iprop((arg10.view.loc (c : Thread nD τ) ↦[arg10.view.set]{fullShare} X10) ∗ (arg16.view.loc (c : Thread nD τ) ↦[arg16.view.set]{fullShare} XW) ∗ (∃ f, (arg14.view.loc (c : Thread nD τ) ↦[arg14.view.set]{fullShare} f) ∗ ⌜On3 arg14.view f (rowsDone 1 k) (stageN T W)⌝))
  step k _ := trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 T W X10 XW hT hX hW k

set_option warn.classDefReducibility false in
/-- The loop by its invariant. -/
def linv7 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h4 : k0_cond4 i = 1#1) (T : ℕ → ℕ → F .f32) (W : ℕ → ℕ → BitVec 32) (X10 : BufTy.Contents (Elt F) arg10.view.ty) (XW : BufTy.Contents (Elt F) arg17.view.ty) (hT : Is2 arg10.view X10 T) (hX : Is2 arg17.view XW W) (hW : AllGood W) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 where
  inv k _ := iprop((arg10.view.loc (c : Thread nD τ) ↦[arg10.view.set]{fullShare} X10) ∗ (arg17.view.loc (c : Thread nD τ) ↦[arg17.view.set]{fullShare} XW) ∗ (∃ f, (arg14.view.loc (c : Thread nD τ) ↦[arg14.view.set]{fullShare} f) ∗ ⌜On3 arg14.view f (rowsDone 0 k) (stageN T W)⌝))
  step k _ := trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 T W X10 XW hT hX hW k

set_option warn.classDefReducibility false in
/-- The loop by its invariant. -/
def linv8 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h4 : k0_cond4 i = 1#1) (v73 : FVec F S128x128 .f32) (T : ℕ → ℕ → F .f32) (W : ℕ → ℕ → BitVec 32) (X10 : BufTy.Contents (Elt F) arg10.view.ty) (XW : BufTy.Contents (Elt F) arg17.view.ty) (hT : Is2 arg10.view X10 T) (hX : Is2 arg17.view XW W) (hW : AllGood W) :
    LoopInvTy_k0_t8 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 where
  inv k _ := iprop((arg10.view.loc (c : Thread nD τ) ↦[arg10.view.set]{fullShare} X10) ∗ (arg17.view.loc (c : Thread nD τ) ↦[arg17.view.set]{fullShare} XW) ∗ (∃ f, (arg14.view.loc (c : Thread nD τ) ↦[arg14.view.set]{fullShare} f) ∗ ⌜On3 arg14.view f (rowsDone 1 k) (stageN T W)⌝))
  step k _ := trip8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 T W X10 XW hT hX hW k
-- ==== Proof.Kc.BodyA.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Out
public import proofs.«01_k».proof.Proof.Kc.State
public import proofs.«01_k».proof.Proof.Kc.Trip
public import proofs.«01_k».proof.Proof.Kc.Trip1
public import proofs.«01_k».proof.Proof.Kc.Trip3
public import proofs.«01_k».proof.Proof.Kc.Loop

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyFirst (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (Q CB : ℕ → ℕ → F .bf16) (NC : ℕ → ℕ → BitVec 32) (NT : ℕ → ℕ → F .f32) (C C' : ℕ → ℕ → BitVec 32)
   {L T : ℕ → ℕ → F .f32} {B : ℕ → ℕ → ℕ → F .bf16} {N X : ℕ → ℕ → F .f32} (hL : lutN Q CB = L) (hT : tabN Q CB (qnN Q) = T) (hB : cbtN CB = B) (hNN : qnN Q = N) (hXX : xnN NC NT = X)
   (hQ : Is2 arg1.view X1 Q) (hCB : Is2 arg2.view X2 CB) (hNC : Is2 (Val := Elt F) arg3.view X3 NC) (hNT : Is2 arg4.view X4 NT)
   (h1 : k0_cond1 i = 1#1) (h2 : k0_cond2 i = 1#1) (h4 : ¬ k0_cond4 i = 1#1) (h3 : Scalar.cmpi .ne (Scalar.extui (Scalar.cmpi .slt (Scalar.addi (BitVec.ofNat 32 (i 0).val) 1#32) 48#32) : BitVec 32) 0#32 = 1#1) (h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ semVal ((c : Thread nD τ), SemLoc.dma arg18.sem) 0 ∗ semVal ((c : Thread nD τ), SemLoc.dma arg19.sem) 0 ∗ semVal ((c : Thread nD τ), SemLoc.dma arg20.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly1 c arg15 arg17 arg20 (wordN C') ∗ held c arg16 ∗ semVal ((c : Thread nD τ), SemLoc.dma arg19.sem) 0 ∗ ∃ W, owes (c : Thread nD τ) 0 W)) := by
  unfold cc0_adc_skel held2 held3 held lutFly offFly1
  iintro ⟨H1, H2, H3, H4, H5, H6, H7, H8, H9, H10, H11, H12, H13, H14, H15, H16, H17, S18, S19, S20, HO⟩
  have hcb0 : arg2.view.readAt (Elt F) (Rect.unit (s := S2304x512) ![0, 0] S256x512.size inb_S2304x512_S256x512_0_0).toLoadRect X2 = blk2 CB 0 0 := load2 hCB rfl _
  have hnt0 : arg4.view.readAt (Elt F) (Rect.unit (s := S1x256) ![0, 0] S1x256.size inb_S1x256_S1x256_0_0).toLoadRect X4 = blk2 NT 0 0 := load2 hNT rfl _
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  sl_exec
  have hN : Is2 arg12.view (arg12.view.writes (Elt F) arg12.view.junk (bodyFirst.sl.H12_1 Q)) (qnN Q) := by
    show On2 arg12.view (arg12.view.writes (Elt F) arg12.view.junk [⟨Rect.unit (s := S1024x128) ![0, 0] S1024x128.size inb_S1024x128_S1024x128_0_0, k0_pay88 (blk2 Q 0 0)⟩]) _ _
    refine On2.write _ _ [] rfl (fun x => ?_) (D' := fun _ _ => False) (fun _ h => h.elim) ?_
    · exact (at2_idx _ x (by show 0 + 1 * (x 0).val = _; omega) (by show 0 + 1 * (x 1).val = _; omega)).symm
    · intro a b ha hb hd
      exact .inr ⟨⟨a, ha, show a = 0 + 1 * a by omega⟩, ⟨b, hb, show b = 0 + 1 * b by omega⟩⟩
  have h10 : On2 arg10.view X10 (fun a _ => tabDone 0 0 0 a) (tabN Q CB (qnN Q)) := fun y h => absurd h (by unfold tabDone; omega)
  have h9 : On2 arg9.view (arg9.view.writes (Elt F) X9 [⟨Rect.unit (s := S1024x2304) ![0, 0] S1024x256.size inb_S1024x2304_S1024x256_0_0, k0_pay90 (blk2 Q 0 0) (blk2 CB 0 0)⟩]) (fun _ b => b < 256 * (0 + 1)) (lutN Q CB) := by
    refine On2.write _ _ [] rfl (fun x => ?_) (D' := fun _ _ => False) (fun _ h => h.elim) ?_
    · exact (lutN_at Q CB x (m := 0) (by show 0 + 1 * (x 0).val = _; omega) (by show 0 + 1 * (x 1).val = _; omega)).symm
    · intro a b ha hb hd
      exact .inr ⟨⟨a, ha, show a = 0 + 1 * a by omega⟩, ⟨b, show b < 256 by omega, show b = 0 + 1 * b by omega⟩⟩
  have h11 : On3 arg11.view (arg11.view.writes (Elt F) X11 [⟨Rect.unit (s := S9x512x256) ![0, 0, 0] S1x512x256.size inb_S9x512x256_S1x512x256_0_0_0, k0_pay2 (bodyFirst.sl.r_1 CB)⟩]) (fun m _ _ => m < 0 + 1) (cbtN CB) := by
    refine On3.write _ _ [] rfl (fun x => ?_) (D' := fun _ _ _ => False) (fun _ h => h.elim) ?_
    · have hx : (x 0).val < 1 := (x 0).isLt
      exact (cbtN_at CB x (m := 0) (by show 0 + 1 * (x 0).val = _; omega) (by show 0 + 1 * (x 1).val = _; omega) (by show 0 + 1 * (x 2).val = _; omega)).symm
    · intro a b c' ha hb hc hd
      exact .inr ⟨⟨0, Nat.one_pos, show a = 0 + 1 * 0 by omega⟩, ⟨b, hb, show b = 0 + 1 * b by omega⟩, ⟨c', hc, show c' = 0 + 1 * c' by omega⟩⟩
  have h13 : On2 arg13.view X13 (fun a _ => a < 8 * 0) (xnN NC NT) := fun y h => absurd h (by omega)
  let L1 := linv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 (bodyFirst.sl.r CB) Q CB (qnN Q) X1 _ hQ hN rfl
  sl_exec
  have h10b : On2 (Val := Elt F) arg10.view fL0 (fun a _ => tabDone (0 + 1) 0 0 a) (tabN Q CB (qnN Q)) := On2.mono hL3 fun a b _ _ h => (show Scf.trips k0_t1_loop.lb k0_t1_loop.ub k0_t1_loop.st = 8 from rfl) ▸ tabDone_book h
  let L2 := linv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 Q CB (qnN Q) X1 X2 hQ hCB
  let L4 := linv4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 (blk2 NT 0 0) NC NT X3 hNC rfl
  sl_exec
  have hx10 : Is2 (Val := Elt F) arg10.view fL2 T := hT ▸ On2.mono hL7 fun a b ha _ _ => (show Scf.trips k0_t2_loop.lb k0_t2_loop.ub k0_t2_loop.st + 1 = 9 from rfl) ▸ tabDone_all ha
  have hx9 : Is2 (Val := Elt F) arg9.view fL0 L := hL ▸ On2.mono hL3 fun a b _ hb _ => (show b < 256 * (Scf.trips k0_t2_loop.lb k0_t2_loop.ub k0_t2_loop.st + 1) from hb)
  have hx11 : Is3 (Val := Elt F) arg11.view fL1 B := hB ▸ On3.mono hL5 fun a b c ha _ _ _ => (show a < Scf.trips k0_t2_loop.lb k0_t2_loop.ub k0_t2_loop.st + 1 from ha)
  have hx13 : Is2 (Val := Elt F) arg13.view fL3 X := hXX ▸ On2.mono hL10 fun a b ha _ _ => (show a < 8 * Scf.trips k0_t4_loop.lb k0_t4_loop.ub k0_t4_loop.st from ha)
  have hx12 : Is2 (Val := Elt F) arg12.view (arg12.view.writes (Elt F) arg12.view.junk (bodyFirst.sl.H12_1 Q)) N := hNN ▸ hN
  have h11w0 : arg11.view.readAt (Elt F) (Rect.unit (s := S9x512x256) ![0, 0, 0] S1x512x256.size inb_S9x512x256_S1x512x256_0_0_0).toLoadRect fL1 = blk3 B 0 0 0 := load3 hx11 rfl _
  have h11w1 : arg11.view.readAt (Elt F) (Rect.unit (s := S9x512x256) ![1, 0, 0] S1x512x256.size inb_S9x512x256_S1x512x256_1_0_0).toLoadRect fL1 = blk3 B 1 0 0 := load3 hx11 rfl _
  have h11w2 : arg11.view.readAt (Elt F) (Rect.unit (s := S9x512x256) ![2, 0, 0] S1x512x256.size inb_S9x512x256_S1x512x256_2_0_0).toLoadRect fL1 = blk3 B 2 0 0 := load3 hx11 rfl _
  have h11w3 : arg11.view.readAt (Elt F) (Rect.unit (s := S9x512x256) ![3, 0, 0] S1x512x256.size inb_S9x512x256_S1x512x256_3_0_0).toLoadRect fL1 = blk3 B 3 0 0 := load3 hx11 rfl _
  have h11w4 : arg11.view.readAt (Elt F) (Rect.unit (s := S9x512x256) ![4, 0, 0] S1x512x256.size inb_S9x512x256_S1x512x256_4_0_0).toLoadRect fL1 = blk3 B 4 0 0 := load3 hx11 rfl _
  have h11w5 : arg11.view.readAt (Elt F) (Rect.unit (s := S9x512x256) ![5, 0, 0] S1x512x256.size inb_S9x512x256_S1x512x256_5_0_0).toLoadRect fL1 = blk3 B 5 0 0 := load3 hx11 rfl _
  have h11w6 : arg11.view.readAt (Elt F) (Rect.unit (s := S9x512x256) ![6, 0, 0] S1x512x256.size inb_S9x512x256_S1x512x256_6_0_0).toLoadRect fL1 = blk3 B 6 0 0 := load3 hx11 rfl _
  have h11w7 : arg11.view.readAt (Elt F) (Rect.unit (s := S9x512x256) ![7, 0, 0] S1x512x256.size inb_S9x512x256_S1x512x256_7_0_0).toLoadRect fL1 = blk3 B 7 0 0 := load3 hx11 rfl _
  have h11w8 : arg11.view.readAt (Elt F) (Rect.unit (s := S9x512x256) ![8, 0, 0] S1x512x256.size inb_S9x512x256_S1x512x256_8_0_0).toLoadRect fL1 = blk3 B 8 0 0 := load3 hx11 rfl _
  have hxw : Is2 (Val := Elt F) arg16.view (arg16.view.writes (Elt F) arg16.view.junk [⟨Rect.whole S16x256, bodyFirst.sl.dma3 arg15 X15 C⟩]) (wordN C) :=
    whole_words _ _ fun y => slot_words C _ _ _ _ _ (word_pay (F := F) C) [] y
  have h14 : On3 (Val := Elt F) arg14.view X14 (rowsDone 0 0) (stageN T (wordN C)) := fun y h => absurd h (by unfold rowsDone; omega)
  let L5 := linv5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyFirst.sl.v8 i) h2 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyFirst.sl.v8 i) h2 (bodyFirst.sl.r_4 c i arg13 arg14 h2 fL3 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off49_eq i ⟨1, by decide⟩) _ _ _ rfl x)
        (fun x => mxu_pay11 hx13 hx12 (k0_off49_eq i ⟨0, by decide⟩) _ _ _ rfl x)
        (fun x => row_pay (r := (i 0).val) (g := 1) (j := 7) (by decide) hx13 h14c (k0_off29_eq i ⟨1, by decide⟩) _ rfl _ x)
        (fun x => row_pay (r := (i 0).val) (g := 1) (j := 6) (by decide) hx13 h14c (k0_off29_eq i ⟨1, by decide⟩) _ rfl _ x)
        (fun x => row_pay (r := (i 0).val) (g := 1) (j := 5) (by decide) hx13 h14c (k0_off29_eq i ⟨1, by decide⟩) _ rfl _ x)
        (fun x => row_pay (r := (i 0).val) (g := 1) (j := 4) (by decide) hx13 h14c (k0_off29_eq i ⟨1, by decide⟩) _ rfl _ x)
        (fun x => row_pay (r := (i 0).val) (g := 1) (j := 3) (by decide) hx13 h14c (k0_off29_eq i ⟨1, by decide⟩) _ rfl _ x)
        (fun x => row_pay (r := (i 0).val) (g := 1) (j := 2) (by decide) hx13 h14c (k0_off29_eq i ⟨1, by decide⟩) _ rfl _ x)
        (fun x => row_pay (r := (i 0).val) (g := 1) (j := 1) (by decide) hx13 h14c (k0_off29_eq i ⟨1, by decide⟩) _ rfl _ x)
        (fun x => row_pay (r := (i 0).val) (g := 1) (j := 0) (by decide) hx13 h14c (k0_off29_eq i ⟨1, by decide⟩) _ rfl _ x)
        (fun x => row_pay (r := (i 0).val) (g := 0) (j := 7) (by decide) hx13 h14a (k0_off29_eq i ⟨0, by decide⟩) _ rfl _ x)
        (fun x => row_pay (r := (i 0).val) (g := 0) (j := 6) (by decide) hx13 h14a (k0_off29_eq i ⟨0, by decide⟩) _ rfl _ x)
        (fun x => row_pay (r := (i 0).val) (g := 0) (j := 5) (by decide) hx13 h14a (k0_off29_eq i ⟨0, by decide⟩) _ rfl _ x)
        (fun x => row_pay (r := (i 0).val) (g := 0) (j := 4) (by decide) hx13 h14a (k0_off29_eq i ⟨0, by decide⟩) _ rfl _ x)
        (fun x => row_pay (r := (i 0).val) (g := 0) (j := 3) (by decide) hx13 h14a (k0_off29_eq i ⟨0, by decide⟩) _ rfl _ x)
        (fun x => row_pay (r := (i 0).val) (g := 0) (j := 2) (by decide) hx13 h14a (k0_off29_eq i ⟨0, by decide⟩) _ rfl _ x)
        (fun x => row_pay (r := (i 0).val) (g := 0) (j := 1) (by decide) hx13 h14a (k0_off29_eq i ⟨0, by decide⟩) _ rfl _ x)
        (fun x => row_pay (r := (i 0).val) (g := 0) (j := 0) (by decide) hx13 h14a (k0_off29_eq i ⟨0, by decide⟩) _ rfl _ x)

  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact whole_words _ _ fun y => hx9 y trivial
  isplitl [H14]; · iexists _; iexact H14
  isplitl [S20 H15]
  · iexists _, _; isplitl [S20]; · iexact S20
    isplitl [H15]; · iexact H15
    ipureintro; exact whole_words _ _ fun y => slot_words C' _ _ _ _ _ (word_pay (F := F) C') _ y
  isplitl [H16]; · iexists _; iexact H16
  isplitl [S19]; · iexact S19
  iexists _; iexact HO
-- ==== Proof.Kc.BodyB.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Out
public import proofs.«01_k».proof.Proof.Kc.State
public import proofs.«01_k».proof.Proof.Kc.Trip
public import proofs.«01_k».proof.Proof.Kc.Trip1
public import proofs.«01_k».proof.Proof.Kc.Trip3
public import proofs.«01_k».proof.Proof.Kc.Loop

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyEven (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : k0_cond2 i = 1#1) (h4 : ¬ k0_cond4 i = 1#1) (h3 : Scalar.cmpi .ne (Scalar.extui (Scalar.cmpi .slt (Scalar.addi (BitVec.ofNat 32 (i 0).val) 1#32) 48#32) : BitVec 32) 0#32 = 1#1)(h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly0 c arg15 arg16 arg19 (wordN C) ∗ held c arg17 ∗ semVal ((c : Thread nD τ), SemLoc.dma arg20.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly1 c arg15 arg17 arg20 (wordN C') ∗ held c arg16 ∗ semVal ((c : Thread nD τ), SemLoc.dma arg19.sem) 0 ∗ ∃ W, owes (c : Thread nD τ) 0 W)) := by
  unfold cc0_adc_skel held2 held3 held lutFly offFly0 offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S19, H15, %hxw⟩, ⟨%fh, H17⟩, S20, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyEven.sl.v8 i) h2 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyEven.sl.v8 i) h2 (bodyEven.sl.r_2 c i arg13 arg14 h2 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off49_eq i ⟨1, by decide⟩) _ _ _ rfl x)
        (fun x => mxu_pay11 hx13 hx12 (k0_off49_eq i ⟨0, by decide⟩) _ _ _ rfl x)
        (fun x => row_pay (r := (i 0).val) (g := 1) (j := 7) (by decide) hx13 h14c (k0_off29_eq i ⟨1, by decide⟩) _ rfl _ x)
        (fun x => row_pay (r := (i 0).val) (g := 1) (j := 6) (by decide) hx13 h14c (k0_off29_eq i ⟨1, by decide⟩) _ rfl _ x)
        (fun x => row_pay (r := (i 0).val) (g := 1) (j := 5) (by decide) hx13 h14c (k0_off29_eq i ⟨1, by decide⟩) _ rfl _ x)
        (fun x => row_pay (r := (i 0).val) (g := 1) (j := 4) (by decide) hx13 h14c (k0_off29_eq i ⟨1, by decide⟩) _ rfl _ x)
        (fun x => row_pay (r := (i 0).val) (g := 1) (j := 3) (by decide) hx13 h14c (k0_off29_eq i ⟨1, by decide⟩) _ rfl _ x)
        (fun x => row_pay (r := (i 0).val) (g := 1) (j := 2) (by decide) hx13 h14c (k0_off29_eq i ⟨1, by decide⟩) _ rfl _ x)
        (fun x => row_pay (r := (i 0).val) (g := 1) (j := 1) (by decide) hx13 h14c (k0_off29_eq i ⟨1, by decide⟩) _ rfl _ x)
        (fun x => row_pay (r := (i 0).val) (g := 1) (j := 0) (by decide) hx13 h14c (k0_off29_eq i ⟨1, by decide⟩) _ rfl _ x)
        (fun x => row_pay (r := (i 0).val) (g := 0) (j := 7) (by decide) hx13 h14a (k0_off29_eq i ⟨0, by decide⟩) _ rfl _ x)
        (fun x => row_pay (r := (i 0).val) (g := 0) (j := 6) (by decide) hx13 h14a (k0_off29_eq i ⟨0, by decide⟩) _ rfl _ x)
        (fun x => row_pay (r := (i 0).val) (g := 0) (j := 5) (by decide) hx13 h14a (k0_off29_eq i ⟨0, by decide⟩) _ rfl _ x)
        (fun x => row_pay (r := (i 0).val) (g := 0) (j := 4) (by decide) hx13 h14a (k0_off29_eq i ⟨0, by decide⟩) _ rfl _ x)
        (fun x => row_pay (r := (i 0).val) (g := 0) (j := 3) (by decide) hx13 h14a (k0_off29_eq i ⟨0, by decide⟩) _ rfl _ x)
        (fun x => row_pay (r := (i 0).val) (g := 0) (j := 2) (by decide) hx13 h14a (k0_off29_eq i ⟨0, by decide⟩) _ rfl _ x)
        (fun x => row_pay (r := (i 0).val) (g := 0) (j := 1) (by decide) hx13 h14a (k0_off29_eq i ⟨0, by decide⟩) _ rfl _ x)
        (fun x => row_pay (r := (i 0).val) (g := 0) (j := 0) (by decide) hx13 h14a (k0_off29_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact hx8
  isplitl [H14]; · iexists _; iexact H14
  isplitl [S20 H15]
  · iexists _, _; isplitl [S20]; · iexact S20
    isplitl [H15]; · iexact H15
    ipureintro; exact whole_words _ _ fun y => slot_words C' _ _ _ _ _ (word_pay (F := F) C') _ y
  isplitl [S19_dst]; · iexists _; iexact S19_dst
  isplitl [S19]; · iexact S19
  iexists _; iexact HO
-- ==== Proof.Kc.BodyC.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Out
public import proofs.«01_k».proof.Proof.Kc.State
public import proofs.«01_k».proof.Proof.Kc.Trip
public import proofs.«01_k».proof.Proof.Kc.Trip1
public import proofs.«01_k».proof.Proof.Kc.Trip3
public import proofs.«01_k».proof.Proof.Kc.Loop

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyOdd (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : ¬ k0_cond2 i = 1#1) (h4 : k0_cond4 i = 1#1) (h5 : Scalar.cmpi .ne (Scalar.extui (Scalar.cmpi .slt (Scalar.addi (BitVec.ofNat 32 (i 0).val) 1#32) 48#32) : BitVec 32) 0#32 = 1#1)(h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly1 c arg15 arg17 arg20 (wordN C) ∗ held c arg16 ∗ semVal ((c : Thread nD τ), SemLoc.dma arg19.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly0 c arg15 arg16 arg19 (wordN C') ∗ held c arg17 ∗ semVal ((c : Thread nD τ), SemLoc.dma arg20.sem) 0 ∗ ∃ W, owes (c : Thread nD τ) 0 W)) := by
  unfold cc0_adc_skel held2 held3 held lutFly offFly0 offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S20, H15, %hxw⟩, ⟨%fh, H16⟩, S19, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyOdd.sl.v8 i) h4 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyOdd.sl.v8 i) h4 (bodyOdd.sl.r_2 c i arg13 arg14 h4 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off89_eq i ⟨1, by decide⟩) _ _ _ rfl x)
        (fun x => mxu_pay11 hx13 hx12 (k0_off89_eq i ⟨0, by decide⟩) _ _ _ rfl x)
        (fun x => row_pay (r := (i 0).val) (g := 1) (j := 7) (by decide) hx13 h14c (k0_off69_eq i ⟨1, by decide⟩) _ rfl _ x)
        (fun x => row_pay (r := (i 0).val) (g := 1) (j := 6) (by decide) hx13 h14c (k0_off69_eq i ⟨1, by decide⟩) _ rfl _ x)
        (fun x => row_pay (r := (i 0).val) (g := 1) (j := 5) (by decide) hx13 h14c (k0_off69_eq i ⟨1, by decide⟩) _ rfl _ x)
        (fun x => row_pay (r := (i 0).val) (g := 1) (j := 4) (by decide) hx13 h14c (k0_off69_eq i ⟨1, by decide⟩) _ rfl _ x)
        (fun x => row_pay (r := (i 0).val) (g := 1) (j := 3) (by decide) hx13 h14c (k0_off69_eq i ⟨1, by decide⟩) _ rfl _ x)
        (fun x => row_pay (r := (i 0).val) (g := 1) (j := 2) (by decide) hx13 h14c (k0_off69_eq i ⟨1, by decide⟩) _ rfl _ x)
        (fun x => row_pay (r := (i 0).val) (g := 1) (j := 1) (by decide) hx13 h14c (k0_off69_eq i ⟨1, by decide⟩) _ rfl _ x)
        (fun x => row_pay (r := (i 0).val) (g := 1) (j := 0) (by decide) hx13 h14c (k0_off69_eq i ⟨1, by decide⟩) _ rfl _ x)
        (fun x => row_pay (r := (i 0).val) (g := 0) (j := 7) (by decide) hx13 h14a (k0_off69_eq i ⟨0, by decide⟩) _ rfl _ x)
        (fun x => row_pay (r := (i 0).val) (g := 0) (j := 6) (by decide) hx13 h14a (k0_off69_eq i ⟨0, by decide⟩) _ rfl _ x)
        (fun x => row_pay (r := (i 0).val) (g := 0) (j := 5) (by decide) hx13 h14a (k0_off69_eq i ⟨0, by decide⟩) _ rfl _ x)
        (fun x => row_pay (r := (i 0).val) (g := 0) (j := 4) (by decide) hx13 h14a (k0_off69_eq i ⟨0, by decide⟩) _ rfl _ x)
        (fun x => row_pay (r := (i 0).val) (g := 0) (j := 3) (by decide) hx13 h14a (k0_off69_eq i ⟨0, by decide⟩) _ rfl _ x)
        (fun x => row_pay (r := (i 0).val) (g := 0) (j := 2) (by decide) hx13 h14a (k0_off69_eq i ⟨0, by decide⟩) _ rfl _ x)
        (fun x => row_pay (r := (i 0).val) (g := 0) (j := 1) (by decide) hx13 h14a (k0_off69_eq i ⟨0, by decide⟩) _ rfl _ x)
        (fun x => row_pay (r := (i 0).val) (g := 0) (j := 0) (by decide) hx13 h14a (k0_off69_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact hx8
  isplitl [H14]; · iexists _; iexact H14
  isplitl [S19 H15]
  · iexists _, _; isplitl [S19]; · iexact S19
    isplitl [H15]; · iexact H15
    ipureintro; exact whole_words _ _ fun y => slot_words C' _ _ _ _ _ (word_pay (F := F) C') _ y
  isplitl [S20_dst]; · iexists _; iexact S20_dst
  isplitl [S20]; · iexact S20
  iexists _; iexact HO
-- ==== Proof.Kc.BodyD.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Ki.Base
public import proofs.«01_k».proof.Proof.Kc.Model
public import proofs.«01_k».proof.Proof.Kc.Tab
public import proofs.«01_k».proof.Proof.Kc.Out
public import proofs.«01_k».proof.Proof.Kc.State
public import proofs.«01_k».proof.Proof.Kc.Trip
public import proofs.«01_k».proof.Proof.Kc.Trip1
public import proofs.«01_k».proof.Proof.Kc.Trip3
public import proofs.«01_k».proof.Proof.Kc.Loop

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyLast (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : ¬ k0_cond2 i = 1#1) (h4 : k0_cond4 i = 1#1) (h5 : ¬ Scalar.cmpi .ne (Scalar.extui (Scalar.cmpi .slt (Scalar.addi (BitVec.ofNat 32 (i 0).val) 1#32) 48#32) : BitVec 32) 0#32 = 1#1)(h6 : Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly1 c arg15 arg17 arg20 (wordN C) ∗ held c arg16 ∗ semVal ((c : Thread nD τ), SemLoc.dma arg19.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ held2 c arg8 L ∗ held c arg9 ∗ held c arg14 ∗ held c arg15 ∗ held c arg16 ∗ held c arg17 ∗ semVal ((c : Thread nD τ), SemLoc.dma arg18.sem) 0 ∗ semVal ((c : Thread nD τ), SemLoc.dma arg19.sem) 0 ∗ semVal ((c : Thread nD τ), SemLoc.dma arg20.sem) 0 ∗ ∃ W, owes (c : Thread nD τ) 0 W)) := by
  unfold cc0_adc_skel held2 held3 held lutFly offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S20, H15, %hxw⟩, ⟨%fh, H16⟩, S19, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyLast.sl.v8 i) h4 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyLast.sl.v8 i) h4 (bodyLast.sl.r_2 c i arg13 arg14 h4 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off89_eq i ⟨1, by decide⟩) _ _ _ rfl x)
        (fun x => mxu_pay11 hx13 hx12 (k0_off89_eq i ⟨0, by decide⟩) _ _ _ rfl x)
        (fun x => row_pay (r := (i 0).val) (g := 1) (j := 7) (by decide) hx13 h14c (k0_off69_eq i ⟨1, by decide⟩) _ rfl _ x)
        (fun x => row_pay (r := (i 0).val) (g := 1) (j := 6) (by decide) hx13 h14c (k0_off69_eq i ⟨1, by decide⟩) _ rfl _ x)
        (fun x => row_pay (r := (i 0).val) (g := 1) (j := 5) (by decide) hx13 h14c (k0_off69_eq i ⟨1, by decide⟩) _ rfl _ x)
        (fun x => row_pay (r := (i 0).val) (g := 1) (j := 4) (by decide) hx13 h14c (k0_off69_eq i ⟨1, by decide⟩) _ rfl _ x)
        (fun x => row_pay (r := (i 0).val) (g := 1) (j := 3) (by decide) hx13 h14c (k0_off69_eq i ⟨1, by decide⟩) _ rfl _ x)
        (fun x => row_pay (r := (i 0).val) (g := 1) (j := 2) (by decide) hx13 h14c (k0_off69_eq i ⟨1, by decide⟩) _ rfl _ x)
        (fun x => row_pay (r := (i 0).val) (g := 1) (j := 1) (by decide) hx13 h14c (k0_off69_eq i ⟨1, by decide⟩) _ rfl _ x)
        (fun x => row_pay (r := (i 0).val) (g := 1) (j := 0) (by decide) hx13 h14c (k0_off69_eq i ⟨1, by decide⟩) _ rfl _ x)
        (fun x => row_pay (r := (i 0).val) (g := 0) (j := 7) (by decide) hx13 h14a (k0_off69_eq i ⟨0, by decide⟩) _ rfl _ x)
        (fun x => row_pay (r := (i 0).val) (g := 0) (j := 6) (by decide) hx13 h14a (k0_off69_eq i ⟨0, by decide⟩) _ rfl _ x)
        (fun x => row_pay (r := (i 0).val) (g := 0) (j := 5) (by decide) hx13 h14a (k0_off69_eq i ⟨0, by decide⟩) _ rfl _ x)
        (fun x => row_pay (r := (i 0).val) (g := 0) (j := 4) (by decide) hx13 h14a (k0_off69_eq i ⟨0, by decide⟩) _ rfl _ x)
        (fun x => row_pay (r := (i 0).val) (g := 0) (j := 3) (by decide) hx13 h14a (k0_off69_eq i ⟨0, by decide⟩) _ rfl _ x)
        (fun x => row_pay (r := (i 0).val) (g := 0) (j := 2) (by decide) hx13 h14a (k0_off69_eq i ⟨0, by decide⟩) _ rfl _ x)
        (fun x => row_pay (r := (i 0).val) (g := 0) (j := 1) (by decide) hx13 h14a (k0_off69_eq i ⟨0, by decide⟩) _ rfl _ x)
        (fun x => row_pay (r := (i 0).val) (g := 0) (j := 0) (by decide) hx13 h14a (k0_off69_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18_dst]; · iexists _; isplitl [S18_dst]; (· iexact S18_dst); ipureintro; exact hx8
  isplitl [S18_src]; · iexists _; iexact S18_src
  isplitl [H14]; · iexists _; iexact H14
  isplitl [H15]; · iexists _; iexact H15
  isplitl [H16]; · iexists _; iexact H16
  isplitl [S20_dst]; · iexists _; iexact S20_dst
  isplitl [S18]; · iexact S18
  isplitl [S19]; · iexact S19
  isplitl [S20]; · iexact S20
  iexists _; iexact HO
-- ==== Proof.Kc.Run.lean ====
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Pipeline.ValueKit
public import proofs.«01_k».proof.Proof.Ki.Base
public import proofs.«01_k».proof.Proof.Kc.Model
public import proofs.«01_k».proof.Proof.Kc.Tab
public import proofs.«01_k».proof.Proof.Kc.Out
public import proofs.«01_k».proof.Proof.Kc.State
public import proofs.«01_k».proof.Proof.Kc.Host
public import proofs.«01_k».proof.Proof.Kc.BodyA
public import proofs.«01_k».proof.Proof.Kc.BodyB
public import proofs.«01_k».proof.Proof.Kc.BodyC
public import proofs.«01_k».proof.Proof.Kc.BodyD
public import Idealize.ShloMosaic.Lib.Pipeline.FrameValue

@[expose] public section

noncomputable section

namespace Cert.Proof.Kernel

open Cert.Kernel Cert.Kernel.Gen Cert.Proof.Hold
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose)
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxRecDepth 16384
variable (m : (ℓ : Loc nD τ sig) → Buf (Elt F) ℓ) (ρ : Dev nD → PrngReg)

/-! ## What the launch holds, by name -/

def Qm (c : Dev nD) : ℕ → ℕ → F .bf16 := qA (m ((c : Thread nD τ).loc main_arg0))
def CBm (c : Dev nD) : ℕ → ℕ → F .bf16 := cbA (m ((c : Thread nD τ).loc main_arg1))
def NCm (c : Dev nD) : ℕ → ℕ → BitVec 32 := ncA (m ((c : Thread nD τ).loc main_arg3))
def NTm (c : Dev nD) : ℕ → ℕ → F .f32 := ntA (m ((c : Thread nD τ).loc main_arg4))
def Cm (c : Dev nD) (t : ℕ) : ℕ → ℕ → BitVec 32 := coA (m ((c : Thread nD τ).loc main_arg2)) t
def Lm (c : Dev nD) : ℕ → ℕ → F .f32 := lutN (Qm m c) (CBm m c)
def Nm (c : Dev nD) : ℕ → ℕ → F .f32 := qnN (Qm m c)
def Tm (c : Dev nD) : ℕ → ℕ → F .f32 := tabN (Qm m c) (CBm m c) (qnN (Qm m c))
def Bm (c : Dev nD) : ℕ → ℕ → ℕ → F .bf16 := cbtN (CBm m c)
def Xm (c : Dev nD) : ℕ → ℕ → F .f32 := xnN (NCm m c) (NTm m c)

/-! ## The state between two grid points -/

/-- What stays from the first point on: the table, the transposed books and the two kinds of norms. -/
def kept (c : Dev nD) : sProp 𝕄U :=
  iprop(held2 c (Memref.whole cc0_scratch1) (Tm m c) ∗ held3 c (Memref.whole cc0_scratch2) (Bm m c) ∗ held2 c (Memref.whole cc0_scratch3) (Nm m c) ∗ held2 c (Memref.whole cc0_scratch4) (Xm m c))
/-- Before the first point nothing is known. -/
def stStart (c : Dev nD) : sProp 𝕄U :=
  iprop(held c (Memref.whole main_v9_1) ∗ held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ semVal ((c : Thread nD τ), SemLoc.dma cc0_scratch9.sem) 0 ∗ semVal ((c : Thread nD τ), SemLoc.dma cc0_scratch10.sem) 0 ∗ semVal ((c : Thread nD τ), SemLoc.dma cc0_scratch11.sem) 0)
/-- Before an odd point the offsets of its block are on their way to the second scalar memory. -/
def stOdd (c : Dev nD) (n : ℕ) : sProp 𝕄U :=
  iprop(kept m c ∗ lutFly c (Memref.whole main_v9_1) (Memref.whole cc0_scratch0) cc0_scratch9 (Lm m c) ∗ held c (Memref.whole cc0_scratch5)
    ∗ offFly1 c (Memref.whole cc0_scratch6) (Memref.whole cc0_scratch8) cc0_scratch11 (wordN (Cm m c n)) ∗ held c (Memref.whole cc0_scratch7) ∗ semVal ((c : Thread nD τ), SemLoc.dma cc0_scratch10.sem) 0)
/-- Before an even point they are on their way to the first. -/
def stEven (c : Dev nD) (n : ℕ) : sProp 𝕄U :=
  iprop(kept m c ∗ lutFly c (Memref.whole main_v9_1) (Memref.whole cc0_scratch0) cc0_scratch9 (Lm m c) ∗ held c (Memref.whole cc0_scratch5)
    ∗ offFly0 c (Memref.whole cc0_scratch6) (Memref.whole cc0_scratch7) cc0_scratch10 (wordN (Cm m c n)) ∗ held c (Memref.whole cc0_scratch8) ∗ semVal ((c : Thread nD τ), SemLoc.dma cc0_scratch11.sem) 0)
/-- After the last point the second result holds the products and nothing is on its way. -/
def stStop (c : Dev nD) : sProp 𝕄U :=
  iprop(kept m c ∗ held2 c (Memref.whole main_v9_1) (Lm m c) ∗ held c (Memref.whole cc0_scratch0) ∗ held c (Memref.whole cc0_scratch5) ∗ held c (Memref.whole cc0_scratch6) ∗ held c (Memref.whole cc0_scratch7) ∗ held c (Memref.whole cc0_scratch8) ∗ semVal ((c : Thread nD τ), SemLoc.dma cc0_scratch9.sem) 0 ∗ semVal ((c : Thread nD τ), SemLoc.dma cc0_scratch10.sem) 0 ∗ semVal ((c : Thread nD τ), SemLoc.dma cc0_scratch11.sem) 0)
/-- The state before point `n`. -/
def stAt (c : Dev nD) (n : ℕ) : sProp 𝕄U :=
  if n = 0 then stStart c else if n = 48 then stStop m c else if n % 2 = 1 then stOdd m c n else stEven m c n
/-- The state before point `n`, with the core's generator register. -/
def PhiS (c : Dev nD) (n : ℕ) (_h : n ≤ cfg0.N) : sProp 𝕄U := iprop(stAt m c n ∗ ∃ r, prngReg c r)

theorem stAt_zero (c : Dev nD) : stAt m c 0 = stStart c := rfl
theorem stAt_last (c : Dev nD) : stAt m c 48 = stStop m c := rfl
theorem stAt_odd (c : Dev nD) {n : ℕ} (h : n % 2 = 1) : stAt m c n = stOdd m c n := by
  unfold stAt; rw [if_neg (by omega), if_neg (by omega), if_pos h]
theorem stAt_even (c : Dev nD) {n : ℕ} (h0 : n ≠ 0) (h : n % 2 = 0) (hl : n ≠ 48) : stAt m c n = stEven m c n := by
  unfold stAt; rw [if_neg h0, if_neg hl, if_neg (by omega)]

/-- What point `t` leaves in the result's block. -/
def outA (c : Dev nD) (t : ℕ) : Vec F S1024x512 .f32 := fun y =>
  outN (Qm m c) (Tm m c) (Bm m c) (Nm m c) (Xm m c) (Cm m c t) t (y 0).val (y 1).val

/-! ## The proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outA m c t.val
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outA m c t.val := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem phi_cast (c : Dev nD) (t : Fin cfg0.N) : (dats m 0 c).Φ t.castSucc = PhiS m c t.val (Nat.le_of_lt t.isLt) := by
  dsimp only [dats]; exact Pipeline.Dat.Φ_castSucc (PhiS m c) t
theorem phi_succ (c : Dev nD) (t : Fin cfg0.N) : (dats m 0 c).Φ t.succ = PhiS m c (t.val + 1) t.isLt := rfl

abbrev ms0_0 (t : Fin cfg0.N) : Memref sig .tc .vmem S1024x512 .bf16 := win0_0.stage (cfg0.slots t 0)
abbrev ms0_1 (t : Fin cfg0.N) : Memref sig .tc .vmem S2304x512 .bf16 := win0_1.stage (cfg0.slots t 1)
abbrev ms0_2 (t : Fin cfg0.N) : Memref sig .tc .vmem S192x128 .i32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1x16x512 .i32 := win0_4.stage (cfg0.slots t 4)
abbrev ms0_5 (t : Fin cfg0.N) : Memref sig .tc .vmem S1x16x512 .i32 := win0_5.stage (cfg0.slots t 5)
abbrev ms0_6 (t : Fin cfg0.N) : Memref sig .tc .vmem S1024x512 .f32 := win0_6.stage (cfg0.slots t 6)

def bodyPre (c : Dev nD) (t : Fin cfg0.N) : sProp 𝕄U :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))
def bodyPost (c : Dev nD) (t : Fin cfg0.N) : sProp 𝕄U :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

/-! ## The conditions, by point -/

theorem cond_first : ∀ t : Fin cfg0.N, k0_cond1 (grid0.coords t) = 1#1 ↔ t.val = 0 := (by decide +kernel : ∀ t : Fin grid0.N, _)
theorem cond_even : ∀ t : Fin cfg0.N, k0_cond2 (grid0.coords t) = 1#1 ↔ t.val % 2 = 0 := (by decide +kernel : ∀ t : Fin grid0.N, _)
theorem cond_odd : ∀ t : Fin cfg0.N, k0_cond4 (grid0.coords t) = 1#1 ↔ t.val % 2 = 1 := (by decide +kernel : ∀ t : Fin grid0.N, _)
theorem cond_next : ∀ t : Fin cfg0.N, (Scalar.cmpi .ne (Scalar.extui (Scalar.cmpi .slt (Scalar.addi (BitVec.ofNat 32 ((grid0.coords t) 0).val) 1#32) 48#32) : BitVec 32) 0#32 = 1#1) ↔ t.val < 47 := (by decide +kernel : ∀ t : Fin grid0.N, _)
theorem cond_last : ∀ t : Fin cfg0.N, (Scalar.cmpi .ne (Scalar.extui (Scalar.cmpi .eq (BitVec.ofNat 32 ((grid0.coords t) 0).val) 47#32) : BitVec 32) 0#32 = 1#1) ↔ t.val = 47 := (by decide +kernel : ∀ t : Fin grid0.N, _)

/-! ## One point -/

set_option maxHeartbeats 1600000 in
theorem sound_first (c : Dev nD) (t : Fin cfg0.N) (h : t.val = 0) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  have ht : t.val = 0 := h
  rw [ht, stAt_zero, show (0 + 1 : ℕ) = 1 from rfl, stAt_odd m c (n := 1) rfl]
  unfold stStart stOdd
  unfold Dat.owesAt Pipeline.owesWithin
  rw [show (dats m 0 c).owed t.castSucc = 0 from rfl, show (dats m 0 c).owed t.succ = 0 from rfl]
  unfold owns held kept
  iintro ⟨⟨⟨⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, S18, S19, S20⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c 1 := by rw [show min (t.val + 1) 47 = 1 by have := t.isLt; have : cfg0.N = 48 := rfl; omega]
  have hb := bodyFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W X8 X9 X10 X11 X12 X13 X14 X15 X16 X17 (Qm m c) (CBm m c) (NCm m c) (NTm m c) (Cm m c t.val) (Cm m c (min (t.val + 1) 47)) (L := Lm m c) (T := Tm m c) (B := Bm m c) (N := Nm m c) (X := Xm m c) rfl rfl rfl rfl rfl hQ hCB hNC hNT ((cond_first t).mpr ht) ((cond_even t).mpr (by omega)) (mt (cond_odd t).mp (by omega)) ((cond_next t).mpr (by omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [S18]; · iexact S18
      isplitl [S19]; · iexact S19
      isplitl [S20]; · iexact S20
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t, ht]; rfl)

set_option maxHeartbeats 1600000 in
theorem sound_even (c : Dev nD) (t : Fin cfg0.N) (h0 : t.val ≠ 0) (he : t.val % 2 = 0) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_even m c (n := t.val) h0 he (by have := t.isLt; have : cfg0.N = 48 := rfl; omega), stAt_odd m c (n := t.val + 1) (by omega)]
  unfold stEven stOdd
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c (t.val + 1) := by rw [show min (t.val + 1) 47 = (t.val + 1) by have := t.isLt; have : cfg0.N = 48 := rfl; omega]
  have hb := bodyEven c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) ((cond_even t).mpr (by omega)) (mt (cond_odd t).mp (by omega)) ((cond_next t).mpr (by have := t.isLt; have : cfg0.N = 48 := rfl; omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

set_option maxHeartbeats 1600000 in
theorem sound_odd (c : Dev nD) (t : Fin cfg0.N) (hl : t.val ≠ 47) (he : t.val % 2 = 1) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_odd m c (n := t.val) he, stAt_even m c (n := t.val + 1) (by omega) (by omega) (by omega)]
  unfold stOdd stEven
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c (t.val + 1) := by rw [show min (t.val + 1) 47 = (t.val + 1) by have := t.isLt; have : cfg0.N = 48 := rfl; omega]
  have hb := bodyOdd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) (mt (cond_even t).mp (by omega)) ((cond_odd t).mpr (by omega)) ((cond_next t).mpr (by have := t.isLt; have : cfg0.N = 48 := rfl; omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

set_option maxHeartbeats 1600000 in
theorem sound_last (c : Dev nD) (t : Fin cfg0.N) (hl : t.val = 47) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_odd m c (n := t.val) (by omega), show t.val + 1 = 48 by omega, stAt_last]
  unfold stOdd stStop
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hb := bodyLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) (mt (cond_even t).mp (by omega)) ((cond_odd t).mpr (by omega)) (mt (cond_next t).mp (by omega)) ((cond_last t).mpr (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, H8, H9, H14, H15, H16, H17, S18, S19, S20, HW⟩, Hg⟩
  isplitl [K H8 H9 H14 H15 H16 H17 S18 S19 S20 Hg]
  · isplitr [Hg]
    · isplitl [K]; · iexact K
      isplitl [H8]; · iexact H8
      isplitl [H9]; · iexact H9
      isplitl [H14]; · iexact H14
      isplitl [H15]; · iexact H15
      isplitl [H16]; · iexact H16
      isplitl [H17]; · iexact H17
      isplitl [S18]; · iexact S18
      isplitl [S19]; · iexact S19
      iexact S20
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

theorem sound_body (c : Dev nD) (t : Fin cfg0.N) :
    bodyPre m c t ⊢ wp frame (wpE (defs₀ (F := F)) 𝒱₀ (c : Thread nD τ) none) Set.univ (bodyAt0 t) (fun _ => bodyPost m c t) := by
  by_cases h0 : t.val = 0
  · exact sound_first m c t h0
  by_cases hl : t.val = 47
  · exact sound_last m c t hl
  by_cases he : t.val % 2 = 0
  · exact sound_even m c t h0 he
  exact sound_odd m c t hl (by omega)

theorem defs₀_row (t : Fin cfg0.N) :
    defs₀ (F := F) .tc cfg0.body (cfg0.bodyArgs t (cfg0.slots t)) = bodyAt0 t := by
  unfold defs₀; rw [Defs.onTc_tc]

/-- Every point writes the result's block. -/
theorem idle_6 : ∀ t : Fin cfg0.N, cfg0.idle 6 (cfg0.grid.coords t) = false := (by decide +kernel : ∀ t : Fin grid0.N, idle0 6 (grid0.coords t) = false)

set_option maxHeartbeats 1600000 in
theorem body_obligation (c : Dev nD) : BodyObligation (dats (F := F) m 0 c) (defs₀ (F := F)) 𝒱₀ () Set.univ := fun t => by
  rw [bigSep_W0, bigSep_W0, defs₀_row]
  rw [idle_6 t]
  exact triple_restated (sound_body m c t) rfl .rfl fun _ => .rfl

/-! ## The launch -/

set_option maxHeartbeats 800000 in
theorem hmainU : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The body's own three semaphores: the product table's, and one for each scalar memory. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := UU nD τ) (Lvl := ℕ) (Val := Elt F) (τ := τ) osem0 c : sProp 𝕄U)
      = iprop(semVal ((c : Thread nD τ), SemLoc.dma cc0_scratch9.sem) 0 ∗ semVal ((c : Thread nD τ), SemLoc.dma cc0_scratch10.sem) 0 ∗ semVal ((c : Thread nD τ), SemLoc.dma cc0_scratch11.sem) 0) := by
  rw [Pipeline.ownSems0_eq_of_list c osem0 [0, 1, 2] (by decide) (by decide)]; rfl

/-- The second result, which the body writes itself, at the products. -/
def Yc (c : Dev nD) (b : Ref sig .tc) : Buf (Elt F) ((c : Thread nD τ).loc b) :=
  if h : b = main_v9_1 then h ▸ (show Buf (Elt F) ((c : Thread nD τ).loc main_v9_1) from (fun y : S1024x2304.Idx => Lm m c (y 0).val (y 1).val : FVec F S1024x2304 .f32)) else V m c b
theorem Yc_v9_1 (c : Dev nD) : Yc m c main_v9_1 = (fun y : S1024x2304.Idx => Lm m c (y 0).val (y 1).val : FVec F S1024x2304 .f32) := dif_pos rfl

theorem ends_start (c : Dev nD) : Pipeline.ΦDRG osem0 spec0 ∅ {main_v9_1} (V m) (V m) c ⊢ (dats m 0 c).Φ 0 := by
  rw [show (dats m 0 c).Φ 0 = iprop(stStart c ∗ ∃ r, prngReg c r) from rfl]
  unfold stStart held
  rw [Pipeline.ΦDRG_eq, BI.bigSep_empty, Pipeline.routed_singleton, ownSems00_eq, scopedRest0_eq]
  simp only [Memref.view_whole, View.set_whole]
  iintro ⟨⟨H0, H1, H2, H3, H4, H5, H6, H7, H8⟩, Hg, ⟨S1, S2, S3⟩, -, H⟩
  isplitr [Hg]
  · isplitl [H]; · iexists _; iexact H
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S1]; · iexact S1
    isplitl [S2]; · iexact S2
    iexact S3
  iexact Hg

theorem ends_stop (c : Dev nD) : (dats m 0 c).Φ (Fin.last cfg0.N) ⊢ Pipeline.ΦDRG osem0 spec0 ∅ {main_v9_1} (V m) (Yc m) c := by
  rw [show (dats m 0 c).Φ (Fin.last cfg0.N) = iprop(stStop m c ∗ ∃ r, prngReg c r) from rfl]
  unfold stStop kept held held2 held3
  rw [Pipeline.ΦDRG_eq, BI.bigSep_empty, Pipeline.routed_singleton, ownSems00_eq, scopedRest0_eq, Yc_v9_1]
  simp only [Memref.view_whole, View.set_whole]
  iintro ⟨⟨⟨⟨%f1, H1, -⟩, ⟨%f2, H2, -⟩, ⟨%f3, H3, -⟩, ⟨%f4, H4, -⟩⟩, ⟨%f, H, %hf⟩, H0, H5, H6, H7, H8, S1, S2, S3⟩, Hg⟩
  have e : f = (fun y : S1024x2304.Idx => Lm m c (y 0).val (y 1).val : FVec F S1024x2304 .f32) := funext fun y => hf y trivial
  subst e
  isplitr [Hg S1 S2 S3 H]
  · isplitl [H0]; · iexact H0
    isplitl [H1]; · iexists f1; iexact H1
    isplitl [H2]; · iexists f2; iexact H2
    isplitl [H3]; · iexists f3; iexact H3
    isplitl [H4]; · iexists f4; iexact H4
    isplitl [H5]; · iexact H5
    isplitl [H6]; · iexact H6
    isplitl [H7]; · iexact H7
    iexact H8
  isplitl [Hg]; · iexact Hg
  isplitl [S1 S2 S3]
  · isplitl [S1]; · iexact S1
    isplitl [S2]; · iexact S2
    iexact S3
  isplitr [H]
  · iempintro
  iexact H

set_option backward.isDefEq.respectTransparency.types false in
theorem run_main : θ_run defs (onTc (τ := τ) (main (F := F))) (s₀ m ρ)
    (fun r => Pipeline.FramePostRG cfgs (dats m) 0 {main_v9_1} (V m) (Yc m) r ∧ r.2.sem = fun _ => 0) :=
  Pipeline.θ_run_frame_dmaRG_shared (Q' := _) cfgs (dats m) (0 : Fin 1) launch₀0 osem0 defs₀ 𝒱₀ ownSemFacts0 ∅ {main_v9_1}
    (Finset.empty_subset _) (by decide) m ρ main
    (hbody := fun c => (body_obligation m c).loose) (hq := fun _ _ _ => rfl)
    (howed := fun _ _ => rfl) (V := V m) (hmain := hmainU m) (hA := A_eq m) (G := Yc m)
    (hin := ends_start m) (hout := ends_stop m)

/-- THE FRAME, and what the two results hold. -/
theorem frame_values : θ_run defs (onTc (τ := τ) (main (F := F))) ⟨m, fun _ => 0, ρ⟩ (fun r => (∀ c : Dev nD,
      (r.2.mem ((c.tc : Thread nD τ).loc main_v9_0) = (dats m 0 c).arrAt 6 cfg0.N
      ∧ r.2.mem ((c.tc : Thread nD τ).loc main_v9_1) = Yc m c main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1.1 c).1 6, h.1.2 c main_v9_1 (Finset.mem_singleton_self _)⟩,
      ((h.1.1 c).1 0).trans (((dats m 0 c).arrAt_in 0 rfl _).trans ((A_eq m c 0).trans (V_main_arg0 m c))),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩, h.2⟩) (run_main m ρ)

/-- THE FRAME alone. -/
theorem frame_only : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (frame_values m ρ)

end Cert.Proof.Kernel
-- ==== Proof.Ki.Model.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
/-- The algebra of the frame: the points-tos beside the counters of the kernel's own transfers. -/
abbrev UU (nD : Nat) (τ : Topo) : Type := UR sig nD τ × Counters
abbrev 𝒱₀ : Variants := Variants.none

local notation "𝕄U" => MT nD τ sig Unit (Elt F) ℕ (UU nD τ) ℕ

/-! ## Rows summed from the table -/

/-- Nine terms added from the left, as the kernel adds a row's nine table slices. -/
def sum9 (a : ℕ → F .f32) : F .f32 :=
  FloatOps.addf (FloatOps.addf (FloatOps.addf (FloatOps.addf (FloatOps.addf (FloatOps.addf (FloatOps.addf (FloatOps.addf
    (a 0) (a 1)) (a 2)) (a 3)) (a 4)) (a 5)) (a 6)) (a 7)) (a 8)

/-- The table's sum for database row `s`, batch chunk `j`, lane `l`: `T` is the table, `W` the offsets. -/
def rowN (T : ℕ → ℕ → F .f32) (W : ℕ → ℕ → BitVec 32) (s j l : ℕ) : F .f32 :=
  sum9 fun m => T ((W m s).toNat + j) l

/-- What the staging buffer holds once both groups of rows are summed: row `r` of chunk `j` at line `132 * j + r`. -/
def stageN (T : ℕ → ℕ → F .f32) (W : ℕ → ℕ → BitVec 32) (g row l : ℕ) : F .f32 :=
  rowN T W (g * 128 + row % 132) (row / 132) l

/-- The lines done before trip `k` of group `g`. -/
def rowsDone (g k a b _c : ℕ) : Prop := (a < g ∧ b % 132 < 128) ∨ (a = g ∧ b % 132 < k)

/-- An offset names an aligned table slice of eight lines. -/
def Good (w : BitVec 32) : Prop := 8 ∣ w.toNat ∧ w.toNat + 8 ≤ 18432

/-- The offsets of the nine books are good. -/
def AllGood (W : ℕ → ℕ → BitVec 32) : Prop := ∀ m s, m < 9 → s < 256 → Good (W m s)

/-- A slice of eight table lines loaded at an offset. -/
theorem slice_at {v : View sig .tc .vmem S18432x128 .f32} {X : v.ty.Contents (Elt F)} {T : ℕ → ℕ → F .f32} (hT : Is2 v X T)
    {w w' : BitVec 32} (hw : w = w') {off : Fin 2 → ℕ} (ho : off = ![w.toNat, 0]) {h} (x : S8x128.Idx) :
    v.readAt (Elt F) (Rect.unit (s := S18432x128) off S8x128.size h).toLoadRect X x = T (w'.toNat + (x 0).val) (x 1).val := by
  subst hw
  subst ho
  rw [On2.readAt hT _ rfl _ trivial]
  simp [Rect.unit]

/-- The staging buffer where the write of trip `k` lands. -/
theorem stageN_at (T : ℕ → ℕ → F .f32) (W : ℕ → ℕ → BitVec 32) {g k x0 x1 x2 : ℕ} (h0 : x0 < 1) (hk : k < 128) :
    stageN T W (g + 1 * x0) (k + 132 * x1) (0 + 1 * x2) = sum9 fun m => T ((W m (g * 128 + k)).toNat + x1) x2 := by
  have e1 : (g + 1 * x0) * 128 + (k + 132 * x1) % 132 = g * 128 + k := by omega
  have e2 : (k + 132 * x1) / 132 = x1 := by omega
  have e3 : 0 + 1 * x2 = x2 := by omega
  show rowN T W ((g + 1 * x0) * 128 + (k + 132 * x1) % 132) ((k + 132 * x1) / 132) (0 + 1 * x2) = _
  rw [e1, e2, e3]; rfl

/-- A line done after trip `k` was done before it or is one that the trip writes. -/
theorem rowsDone_step {g k a b c : ℕ} (hb : b < 1056) (hk : k < 128) (hc : c < 128) (hd : rowsDone g (k + 1) a b c) :
    rowsDone g k a b c ∨ (∃ j < 1, a = g + 1 * j) ∧ (∃ j < 8, b = k + 132 * j) ∧ (∃ j < 128, c = 0 + 1 * j) := by
  by_cases h : rowsDone g k a b c
  · exact .inl h
  · unfold rowsDone at h hd
    exact .inr ⟨⟨0, by omega, by omega⟩, ⟨b / 132, by omega, by omega⟩, ⟨c, hc, by omega⟩⟩

/-- What a trip of this loop stores, line by line. -/
theorem row_pay5 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay95 (k0_pay92 a0 a1 a2 a3 a4) a5 a6 a7 a8 x = sum9 b := by
  unfold k0_pay95 k0_pay92
  refine (shapeCast_addUnit_apply (n := 2) ![8, 128] _ _ x).trans ?_
  unfold sum9
  rw [← h0, ← h1, ← h2, ← h3, ← h4, ← h5, ← h6, ← h7, ← h8]
  rfl

theorem k0_off10_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off10 k) S1x1.size h).toLoadRect X (Shape.Idx.first (s := S1x1) h') = W 0 (0 * 128 + k.val) := by
  rw [On2.readAt hX _ (k0_off10_eq k) _ trivial]
  simp [Rect.unit, Shape.Idx.first, Nat.add_comm]

theorem k0_chk1_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk1 i (v.readAt (Elt F) (Rect.unit (s := S16x256) (k0_off10 k) S1x1.size h).toLoadRect X (Shape.Idx.first (s := S1x1) h')) := by
  have g : Good (v.readAt (Elt F) (Rect.unit (s := S16x256) (k0_off10 k) S1x1.size h).toLoadRect X (Shape.Idx.first (s := S1x1) h')) := by
    have hk : k.val < 128 := k.isLt
    rw [k0_off10_word k hX]; exact hW _ _ (by omega) (by omega)
  exact ⟨fun _ => g.1, fun _ a => by fin_cases a; exacts [g.2, Nat.le_refl _]⟩

theorem k0_off12_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off12 k) S1x1.size h).toLoadRect X (Shape.Idx.first (s := S1x1) h') = W 1 (0 * 128 + k.val) := by
  rw [On2.readAt hX _ (k0_off12_eq k) _ trivial]
  simp [Rect.unit, Shape.Idx.first, Nat.add_comm]

theorem k0_chk2_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk2 i (v.readAt (Elt F) (Rect.unit (s := S16x256) (k0_off12 k) S1x1.size h).toLoadRect X (Shape.Idx.first (s := S1x1) h')) := by
  have g : Good (v.readAt (Elt F) (Rect.unit (s := S16x256) (k0_off12 k) S1x1.size h).toLoadRect X (Shape.Idx.first (s := S1x1) h')) := by
    have hk : k.val < 128 := k.isLt
    rw [k0_off12_word k hX]; exact hW _ _ (by omega) (by omega)
  exact ⟨fun _ => g.1, fun _ a => by fin_cases a; exacts [g.2, Nat.le_refl _]⟩

theorem k0_off14_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off14 k) S1x1.size h).toLoadRect X (Shape.Idx.first (s := S1x1) h') = W 2 (0 * 128 + k.val) := by
  rw [On2.readAt hX _ (k0_off14_eq k) _ trivial]
  simp [Rect.unit, Shape.Idx.first, Nat.add_comm]

theorem k0_chk3_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk3 i (v.readAt (Elt F) (Rect.unit (s := S16x256) (k0_off14 k) S1x1.size h).toLoadRect X (Shape.Idx.first (s := S1x1) h')) := by
  have g : Good (v.readAt (Elt F) (Rect.unit (s := S16x256) (k0_off14 k) S1x1.size h).toLoadRect X (Shape.Idx.first (s := S1x1) h')) := by
    have hk : k.val < 128 := k.isLt
    rw [k0_off14_word k hX]; exact hW _ _ (by omega) (by omega)
  exact ⟨fun _ => g.1, fun _ a => by fin_cases a; exacts [g.2, Nat.le_refl _]⟩

theorem k0_off16_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off16 k) S1x1.size h).toLoadRect X (Shape.Idx.first (s := S1x1) h') = W 3 (0 * 128 + k.val) := by
  rw [On2.readAt hX _ (k0_off16_eq k) _ trivial]
  simp [Rect.unit, Shape.Idx.first, Nat.add_comm]

theorem k0_chk4_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk4 i (v.readAt (Elt F) (Rect.unit (s := S16x256) (k0_off16 k) S1x1.size h).toLoadRect X (Shape.Idx.first (s := S1x1) h')) := by
  have g : Good (v.readAt (Elt F) (Rect.unit (s := S16x256) (k0_off16 k) S1x1.size h).toLoadRect X (Shape.Idx.first (s := S1x1) h')) := by
    have hk : k.val < 128 := k.isLt
    rw [k0_off16_word k hX]; exact hW _ _ (by omega) (by omega)
  exact ⟨fun _ => g.1, fun _ a => by fin_cases a; exacts [g.2, Nat.le_refl _]⟩

theorem k0_off18_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off18 k) S1x1.size h).toLoadRect X (Shape.Idx.first (s := S1x1) h') = W 4 (0 * 128 + k.val) := by
  rw [On2.readAt hX _ (k0_off18_eq k) _ trivial]
  simp [Rect.unit, Shape.Idx.first, Nat.add_comm]

theorem k0_chk5_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk5 i (v.readAt (Elt F) (Rect.unit (s := S16x256) (k0_off18 k) S1x1.size h).toLoadRect X (Shape.Idx.first (s := S1x1) h')) := by
  have g : Good (v.readAt (Elt F) (Rect.unit (s := S16x256) (k0_off18 k) S1x1.size h).toLoadRect X (Shape.Idx.first (s := S1x1) h')) := by
    have hk : k.val < 128 := k.isLt
    rw [k0_off18_word k hX]; exact hW _ _ (by omega) (by omega)
  exact ⟨fun _ => g.1, fun _ a => by fin_cases a; exacts [g.2, Nat.le_refl _]⟩

theorem k0_off20_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off20 k) S1x1.size h).toLoadRect X (Shape.Idx.first (s := S1x1) h') = W 5 (0 * 128 + k.val) := by
  rw [On2.readAt hX _ (k0_off20_eq k) _ trivial]
  simp [Rect.unit, Shape.Idx.first, Nat.add_comm]

theorem k0_chk6_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk6 i (v.readAt (Elt F) (Rect.unit (s := S16x256) (k0_off20 k) S1x1.size h).toLoadRect X (Shape.Idx.first (s := S1x1) h')) := by
  have g : Good (v.readAt (Elt F) (Rect.unit (s := S16x256) (k0_off20 k) S1x1.size h).toLoadRect X (Shape.Idx.first (s := S1x1) h')) := by
    have hk : k.val < 128 := k.isLt
    rw [k0_off20_word k hX]; exact hW _ _ (by omega) (by omega)
  exact ⟨fun _ => g.1, fun _ a => by fin_cases a; exacts [g.2, Nat.le_refl _]⟩

theorem k0_off22_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off22 k) S1x1.size h).toLoadRect X (Shape.Idx.first (s := S1x1) h') = W 6 (0 * 128 + k.val) := by
  rw [On2.readAt hX _ (k0_off22_eq k) _ trivial]
  simp [Rect.unit, Shape.Idx.first, Nat.add_comm]

theorem k0_chk7_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk7 i (v.readAt (Elt F) (Rect.unit (s := S16x256) (k0_off22 k) S1x1.size h).toLoadRect X (Shape.Idx.first (s := S1x1) h')) := by
  have g : Good (v.readAt (Elt F) (Rect.unit (s := S16x256) (k0_off22 k) S1x1.size h).toLoadRect X (Shape.Idx.first (s := S1x1) h')) := by
    have hk : k.val < 128 := k.isLt
    rw [k0_off22_word k hX]; exact hW _ _ (by omega) (by omega)
  exact ⟨fun _ => g.1, fun _ a => by fin_cases a; exacts [g.2, Nat.le_refl _]⟩

theorem k0_off24_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off24 k) S1x1.size h).toLoadRect X (Shape.Idx.first (s := S1x1) h') = W 7 (0 * 128 + k.val) := by
  rw [On2.readAt hX _ (k0_off24_eq k) _ trivial]
  simp [Rect.unit, Shape.Idx.first, Nat.add_comm]

theorem k0_chk8_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk8 i (v.readAt (Elt F) (Rect.unit (s := S16x256) (k0_off24 k) S1x1.size h).toLoadRect X (Shape.Idx.first (s := S1x1) h')) := by
  have g : Good (v.readAt (Elt F) (Rect.unit (s := S16x256) (k0_off24 k) S1x1.size h).toLoadRect X (Shape.Idx.first (s := S1x1) h')) := by
    have hk : k.val < 128 := k.isLt
    rw [k0_off24_word k hX]; exact hW _ _ (by omega) (by omega)
  exact ⟨fun _ => g.1, fun _ a => by fin_cases a; exacts [g.2, Nat.le_refl _]⟩

theorem k0_off26_word (k : Fin k0_t5_loop.trips) {v : View sig .tc .smem S16x256 .i32} {X : v.ty.Contents (Elt F)} {W : ℕ → ℕ → BitVec 32}
    (hX : Is2 v X W) {h} {h'} :
    v.readAt (Elt F) (Rect.unit (s := S16x256) (k0_off26 k) S1x1.size h).toLoadRect X (Shape.Idx.first (s := S1x1) h') = W 8 (0 * 128 + k.val) := by
  rw [On2.readAt hX _ (k0_off26_eq k) _ trivial]
  simp [Rect.unit, Shape.Idx.first, Nat.add_comm]

theorem k0_chk9_ok (i : grid0.Coords) (k : Fin k0_t5_loop.trips) {v : View sig .tc .smem S16x256 .i32} {X : v.ty.Contents (Elt F)} {W : ℕ → ℕ → BitVec 32}
    (hX : Is2 v X W) (hW : AllGood W) {h} {h'} :
    k0_chk9 i (v.readAt (Elt F) (Rect.unit (s := S16x256) (k0_off26 k) S1x1.size h).toLoadRect X (Shape.Idx.first (s := S1x1) h')) := by
  have g : Good (v.readAt (Elt F) (Rect.unit (s := S16x256) (k0_off26 k) S1x1.size h).toLoadRect X (Shape.Idx.first (s := S1x1) h')) := by
    have hk : k.val < 128 := k.isLt
    rw [k0_off26_word k hX]; exact hW _ _ (by omega) (by omega)
  exact ⟨fun _ => g.1, fun _ a => by fin_cases a; exacts [g.2, Nat.le_refl _]⟩

/-- What a trip of this loop stores, line by line. -/
theorem row_pay6 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay104 (k0_pay93 a0 a1 a2 a3 a4) a5 a6 a7 a8 x = sum9 b := by
  unfold k0_pay104 k0_pay93
  refine (shapeCast_addUnit_apply (n := 2) ![8, 128] _ _ x).trans ?_
  unfold sum9
  rw [← h0, ← h1, ← h2, ← h3, ← h4, ← h5, ← h6, ← h7, ← h8]
  rfl

theorem k0_off30_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off30 k) S1x1.size h).toLoadRect X (Shape.Idx.first (s := S1x1) h') = W 0 (1 * 128 + k.val) := by
  rw [On2.readAt hX _ (k0_off30_eq k) _ trivial]
  simp [Rect.unit, Shape.Idx.first, Nat.add_comm]

theorem k0_chk10_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk10 i (v.readAt (Elt F) (Rect.unit (s := S16x256) (k0_off30 k) S1x1.size h).toLoadRect X (Shape.Idx.first (s := S1x1) h')) := by
  have g : Good (v.readAt (Elt F) (Rect.unit (s := S16x256) (k0_off30 k) S1x1.size h).toLoadRect X (Shape.Idx.first (s := S1x1) h')) := by
    have hk : k.val < 128 := k.isLt
    rw [k0_off30_word k hX]; exact hW _ _ (by omega) (by omega)
  exact ⟨fun _ => g.1, fun _ a => by fin_cases a; exacts [g.2, Nat.le_refl _]⟩

theorem k0_off32_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off32 k) S1x1.size h).toLoadRect X (Shape.Idx.first (s := S1x1) h') = W 1 (1 * 128 + k.val) := by
  rw [On2.readAt hX _ (k0_off32_eq k) _ trivial]
  simp [Rect.unit, Shape.Idx.first, Nat.add_comm]

theorem k0_chk11_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk11 i (v.readAt (Elt F) (Rect.unit (s := S16x256) (k0_off32 k) S1x1.size h).toLoadRect X (Shape.Idx.first (s := S1x1) h')) := by
  have g : Good (v.readAt (Elt F) (Rect.unit (s := S16x256) (k0_off32 k) S1x1.size h).toLoadRect X (Shape.Idx.first (s := S1x1) h')) := by
    have hk : k.val < 128 := k.isLt
    rw [k0_off32_word k hX]; exact hW _ _ (by omega) (by omega)
  exact ⟨fun _ => g.1, fun _ a => by fin_cases a; exacts [g.2, Nat.le_refl _]⟩

theorem k0_off34_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off34 k) S1x1.size h).toLoadRect X (Shape.Idx.first (s := S1x1) h') = W 2 (1 * 128 + k.val) := by
  rw [On2.readAt hX _ (k0_off34_eq k) _ trivial]
  simp [Rect.unit, Shape.Idx.first, Nat.add_comm]

theorem k0_chk12_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk12 i (v.readAt (Elt F) (Rect.unit (s := S16x256) (k0_off34 k) S1x1.size h).toLoadRect X (Shape.Idx.first (s := S1x1) h')) := by
  have g : Good (v.readAt (Elt F) (Rect.unit (s := S16x256) (k0_off34 k) S1x1.size h).toLoadRect X (Shape.Idx.first (s := S1x1) h')) := by
    have hk : k.val < 128 := k.isLt
    rw [k0_off34_word k hX]; exact hW _ _ (by omega) (by omega)
  exact ⟨fun _ => g.1, fun _ a => by fin_cases a; exacts [g.2, Nat.le_refl _]⟩

theorem k0_off36_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off36 k) S1x1.size h).toLoadRect X (Shape.Idx.first (s := S1x1) h') = W 3 (1 * 128 + k.val) := by
  rw [On2.readAt hX _ (k0_off36_eq k) _ trivial]
  simp [Rect.unit, Shape.Idx.first, Nat.add_comm]

theorem k0_chk13_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk13 i (v.readAt (Elt F) (Rect.unit (s := S16x256) (k0_off36 k) S1x1.size h).toLoadRect X (Shape.Idx.first (s := S1x1) h')) := by
  have g : Good (v.readAt (Elt F) (Rect.unit (s := S16x256) (k0_off36 k) S1x1.size h).toLoadRect X (Shape.Idx.first (s := S1x1) h')) := by
    have hk : k.val < 128 := k.isLt
    rw [k0_off36_word k hX]; exact hW _ _ (by omega) (by omega)
  exact ⟨fun _ => g.1, fun _ a => by fin_cases a; exacts [g.2, Nat.le_refl _]⟩

theorem k0_off38_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off38 k) S1x1.size h).toLoadRect X (Shape.Idx.first (s := S1x1) h') = W 4 (1 * 128 + k.val) := by
  rw [On2.readAt hX _ (k0_off38_eq k) _ trivial]
  simp [Rect.unit, Shape.Idx.first, Nat.add_comm]

theorem k0_chk14_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk14 i (v.readAt (Elt F) (Rect.unit (s := S16x256) (k0_off38 k) S1x1.size h).toLoadRect X (Shape.Idx.first (s := S1x1) h')) := by
  have g : Good (v.readAt (Elt F) (Rect.unit (s := S16x256) (k0_off38 k) S1x1.size h).toLoadRect X (Shape.Idx.first (s := S1x1) h')) := by
    have hk : k.val < 128 := k.isLt
    rw [k0_off38_word k hX]; exact hW _ _ (by omega) (by omega)
  exact ⟨fun _ => g.1, fun _ a => by fin_cases a; exacts [g.2, Nat.le_refl _]⟩

theorem k0_off40_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off40 k) S1x1.size h).toLoadRect X (Shape.Idx.first (s := S1x1) h') = W 5 (1 * 128 + k.val) := by
  rw [On2.readAt hX _ (k0_off40_eq k) _ trivial]
  simp [Rect.unit, Shape.Idx.first, Nat.add_comm]

theorem k0_chk15_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk15 i (v.readAt (Elt F) (Rect.unit (s := S16x256) (k0_off40 k) S1x1.size h).toLoadRect X (Shape.Idx.first (s := S1x1) h')) := by
  have g : Good (v.readAt (Elt F) (Rect.unit (s := S16x256) (k0_off40 k) S1x1.size h).toLoadRect X (Shape.Idx.first (s := S1x1) h')) := by
    have hk : k.val < 128 := k.isLt
    rw [k0_off40_word k hX]; exact hW _ _ (by omega) (by omega)
  exact ⟨fun _ => g.1, fun _ a => by fin_cases a; exacts [g.2, Nat.le_refl _]⟩

theorem k0_off42_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off42 k) S1x1.size h).toLoadRect X (Shape.Idx.first (s := S1x1) h') = W 6 (1 * 128 + k.val) := by
  rw [On2.readAt hX _ (k0_off42_eq k) _ trivial]
  simp [Rect.unit, Shape.Idx.first, Nat.add_comm]

theorem k0_chk16_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk16 i (v.readAt (Elt F) (Rect.unit (s := S16x256) (k0_off42 k) S1x1.size h).toLoadRect X (Shape.Idx.first (s := S1x1) h')) := by
  have g : Good (v.readAt (Elt F) (Rect.unit (s := S16x256) (k0_off42 k) S1x1.size h).toLoadRect X (Shape.Idx.first (s := S1x1) h')) := by
    have hk : k.val < 128 := k.isLt
    rw [k0_off42_word k hX]; exact hW _ _ (by omega) (by omega)
  exact ⟨fun _ => g.1, fun _ a => by fin_cases a; exacts [g.2, Nat.le_refl _]⟩

theorem k0_off44_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off44 k) S1x1.size h).toLoadRect X (Shape.Idx.first (s := S1x1) h') = W 7 (1 * 128 + k.val) := by
  rw [On2.readAt hX _ (k0_off44_eq k) _ trivial]
  simp [Rect.unit, Shape.Idx.first, Nat.add_comm]

theorem k0_chk17_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk17 i (v.readAt (Elt F) (Rect.unit (s := S16x256) (k0_off44 k) S1x1.size h).toLoadRect X (Shape.Idx.first (s := S1x1) h')) := by
  have g : Good (v.readAt (Elt F) (Rect.unit (s := S16x256) (k0_off44 k) S1x1.size h).toLoadRect X (Shape.Idx.first (s := S1x1) h')) := by
    have hk : k.val < 128 := k.isLt
    rw [k0_off44_word k hX]; exact hW _ _ (by omega) (by omega)
  exact ⟨fun _ => g.1, fun _ a => by fin_cases a; exacts [g.2, Nat.le_refl _]⟩

theorem k0_off46_word (k : Fin k0_t6_loop.trips) {v : View sig .tc .smem S16x256 .i32} {X : v.ty.Contents (Elt F)} {W : ℕ → ℕ → BitVec 32}
    (hX : Is2 v X W) {h} {h'} :
    v.readAt (Elt F) (Rect.unit (s := S16x256) (k0_off46 k) S1x1.size h).toLoadRect X (Shape.Idx.first (s := S1x1) h') = W 8 (1 * 128 + k.val) := by
  rw [On2.readAt hX _ (k0_off46_eq k) _ trivial]
  simp [Rect.unit, Shape.Idx.first, Nat.add_comm]

theorem k0_chk18_ok (i : grid0.Coords) (k : Fin k0_t6_loop.trips) {v : View sig .tc .smem S16x256 .i32} {X : v.ty.Contents (Elt F)} {W : ℕ → ℕ → BitVec 32}
    (hX : Is2 v X W) (hW : AllGood W) {h} {h'} :
    k0_chk18 i (v.readAt (Elt F) (Rect.unit (s := S16x256) (k0_off46 k) S1x1.size h).toLoadRect X (Shape.Idx.first (s := S1x1) h')) := by
  have g : Good (v.readAt (Elt F) (Rect.unit (s := S16x256) (k0_off46 k) S1x1.size h).toLoadRect X (Shape.Idx.first (s := S1x1) h')) := by
    have hk : k.val < 128 := k.isLt
    rw [k0_off46_word k hX]; exact hW _ _ (by omega) (by omega)
  exact ⟨fun _ => g.1, fun _ a => by fin_cases a; exacts [g.2, Nat.le_refl _]⟩

/-- What a trip of this loop stores, line by line. -/
theorem row_pay7 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay125 (k0_pay122 a0 a1 a2 a3 a4) a5 a6 a7 a8 x = sum9 b := by
  unfold k0_pay125 k0_pay122
  refine (shapeCast_addUnit_apply (n := 2) ![8, 128] _ _ x).trans ?_
  unfold sum9
  rw [← h0, ← h1, ← h2, ← h3, ← h4, ← h5, ← h6, ← h7, ← h8]
  rfl

theorem k0_off50_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off50 k) S1x1.size h).toLoadRect X (Shape.Idx.first (s := S1x1) h') = W 0 (0 * 128 + k.val) := by
  rw [On2.readAt hX _ (k0_off50_eq k) _ trivial]
  simp [Rect.unit, Shape.Idx.first, Nat.add_comm]

theorem k0_chk19_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk19 i (v.readAt (Elt F) (Rect.unit (s := S16x256) (k0_off50 k) S1x1.size h).toLoadRect X (Shape.Idx.first (s := S1x1) h')) := by
  have g : Good (v.readAt (Elt F) (Rect.unit (s := S16x256) (k0_off50 k) S1x1.size h).toLoadRect X (Shape.Idx.first (s := S1x1) h')) := by
    have hk : k.val < 128 := k.isLt
    rw [k0_off50_word k hX]; exact hW _ _ (by omega) (by omega)
  exact ⟨fun _ => g.1, fun _ a => by fin_cases a; exacts [g.2, Nat.le_refl _]⟩

theorem k0_off52_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off52 k) S1x1.size h).toLoadRect X (Shape.Idx.first (s := S1x1) h') = W 1 (0 * 128 + k.val) := by
  rw [On2.readAt hX _ (k0_off52_eq k) _ trivial]
  simp [Rect.unit, Shape.Idx.first, Nat.add_comm]

theorem k0_chk20_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk20 i (v.readAt (Elt F) (Rect.unit (s := S16x256) (k0_off52 k) S1x1.size h).toLoadRect X (Shape.Idx.first (s := S1x1) h')) := by
  have g : Good (v.readAt (Elt F) (Rect.unit (s := S16x256) (k0_off52 k) S1x1.size h).toLoadRect X (Shape.Idx.first (s := S1x1) h')) := by
    have hk : k.val < 128 := k.isLt
    rw [k0_off52_word k hX]; exact hW _ _ (by omega) (by omega)
  exact ⟨fun _ => g.1, fun _ a => by fin_cases a; exacts [g.2, Nat.le_refl _]⟩

theorem k0_off54_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off54 k) S1x1.size h).toLoadRect X (Shape.Idx.first (s := S1x1) h') = W 2 (0 * 128 + k.val) := by
  rw [On2.readAt hX _ (k0_off54_eq k) _ trivial]
  simp [Rect.unit, Shape.Idx.first, Nat.add_comm]

theorem k0_chk21_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk21 i (v.readAt (Elt F) (Rect.unit (s := S16x256) (k0_off54 k) S1x1.size h).toLoadRect X (Shape.Idx.first (s := S1x1) h')) := by
  have g : Good (v.readAt (Elt F) (Rect.unit (s := S16x256) (k0_off54 k) S1x1.size h).toLoadRect X (Shape.Idx.first (s := S1x1) h')) := by
    have hk : k.val < 128 := k.isLt
    rw [k0_off54_word k hX]; exact hW _ _ (by omega) (by omega)
  exact ⟨fun _ => g.1, fun _ a => by fin_cases a; exacts [g.2, Nat.le_refl _]⟩

theorem k0_off56_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off56 k) S1x1.size h).toLoadRect X (Shape.Idx.first (s := S1x1) h') = W 3 (0 * 128 + k.val) := by
  rw [On2.readAt hX _ (k0_off56_eq k) _ trivial]
  simp [Rect.unit, Shape.Idx.first, Nat.add_comm]

theorem k0_chk22_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk22 i (v.readAt (Elt F) (Rect.unit (s := S16x256) (k0_off56 k) S1x1.size h).toLoadRect X (Shape.Idx.first (s := S1x1) h')) := by
  have g : Good (v.readAt (Elt F) (Rect.unit (s := S16x256) (k0_off56 k) S1x1.size h).toLoadRect X (Shape.Idx.first (s := S1x1) h')) := by
    have hk : k.val < 128 := k.isLt
    rw [k0_off56_word k hX]; exact hW _ _ (by omega) (by omega)
  exact ⟨fun _ => g.1, fun _ a => by fin_cases a; exacts [g.2, Nat.le_refl _]⟩

theorem k0_off58_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off58 k) S1x1.size h).toLoadRect X (Shape.Idx.first (s := S1x1) h') = W 4 (0 * 128 + k.val) := by
  rw [On2.readAt hX _ (k0_off58_eq k) _ trivial]
  simp [Rect.unit, Shape.Idx.first, Nat.add_comm]

theorem k0_chk23_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk23 i (v.readAt (Elt F) (Rect.unit (s := S16x256) (k0_off58 k) S1x1.size h).toLoadRect X (Shape.Idx.first (s := S1x1) h')) := by
  have g : Good (v.readAt (Elt F) (Rect.unit (s := S16x256) (k0_off58 k) S1x1.size h).toLoadRect X (Shape.Idx.first (s := S1x1) h')) := by
    have hk : k.val < 128 := k.isLt
    rw [k0_off58_word k hX]; exact hW _ _ (by omega) (by omega)
  exact ⟨fun _ => g.1, fun _ a => by fin_cases a; exacts [g.2, Nat.le_refl _]⟩

theorem k0_off60_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off60 k) S1x1.size h).toLoadRect X (Shape.Idx.first (s := S1x1) h') = W 5 (0 * 128 + k.val) := by
  rw [On2.readAt hX _ (k0_off60_eq k) _ trivial]
  simp [Rect.unit, Shape.Idx.first, Nat.add_comm]

theorem k0_chk24_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk24 i (v.readAt (Elt F) (Rect.unit (s := S16x256) (k0_off60 k) S1x1.size h).toLoadRect X (Shape.Idx.first (s := S1x1) h')) := by
  have g : Good (v.readAt (Elt F) (Rect.unit (s := S16x256) (k0_off60 k) S1x1.size h).toLoadRect X (Shape.Idx.first (s := S1x1) h')) := by
    have hk : k.val < 128 := k.isLt
    rw [k0_off60_word k hX]; exact hW _ _ (by omega) (by omega)
  exact ⟨fun _ => g.1, fun _ a => by fin_cases a; exacts [g.2, Nat.le_refl _]⟩

theorem k0_off62_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off62 k) S1x1.size h).toLoadRect X (Shape.Idx.first (s := S1x1) h') = W 6 (0 * 128 + k.val) := by
  rw [On2.readAt hX _ (k0_off62_eq k) _ trivial]
  simp [Rect.unit, Shape.Idx.first, Nat.add_comm]

theorem k0_chk25_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk25 i (v.readAt (Elt F) (Rect.unit (s := S16x256) (k0_off62 k) S1x1.size h).toLoadRect X (Shape.Idx.first (s := S1x1) h')) := by
  have g : Good (v.readAt (Elt F) (Rect.unit (s := S16x256) (k0_off62 k) S1x1.size h).toLoadRect X (Shape.Idx.first (s := S1x1) h')) := by
    have hk : k.val < 128 := k.isLt
    rw [k0_off62_word k hX]; exact hW _ _ (by omega) (by omega)
  exact ⟨fun _ => g.1, fun _ a => by fin_cases a; exacts [g.2, Nat.le_refl _]⟩

theorem k0_off64_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off64 k) S1x1.size h).toLoadRect X (Shape.Idx.first (s := S1x1) h') = W 7 (0 * 128 + k.val) := by
  rw [On2.readAt hX _ (k0_off64_eq k) _ trivial]
  simp [Rect.unit, Shape.Idx.first, Nat.add_comm]

theorem k0_chk26_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk26 i (v.readAt (Elt F) (Rect.unit (s := S16x256) (k0_off64 k) S1x1.size h).toLoadRect X (Shape.Idx.first (s := S1x1) h')) := by
  have g : Good (v.readAt (Elt F) (Rect.unit (s := S16x256) (k0_off64 k) S1x1.size h).toLoadRect X (Shape.Idx.first (s := S1x1) h')) := by
    have hk : k.val < 128 := k.isLt
    rw [k0_off64_word k hX]; exact hW _ _ (by omega) (by omega)
  exact ⟨fun _ => g.1, fun _ a => by fin_cases a; exacts [g.2, Nat.le_refl _]⟩

theorem k0_off66_word (k : Fin k0_t7_loop.trips) {v : View sig .tc .smem S16x256 .i32} {X : v.ty.Contents (Elt F)} {W : ℕ → ℕ → BitVec 32}
    (hX : Is2 v X W) {h} {h'} :
    v.readAt (Elt F) (Rect.unit (s := S16x256) (k0_off66 k) S1x1.size h).toLoadRect X (Shape.Idx.first (s := S1x1) h') = W 8 (0 * 128 + k.val) := by
  rw [On2.readAt hX _ (k0_off66_eq k) _ trivial]
  simp [Rect.unit, Shape.Idx.first, Nat.add_comm]

theorem k0_chk27_ok (i : grid0.Coords) (k : Fin k0_t7_loop.trips) {v : View sig .tc .smem S16x256 .i32} {X : v.ty.Contents (Elt F)} {W : ℕ → ℕ → BitVec 32}
    (hX : Is2 v X W) (hW : AllGood W) {h} {h'} :
    k0_chk27 i (v.readAt (Elt F) (Rect.unit (s := S16x256) (k0_off66 k) S1x1.size h).toLoadRect X (Shape.Idx.first (s := S1x1) h')) := by
  have g : Good (v.readAt (Elt F) (Rect.unit (s := S16x256) (k0_off66 k) S1x1.size h).toLoadRect X (Shape.Idx.first (s := S1x1) h')) := by
    have hk : k.val < 128 := k.isLt
    rw [k0_off66_word k hX]; exact hW _ _ (by omega) (by omega)
  exact ⟨fun _ => g.1, fun _ a => by fin_cases a; exacts [g.2, Nat.le_refl _]⟩

/-- What a trip of this loop stores, line by line. -/
theorem row_pay8 (a0 a1 a2 a3 a4 a5 a6 a7 a8 : Vec F S8x128 .f32) (b : ℕ → F .f32) (x : S1x8x128.Idx)
    (h0 : a0 (fun a => x a.succ) = b 0) (h1 : a1 (fun a => x a.succ) = b 1) (h2 : a2 (fun a => x a.succ) = b 2) (h3 : a3 (fun a => x a.succ) = b 3) (h4 : a4 (fun a => x a.succ) = b 4) (h5 : a5 (fun a => x a.succ) = b 5) (h6 : a6 (fun a => x a.succ) = b 6) (h7 : a7 (fun a => x a.succ) = b 7) (h8 : a8 (fun a => x a.succ) = b 8) :
    k0_pay134 (k0_pay123 a0 a1 a2 a3 a4) a5 a6 a7 a8 x = sum9 b := by
  unfold k0_pay134 k0_pay123
  refine (shapeCast_addUnit_apply (n := 2) ![8, 128] _ _ x).trans ?_
  unfold sum9
  rw [← h0, ← h1, ← h2, ← h3, ← h4, ← h5, ← h6, ← h7, ← h8]
  rfl

theorem k0_off70_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off70 k) S1x1.size h).toLoadRect X (Shape.Idx.first (s := S1x1) h') = W 0 (1 * 128 + k.val) := by
  rw [On2.readAt hX _ (k0_off70_eq k) _ trivial]
  simp [Rect.unit, Shape.Idx.first, Nat.add_comm]

theorem k0_chk28_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk28 i (v.readAt (Elt F) (Rect.unit (s := S16x256) (k0_off70 k) S1x1.size h).toLoadRect X (Shape.Idx.first (s := S1x1) h')) := by
  have g : Good (v.readAt (Elt F) (Rect.unit (s := S16x256) (k0_off70 k) S1x1.size h).toLoadRect X (Shape.Idx.first (s := S1x1) h')) := by
    have hk : k.val < 128 := k.isLt
    rw [k0_off70_word k hX]; exact hW _ _ (by omega) (by omega)
  exact ⟨fun _ => g.1, fun _ a => by fin_cases a; exacts [g.2, Nat.le_refl _]⟩

theorem k0_off72_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off72 k) S1x1.size h).toLoadRect X (Shape.Idx.first (s := S1x1) h') = W 1 (1 * 128 + k.val) := by
  rw [On2.readAt hX _ (k0_off72_eq k) _ trivial]
  simp [Rect.unit, Shape.Idx.first, Nat.add_comm]

theorem k0_chk29_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk29 i (v.readAt (Elt F) (Rect.unit (s := S16x256) (k0_off72 k) S1x1.size h).toLoadRect X (Shape.Idx.first (s := S1x1) h')) := by
  have g : Good (v.readAt (Elt F) (Rect.unit (s := S16x256) (k0_off72 k) S1x1.size h).toLoadRect X (Shape.Idx.first (s := S1x1) h')) := by
    have hk : k.val < 128 := k.isLt
    rw [k0_off72_word k hX]; exact hW _ _ (by omega) (by omega)
  exact ⟨fun _ => g.1, fun _ a => by fin_cases a; exacts [g.2, Nat.le_refl _]⟩

theorem k0_off74_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off74 k) S1x1.size h).toLoadRect X (Shape.Idx.first (s := S1x1) h') = W 2 (1 * 128 + k.val) := by
  rw [On2.readAt hX _ (k0_off74_eq k) _ trivial]
  simp [Rect.unit, Shape.Idx.first, Nat.add_comm]

theorem k0_chk30_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk30 i (v.readAt (Elt F) (Rect.unit (s := S16x256) (k0_off74 k) S1x1.size h).toLoadRect X (Shape.Idx.first (s := S1x1) h')) := by
  have g : Good (v.readAt (Elt F) (Rect.unit (s := S16x256) (k0_off74 k) S1x1.size h).toLoadRect X (Shape.Idx.first (s := S1x1) h')) := by
    have hk : k.val < 128 := k.isLt
    rw [k0_off74_word k hX]; exact hW _ _ (by omega) (by omega)
  exact ⟨fun _ => g.1, fun _ a => by fin_cases a; exacts [g.2, Nat.le_refl _]⟩

theorem k0_off76_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off76 k) S1x1.size h).toLoadRect X (Shape.Idx.first (s := S1x1) h') = W 3 (1 * 128 + k.val) := by
  rw [On2.readAt hX _ (k0_off76_eq k) _ trivial]
  simp [Rect.unit, Shape.Idx.first, Nat.add_comm]

theorem k0_chk31_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk31 i (v.readAt (Elt F) (Rect.unit (s := S16x256) (k0_off76 k) S1x1.size h).toLoadRect X (Shape.Idx.first (s := S1x1) h')) := by
  have g : Good (v.readAt (Elt F) (Rect.unit (s := S16x256) (k0_off76 k) S1x1.size h).toLoadRect X (Shape.Idx.first (s := S1x1) h')) := by
    have hk : k.val < 128 := k.isLt
    rw [k0_off76_word k hX]; exact hW _ _ (by omega) (by omega)
  exact ⟨fun _ => g.1, fun _ a => by fin_cases a; exacts [g.2, Nat.le_refl _]⟩

theorem k0_off78_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off78 k) S1x1.size h).toLoadRect X (Shape.Idx.first (s := S1x1) h') = W 4 (1 * 128 + k.val) := by
  rw [On2.readAt hX _ (k0_off78_eq k) _ trivial]
  simp [Rect.unit, Shape.Idx.first, Nat.add_comm]

theorem k0_chk32_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk32 i (v.readAt (Elt F) (Rect.unit (s := S16x256) (k0_off78 k) S1x1.size h).toLoadRect X (Shape.Idx.first (s := S1x1) h')) := by
  have g : Good (v.readAt (Elt F) (Rect.unit (s := S16x256) (k0_off78 k) S1x1.size h).toLoadRect X (Shape.Idx.first (s := S1x1) h')) := by
    have hk : k.val < 128 := k.isLt
    rw [k0_off78_word k hX]; exact hW _ _ (by omega) (by omega)
  exact ⟨fun _ => g.1, fun _ a => by fin_cases a; exacts [g.2, Nat.le_refl _]⟩

theorem k0_off80_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off80 k) S1x1.size h).toLoadRect X (Shape.Idx.first (s := S1x1) h') = W 5 (1 * 128 + k.val) := by
  rw [On2.readAt hX _ (k0_off80_eq k) _ trivial]
  simp [Rect.unit, Shape.Idx.first, Nat.add_comm]

theorem k0_chk33_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk33 i (v.readAt (Elt F) (Rect.unit (s := S16x256) (k0_off80 k) S1x1.size h).toLoadRect X (Shape.Idx.first (s := S1x1) h')) := by
  have g : Good (v.readAt (Elt F) (Rect.unit (s := S16x256) (k0_off80 k) S1x1.size h).toLoadRect X (Shape.Idx.first (s := S1x1) h')) := by
    have hk : k.val < 128 := k.isLt
    rw [k0_off80_word k hX]; exact hW _ _ (by omega) (by omega)
  exact ⟨fun _ => g.1, fun _ a => by fin_cases a; exacts [g.2, Nat.le_refl _]⟩

theorem k0_off82_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off82 k) S1x1.size h).toLoadRect X (Shape.Idx.first (s := S1x1) h') = W 6 (1 * 128 + k.val) := by
  rw [On2.readAt hX _ (k0_off82_eq k) _ trivial]
  simp [Rect.unit, Shape.Idx.first, Nat.add_comm]

theorem k0_chk34_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk34 i (v.readAt (Elt F) (Rect.unit (s := S16x256) (k0_off82 k) S1x1.size h).toLoadRect X (Shape.Idx.first (s := S1x1) h')) := by
  have g : Good (v.readAt (Elt F) (Rect.unit (s := S16x256) (k0_off82 k) S1x1.size h).toLoadRect X (Shape.Idx.first (s := S1x1) h')) := by
    have hk : k.val < 128 := k.isLt
    rw [k0_off82_word k hX]; exact hW _ _ (by omega) (by omega)
  exact ⟨fun _ => g.1, fun _ a => by fin_cases a; exacts [g.2, Nat.le_refl _]⟩

theorem k0_off84_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off84 k) S1x1.size h).toLoadRect X (Shape.Idx.first (s := S1x1) h') = W 7 (1 * 128 + k.val) := by
  rw [On2.readAt hX _ (k0_off84_eq k) _ trivial]
  simp [Rect.unit, Shape.Idx.first, Nat.add_comm]

theorem k0_chk35_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk35 i (v.readAt (Elt F) (Rect.unit (s := S16x256) (k0_off84 k) S1x1.size h).toLoadRect X (Shape.Idx.first (s := S1x1) h')) := by
  have g : Good (v.readAt (Elt F) (Rect.unit (s := S16x256) (k0_off84 k) S1x1.size h).toLoadRect X (Shape.Idx.first (s := S1x1) h')) := by
    have hk : k.val < 128 := k.isLt
    rw [k0_off84_word k hX]; exact hW _ _ (by omega) (by omega)
  exact ⟨fun _ => g.1, fun _ a => by fin_cases a; exacts [g.2, Nat.le_refl _]⟩

theorem k0_off86_word (k : Fin k0_t8_loop.trips) {v : View sig .tc .smem S16x256 .i32} {X : v.ty.Contents (Elt F)} {W : ℕ → ℕ → BitVec 32}
    (hX : Is2 v X W) {h} {h'} :
    v.readAt (Elt F) (Rect.unit (s := S16x256) (k0_off86 k) S1x1.size h).toLoadRect X (Shape.Idx.first (s := S1x1) h') = W 8 (1 * 128 + k.val) := by
  rw [On2.readAt hX _ (k0_off86_eq k) _ trivial]
  simp [Rect.unit, Shape.Idx.first, Nat.add_comm]

theorem k0_chk36_ok (i : grid0.Coords) (k : Fin k0_t8_loop.trips) {v : View sig .tc .smem S16x256 .i32} {X : v.ty.Contents (Elt F)} {W : ℕ → ℕ → BitVec 32}
    (hX : Is2 v X W) (hW : AllGood W) {h} {h'} :
    k0_chk36 i (v.readAt (Elt F) (Rect.unit (s := S16x256) (k0_off86 k) S1x1.size h).toLoadRect X (Shape.Idx.first (s := S1x1) h')) := by
  have g : Good (v.readAt (Elt F) (Rect.unit (s := S16x256) (k0_off86 k) S1x1.size h).toLoadRect X (Shape.Idx.first (s := S1x1) h')) := by
    have hk : k.val < 128 := k.isLt
    rw [k0_off86_word k hX]; exact hW _ _ (by omega) (by omega)
  exact ⟨fun _ => g.1, fun _ a => by fin_cases a; exacts [g.2, Nat.le_refl _]⟩
-- ==== Proof.Ki.Tab.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import Idealize.ShloMosaic.Lib.ValueIdxCore

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-! ## The tables that step 0 builds -/

section Tables
variable {α : Type} {n0 n1 n2 : ℕ}

/-- An array of two axes as a function of natural numbers. -/
def at2 [NeZero n0] [NeZero n1] (v : (⟨2, ![n0, n1]⟩ : Shape).Idx → α) (a b : ℕ) : α := v (ValueIdx.ix2 (Fin.ofNat n0 a) (Fin.ofNat n1 b))

/-- The part of a function of natural numbers that begins at line `r` and column `l`. -/
def blk2 (Q : ℕ → ℕ → α) (r l : ℕ) : (⟨2, ![n0, n1]⟩ : Shape).Idx → α := fun x => Q (r + (x 0).val) (l + (x 1).val)

theorem at2_idx [NeZero n0] [NeZero n1] (v : (⟨2, ![n0, n1]⟩ : Shape).Idx → α) (x : (⟨2, ![n0, n1]⟩ : Shape).Idx) {a b : ℕ}
    (ha : a = (x 0).val) (hb : b = (x 1).val) : at2 v a b = v x := by
  subst ha hb
  refine congrArg v (funext fun d => ?_)
  match d with
  | ⟨0, _⟩ => exact Fin.ext (Nat.mod_eq_of_lt (x 0).isLt)
  | ⟨1, _⟩ => exact Fin.ext (Nat.mod_eq_of_lt (x 1).isLt)

theorem idx2_ext {x y : (⟨2, ![n0, n1]⟩ : Shape).Idx} (h0 : (x 0).val = (y 0).val) (h1 : (x 1).val = (y 1).val) : x = y :=
  funext fun d => match d with
    | ⟨0, _⟩ => Fin.ext h0
    | ⟨1, _⟩ => Fin.ext h1

end Tables

/-- A contiguous load of a rank-2 buffer that holds `G` is the block of `G` there. -/
theorem load2 {Val : EltTy → Type} {κ : Kind} {sp : Space} {e : EltTy} {n0 n1 m0 m1 : ℕ} {v : View sig κ sp ⟨2, ![n0, n1]⟩ e} {f : v.ty.Contents Val}
    {G : ℕ → ℕ → Val e} (h : Is2 v f G) {o : Fin 2 → ℕ} {r l : ℕ} (ho : o = ![r, l]) (inb) :
    v.readAt Val (Rect.unit (s := ⟨2, ![n0, n1]⟩) o ![m0, m1] inb).toLoadRect f = (blk2 G r l : (⟨2, ![m0, m1]⟩ : Shape).Idx → Val e) := by
  subst ho
  funext x
  rw [On2.readAt h _ rfl _ trivial]
  simp [Rect.unit, blk2]

/-- Eight lines cut out of a value and recast to their own shape. -/
theorem slice8 {n0 n1 m0 m1 : ℕ} [NeZero n0] [NeZero n1] {t : FTy} (v : FVec F ⟨2, ![n0, n1]⟩ t) (o : ℕ) (h) (h') (x : (⟨2, ![m0, m1]⟩ : Shape).Idx) :
    shapeCast ⟨2, ![m0, m1]⟩ (extractStridedSlice ⟨2, ![m0, m1]⟩ ![o, 0] v h) h' x = at2 v (o + (x 0).val) (x 1).val := by
  rw [shapeCast_self]
  exact (at2_idx v _ rfl (Nat.zero_add _).symm).symm

/-- The part of the distance table of book `m` and batch chunk `j`: codes by lanes. -/
def tabV (Q CB : ℕ → ℕ → F .bf16) (N : ℕ → ℕ → F .f32) (m j : ℕ) : FVec F S256x128 .f32 :=
  if m = 0 then k0_pay15 (k0_pay89 (blk2 CB 0 0)) (blk2 Q (128 * j) 0) (blk2 N (128 * j) 0)
  else k0_pay51 (k0_pay4 (blk2 CB (256 * m) 0)) (blk2 Q (128 * j) 0)

/-- The distance table: line `2048 * m + 8 * code + j`. -/
def tabN (Q CB : ℕ → ℕ → F .bf16) (N : ℕ → ℕ → F .f32) (row l : ℕ) : F .f32 :=
  at2 (tabV Q CB N (row / 2048) (row % 8)) (row % 2048 / 8) l

/-- The table's lines written before the `c`-th store of chunk `k` of book `m`. -/
def tabDone (m k c a : ℕ) : Prop := a < 2048 * m ∨ (a / 2048 = m ∧ (a % 8 < k ∨ (a % 8 = k ∧ a % 2048 / 64 < c)))

/-- One store of eight table lines. -/
theorem tab_write {v : View sig .tc .vmem S18432x128 .f32} {f : v.ty.Contents (Elt F)} {Q CB : ℕ → ℕ → F .bf16} {N : ℕ → ℕ → F .f32}
    {m k : ℕ} (c : ℕ) (hc : c < 32) (hk : k < 8) {off : Fin 2 → ℕ} (ho : off = ![2048 * m + 64 * c + k, 0])
    (inb) (sp) (w : S8x128.Idx → F .f32) (L : List (View.Piece (Elt F) S18432x128 .f32))
    (hw : ∀ x, w x = at2 (tabV Q CB N m k) (8 * c + (x 0).val) (x 1).val)
    (hL : On2 v (v.writes (Elt F) f L) (fun a _ => tabDone m k c a) (tabN Q CB N)) :
    On2 v (v.writes (Elt F) f (⟨⟨⟨off, S8x128.size, ![8, 1], inb⟩, sp⟩, w⟩ :: L)) (fun a _ => tabDone m k (c + 1) a) (tabN Q CB N) := by
  refine On2.write _ _ _ ho (fun x => ?_) hL ?_
  · have hx : (x 0).val < 8 := (x 0).isLt
    have e1 : (2048 * m + 64 * c + k + 8 * (x 0).val) / 2048 = m := by omega
    have e2 : (2048 * m + 64 * c + k + 8 * (x 0).val) % 8 = k := by omega
    have e3 : (2048 * m + 64 * c + k + 8 * (x 0).val) % 2048 / 8 = 8 * c + (x 0).val := by omega
    have e4 : 0 + 1 * (x 1).val = (x 1).val := by omega
    refine (hw x).trans ?_
    show _ = at2 (tabV Q CB N ((2048 * m + 64 * c + k + 8 * (x 0).val) / 2048) ((2048 * m + 64 * c + k + 8 * (x 0).val) % 8))
      ((2048 * m + 64 * c + k + 8 * (x 0).val) % 2048 / 8) (0 + 1 * (x 1).val)
    rw [e1, e2, e3, e4]
  · intro a b ha hb hd
    by_cases h : tabDone m k c a
    · exact .inl h
    · unfold tabDone at h hd
      exact .inr ⟨⟨a % 64 / 8, show a % 64 / 8 < 8 by omega, show a = 2048 * m + 64 * c + k + 8 * (a % 64 / 8) by omega⟩, ⟨b, hb, show b = 0 + 1 * b by omega⟩⟩

theorem tabDone_next {m k a : ℕ} (h : tabDone m (k + 1) 0 a) : tabDone m k 32 a := by unfold tabDone at *; omega
theorem tabDone_book {m a : ℕ} (h : tabDone (m + 1) 0 0 a) : tabDone m 8 0 a := by unfold tabDone at *; omega
theorem tabDone_all {a : ℕ} (h : a < 18432) : tabDone 9 0 0 a := by unfold tabDone; omega

theorem tabV_0 (Q CB : ℕ → ℕ → F .bf16) (N : ℕ → ℕ → F .f32) (j : ℕ) :
    tabV Q CB N 0 j = k0_pay15 (k0_pay89 (blk2 CB 0 0)) (blk2 Q (128 * j) 0) (blk2 N (128 * j) 0) := if_pos rfl
theorem tabV_succ (Q CB : ℕ → ℕ → F .bf16) (N : ℕ → ℕ → F .f32) (m j : ℕ) :
    tabV Q CB N (m + 1) j = k0_pay51 (k0_pay4 (blk2 CB (256 * (m + 1)) 0)) (blk2 Q (128 * j) 0) := if_neg (Nat.succ_ne_zero m)

/-- The inner products of all queries with all codewords of the nine books side by side. -/
def lutN (Q CB : ℕ → ℕ → F .bf16) (a b : ℕ) : F .f32 := at2 (k0_pay5 (blk2 Q 0 0) (blk2 CB (256 * (b / 256)) 0)) a (b % 256)

/-- The books transposed and scaled by minus two. -/
def cbtN (CB : ℕ → ℕ → F .bf16) (m a b : ℕ) : F .bf16 :=
  k0_pay6 (blk2 CB (256 * m) 0) (ValueIdx.ix3 (0 : Fin 1) (Fin.ofNat 512 a) (Fin.ofNat 256 b))

/-- The queries' squared norms, the same in every lane. -/
def qnN (Q : ℕ → ℕ → F .bf16) (a b : ℕ) : F .f32 := at2 (k0_pay88 (blk2 Q 0 0)) a b

/-- The norms of the database rows looked up in the norm table. -/
def xnN (NC : ℕ → ℕ → BitVec 32) (NT : ℕ → ℕ → F .f32) (a b : ℕ) : F .f32 :=
  at2 (k0_pay10 (blk2 NT 0 0) (blk2 NC (8 * (a / 8)) 0)) (a % 8) b
-- ==== Proof.Ki.Out.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab

public import Idealize.ShloMosaic.Lib.Pointwise
@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-! ## What one point of the grid leaves in the block of distances -/

section Load3
variable {α : Type} {n0 n1 n2 : ℕ}

/-- The part of a function of three natural numbers that begins at the named corner. -/
def blk3 (G : ℕ → ℕ → ℕ → α) (a b c : ℕ) : (⟨3, ![n0, n1, n2]⟩ : Shape).Idx → α := fun x => G (a + (x 0).val) (b + (x 1).val) (c + (x 2).val)

theorem load3 {Val : EltTy → Type} {κ : Kind} {sp : Space} {e : EltTy} {n0 n1 n2 m0 m1 m2 : ℕ} {v : View sig κ sp ⟨3, ![n0, n1, n2]⟩ e} {f : v.ty.Contents Val}
    {G : ℕ → ℕ → ℕ → Val e} (h : Is3 v f G) {o : Fin 3 → ℕ} {a b c : ℕ} (ho : o = ![a, b, c]) (inb) :
    v.readAt Val (Rect.unit (s := ⟨3, ![n0, n1, n2]⟩) o ![m0, m1, m2] inb).toLoadRect f = (blk3 G a b c : (⟨3, ![m0, m1, m2]⟩ : Shape).Idx → Val e) := by
  subst ho
  funext x
  rw [On3.readAt h _ rfl _ trivial]
  simp [Rect.unit, blk3]

end Load3

/-- The table offset of a code: book `m`'s part of the table begins at line `2048 * m`, and a code has eight lines. -/
def wordN (C : ℕ → ℕ → BitVec 32) (m s : ℕ) : BitVec 32 := IntOp.addi (IntOp.muli (C m s) 8#32) (IntOp.muli (BitVec.ofNat 32 m) 2048#32)

/-- What a point stores as table offsets. -/
theorem word_pay (C : ℕ → ℕ → BitVec 32) (x : S1x16x256.Idx) :
    k0_pay94 (F := F) k0_pay1 (blk3 (n0 := 1) (n1 := 16) (n2 := 512) (fun _ => C) 0 0 0) x = wordN C (x 1).val (x 2).val := by
  unfold k0_pay94
  refine (shapeCast_addUnit_apply (α := BitVec 32) (n := 2) ![16, 256] _ _ x).trans ?_
  unfold wordN
  refine congrArg₂ IntOp.addi (congrArg₂ IntOp.muli ?_ rfl) ?_
  · refine (shapeCast_dropUnit_apply (α := BitVec 32) (n := 2) ![16, 512] _ _ _).trans ?_
    show C _ _ = C _ _
    congr 1
    · show 0 + (0 + (x 1).val) = _; omega
    · show 0 + (0 + (x 2).val) = _; omega
  · refine congrArg₂ IntOp.muli (x' := BitVec.ofNat 32 (x 1).val) (congrArg (BitVec.ofNat 32) (?_ : 0 * 16 + (x 1).val = (x 1).val)) rfl
    omega

/-- The offsets read back from a slot through the view that the transfer uses. -/
theorem slot_words {v : Memref sig .tc .vmem S2x16x256 .i32} (C : ℕ → ℕ → BitVec 32) {o : Fin 3 → ℕ} (inb) (hh) (hq) (f : v.view.ty.Contents (Elt F)) (w : S1x16x256.Idx → BitVec 32)
    (hw : ∀ x, w x = wordN C (x 1).val (x 2).val) (L : List (View.Piece (Elt F) S2x16x256 .i32)) (y : S16x256.Idx) :
    View.read (Elt F) ((v.slice (Rect.unit (s := S2x16x256) o S1x16x256.size inb) hh).squeeze S16x256 hq).view
      (v.view.writes (Elt F) f (⟨Rect.unit (s := S2x16x256) o S1x16x256.size inb, w⟩ :: L)) y = wordN C (y 0).val (y 1).val := by
  refine (View.read_writes_cons_emb v.view f (Rect.unit (s := S2x16x256) o S1x16x256.size inb) w L (Shape.reshapeEquiv hq.numel_eq y)).trans ?_
  have e := shapeCast_dropUnit_apply (n := 2) ![16, 256] w hq.numel_eq y
  refine Eq.trans (b := w (Fin.cons ⟨0, Nat.one_pos⟩ y)) e ?_
  exact hw _

/-- A whole buffer that a transfer has just written holds what was sent. -/
theorem whole_words {sp : Space} {n0 n1 : ℕ} {e : EltTy} {v : View sig .tc sp ⟨2, ![n0, n1]⟩ e} {G : ℕ → ℕ → Elt F e} (f : v.ty.Contents (Elt F))
    (w : (⟨2, ![n0, n1]⟩ : Shape).Idx → Elt F e) (hw : ∀ y, w y = G (y 0).val (y 1).val) :
    Is2 v (v.writes (Elt F) f [⟨Rect.whole ⟨2, ![n0, n1]⟩, w⟩]) G := by
  intro y _
  have h := View.read_writes_cons_emb v f (Rect.whole ⟨2, ![n0, n1]⟩) w [] y
  refine Eq.trans ?_ (h.trans (hw y))
  congr 1
  funext a
  exact Fin.ext (by show (y a).val = 0 + 1 * (y a).val; omega)

/-! ## The block of distances -/

/-- The products of the queries with the database vectors that the matrix unit rebuilds from one-hot rows. -/
def mxuV (Q : ℕ → ℕ → F .bf16) (B : ℕ → ℕ → ℕ → F .bf16) (C : ℕ → ℕ → BitVec 32) : FVec F S1024x256 .f32 :=
  have c : Vec F S1x16x512 .i32 := blk3 (fun _ => C) 0 0 0
  k0_pay120 (k0_pay113 c)
    (k0_pay118 (k0_pay113 c)
      (k0_pay116 (k0_pay113 c) (k0_pay114 c) (Scalar.ofBits .f32 0x00000000#32) (k0_pay115 (F := F)) (blk3 B 0 0 0) (blk3 B 1 0 0) (blk3 B 2 0 0))
      (k0_pay117 (F := F) (k0_pay113 c)) (blk3 B 3 0 0) (blk3 B 4 0 0) (blk3 B 5 0 0) (blk3 B 6 0 0))
    (k0_pay119 (k0_pay113 c)) (iota .tc S256x256 32 [0] iota_S256x256_d0_w32) (blk3 B 7 0 0) (blk3 B 8 0 0) (blk2 Q 0 0)

/-- The distance of query `b` to column `s` of point `r`'s block: the first 256 columns by table look-up, the others by the matrix unit. -/
def outN (Q : ℕ → ℕ → F .bf16) (T : ℕ → ℕ → F .f32) (B : ℕ → ℕ → ℕ → F .bf16) (N X : ℕ → ℕ → F .f32) (C : ℕ → ℕ → BitVec 32) (r b s : ℕ) : F .f32 :=
  FloatOps.addf (if s < 256 then rowN T (wordN C) s (b / 128) (b % 128) else FloatOps.addf (at2 (mxuV Q B C) b (s - 256)) (N b (s % 128)))
    (X (4 * r + s / 128) (s % 128))

theorem row_pay {Q : ℕ → ℕ → F .bf16} {T : ℕ → ℕ → F .f32} {B : ℕ → ℕ → ℕ → F .bf16} {N X : ℕ → ℕ → F .f32} {C : ℕ → ℕ → BitVec 32} {r g j : ℕ} (hg : g < 2)
    {v13 : View sig .tc .vmem S192x128 .f32} {f13 : v13.ty.Contents (Elt F)} (hX : Is2 v13 f13 X)
    {v14 : View sig .tc .vmem S2x1056x128 .f32} {f14 : v14.ty.Contents (Elt F)} (hS : On3 v14 f14 (rowsDone g 128) (stageN T (wordN C)))
    {o : Fin 2 → ℕ} (ho : o = ![4 * r + g, 0]) (inb) {o' : Fin 3 → ℕ} (ho' : o' = ![g, 132 * j, 0]) (inb') (x : S128x128.Idx) :
    k0_pay96 (v13.readAt (Elt F) (Rect.unit (s := S192x128) o S1x128.size inb).toLoadRect f13)
      (v14.readAt (Elt F) (Rect.unit (s := S2x1056x128) o' S1x128x128.size inb').toLoadRect f14) x
      = outN Q T B N X C r (128 * j + 1 * (x 0).val) (128 * g + 1 * (x 1).val) := by
  have hx0 : (x 0).val < 128 := (x 0).isLt
  have hx1 : (x 1).val < 128 := (x 1).isLt
  subst ho ho'
  unfold k0_pay96 outN
  rw [if_pos (by omega)]
  refine congrArg₂ FloatOps.addf ?_ ?_
  · refine (shapeCast_dropUnit_apply (n := 2) ![128, 128] _ _ _).trans ?_
    refine (On3.readAt hS _ rfl _ ?_).trans ?_
    · show rowsDone g 128 (g + 1 * 0) (132 * j + 1 * (x 1).val) _
      unfold rowsDone; omega
    · show stageN T (wordN C) (g + 1 * 0) (132 * j + 1 * (x 1).val) (0 + 1 * (x 0).val) = _
      unfold stageN
      congr 1 <;> omega
  · refine (On2.readAt hX _ rfl _ trivial).trans ?_
    show X (4 * r + g + 1 * 0) (0 + 1 * (x 1).val) = _
    congr 1 <;> omega

theorem mxu_pay11 {Q : ℕ → ℕ → F .bf16} {T : ℕ → ℕ → F .f32} {B : ℕ → ℕ → ℕ → F .bf16} {N X : ℕ → ℕ → F .f32} {C : ℕ → ℕ → BitVec 32} {r : ℕ}
    {v13 : View sig .tc .vmem S192x128 .f32} {f13 : v13.ty.Contents (Elt F)} (hX : Is2 v13 f13 X)
    {v12 : View sig .tc .vmem S1024x128 .f32} {f12 : v12.ty.Contents (Elt F)} (hN : Is2 v12 f12 N)
    {o : Fin 2 → ℕ} (ho : o = ![4 * r + 2, 0]) (inb) (inb') (w : FVec F S1024x128 .f32) (hw : w = extractStridedSlice S1024x128 ![0, 0] (mxuV Q B C) slices_S1024x256_o0_0_S1024x128) (x : S1024x128.Idx) :
    k0_pay11 (v13.readAt (Elt F) (Rect.unit (s := S192x128) o S1x128.size inb).toLoadRect f13) w
      (v12.readAt (Elt F) (Rect.unit (s := S1024x128) ![0, 0] S1024x128.size inb').toLoadRect f12) x
      = outN Q T B N X C r (0 + 1 * (x 0).val) (256 + 1 * (x 1).val) := by
  have hx0 : (x 0).val < 1024 := (x 0).isLt
  have hx1 : (x 1).val < 128 := (x 1).isLt
  subst ho hw
  unfold k0_pay11 outN
  rw [if_neg (by omega)]
  refine congrArg₂ FloatOps.addf (congrArg₂ FloatOps.addf ?_ ?_) ?_
  · refine (at2_idx (mxuV Q B C) _ ?_ ?_).symm
    · show 0 + 1 * (x 0).val = 0 + (x 0).val; omega
    · show 256 + 1 * (x 1).val - 256 = 0 + (x 1).val; omega
  · refine (On2.readAt hN _ rfl _ trivial).trans ?_
    show N (0 + 1 * (x 0).val) (0 + 1 * (x 1).val) = _
    congr 1; omega
  · refine (On2.readAt hX _ rfl _ trivial).trans ?_
    show X (4 * r + 2 + 1 * 0) (0 + 1 * (x 1).val) = _
    congr 1 <;> omega

theorem mxu_pay12 {Q : ℕ → ℕ → F .bf16} {T : ℕ → ℕ → F .f32} {B : ℕ → ℕ → ℕ → F .bf16} {N X : ℕ → ℕ → F .f32} {C : ℕ → ℕ → BitVec 32} {r : ℕ}
    {v13 : View sig .tc .vmem S192x128 .f32} {f13 : v13.ty.Contents (Elt F)} (hX : Is2 v13 f13 X)
    {v12 : View sig .tc .vmem S1024x128 .f32} {f12 : v12.ty.Contents (Elt F)} (hN : Is2 v12 f12 N)
    {o : Fin 2 → ℕ} (ho : o = ![4 * r + 3, 0]) (inb) (inb') (w : FVec F S1024x256 .f32) (hw : w = mxuV Q B C) (x : S1024x128.Idx) :
    k0_pay12 w (v13.readAt (Elt F) (Rect.unit (s := S192x128) o S1x128.size inb).toLoadRect f13)
      (v12.readAt (Elt F) (Rect.unit (s := S1024x128) ![0, 0] S1024x128.size inb').toLoadRect f12) x
      = outN Q T B N X C r (0 + 1 * (x 0).val) (384 + 1 * (x 1).val) := by
  have hx0 : (x 0).val < 1024 := (x 0).isLt
  have hx1 : (x 1).val < 128 := (x 1).isLt
  subst ho hw
  unfold k0_pay12 outN
  rw [if_neg (by omega)]
  refine congrArg₂ FloatOps.addf (congrArg₂ FloatOps.addf ?_ ?_) ?_
  · refine (at2_idx (mxuV Q B C) _ ?_ ?_).symm
    · show 0 + 1 * (x 0).val = 0 + (x 0).val; omega
    · show 384 + 1 * (x 1).val - 256 = 128 + (x 1).val; omega
  · refine (On2.readAt hN _ rfl _ trivial).trans ?_
    show N (0 + 1 * (x 0).val) (0 + 1 * (x 1).val) = _
    congr 1 <;> omega
  · refine (On2.readAt hX _ rfl _ trivial).trans ?_
    show X (4 * r + 3 + 1 * 0) (0 + 1 * (x 1).val) = _
    congr 1 <;> omega

/-- The eighteen stores that fill the block. -/
theorem out_pieces {v : View sig .tc .vmem S1024x512 .f32} {f : v.ty.Contents (Elt F)} {G : ℕ → ℕ → F .f32}
    {u384 : S1024x128.Idx → F .f32} (hu384 : ∀ x, u384 x = G (0 + 1 * (x 0).val) (384 + 1 * (x 1).val))
    {u256 : S1024x128.Idx → F .f32} (hu256 : ∀ x, u256 x = G (0 + 1 * (x 0).val) (256 + 1 * (x 1).val))
    {w17 : S128x128.Idx → F .f32} (hw17 : ∀ x, w17 x = G (896 + 1 * (x 0).val) (128 + 1 * (x 1).val))
    {w16 : S128x128.Idx → F .f32} (hw16 : ∀ x, w16 x = G (768 + 1 * (x 0).val) (128 + 1 * (x 1).val))
    {w15 : S128x128.Idx → F .f32} (hw15 : ∀ x, w15 x = G (640 + 1 * (x 0).val) (128 + 1 * (x 1).val))
    {w14 : S128x128.Idx → F .f32} (hw14 : ∀ x, w14 x = G (512 + 1 * (x 0).val) (128 + 1 * (x 1).val))
    {w13 : S128x128.Idx → F .f32} (hw13 : ∀ x, w13 x = G (384 + 1 * (x 0).val) (128 + 1 * (x 1).val))
    {w12 : S128x128.Idx → F .f32} (hw12 : ∀ x, w12 x = G (256 + 1 * (x 0).val) (128 + 1 * (x 1).val))
    {w11 : S128x128.Idx → F .f32} (hw11 : ∀ x, w11 x = G (128 + 1 * (x 0).val) (128 + 1 * (x 1).val))
    {w10 : S128x128.Idx → F .f32} (hw10 : ∀ x, w10 x = G (0 + 1 * (x 0).val) (128 + 1 * (x 1).val))
    {w07 : S128x128.Idx → F .f32} (hw07 : ∀ x, w07 x = G (896 + 1 * (x 0).val) (0 + 1 * (x 1).val))
    {w06 : S128x128.Idx → F .f32} (hw06 : ∀ x, w06 x = G (768 + 1 * (x 0).val) (0 + 1 * (x 1).val))
    {w05 : S128x128.Idx → F .f32} (hw05 : ∀ x, w05 x = G (640 + 1 * (x 0).val) (0 + 1 * (x 1).val))
    {w04 : S128x128.Idx → F .f32} (hw04 : ∀ x, w04 x = G (512 + 1 * (x 0).val) (0 + 1 * (x 1).val))
    {w03 : S128x128.Idx → F .f32} (hw03 : ∀ x, w03 x = G (384 + 1 * (x 0).val) (0 + 1 * (x 1).val))
    {w02 : S128x128.Idx → F .f32} (hw02 : ∀ x, w02 x = G (256 + 1 * (x 0).val) (0 + 1 * (x 1).val))
    {w01 : S128x128.Idx → F .f32} (hw01 : ∀ x, w01 x = G (128 + 1 * (x 0).val) (0 + 1 * (x 1).val))
    {w00 : S128x128.Idx → F .f32} (hw00 : ∀ x, w00 x = G (0 + 1 * (x 0).val) (0 + 1 * (x 1).val)) :
    Is2 (Val := Elt F) v (v.writes (Elt F) f [⟨Rect.unit (s := S1024x512) ![0, 384] S1024x128.size inb_S1024x512_S1024x128_0_384, u384⟩,
      ⟨Rect.unit (s := S1024x512) ![0, 256] S1024x128.size inb_S1024x512_S1024x128_0_256, u256⟩,
      ⟨Rect.unit (s := S1024x512) ![896, 128] S128x128.size inb_S1024x512_S128x128_896_128, w17⟩,
      ⟨Rect.unit (s := S1024x512) ![768, 128] S128x128.size inb_S1024x512_S128x128_768_128, w16⟩,
      ⟨Rect.unit (s := S1024x512) ![640, 128] S128x128.size inb_S1024x512_S128x128_640_128, w15⟩,
      ⟨Rect.unit (s := S1024x512) ![512, 128] S128x128.size inb_S1024x512_S128x128_512_128, w14⟩,
      ⟨Rect.unit (s := S1024x512) ![384, 128] S128x128.size inb_S1024x512_S128x128_384_128, w13⟩,
      ⟨Rect.unit (s := S1024x512) ![256, 128] S128x128.size inb_S1024x512_S128x128_256_128, w12⟩,
      ⟨Rect.unit (s := S1024x512) ![128, 128] S128x128.size inb_S1024x512_S128x128_128_128, w11⟩,
      ⟨Rect.unit (s := S1024x512) ![0, 128] S128x128.size inb_S1024x512_S128x128_0_128, w10⟩,
      ⟨Rect.unit (s := S1024x512) ![896, 0] S128x128.size inb_S1024x512_S128x128_896_0, w07⟩,
      ⟨Rect.unit (s := S1024x512) ![768, 0] S128x128.size inb_S1024x512_S128x128_768_0, w06⟩,
      ⟨Rect.unit (s := S1024x512) ![640, 0] S128x128.size inb_S1024x512_S128x128_640_0, w05⟩,
      ⟨Rect.unit (s := S1024x512) ![512, 0] S128x128.size inb_S1024x512_S128x128_512_0, w04⟩,
      ⟨Rect.unit (s := S1024x512) ![384, 0] S128x128.size inb_S1024x512_S128x128_384_0, w03⟩,
      ⟨Rect.unit (s := S1024x512) ![256, 0] S128x128.size inb_S1024x512_S128x128_256_0, w02⟩,
      ⟨Rect.unit (s := S1024x512) ![128, 0] S128x128.size inb_S1024x512_S128x128_128_0, w01⟩,
      ⟨Rect.unit (s := S1024x512) ![0, 0] S128x128.size inb_S1024x512_S128x128_0_0, w00⟩]) G := by
  refine On2.write (D' := fun _ b => b < 384) _ _ _ rfl hu384 ?_ (fun a b ha hb hd => (Decidable.em ((fun _ b => b < 384) a b)).imp id fun hn => ⟨⟨a - 0, by show _ < 1024; dsimp only at hn hd; omega, by show a = 0 + 1 * (a - 0); dsimp only at hn hd; omega⟩, ⟨b - 384, by show _ < 128; dsimp only at hn hd; omega, by show b = 384 + 1 * (b - 384); dsimp only at hn hd; omega⟩⟩)
  refine On2.write (D' := fun _ b => b < 256) _ _ _ rfl hu256 ?_ (fun a b ha hb hd => (Decidable.em ((fun _ b => b < 256) a b)).imp id fun hn => ⟨⟨a - 0, by show _ < 1024; dsimp only at hn hd; omega, by show a = 0 + 1 * (a - 0); dsimp only at hn hd; omega⟩, ⟨b - 256, by show _ < 128; dsimp only at hn hd; omega, by show b = 256 + 1 * (b - 256); dsimp only at hn hd; omega⟩⟩)
  refine On2.write (D' := fun a b => b < 128 ∨ (b < 256 ∧ a < 896)) _ _ _ rfl hw17 ?_ (fun a b ha hb hd => (Decidable.em ((fun a b => b < 128 ∨ (b < 256 ∧ a < 896)) a b)).imp id fun hn => ⟨⟨a - 896, by show _ < 128; dsimp only at hn hd; omega, by show a = 896 + 1 * (a - 896); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 768)) _ _ _ rfl hw16 ?_ (fun a b ha hb hd => (Decidable.em ((fun a b => b < 128 ∨ (b < 256 ∧ a < 768)) a b)).imp id fun hn => ⟨⟨a - 768, by show _ < 128; dsimp only at hn hd; omega, by show a = 768 + 1 * (a - 768); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 640)) _ _ _ rfl hw15 ?_ (fun a b ha hb hd => (Decidable.em ((fun a b => b < 128 ∨ (b < 256 ∧ a < 640)) a b)).imp id fun hn => ⟨⟨a - 640, by show _ < 128; dsimp only at hn hd; omega, by show a = 640 + 1 * (a - 640); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 512)) _ _ _ rfl hw14 ?_ (fun a b ha hb hd => (Decidable.em ((fun a b => b < 128 ∨ (b < 256 ∧ a < 512)) a b)).imp id fun hn => ⟨⟨a - 512, by show _ < 128; dsimp only at hn hd; omega, by show a = 512 + 1 * (a - 512); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 384)) _ _ _ rfl hw13 ?_ (fun a b ha hb hd => (Decidable.em ((fun a b => b < 128 ∨ (b < 256 ∧ a < 384)) a b)).imp id fun hn => ⟨⟨a - 384, by show _ < 128; dsimp only at hn hd; omega, by show a = 384 + 1 * (a - 384); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 256)) _ _ _ rfl hw12 ?_ (fun a b ha hb hd => (Decidable.em ((fun a b => b < 128 ∨ (b < 256 ∧ a < 256)) a b)).imp id fun hn => ⟨⟨a - 256, by show _ < 128; dsimp only at hn hd; omega, by show a = 256 + 1 * (a - 256); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 128)) _ _ _ rfl hw11 ?_ (fun a b ha hb hd => (Decidable.em ((fun a b => b < 128 ∨ (b < 256 ∧ a < 128)) a b)).imp id fun hn => ⟨⟨a - 128, by show _ < 128; dsimp only at hn hd; omega, by show a = 128 + 1 * (a - 128); dsimp only at hn hd; omega⟩, ⟨b - 128, by show _ < 128; dsimp only at hn hd; omega, by show b = 128 + 1 * (b - 128); dsimp only at hn hd; omega⟩⟩)
  refine On2.write (D' := fun a b => b < 128 ∨ (b < 256 ∧ a < 0)) _ _ _ rfl hw10 ?_ (fun a b ha hb hd => (Decidable.em ((fun a b => b < 128 ∨ (b < 256 ∧ a < 0)) a b)).imp id fun hn => ⟨⟨a - 0, by show _ < 128; dsimp only at hn hd; omega, by show a = 0 + 1 * (a - 0); dsimp only at hn hd; omega⟩, ⟨b - 128, by show _ < 128; dsimp only at hn hd; omega, by show b = 128 + 1 * (b - 128); dsimp only at hn hd; omega⟩⟩)
  refine On2.write (D' := fun a b => b < 128 ∧ a < 896) _ _ _ rfl hw07 ?_ (fun a b ha hb hd => (Decidable.em ((fun a b => b < 128 ∧ a < 896) a b)).imp id fun hn => ⟨⟨a - 896, by show _ < 128; dsimp only at hn hd; omega, by show a = 896 + 1 * (a - 896); dsimp only at hn hd; omega⟩, ⟨b - 0, by show _ < 128; dsimp only at hn hd; omega, by show b = 0 + 1 * (b - 0); dsimp only at hn hd; omega⟩⟩)
  refine On2.write (D' := fun a b => b < 128 ∧ a < 768) _ _ _ rfl hw06 ?_ (fun a b ha hb hd => (Decidable.em ((fun a b => b < 128 ∧ a < 768) a b)).imp id fun hn => ⟨⟨a - 768, by show _ < 128; dsimp only at hn hd; omega, by show a = 768 + 1 * (a - 768); dsimp only at hn hd; omega⟩, ⟨b - 0, by show _ < 128; dsimp only at hn hd; omega, by show b = 0 + 1 * (b - 0); dsimp only at hn hd; omega⟩⟩)
  refine On2.write (D' := fun a b => b < 128 ∧ a < 640) _ _ _ rfl hw05 ?_ (fun a b ha hb hd => (Decidable.em ((fun a b => b < 128 ∧ a < 640) a b)).imp id fun hn => ⟨⟨a - 640, by show _ < 128; dsimp only at hn hd; omega, by show a = 640 + 1 * (a - 640); dsimp only at hn hd; omega⟩, ⟨b - 0, by show _ < 128; dsimp only at hn hd; omega, by show b = 0 + 1 * (b - 0); dsimp only at hn hd; omega⟩⟩)
  refine On2.write (D' := fun a b => b < 128 ∧ a < 512) _ _ _ rfl hw04 ?_ (fun a b ha hb hd => (Decidable.em ((fun a b => b < 128 ∧ a < 512) a b)).imp id fun hn => ⟨⟨a - 512, by show _ < 128; dsimp only at hn hd; omega, by show a = 512 + 1 * (a - 512); dsimp only at hn hd; omega⟩, ⟨b - 0, by show _ < 128; dsimp only at hn hd; omega, by show b = 0 + 1 * (b - 0); dsimp only at hn hd; omega⟩⟩)
  refine On2.write (D' := fun a b => b < 128 ∧ a < 384) _ _ _ rfl hw03 ?_ (fun a b ha hb hd => (Decidable.em ((fun a b => b < 128 ∧ a < 384) a b)).imp id fun hn => ⟨⟨a - 384, by show _ < 128; dsimp only at hn hd; omega, by show a = 384 + 1 * (a - 384); dsimp only at hn hd; omega⟩, ⟨b - 0, by show _ < 128; dsimp only at hn hd; omega, by show b = 0 + 1 * (b - 0); dsimp only at hn hd; omega⟩⟩)
  refine On2.write (D' := fun a b => b < 128 ∧ a < 256) _ _ _ rfl hw02 ?_ (fun a b ha hb hd => (Decidable.em ((fun a b => b < 128 ∧ a < 256) a b)).imp id fun hn => ⟨⟨a - 256, by show _ < 128; dsimp only at hn hd; omega, by show a = 256 + 1 * (a - 256); dsimp only at hn hd; omega⟩, ⟨b - 0, by show _ < 128; dsimp only at hn hd; omega, by show b = 0 + 1 * (b - 0); dsimp only at hn hd; omega⟩⟩)
  refine On2.write (D' := fun a b => b < 128 ∧ a < 128) _ _ _ rfl hw01 ?_ (fun a b ha hb hd => (Decidable.em ((fun a b => b < 128 ∧ a < 128) a b)).imp id fun hn => ⟨⟨a - 128, by show _ < 128; dsimp only at hn hd; omega, by show a = 128 + 1 * (a - 128); dsimp only at hn hd; omega⟩, ⟨b - 0, by show _ < 128; dsimp only at hn hd; omega, by show b = 0 + 1 * (b - 0); dsimp only at hn hd; omega⟩⟩)
  refine On2.write (D' := fun a b => b < 128 ∧ a < 0) _ _ _ rfl hw00 ?_ (fun a b ha hb hd => (Decidable.em ((fun a b => b < 128 ∧ a < 0) a b)).imp id fun hn => ⟨⟨a - 0, by show _ < 128; dsimp only at hn hd; omega, by show a = 0 + 1 * (a - 0); dsimp only at hn hd; omega⟩, ⟨b - 0, by show _ < 128; dsimp only at hn hd; omega, by show b = 0 + 1 * (b - 0); dsimp only at hn hd; omega⟩⟩)
  exact fun y h => absurd h.2 (Nat.not_lt_zero _)
-- ==== Proof.Ki.State.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Out

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-- A buffer that holds `G`. -/
def held2 {sp : Space} {n0 n1 : ℕ} {e : EltTy} (c : Dev nD) (m : Memref sig .tc sp ⟨2, ![n0, n1]⟩ e) (G : ℕ → ℕ → Elt F e) : sProp 𝕄U :=
  iprop(∃ f, (m.view.loc (c : Thread nD τ) ↦[m.view.set]{fullShare} f) ∗ ⌜Is2 (Val := Elt F) m.view f G⌝)

/-- A buffer that holds `G`. -/
def held3 {sp : Space} {n0 n1 n2 : ℕ} {e : EltTy} (c : Dev nD) (m : Memref sig .tc sp ⟨3, ![n0, n1, n2]⟩ e) (G : ℕ → ℕ → ℕ → Elt F e) : sProp 𝕄U :=
  iprop(∃ f, (m.view.loc (c : Thread nD τ) ↦[m.view.set]{fullShare} f) ∗ ⌜Is3 (Val := Elt F) m.view f G⌝)

/-- A buffer with whatever it holds. -/
def held {sp : Space} {s : Shape} {e : EltTy} (c : Dev nD) (m : Memref sig .tc sp s e) : sProp 𝕄U :=
  iprop(∃ f, m.view.loc (c : Thread nD τ) ↦[m.view.set]{fullShare} f)

/-- The table of products is on its way to the second result. -/
def lutFly (c : Dev nD) (arg8 : Memref sig .tc .hbm S1024x2304 .f32) (arg9 : Memref sig .tc .vmem S1024x2304 .f32) (arg18 : DmaSems sig S_) (L : ℕ → ℕ → F .f32) : sProp 𝕄U :=
  iprop(∃ fd fs, Transfers.Flight (countersEmb (U := UU nD τ)) (c : Thread nD τ) (SemLoc.dma arg18.sem) default 294912
      iprop((arg8.view.loc (c : Thread nD τ) ↦[arg8.view.set]{fullShare} fd) ∗ (arg9.view.loc (c : Thread nD τ) ↦[arg9.view.set]{fullShare} fs))
    ∗ ⌜Is2 (Val := Elt F) arg8.view fd L⌝)

/-- The offsets `W` are on their way from slot 0 to their scalar memory; the rest of the slots is at hand. -/
def offFly0 (c : Dev nD) (arg15 : Memref sig .tc .vmem S2x16x256 .i32) (arg16 : Memref sig .tc .smem S16x256 .i32) (arg19 : DmaSems sig S_) (W : ℕ → ℕ → BitVec 32) : sProp 𝕄U :=
  iprop(∃ fd fs, Transfers.Flight (countersEmb (U := UU nD τ)) (c : Thread nD τ) (SemLoc.dma arg19.sem) default 512
      iprop((arg16.view.loc (c : Thread nD τ) ↦[arg16.view.set]{fullShare} fd)
        ∗ (arg15.view.loc (c : Thread nD τ) ↦[((arg15.slice (Rect.unit (s := S2x16x256) ![0, 0, 0] S1x16x256.size inb_S2x16x256_S1x16x256_0_0_0) (fun _ => rfl)).squeeze S16x256 squeezes_S1x16x256_S16x256).view.set]{fullShare} fs))
    ∗ (arg15.view.loc (c : Thread nD τ) ↦[arg15.view.set \ ((arg15.slice (Rect.unit (s := S2x16x256) ![0, 0, 0] S1x16x256.size inb_S2x16x256_S1x16x256_0_0_0) (fun _ => rfl)).squeeze S16x256 squeezes_S1x16x256_S16x256).view.set]{fullShare} fs)
    ∗ ⌜Is2 (Val := Elt F) arg16.view fd W⌝)

/-- The offsets `W` are on their way from slot 1 to their scalar memory; the rest of the slots is at hand. -/
def offFly1 (c : Dev nD) (arg15 : Memref sig .tc .vmem S2x16x256 .i32) (arg17 : Memref sig .tc .smem S16x256 .i32) (arg20 : DmaSems sig S_) (W : ℕ → ℕ → BitVec 32) : sProp 𝕄U :=
  iprop(∃ fd fs, Transfers.Flight (countersEmb (U := UU nD τ)) (c : Thread nD τ) (SemLoc.dma arg20.sem) default 512
      iprop((arg17.view.loc (c : Thread nD τ) ↦[arg17.view.set]{fullShare} fd)
        ∗ (arg15.view.loc (c : Thread nD τ) ↦[((arg15.slice (Rect.unit (s := S2x16x256) ![1, 0, 0] S1x16x256.size inb_S2x16x256_S1x16x256_1_0_0) (fun _ => rfl)).squeeze S16x256 squeezes_S1x16x256_S16x256).view.set]{fullShare} fs))
    ∗ (arg15.view.loc (c : Thread nD τ) ↦[arg15.view.set \ ((arg15.slice (Rect.unit (s := S2x16x256) ![1, 0, 0] S1x16x256.size inb_S2x16x256_S1x16x256_1_0_0) (fun _ => rfl)).squeeze S16x256 squeezes_S1x16x256_S16x256).view.set]{fullShare} fs)
    ∗ ⌜Is2 (Val := Elt F) arg17.view fd W⌝)
-- ==== Proof.Ki.Host.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import proofs.«01_k».proof.Proof.Ki.Base
public import proofs.«01_k».proof.Proof.Ki.Model
public import proofs.«01_k».proof.Proof.Ki.Tab
public import proofs.«01_k».proof.Proof.Ki.Out

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxRecDepth 16384
variable (m : (ℓ : Loc nD τ sig) → Buf (Elt F) ℓ)

/-- The grid point's number, and every window's block there. -/
theorem coords_val : ∀ t : Fin cfg0.N, (grid0.coords t 0).val = t.val := (by decide +kernel : ∀ t : Fin grid0.N, _)
theorem idx_val : ∀ t : Fin cfg0.N, win0_0.index t = ![0, 0] ∧ win0_1.index t = ![0, 0] ∧ win0_2.index t = ![0, 0] ∧ win0_3.index t = ![0, 0]
    ∧ win0_4.index t = ![t.val, 0, 0] ∧ win0_5.index t = ![min (t.val + 1) 47, 0, 0] ∧ win0_6.index t = ![0, t.val] :=
  (by decide +kernel : ∀ t : Fin grid0.N, _)

/-- The query rows. -/
def qA (Q : FVec F S1024x512 .bf16) (a b : ℕ) : F .bf16 := at2 Q a b
/-- The codebooks' rows, one book after the other. -/
def cbA (CB : FVec F S9x256x512 .bf16) (a b : ℕ) : F .bf16 := CB (ValueIdx.ix3 (Fin.ofNat 9 (a / 256)) (Fin.ofNat 256 (a % 256)) (Fin.ofNat 512 b))
/-- The codes of the norms, 128 to a row. -/
def ncA (NC : IVec S24576 8) (a b : ℕ) : BitVec 32 := (NC (ValueIdx.ix1 (Fin.ofNat 24576 (128 * a + b)))).setWidth 32
/-- The table of norms. -/
def ntA (NT : FVec F S256 .f32) (_a b : ℕ) : F .f32 := NT (ValueIdx.ix1 (Fin.ofNat 256 b))
/-- The codes of block `t`: book `r`, database row `s` of the block. -/
def coA (CO : IVec S24576x9 8) (t r s : ℕ) : BitVec 32 :=
  if r < 9 then (CO (ValueIdx.ix2 (Fin.ofNat 24576 (512 * t + s)) (Fin.ofNat 9 r))).setWidth 32 else 0#32

theorem coA_pos (CO : IVec S24576x9 8) (t : ℕ) {r : ℕ} (s : ℕ) (h : r < 9) :
    coA CO t r s = (CO (ValueIdx.ix2 (Fin.ofNat 24576 (512 * t + s)) (Fin.ofNat 9 r))).setWidth 32 := if_pos h
theorem coA_neg (CO : IVec S24576x9 8) (t : ℕ) {r : ℕ} (s : ℕ) (h : ¬ r < 9) : coA CO t r s = 0#32 := if_neg h

theorem V_v0 (c : Dev nD) : V m c main_v0 = shapeCast S2304x512 (m ((c : Thread nD τ).loc main_arg1) : FVec F S9x256x512 .bf16) shapeCasts_S9x256x512_S2304x512 := by
  unfold V; simp only [hostOps0, hostOps0_1, hostOps0_2, List.flatten_cons, List.flatten_nil, List.append_nil, List.cons_append, List.nil_append]
  entry_read; rfl
theorem V_v5 (c : Dev nD) : V m c main_v5 = transpose S48x16x512 [1, 0, 2] (shapeCast S16x48x512 (pad S16x24576 ![0, 0] ![7, 0] ![0, 0] (transpose S9x24576 [1, 0] (extui 32 (m ((c : Thread nD τ).loc main_arg2) : IVec S24576x9 8) natLt_8_32) transposes_S24576x9_S9x24576_1_0) (constantI S_ 32 0#32) pads_S9x24576_S16x24576_070_000 h_S_) shapeCasts_S16x24576_S16x48x512) transposes_S16x48x512_S48x16x512_1_0_2 := by
  unfold V; simp only [hostOps0, hostOps0_1, hostOps0_2, List.flatten_cons, List.flatten_nil, List.append_nil, List.cons_append, List.nil_append]
  entry_read; rfl
theorem V_v7 (c : Dev nD) : V m c main_v7 = extui 32 (shapeCast S192x128 (m ((c : Thread nD τ).loc main_arg3) : IVec S24576 8) shapeCasts_S24576_S192x128) natLt_8_32 := by
  unfold V; simp only [hostOps0, hostOps0_1, hostOps0_2, List.flatten_cons, List.flatten_nil, List.append_nil, List.cons_append, List.nil_append]
  entry_read; rfl
theorem V_v8 (c : Dev nD) : V m c main_v8 = shapeCast S1x256 (m ((c : Thread nD τ).loc main_arg4) : FVec F S256 .f32) shapeCasts_S256_S1x256 := by
  unfold V; simp only [hostOps0, hostOps0_1, hostOps0_2, List.flatten_cons, List.flatten_nil, List.append_nil, List.cons_append, List.nil_append]
  entry_read; rfl

theorem iblk0 (c : Dev nD) (t : Fin cfg0.N) (y : S1024x512.Idx) : iblk m c 0 t y = qA (m ((c : Thread nD τ).loc main_arg0)) (y 0).val (y 1).val := by
  unfold qA at2
  blk_ext [iblk, V, idx_val t] <;> simp only [ValueIdx.ix2, Fin.ofNat] <;> exact (Nat.mod_eq_of_lt (by assumption)).symm
theorem cb_cast {α : Type} (X : S9x256x512.Idx → α) (i : S2304x512.Idx) : shapeCast S2304x512 X shapeCasts_S9x256x512_S2304x512 i
    = X (ValueIdx.ix3 (Fin.ofNat 9 ((i 0).val / 256)) (Fin.ofNat 256 ((i 0).val % 256)) (Fin.ofNat 512 (i 1).val)) := by
  have h0 : (i 0).val < 2304 := (i 0).isLt
  have h1 : (i 1).val < 512 := (i 1).isLt
  refine shapeCast_apply _ _ _ _ ?_
  rw [Shape.rowMajor_val_three, Shape.rowMajor_val_two]
  show ((i 0).val / 256 % 9 * 256 + (i 0).val % 256 % 256) * 512 + (i 1).val % 512 = (i 0).val * 512 + (i 1).val
  omega
theorem iblk1 (c : Dev nD) (t : Fin cfg0.N) (y : S2304x512.Idx) : iblk m c 1 t y = cbA (m ((c : Thread nD τ).loc main_arg1)) (y 0).val (y 1).val := by
  unfold cbA
  blk_simp [iblk]
  rw [V_v0]
  refine (cb_cast (m ((c : Thread nD τ).loc main_arg1) : FVec F S9x256x512 .bf16) _).trans ?_
  blk_simp [idx_val t]
theorem iblk4 (c : Dev nD) (t : Fin cfg0.N) (y : S1x16x512.Idx) : iblk m c 4 t y = coA (m ((c : Thread nD τ).loc main_arg2)) t.val (y 1).val (y 2).val := by
  have h0 : (y 0).val < 1 := (y 0).isLt
  have h2 : (y 2).val < 512 := (y 2).isLt
  have ht : t.val < 48 := t.isLt
  blk_simp [iblk]
  rw [V_v5]; pointwise; blk_simp [idx_val t]
  by_cases h : (y 1).val < 9
  · have hc : (y 1).val < 9 ∧ t.val * 512 + (y 2).val < 24576 := ⟨h, by omega⟩
    refine (dif_pos hc).trans (Eq.trans ?_ (coA_pos _ _ _ h).symm)
    refine congrArg₂ (fun (k : Fin 24576) (l : Fin 9) => BitVec.setWidth 32 ((m ((c : Thread nD τ).loc main_arg2) : IVec S24576x9 8) (ValueIdx.ix2 k l))) (Fin.ext ?_) (Fin.ext ?_)
    · show t.val * 512 + (y 2).val = (512 * t.val + (y 2).val) % 24576; omega
    · show (y 1).val = (y 1).val % 9; omega
  · have hc : ¬ ((y 1).val < 9 ∧ t.val * 512 + (y 2).val < 24576) := fun q => h q.1
    exact (dif_neg hc).trans (coA_neg _ _ _ h).symm
theorem iblk5 (c : Dev nD) (t : Fin cfg0.N) (y : S1x16x512.Idx) : iblk m c 5 t y = coA (m ((c : Thread nD τ).loc main_arg2)) (min (t.val + 1) 47) (y 1).val (y 2).val := by
  have h0 : (y 0).val < 1 := (y 0).isLt
  have h2 : (y 2).val < 512 := (y 2).isLt
  have ht : min (t.val + 1) 47 < 48 := by omega
  blk_simp [iblk]
  rw [V_v5]; pointwise; blk_simp [idx_val t]
  by_cases h : (y 1).val < 9
  · have hc : (y 1).val < 9 ∧ min (t.val + 1) 47 * 512 + (y 2).val < 24576 := ⟨h, by omega⟩
    refine (dif_pos hc).trans (Eq.trans ?_ (coA_pos _ _ _ h).symm)
    refine congrArg₂ (fun (k : Fin 24576) (l : Fin 9) => BitVec.setWidth 32 ((m ((c : Thread nD τ).loc main_arg2) : IVec S24576x9 8) (ValueIdx.ix2 k l))) (Fin.ext ?_) (Fin.ext ?_)
    · show min (t.val + 1) 47 * 512 + (y 2).val = (512 * min (t.val + 1) 47 + (y 2).val) % 24576; omega
    · show (y 1).val = (y 1).val % 9; omega
  · have hc : ¬ ((y 1).val < 9 ∧ min (t.val + 1) 47 * 512 + (y 2).val < 24576) := fun q => h q.1
    exact (dif_neg hc).trans (coA_neg _ _ _ h).symm
theorem good_code (CO : IVec S24576x9 8) (t : ℕ) : AllGood (wordN (coA CO t)) := by
  intro r s hr _
  have hc : (coA CO t r s).toNat < 256 := by
    rw [coA_pos _ _ _ hr, BitVec.toNat_setWidth]
    have := (CO (ValueIdx.ix2 (Fin.ofNat 24576 (512 * t + s)) (Fin.ofNat 9 r))).isLt
    omega
  have e : (wordN (coA CO t) r s).toNat = (coA CO t r s).toNat * 8 + r * 2048 := by
    show ((coA CO t r s) * 8#32 + BitVec.ofNat 32 r * 2048#32).toNat = _
    simp only [BitVec.toNat_add, BitVec.toNat_mul, BitVec.toNat_ofNat]
    omega
  refine ⟨?_, ?_⟩ <;> rw [e] <;> omega
theorem iblk2 (c : Dev nD) (t : Fin cfg0.N) (y : S192x128.Idx) : iblk m c 2 t y = ncA (m ((c : Thread nD τ).loc main_arg3)) (y 0).val (y 1).val := by
  unfold ncA
  have h0 : (y 0).val < 192 := (y 0).isLt
  have h1 : (y 1).val < 128 := (y 1).isLt
  blk_simp [iblk]
  rw [V_v7]; pointwise; blk_simp [idx_val t]
  refine congrArg (fun (k : Fin 24576) => BitVec.setWidth 32 ((m ((c : Thread nD τ).loc main_arg3) : IVec S24576 8) (ValueIdx.ix1 k))) (Fin.ext ?_)
  show (y 0).val * 128 + (y 1).val = (128 * (y 0).val + (y 1).val) % 24576
  omega
theorem iblk3 (c : Dev nD) (t : Fin cfg0.N) (y : S1x256.Idx) : iblk m c 3 t y = ntA (m ((c : Thread nD τ).loc main_arg4)) (y 0).val (y 1).val := by
  unfold ntA
  have h1 : (y 1).val < 256 := (y 1).isLt
  blk_simp [iblk]
  rw [V_v8]; pointwise; blk_ext [idx_val t]
  exact (Nat.mod_eq_of_lt h1).symm
-- ==== Proof.Ki.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

attribute [local irreducible] k0_chk1 k0_chk2 k0_chk3 k0_chk4 k0_chk5 k0_chk6 k0_chk7 k0_chk8 k0_chk9 k0_chk10 k0_chk11 k0_chk12 k0_chk13 k0_chk14 k0_chk15 k0_chk16 k0_chk17 k0_chk18 k0_chk19 k0_chk20 k0_chk21 k0_chk22 k0_chk23 k0_chk24 k0_chk25 k0_chk26 k0_chk27 k0_chk28 k0_chk29 k0_chk30 k0_chk31 k0_chk32 k0_chk33 k0_chk34 k0_chk35 k0_chk36

/-- One trip sums one row of group 0 from the table into the staging buffer. -/
theorem trip5 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h2 : k0_cond2 i = 1#1) (T : ℕ → ℕ → F .f32) (W : ℕ → ℕ → BitVec 32)
    (X10 : BufTy.Contents (Elt F) arg10.view.ty) (XW : BufTy.Contents (Elt F) arg16.view.ty)
    (hT : Is2 arg10.view X10 T) (hX : Is2 arg16.view XW W) (hW : AllGood W) (k : Fin k0_t5_loop.trips) :
    (iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 0 k) (stageN T W)⌝)) : sProp 𝕄U)
    ⊢ wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 k PUnit.unit)
      (fun _ => iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 0 (k + 1)) (stageN T W)⌝))) := by
  unfold k0_t5_body
  iintro ⟨H10, HW, ⟨%f14, H14, %h14⟩⟩
  sl_exec (disch := first | exact k0_chk1_ok i k hX hW | exact k0_chk2_ok i k hX hW | exact k0_chk3_ok i k hX hW | exact k0_chk4_ok i k hX hW | exact k0_chk5_ok i k hX hW | exact k0_chk6_ok i k hX hW | exact k0_chk7_ok i k hX hW | exact k0_chk8_ok i k hX hW | exact k0_chk9_ok i k hX hW)
  sl_step
  isplitl [H10]; · iexact H10
  isplitl [HW]; · iexact HW
  iexists _; isplitl [H14]; · iexact H14
  ipureintro
  refine On3.write _ _ [] (k0_off28_eq k) (fun x => ?_) (D' := rowsDone 0 k) h14 ?_
  · refine Eq.trans ?_ (stageN_at T W (g := 0) (x 0).isLt k.isLt).symm
    exact row_pay5 _ _ _ _ _ _ _ _ _ _ x (slice_at hT (k0_off10_word k hX) rfl _) (slice_at hT (k0_off12_word k hX) rfl _) (slice_at hT (k0_off14_word k hX) rfl _) (slice_at hT (k0_off16_word k hX) rfl _) (slice_at hT (k0_off18_word k hX) rfl _) (slice_at hT (k0_off20_word k hX) rfl _) (slice_at hT (k0_off22_word k hX) rfl _) (slice_at hT (k0_off24_word k hX) rfl _) (slice_at hT (k0_off26_word k hX) rfl _)
  · intro a b c' ha hb hc hd
    exact rowsDone_step hb k.isLt hc hd

/-- One trip sums one row of group 1 from the table into the staging buffer. -/
theorem trip6 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h2 : k0_cond2 i = 1#1) (v73 : FVec F S128x128 .f32) (T : ℕ → ℕ → F .f32) (W : ℕ → ℕ → BitVec 32)
    (X10 : BufTy.Contents (Elt F) arg10.view.ty) (XW : BufTy.Contents (Elt F) arg16.view.ty)
    (hT : Is2 arg10.view X10 T) (hX : Is2 arg16.view XW W) (hW : AllGood W) (k : Fin k0_t6_loop.trips) :
    (iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 1 k) (stageN T W)⌝)) : sProp 𝕄U)
    ⊢ wp frame (wpE (defs₀ (F := F)) 𝒱₀ (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 k PUnit.unit)
      (fun _ => iprop((arg10.view.loc (c : Thread nD τ) ↦[arg10.view.set]{fullShare} X10) ∗ (arg16.view.loc (c : Thread nD τ) ↦[arg16.view.set]{fullShare} XW)
      ∗ (∃ f, (arg14.view.loc (c : Thread nD τ) ↦[arg14.view.set]{fullShare} f) ∗ ⌜On3 arg14.view f (rowsDone 1 (k + 1)) (stageN T W)⌝))) := by
  unfold k0_t6_body
  iintro ⟨H10, HW, ⟨%f14, H14, %h14⟩⟩
  sl_exec (disch := first | exact k0_chk10_ok i k hX hW | exact k0_chk11_ok i k hX hW | exact k0_chk12_ok i k hX hW | exact k0_chk13_ok i k hX hW | exact k0_chk14_ok i k hX hW | exact k0_chk15_ok i k hX hW | exact k0_chk16_ok i k hX hW | exact k0_chk17_ok i k hX hW | exact k0_chk18_ok i k hX hW)
  sl_step
  isplitl [H10]; · iexact H10
  isplitl [HW]; · iexact HW
  iexists _; isplitl [H14]; · iexact H14
  ipureintro
  refine On3.write _ _ [] (k0_off48_eq k) (fun x => ?_) (D' := rowsDone 1 k) h14 ?_
  · refine Eq.trans ?_ (stageN_at T W (g := 1) (x 0).isLt k.isLt).symm
    exact row_pay6 _ _ _ _ _ _ _ _ _ _ x (slice_at hT (k0_off30_word k hX) rfl _) (slice_at hT (k0_off32_word k hX) rfl _) (slice_at hT (k0_off34_word k hX) rfl _) (slice_at hT (k0_off36_word k hX) rfl _) (slice_at hT (k0_off38_word k hX) rfl _) (slice_at hT (k0_off40_word k hX) rfl _) (slice_at hT (k0_off42_word k hX) rfl _) (slice_at hT (k0_off44_word k hX) rfl _) (slice_at hT (k0_off46_word k hX) rfl _)
  · intro a b c' ha hb hc hd
    exact rowsDone_step hb k.isLt hc hd

/-- One trip sums one row of group 0 from the table into the staging buffer. -/
theorem trip7 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h4 : k0_cond4 i = 1#1) (T : ℕ → ℕ → F .f32) (W : ℕ → ℕ → BitVec 32)
    (X10 : BufTy.Contents (Elt F) arg10.view.ty) (XW : BufTy.Contents (Elt F) arg17.view.ty)
    (hT : Is2 arg10.view X10 T) (hX : Is2 arg17.view XW W) (hW : AllGood W) (k : Fin k0_t7_loop.trips) :
    (iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 0 k) (stageN T W)⌝)) : sProp 𝕄U)
    ⊢ wp frame (wpE (defs₀ (F := F)) 𝒱₀ (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 k PUnit.unit)
      (fun _ => iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 0 (k + 1)) (stageN T W)⌝))) := by
  unfold k0_t7_body
  iintro ⟨H10, HW, ⟨%f14, H14, %h14⟩⟩
  sl_exec (disch := first | exact k0_chk19_ok i k hX hW | exact k0_chk20_ok i k hX hW | exact k0_chk21_ok i k hX hW | exact k0_chk22_ok i k hX hW | exact k0_chk23_ok i k hX hW | exact k0_chk24_ok i k hX hW | exact k0_chk25_ok i k hX hW | exact k0_chk26_ok i k hX hW | exact k0_chk27_ok i k hX hW)
  sl_step
  isplitl [H10]; · iexact H10
  isplitl [HW]; · iexact HW
  iexists _; isplitl [H14]; · iexact H14
  ipureintro
  refine On3.write _ _ [] (k0_off68_eq k) (fun x => ?_) (D' := rowsDone 0 k) h14 ?_
  · refine Eq.trans ?_ (stageN_at T W (g := 0) (x 0).isLt k.isLt).symm
    exact row_pay7 _ _ _ _ _ _ _ _ _ _ x (slice_at hT (k0_off50_word k hX) rfl _) (slice_at hT (k0_off52_word k hX) rfl _) (slice_at hT (k0_off54_word k hX) rfl _) (slice_at hT (k0_off56_word k hX) rfl _) (slice_at hT (k0_off58_word k hX) rfl _) (slice_at hT (k0_off60_word k hX) rfl _) (slice_at hT (k0_off62_word k hX) rfl _) (slice_at hT (k0_off64_word k hX) rfl _) (slice_at hT (k0_off66_word k hX) rfl _)
  · intro a b c' ha hb hc hd
    exact rowsDone_step hb k.isLt hc hd

/-- One trip sums one row of group 1 from the table into the staging buffer. -/
theorem trip8 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h4 : k0_cond4 i = 1#1) (v73 : FVec F S128x128 .f32) (T : ℕ → ℕ → F .f32) (W : ℕ → ℕ → BitVec 32)
    (X10 : BufTy.Contents (Elt F) arg10.view.ty) (XW : BufTy.Contents (Elt F) arg17.view.ty)
    (hT : Is2 arg10.view X10 T) (hX : Is2 arg17.view XW W) (hW : AllGood W) (k : Fin k0_t8_loop.trips) :
    (iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 1 k) (stageN T W)⌝)) : sProp 𝕄U)
    ⊢ wp frame (wpE (defs₀ (F := F)) 𝒱₀ (c : Thread nD τ) none) Set.univ (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 k PUnit.unit)
      (fun _ => iprop((arg10.view.loc (c : Thread nD τ) ↦[arg10.view.set]{fullShare} X10) ∗ (arg17.view.loc (c : Thread nD τ) ↦[arg17.view.set]{fullShare} XW)
      ∗ (∃ f, (arg14.view.loc (c : Thread nD τ) ↦[arg14.view.set]{fullShare} f) ∗ ⌜On3 arg14.view f (rowsDone 1 (k + 1)) (stageN T W)⌝))) := by
  unfold k0_t8_body
  iintro ⟨H10, HW, ⟨%f14, H14, %h14⟩⟩
  sl_exec (disch := first | exact k0_chk28_ok i k hX hW | exact k0_chk29_ok i k hX hW | exact k0_chk30_ok i k hX hW | exact k0_chk31_ok i k hX hW | exact k0_chk32_ok i k hX hW | exact k0_chk33_ok i k hX hW | exact k0_chk34_ok i k hX hW | exact k0_chk35_ok i k hX hW | exact k0_chk36_ok i k hX hW)
  sl_step
  isplitl [H10]; · iexact H10
  isplitl [HW]; · iexact HW
  iexists _; isplitl [H14]; · iexact H14
  ipureintro
  refine On3.write _ _ [] (k0_off88_eq k) (fun x => ?_) (D' := rowsDone 1 k) h14 ?_
  · refine Eq.trans ?_ (stageN_at T W (g := 1) (x 0).isLt k.isLt).symm
    exact row_pay8 _ _ _ _ _ _ _ _ _ _ x (slice_at hT (k0_off70_word k hX) rfl _) (slice_at hT (k0_off72_word k hX) rfl _) (slice_at hT (k0_off74_word k hX) rfl _) (slice_at hT (k0_off76_word k hX) rfl _) (slice_at hT (k0_off78_word k hX) rfl _) (slice_at hT (k0_off80_word k hX) rfl _) (slice_at hT (k0_off82_word k hX) rfl _) (slice_at hT (k0_off84_word k hX) rfl _) (slice_at hT (k0_off86_word k hX) rfl _)
  · intro a b c' ha hb hc hd
    exact rowsDone_step hb k.isLt hc hd
-- ==== Proof.Ki.Trip1.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

/-- One trip writes the table's lines of book 0 and one batch chunk. -/
theorem trip1 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v42 : FVec F S256x512 .bf16) (Q CB : ℕ → ℕ → F .bf16) (N : ℕ → ℕ → F .f32) (X1 : BufTy.Contents (Elt F) arg1.view.ty) (X12 : BufTy.Contents (Elt F) arg12.view.ty) (hQ : Is2 arg1.view X1 Q) (hN : Is2 arg12.view X12 N) (hv : v42 = k0_pay89 (blk2 CB 0 0)) (k : Fin k0_t1_loop.trips) :
    (iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 k 0 a) (tabN Q CB N)⌝)) : sProp 𝕄U)
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 k PUnit.unit)
      (fun _ => iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 (k + 1) 0 a) (tabN Q CB N)⌝))) := by
  have hk : k.val < 8 := k.isLt
  subst hv
  unfold k0_t1_body
  iintro ⟨H1, H12, ⟨%f, H10, %h10⟩⟩
  sl_exec
  sl_step
  isplitl [H1]; · iexact H1
  isplitl [H12]; · iexact H12
  iexists _; isplitl [H10]; · iexact H10
  ipureintro
  have hV : tabV Q CB N 0 k = k0_pay15 (k0_pay89 (blk2 CB 0 0)) (arg1.view.readAt (Elt F) (Rect.unit (s := S1024x512) (k0_off1 k) S128x512.size (k0_off1_inb i k k0_h1)).toLoadRect X1)
      (arg12.view.readAt (Elt F) (Rect.unit (s := S1024x128) (k0_off2 k) S128x128.size (k0_off2_inb i k k0_h1)).toLoadRect X12) := by
    rw [tabV_0, load2 hQ (k0_off1_eq k), load2 hN (k0_off2_eq k)]
  refine On2.mono (D := fun a _ => tabDone 0 k 32 a) ?_ (fun a b _ _ h => tabDone_next h)
  have h10 : On2 arg10.view (arg10.view.writes (Elt F) f []) (fun a _ => tabDone 0 k 0 a) (tabN Q CB N) := h10

  refine tab_write (m := 0) (k := k) 31 (by decide) hk ((k0_off3_eq k 31).trans ?_) _ _ _ _ (fun x => ?_) ?_
  · simp
  · rw [hV]; refine Eq.trans ?_ (slice8 (F := F) _ (8 * 31) slices_S256x128_o248_0_S8x128 shapeCasts_S8x128_S8x128 x); rfl
  refine tab_write (m := 0) (k := k) 30 (by decide) hk ((k0_off3_eq k 30).trans ?_) _ _ _ _ (fun x => ?_) ?_
  · simp
  · rw [hV]; refine Eq.trans ?_ (slice8 (F := F) _ (8 * 30) slices_S256x128_o240_0_S8x128 shapeCasts_S8x128_S8x128 x); rfl
  refine tab_write (m := 0) (k := k) 29 (by decide) hk ((k0_off3_eq k 29).trans ?_) _ _ _ _ (fun x => ?_) ?_
  · simp
  · rw [hV]; refine Eq.trans ?_ (slice8 (F := F) _ (8 * 29) slices_S256x128_o232_0_S8x128 shapeCasts_S8x128_S8x128 x); rfl
  refine tab_write (m := 0) (k := k) 28 (by decide) hk ((k0_off3_eq k 28).trans ?_) _ _ _ _ (fun x => ?_) ?_
  · simp
  · rw [hV]; refine Eq.trans ?_ (slice8 (F := F) _ (8 * 28) slices_S256x128_o224_0_S8x128 shapeCasts_S8x128_S8x128 x); rfl
  refine tab_write (m := 0) (k := k) 27 (by decide) hk ((k0_off3_eq k 27).trans ?_) _ _ _ _ (fun x => ?_) ?_
  · simp
  · rw [hV]; refine Eq.trans ?_ (slice8 (F := F) _ (8 * 27) slices_S256x128_o216_0_S8x128 shapeCasts_S8x128_S8x128 x); rfl
  refine tab_write (m := 0) (k := k) 26 (by decide) hk ((k0_off3_eq k 26).trans ?_) _ _ _ _ (fun x => ?_) ?_
  · simp
  · rw [hV]; refine Eq.trans ?_ (slice8 (F := F) _ (8 * 26) slices_S256x128_o208_0_S8x128 shapeCasts_S8x128_S8x128 x); rfl
  refine tab_write (m := 0) (k := k) 25 (by decide) hk ((k0_off3_eq k 25).trans ?_) _ _ _ _ (fun x => ?_) ?_
  · simp
  · rw [hV]; refine Eq.trans ?_ (slice8 (F := F) _ (8 * 25) slices_S256x128_o200_0_S8x128 shapeCasts_S8x128_S8x128 x); rfl
  refine tab_write (m := 0) (k := k) 24 (by decide) hk ((k0_off3_eq k 24).trans ?_) _ _ _ _ (fun x => ?_) ?_
  · simp
  · rw [hV]; refine Eq.trans ?_ (slice8 (F := F) _ (8 * 24) slices_S256x128_o192_0_S8x128 shapeCasts_S8x128_S8x128 x); rfl
  refine tab_write (m := 0) (k := k) 23 (by decide) hk ((k0_off3_eq k 23).trans ?_) _ _ _ _ (fun x => ?_) ?_
  · simp
  · rw [hV]; refine Eq.trans ?_ (slice8 (F := F) _ (8 * 23) slices_S256x128_o184_0_S8x128 shapeCasts_S8x128_S8x128 x); rfl
  refine tab_write (m := 0) (k := k) 22 (by decide) hk ((k0_off3_eq k 22).trans ?_) _ _ _ _ (fun x => ?_) ?_
  · simp
  · rw [hV]; refine Eq.trans ?_ (slice8 (F := F) _ (8 * 22) slices_S256x128_o176_0_S8x128 shapeCasts_S8x128_S8x128 x); rfl
  refine tab_write (m := 0) (k := k) 21 (by decide) hk ((k0_off3_eq k 21).trans ?_) _ _ _ _ (fun x => ?_) ?_
  · simp
  · rw [hV]; refine Eq.trans ?_ (slice8 (F := F) _ (8 * 21) slices_S256x128_o168_0_S8x128 shapeCasts_S8x128_S8x128 x); rfl
  refine tab_write (m := 0) (k := k) 20 (by decide) hk ((k0_off3_eq k 20).trans ?_) _ _ _ _ (fun x => ?_) ?_
  · simp
  · rw [hV]; refine Eq.trans ?_ (slice8 (F := F) _ (8 * 20) slices_S256x128_o160_0_S8x128 shapeCasts_S8x128_S8x128 x); rfl
  refine tab_write (m := 0) (k := k) 19 (by decide) hk ((k0_off3_eq k 19).trans ?_) _ _ _ _ (fun x => ?_) ?_
  · simp
  · rw [hV]; refine Eq.trans ?_ (slice8 (F := F) _ (8 * 19) slices_S256x128_o152_0_S8x128 shapeCasts_S8x128_S8x128 x); rfl
  refine tab_write (m := 0) (k := k) 18 (by decide) hk ((k0_off3_eq k 18).trans ?_) _ _ _ _ (fun x => ?_) ?_
  · simp
  · rw [hV]; refine Eq.trans ?_ (slice8 (F := F) _ (8 * 18) slices_S256x128_o144_0_S8x128 shapeCasts_S8x128_S8x128 x); rfl
  refine tab_write (m := 0) (k := k) 17 (by decide) hk ((k0_off3_eq k 17).trans ?_) _ _ _ _ (fun x => ?_) ?_
  · simp
  · rw [hV]; refine Eq.trans ?_ (slice8 (F := F) _ (8 * 17) slices_S256x128_o136_0_S8x128 shapeCasts_S8x128_S8x128 x); rfl
  refine tab_write (m := 0) (k := k) 16 (by decide) hk ((k0_off3_eq k 16).trans ?_) _ _ _ _ (fun x => ?_) ?_
  · simp
  · rw [hV]; refine Eq.trans ?_ (slice8 (F := F) _ (8 * 16) slices_S256x128_o128_0_S8x128 shapeCasts_S8x128_S8x128 x); rfl
  refine tab_write (m := 0) (k := k) 15 (by decide) hk ((k0_off3_eq k 15).trans ?_) _ _ _ _ (fun x => ?_) ?_
  · simp
  · rw [hV]; refine Eq.trans ?_ (slice8 (F := F) _ (8 * 15) slices_S256x128_o120_0_S8x128 shapeCasts_S8x128_S8x128 x); rfl
  refine tab_write (m := 0) (k := k) 14 (by decide) hk ((k0_off3_eq k 14).trans ?_) _ _ _ _ (fun x => ?_) ?_
  · simp
  · rw [hV]; refine Eq.trans ?_ (slice8 (F := F) _ (8 * 14) slices_S256x128_o112_0_S8x128 shapeCasts_S8x128_S8x128 x); rfl
  refine tab_write (m := 0) (k := k) 13 (by decide) hk ((k0_off3_eq k 13).trans ?_) _ _ _ _ (fun x => ?_) ?_
  · simp
  · rw [hV]; refine Eq.trans ?_ (slice8 (F := F) _ (8 * 13) slices_S256x128_o104_0_S8x128 shapeCasts_S8x128_S8x128 x); rfl
  refine tab_write (m := 0) (k := k) 12 (by decide) hk ((k0_off3_eq k 12).trans ?_) _ _ _ _ (fun x => ?_) ?_
  · simp
  · rw [hV]; refine Eq.trans ?_ (slice8 (F := F) _ (8 * 12) slices_S256x128_o96_0_S8x128 shapeCasts_S8x128_S8x128 x); rfl
  refine tab_write (m := 0) (k := k) 11 (by decide) hk ((k0_off3_eq k 11).trans ?_) _ _ _ _ (fun x => ?_) ?_
  · simp
  · rw [hV]; refine Eq.trans ?_ (slice8 (F := F) _ (8 * 11) slices_S256x128_o88_0_S8x128 shapeCasts_S8x128_S8x128 x); rfl
  refine tab_write (m := 0) (k := k) 10 (by decide) hk ((k0_off3_eq k 10).trans ?_) _ _ _ _ (fun x => ?_) ?_
  · simp
  · rw [hV]; refine Eq.trans ?_ (slice8 (F := F) _ (8 * 10) slices_S256x128_o80_0_S8x128 shapeCasts_S8x128_S8x128 x); rfl
  refine tab_write (m := 0) (k := k) 9 (by decide) hk ((k0_off3_eq k 9).trans ?_) _ _ _ _ (fun x => ?_) ?_
  · simp
  · rw [hV]; refine Eq.trans ?_ (slice8 (F := F) _ (8 * 9) slices_S256x128_o72_0_S8x128 shapeCasts_S8x128_S8x128 x); rfl
  refine tab_write (m := 0) (k := k) 8 (by decide) hk ((k0_off3_eq k 8).trans ?_) _ _ _ _ (fun x => ?_) ?_
  · simp
  · rw [hV]; refine Eq.trans ?_ (slice8 (F := F) _ (8 * 8) slices_S256x128_o64_0_S8x128 shapeCasts_S8x128_S8x128 x); rfl
  refine tab_write (m := 0) (k := k) 7 (by decide) hk ((k0_off3_eq k 7).trans ?_) _ _ _ _ (fun x => ?_) ?_
  · simp
  · rw [hV]; refine Eq.trans ?_ (slice8 (F := F) _ (8 * 7) slices_S256x128_o56_0_S8x128 shapeCasts_S8x128_S8x128 x); rfl
  refine tab_write (m := 0) (k := k) 6 (by decide) hk ((k0_off3_eq k 6).trans ?_) _ _ _ _ (fun x => ?_) ?_
  · simp
  · rw [hV]; refine Eq.trans ?_ (slice8 (F := F) _ (8 * 6) slices_S256x128_o48_0_S8x128 shapeCasts_S8x128_S8x128 x); rfl
  refine tab_write (m := 0) (k := k) 5 (by decide) hk ((k0_off3_eq k 5).trans ?_) _ _ _ _ (fun x => ?_) ?_
  · simp
  · rw [hV]; refine Eq.trans ?_ (slice8 (F := F) _ (8 * 5) slices_S256x128_o40_0_S8x128 shapeCasts_S8x128_S8x128 x); rfl
  refine tab_write (m := 0) (k := k) 4 (by decide) hk ((k0_off3_eq k 4).trans ?_) _ _ _ _ (fun x => ?_) ?_
  · simp
  · rw [hV]; refine Eq.trans ?_ (slice8 (F := F) _ (8 * 4) slices_S256x128_o32_0_S8x128 shapeCasts_S8x128_S8x128 x); rfl
  refine tab_write (m := 0) (k := k) 3 (by decide) hk ((k0_off3_eq k 3).trans ?_) _ _ _ _ (fun x => ?_) ?_
  · simp
  · rw [hV]; refine Eq.trans ?_ (slice8 (F := F) _ (8 * 3) slices_S256x128_o24_0_S8x128 shapeCasts_S8x128_S8x128 x); rfl
  refine tab_write (m := 0) (k := k) 2 (by decide) hk ((k0_off3_eq k 2).trans ?_) _ _ _ _ (fun x => ?_) ?_
  · simp
  · rw [hV]; refine Eq.trans ?_ (slice8 (F := F) _ (8 * 2) slices_S256x128_o16_0_S8x128 shapeCasts_S8x128_S8x128 x); rfl
  refine tab_write (m := 0) (k := k) 1 (by decide) hk ((k0_off3_eq k 1).trans ?_) _ _ _ _ (fun x => ?_) ?_
  · simp
  · rw [hV]; refine Eq.trans ?_ (slice8 (F := F) _ (8 * 1) slices_S256x128_o8_0_S8x128 shapeCasts_S8x128_S8x128 x); rfl
  refine tab_write (m := 0) (k := k) 0 (by decide) hk ((k0_off3_eq k 0).trans ?_) _ _ _ _ (fun x => ?_) ?_
  · simp
  · rw [hV]; refine Eq.trans ?_ (slice8 (F := F) _ (8 * 0) slices_S256x128_o0_0_S8x128 shapeCasts_S8x128_S8x128 x); rfl
  exact h10
-- ==== Proof.Ki.Trip3.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

theorem vec2_ext {a b : ℕ} (h : a = b) : (![a, 0] : Fin 2 → ℕ) = ![b, 0] := by rw [h]

/-- One trip writes the table's lines of one later book and one batch chunk. -/
theorem trip3 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (k0_t2 : Fin k0_t2_loop.trips) (arg21 : BitVec 32) (v69 : Vec F S256x512 .bf16) (Q CB : ℕ → ℕ → F .bf16) (N : ℕ → ℕ → F .f32) (X1 : BufTy.Contents (Elt F) arg1.view.ty) (hQ : Is2 arg1.view X1 Q) (hv : v69 = blk2 CB (256 * (k0_t2.val + 1)) 0) (k : Fin k0_t3_loop.trips) :
    (iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2 + 1) k 0 a) (tabN Q CB N)⌝)) : sProp 𝕄U)
    ⊢ wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 k PUnit.unit)
      (fun _ => iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2 + 1) (k + 1) 0 a) (tabN Q CB N)⌝))) := by
  have hk : k.val < 8 := k.isLt
  subst hv
  unfold k0_t3_body
  iintro ⟨H1, ⟨%f, H10, %h10⟩⟩
  sl_exec
  sl_step
  isplitl [H1]; · iexact H1
  iexists _; isplitl [H10]; · iexact H10
  ipureintro
  have hV : tabV Q CB N (k0_t2 + 1) k = k0_pay51 (k0_pay4 (blk2 CB (256 * (k0_t2 + 1)) 0)) (arg1.view.readAt (Elt F) (Rect.unit (s := S1024x512) (k0_off7 k) S128x512.size (k0_off7_inb i k k0_h1)).toLoadRect X1) := by
    rw [tabV_succ, load2 hQ (k0_off7_eq k)]
  refine On2.mono (D := fun a _ => tabDone (k0_t2 + 1) k 32 a) ?_ (fun a b _ _ h => tabDone_next h)
  have h10 : On2 arg10.view (arg10.view.writes (Elt F) f []) (fun a _ => tabDone (k0_t2 + 1) k 0 a) (tabN Q CB N) := h10

  refine tab_write (m := (k0_t2 + 1)) (k := k) 31 (by decide) hk ((k0_off8_eq k0_t2 k 31).trans ?_) _ _ _ _ (fun x => ?_) ?_
  · exact vec2_ext (show 2048 * k0_t2.val + 64 * 31 + k.val + 2048 = 2048 * (k0_t2.val + 1) + 64 * 31 + k.val by omega)
  · rw [hV]; refine Eq.trans ?_ (slice8 (F := F) _ (8 * 31) slices_S256x128_o248_0_S8x128 shapeCasts_S8x128_S8x128 x); rfl
  refine tab_write (m := (k0_t2 + 1)) (k := k) 30 (by decide) hk ((k0_off8_eq k0_t2 k 30).trans ?_) _ _ _ _ (fun x => ?_) ?_
  · exact vec2_ext (show 2048 * k0_t2.val + 64 * 30 + k.val + 2048 = 2048 * (k0_t2.val + 1) + 64 * 30 + k.val by omega)
  · rw [hV]; refine Eq.trans ?_ (slice8 (F := F) _ (8 * 30) slices_S256x128_o240_0_S8x128 shapeCasts_S8x128_S8x128 x); rfl
  refine tab_write (m := (k0_t2 + 1)) (k := k) 29 (by decide) hk ((k0_off8_eq k0_t2 k 29).trans ?_) _ _ _ _ (fun x => ?_) ?_
  · exact vec2_ext (show 2048 * k0_t2.val + 64 * 29 + k.val + 2048 = 2048 * (k0_t2.val + 1) + 64 * 29 + k.val by omega)
  · rw [hV]; refine Eq.trans ?_ (slice8 (F := F) _ (8 * 29) slices_S256x128_o232_0_S8x128 shapeCasts_S8x128_S8x128 x); rfl
  refine tab_write (m := (k0_t2 + 1)) (k := k) 28 (by decide) hk ((k0_off8_eq k0_t2 k 28).trans ?_) _ _ _ _ (fun x => ?_) ?_
  · exact vec2_ext (show 2048 * k0_t2.val + 64 * 28 + k.val + 2048 = 2048 * (k0_t2.val + 1) + 64 * 28 + k.val by omega)
  · rw [hV]; refine Eq.trans ?_ (slice8 (F := F) _ (8 * 28) slices_S256x128_o224_0_S8x128 shapeCasts_S8x128_S8x128 x); rfl
  refine tab_write (m := (k0_t2 + 1)) (k := k) 27 (by decide) hk ((k0_off8_eq k0_t2 k 27).trans ?_) _ _ _ _ (fun x => ?_) ?_
  · exact vec2_ext (show 2048 * k0_t2.val + 64 * 27 + k.val + 2048 = 2048 * (k0_t2.val + 1) + 64 * 27 + k.val by omega)
  · rw [hV]; refine Eq.trans ?_ (slice8 (F := F) _ (8 * 27) slices_S256x128_o216_0_S8x128 shapeCasts_S8x128_S8x128 x); rfl
  refine tab_write (m := (k0_t2 + 1)) (k := k) 26 (by decide) hk ((k0_off8_eq k0_t2 k 26).trans ?_) _ _ _ _ (fun x => ?_) ?_
  · exact vec2_ext (show 2048 * k0_t2.val + 64 * 26 + k.val + 2048 = 2048 * (k0_t2.val + 1) + 64 * 26 + k.val by omega)
  · rw [hV]; refine Eq.trans ?_ (slice8 (F := F) _ (8 * 26) slices_S256x128_o208_0_S8x128 shapeCasts_S8x128_S8x128 x); rfl
  refine tab_write (m := (k0_t2 + 1)) (k := k) 25 (by decide) hk ((k0_off8_eq k0_t2 k 25).trans ?_) _ _ _ _ (fun x => ?_) ?_
  · exact vec2_ext (show 2048 * k0_t2.val + 64 * 25 + k.val + 2048 = 2048 * (k0_t2.val + 1) + 64 * 25 + k.val by omega)
  · rw [hV]; refine Eq.trans ?_ (slice8 (F := F) _ (8 * 25) slices_S256x128_o200_0_S8x128 shapeCasts_S8x128_S8x128 x); rfl
  refine tab_write (m := (k0_t2 + 1)) (k := k) 24 (by decide) hk ((k0_off8_eq k0_t2 k 24).trans ?_) _ _ _ _ (fun x => ?_) ?_
  · exact vec2_ext (show 2048 * k0_t2.val + 64 * 24 + k.val + 2048 = 2048 * (k0_t2.val + 1) + 64 * 24 + k.val by omega)
  · rw [hV]; refine Eq.trans ?_ (slice8 (F := F) _ (8 * 24) slices_S256x128_o192_0_S8x128 shapeCasts_S8x128_S8x128 x); rfl
  refine tab_write (m := (k0_t2 + 1)) (k := k) 23 (by decide) hk ((k0_off8_eq k0_t2 k 23).trans ?_) _ _ _ _ (fun x => ?_) ?_
  · exact vec2_ext (show 2048 * k0_t2.val + 64 * 23 + k.val + 2048 = 2048 * (k0_t2.val + 1) + 64 * 23 + k.val by omega)
  · rw [hV]; refine Eq.trans ?_ (slice8 (F := F) _ (8 * 23) slices_S256x128_o184_0_S8x128 shapeCasts_S8x128_S8x128 x); rfl
  refine tab_write (m := (k0_t2 + 1)) (k := k) 22 (by decide) hk ((k0_off8_eq k0_t2 k 22).trans ?_) _ _ _ _ (fun x => ?_) ?_
  · exact vec2_ext (show 2048 * k0_t2.val + 64 * 22 + k.val + 2048 = 2048 * (k0_t2.val + 1) + 64 * 22 + k.val by omega)
  · rw [hV]; refine Eq.trans ?_ (slice8 (F := F) _ (8 * 22) slices_S256x128_o176_0_S8x128 shapeCasts_S8x128_S8x128 x); rfl
  refine tab_write (m := (k0_t2 + 1)) (k := k) 21 (by decide) hk ((k0_off8_eq k0_t2 k 21).trans ?_) _ _ _ _ (fun x => ?_) ?_
  · exact vec2_ext (show 2048 * k0_t2.val + 64 * 21 + k.val + 2048 = 2048 * (k0_t2.val + 1) + 64 * 21 + k.val by omega)
  · rw [hV]; refine Eq.trans ?_ (slice8 (F := F) _ (8 * 21) slices_S256x128_o168_0_S8x128 shapeCasts_S8x128_S8x128 x); rfl
  refine tab_write (m := (k0_t2 + 1)) (k := k) 20 (by decide) hk ((k0_off8_eq k0_t2 k 20).trans ?_) _ _ _ _ (fun x => ?_) ?_
  · exact vec2_ext (show 2048 * k0_t2.val + 64 * 20 + k.val + 2048 = 2048 * (k0_t2.val + 1) + 64 * 20 + k.val by omega)
  · rw [hV]; refine Eq.trans ?_ (slice8 (F := F) _ (8 * 20) slices_S256x128_o160_0_S8x128 shapeCasts_S8x128_S8x128 x); rfl
  refine tab_write (m := (k0_t2 + 1)) (k := k) 19 (by decide) hk ((k0_off8_eq k0_t2 k 19).trans ?_) _ _ _ _ (fun x => ?_) ?_
  · exact vec2_ext (show 2048 * k0_t2.val + 64 * 19 + k.val + 2048 = 2048 * (k0_t2.val + 1) + 64 * 19 + k.val by omega)
  · rw [hV]; refine Eq.trans ?_ (slice8 (F := F) _ (8 * 19) slices_S256x128_o152_0_S8x128 shapeCasts_S8x128_S8x128 x); rfl
  refine tab_write (m := (k0_t2 + 1)) (k := k) 18 (by decide) hk ((k0_off8_eq k0_t2 k 18).trans ?_) _ _ _ _ (fun x => ?_) ?_
  · exact vec2_ext (show 2048 * k0_t2.val + 64 * 18 + k.val + 2048 = 2048 * (k0_t2.val + 1) + 64 * 18 + k.val by omega)
  · rw [hV]; refine Eq.trans ?_ (slice8 (F := F) _ (8 * 18) slices_S256x128_o144_0_S8x128 shapeCasts_S8x128_S8x128 x); rfl
  refine tab_write (m := (k0_t2 + 1)) (k := k) 17 (by decide) hk ((k0_off8_eq k0_t2 k 17).trans ?_) _ _ _ _ (fun x => ?_) ?_
  · exact vec2_ext (show 2048 * k0_t2.val + 64 * 17 + k.val + 2048 = 2048 * (k0_t2.val + 1) + 64 * 17 + k.val by omega)
  · rw [hV]; refine Eq.trans ?_ (slice8 (F := F) _ (8 * 17) slices_S256x128_o136_0_S8x128 shapeCasts_S8x128_S8x128 x); rfl
  refine tab_write (m := (k0_t2 + 1)) (k := k) 16 (by decide) hk ((k0_off8_eq k0_t2 k 16).trans ?_) _ _ _ _ (fun x => ?_) ?_
  · exact vec2_ext (show 2048 * k0_t2.val + 64 * 16 + k.val + 2048 = 2048 * (k0_t2.val + 1) + 64 * 16 + k.val by omega)
  · rw [hV]; refine Eq.trans ?_ (slice8 (F := F) _ (8 * 16) slices_S256x128_o128_0_S8x128 shapeCasts_S8x128_S8x128 x); rfl
  refine tab_write (m := (k0_t2 + 1)) (k := k) 15 (by decide) hk ((k0_off8_eq k0_t2 k 15).trans ?_) _ _ _ _ (fun x => ?_) ?_
  · exact vec2_ext (show 2048 * k0_t2.val + 64 * 15 + k.val + 2048 = 2048 * (k0_t2.val + 1) + 64 * 15 + k.val by omega)
  · rw [hV]; refine Eq.trans ?_ (slice8 (F := F) _ (8 * 15) slices_S256x128_o120_0_S8x128 shapeCasts_S8x128_S8x128 x); rfl
  refine tab_write (m := (k0_t2 + 1)) (k := k) 14 (by decide) hk ((k0_off8_eq k0_t2 k 14).trans ?_) _ _ _ _ (fun x => ?_) ?_
  · exact vec2_ext (show 2048 * k0_t2.val + 64 * 14 + k.val + 2048 = 2048 * (k0_t2.val + 1) + 64 * 14 + k.val by omega)
  · rw [hV]; refine Eq.trans ?_ (slice8 (F := F) _ (8 * 14) slices_S256x128_o112_0_S8x128 shapeCasts_S8x128_S8x128 x); rfl
  refine tab_write (m := (k0_t2 + 1)) (k := k) 13 (by decide) hk ((k0_off8_eq k0_t2 k 13).trans ?_) _ _ _ _ (fun x => ?_) ?_
  · exact vec2_ext (show 2048 * k0_t2.val + 64 * 13 + k.val + 2048 = 2048 * (k0_t2.val + 1) + 64 * 13 + k.val by omega)
  · rw [hV]; refine Eq.trans ?_ (slice8 (F := F) _ (8 * 13) slices_S256x128_o104_0_S8x128 shapeCasts_S8x128_S8x128 x); rfl
  refine tab_write (m := (k0_t2 + 1)) (k := k) 12 (by decide) hk ((k0_off8_eq k0_t2 k 12).trans ?_) _ _ _ _ (fun x => ?_) ?_
  · exact vec2_ext (show 2048 * k0_t2.val + 64 * 12 + k.val + 2048 = 2048 * (k0_t2.val + 1) + 64 * 12 + k.val by omega)
  · rw [hV]; refine Eq.trans ?_ (slice8 (F := F) _ (8 * 12) slices_S256x128_o96_0_S8x128 shapeCasts_S8x128_S8x128 x); rfl
  refine tab_write (m := (k0_t2 + 1)) (k := k) 11 (by decide) hk ((k0_off8_eq k0_t2 k 11).trans ?_) _ _ _ _ (fun x => ?_) ?_
  · exact vec2_ext (show 2048 * k0_t2.val + 64 * 11 + k.val + 2048 = 2048 * (k0_t2.val + 1) + 64 * 11 + k.val by omega)
  · rw [hV]; refine Eq.trans ?_ (slice8 (F := F) _ (8 * 11) slices_S256x128_o88_0_S8x128 shapeCasts_S8x128_S8x128 x); rfl
  refine tab_write (m := (k0_t2 + 1)) (k := k) 10 (by decide) hk ((k0_off8_eq k0_t2 k 10).trans ?_) _ _ _ _ (fun x => ?_) ?_
  · exact vec2_ext (show 2048 * k0_t2.val + 64 * 10 + k.val + 2048 = 2048 * (k0_t2.val + 1) + 64 * 10 + k.val by omega)
  · rw [hV]; refine Eq.trans ?_ (slice8 (F := F) _ (8 * 10) slices_S256x128_o80_0_S8x128 shapeCasts_S8x128_S8x128 x); rfl
  refine tab_write (m := (k0_t2 + 1)) (k := k) 9 (by decide) hk ((k0_off8_eq k0_t2 k 9).trans ?_) _ _ _ _ (fun x => ?_) ?_
  · exact vec2_ext (show 2048 * k0_t2.val + 64 * 9 + k.val + 2048 = 2048 * (k0_t2.val + 1) + 64 * 9 + k.val by omega)
  · rw [hV]; refine Eq.trans ?_ (slice8 (F := F) _ (8 * 9) slices_S256x128_o72_0_S8x128 shapeCasts_S8x128_S8x128 x); rfl
  refine tab_write (m := (k0_t2 + 1)) (k := k) 8 (by decide) hk ((k0_off8_eq k0_t2 k 8).trans ?_) _ _ _ _ (fun x => ?_) ?_
  · exact vec2_ext (show 2048 * k0_t2.val + 64 * 8 + k.val + 2048 = 2048 * (k0_t2.val + 1) + 64 * 8 + k.val by omega)
  · rw [hV]; refine Eq.trans ?_ (slice8 (F := F) _ (8 * 8) slices_S256x128_o64_0_S8x128 shapeCasts_S8x128_S8x128 x); rfl
  refine tab_write (m := (k0_t2 + 1)) (k := k) 7 (by decide) hk ((k0_off8_eq k0_t2 k 7).trans ?_) _ _ _ _ (fun x => ?_) ?_
  · exact vec2_ext (show 2048 * k0_t2.val + 64 * 7 + k.val + 2048 = 2048 * (k0_t2.val + 1) + 64 * 7 + k.val by omega)
  · rw [hV]; refine Eq.trans ?_ (slice8 (F := F) _ (8 * 7) slices_S256x128_o56_0_S8x128 shapeCasts_S8x128_S8x128 x); rfl
  refine tab_write (m := (k0_t2 + 1)) (k := k) 6 (by decide) hk ((k0_off8_eq k0_t2 k 6).trans ?_) _ _ _ _ (fun x => ?_) ?_
  · exact vec2_ext (show 2048 * k0_t2.val + 64 * 6 + k.val + 2048 = 2048 * (k0_t2.val + 1) + 64 * 6 + k.val by omega)
  · rw [hV]; refine Eq.trans ?_ (slice8 (F := F) _ (8 * 6) slices_S256x128_o48_0_S8x128 shapeCasts_S8x128_S8x128 x); rfl
  refine tab_write (m := (k0_t2 + 1)) (k := k) 5 (by decide) hk ((k0_off8_eq k0_t2 k 5).trans ?_) _ _ _ _ (fun x => ?_) ?_
  · exact vec2_ext (show 2048 * k0_t2.val + 64 * 5 + k.val + 2048 = 2048 * (k0_t2.val + 1) + 64 * 5 + k.val by omega)
  · rw [hV]; refine Eq.trans ?_ (slice8 (F := F) _ (8 * 5) slices_S256x128_o40_0_S8x128 shapeCasts_S8x128_S8x128 x); rfl
  refine tab_write (m := (k0_t2 + 1)) (k := k) 4 (by decide) hk ((k0_off8_eq k0_t2 k 4).trans ?_) _ _ _ _ (fun x => ?_) ?_
  · exact vec2_ext (show 2048 * k0_t2.val + 64 * 4 + k.val + 2048 = 2048 * (k0_t2.val + 1) + 64 * 4 + k.val by omega)
  · rw [hV]; refine Eq.trans ?_ (slice8 (F := F) _ (8 * 4) slices_S256x128_o32_0_S8x128 shapeCasts_S8x128_S8x128 x); rfl
  refine tab_write (m := (k0_t2 + 1)) (k := k) 3 (by decide) hk ((k0_off8_eq k0_t2 k 3).trans ?_) _ _ _ _ (fun x => ?_) ?_
  · exact vec2_ext (show 2048 * k0_t2.val + 64 * 3 + k.val + 2048 = 2048 * (k0_t2.val + 1) + 64 * 3 + k.val by omega)
  · rw [hV]; refine Eq.trans ?_ (slice8 (F := F) _ (8 * 3) slices_S256x128_o24_0_S8x128 shapeCasts_S8x128_S8x128 x); rfl
  refine tab_write (m := (k0_t2 + 1)) (k := k) 2 (by decide) hk ((k0_off8_eq k0_t2 k 2).trans ?_) _ _ _ _ (fun x => ?_) ?_
  · exact vec2_ext (show 2048 * k0_t2.val + 64 * 2 + k.val + 2048 = 2048 * (k0_t2.val + 1) + 64 * 2 + k.val by omega)
  · rw [hV]; refine Eq.trans ?_ (slice8 (F := F) _ (8 * 2) slices_S256x128_o16_0_S8x128 shapeCasts_S8x128_S8x128 x); rfl
  refine tab_write (m := (k0_t2 + 1)) (k := k) 1 (by decide) hk ((k0_off8_eq k0_t2 k 1).trans ?_) _ _ _ _ (fun x => ?_) ?_
  · exact vec2_ext (show 2048 * k0_t2.val + 64 * 1 + k.val + 2048 = 2048 * (k0_t2.val + 1) + 64 * 1 + k.val by omega)
  · rw [hV]; refine Eq.trans ?_ (slice8 (F := F) _ (8 * 1) slices_S256x128_o8_0_S8x128 shapeCasts_S8x128_S8x128 x); rfl
  refine tab_write (m := (k0_t2 + 1)) (k := k) 0 (by decide) hk ((k0_off8_eq k0_t2 k 0).trans ?_) _ _ _ _ (fun x => ?_) ?_
  · exact vec2_ext (show 2048 * k0_t2.val + 64 * 0 + k.val + 2048 = 2048 * (k0_t2.val + 1) + 64 * 0 + k.val by omega)
  · rw [hV]; refine Eq.trans ?_ (slice8 (F := F) _ (8 * 0) slices_S256x128_o0_0_S8x128 shapeCasts_S8x128_S8x128 x); rfl
  exact h10
-- ==== Proof.Ki.Loop.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Trip
public import proofs.«01_k».proof.Proof.Ki.Trip1
public import proofs.«01_k».proof.Proof.Ki.Trip3

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option warn.classDefReducibility false in
/-- The loop by its invariant. -/
def linv1 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v42 : FVec F S256x512 .bf16) (Q CB : ℕ → ℕ → F .bf16) (N : ℕ → ℕ → F .f32) (X1 : BufTy.Contents (Elt F) arg1.view.ty) (X12 : BufTy.Contents (Elt F) arg12.view.ty) (hQ : Is2 arg1.view X1 Q) (hN : Is2 arg12.view X12 N) (hv : v42 = k0_pay89 (blk2 CB 0 0)) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 where
  inv k _ := iprop((arg1.view.loc (c : Thread nD τ) ↦[arg1.view.set]{fullShare} X1) ∗ (arg12.view.loc (c : Thread nD τ) ↦[arg12.view.set]{fullShare} X12) ∗ (∃ f, (arg10.view.loc (c : Thread nD τ) ↦[arg10.view.set]{fullShare} f) ∗ ⌜On2 arg10.view f (fun a _ => tabDone 0 k 0 a) (tabN Q CB N)⌝))
  step k _ := trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v42 Q CB N X1 X12 hQ hN hv k

set_option warn.classDefReducibility false in
/-- The loop by its invariant. -/
def linv3 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (k0_t2 : Fin k0_t2_loop.trips) (arg21 : BitVec 32) (v69 : Vec F S256x512 .bf16) (Q CB : ℕ → ℕ → F .bf16) (N : ℕ → ℕ → F .f32) (X1 : BufTy.Contents (Elt F) arg1.view.ty) (hQ : Is2 arg1.view X1 Q) (hv : v69 = blk2 CB (256 * (k0_t2.val + 1)) 0) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 where
  inv k _ := iprop((arg1.view.loc (c : Thread nD τ) ↦[arg1.view.set]{fullShare} X1) ∗ (∃ f, (arg10.view.loc (c : Thread nD τ) ↦[arg10.view.set]{fullShare} f) ∗ ⌜On2 arg10.view f (fun a _ => tabDone (k0_t2.val + 1) k 0 a) (tabN Q CB N)⌝))
  step k _ := trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k0_t2 arg21 v69 Q CB N X1 hQ hv k

/-- The inner products of one book. -/
theorem lutN_at (Q CB : ℕ → ℕ → F .bf16) {m : ℕ} (x : S1024x256.Idx) {a b : ℕ} (ha : a = (x 0).val) (hb : b = 256 * m + (x 1).val) :
    lutN Q CB a b = k0_pay5 (blk2 Q 0 0) (blk2 CB (256 * m) 0) x := by
  have hx : (x 1).val < 256 := (x 1).isLt
  have e1 : b / 256 = m := by omega
  have e2 : b % 256 = (x 1).val := by omega
  unfold lutN
  rw [e1]
  exact at2_idx _ x ha e2

/-- Eight lines of norms. -/
theorem xnN_at (NC : ℕ → ℕ → BitVec 32) (NT : ℕ → ℕ → F .f32) {m : ℕ} (x : S8x128.Idx) {a b : ℕ} (ha : a = 8 * m + (x 0).val) (hb : b = (x 1).val) :
    xnN NC NT a b = k0_pay10 (blk2 NT 0 0) (blk2 NC (8 * m) 0) x := by
  have hx : (x 0).val < 8 := (x 0).isLt
  have e1 : a / 8 = m := by omega
  have e2 : a % 8 = (x 0).val := by omega
  unfold xnN
  rw [e1]
  exact at2_idx _ x e2 hb

/-- One book transposed and scaled. -/
theorem cbtN_at (CB : ℕ → ℕ → F .bf16) {m m' : ℕ} (x : S1x512x256.Idx) {a b : ℕ} (hm : m' = m) (ha : a = (x 1).val) (hb : b = (x 2).val) :
    cbtN CB m' a b = k0_pay6 (blk2 CB (256 * m) 0) x := by
  subst hm ha hb
  refine congrArg (k0_pay6 (blk2 CB (256 * m') 0)) (funext fun d => ?_)
  match d with
  | ⟨0, _⟩ => exact (Fin.ext (by show 0 = (x 0).val; have := (x 0).isLt; have h : (x 0).val < 1 := this; omega))
  | ⟨1, _⟩ => exact Fin.ext (Nat.mod_eq_of_lt (x 1).isLt)
  | ⟨2, _⟩ => exact Fin.ext (Nat.mod_eq_of_lt (x 2).isLt)

/-- One trip builds the tables of one later book. -/
theorem trip2 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (Q CB : ℕ → ℕ → F .bf16) (N : ℕ → ℕ → F .f32) (X1 : BufTy.Contents (Elt F) arg1.view.ty) (X2 : BufTy.Contents (Elt F) arg2.view.ty) (hQ : Is2 arg1.view X1 Q) (hC : Is2 arg2.view X2 CB) (k : Fin k0_t2_loop.trips) :
    (iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * (k.val + 1)) (lutN Q CB)⌝) ∗ (∃ f, (arg11.view.loc (c : Thread nD τ) ↦[arg11.view.set]{fullShare} f) ∗ ⌜On3 arg11.view f (fun m _ _ => m < k.val + 1) (cbtN CB)⌝) ∗ (∃ f, (arg10.view.loc (c : Thread nD τ) ↦[arg10.view.set]{fullShare} f) ∗ ⌜On2 arg10.view f (fun a _ => tabDone (k.val + 1) 0 0 a) (tabN Q CB N)⌝)) : sProp 𝕄U)
    ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k PUnit.unit)
      (fun _ => iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * ((k.val + 1) + 1)) (lutN Q CB)⌝) ∗ (∃ f, (arg11.view.loc (c : Thread nD τ) ↦[arg11.view.set]{fullShare} f) ∗ ⌜On3 arg11.view f (fun m _ _ => m < (k.val + 1) + 1) (cbtN CB)⌝) ∗ (∃ f, (arg10.view.loc (c : Thread nD τ) ↦[arg10.view.set]{fullShare} f) ∗ ⌜On2 arg10.view f (fun a _ => tabDone ((k.val + 1) + 1) 0 0 a) (tabN Q CB N)⌝))) := by
  have hk : k.val < 8 := k.isLt
  unfold k0_t2_body
  iintro ⟨H1, H2, ⟨%f9, H9, %h9⟩, ⟨%f11, H11, %h11⟩, ⟨%f10, H10, %h10⟩⟩
  have hv : arg2.view.readAt (Elt F) (Rect.unit (s := S2304x512) (k0_off4 k) S256x512.size (k0_off4_inb i k k0_h1)).toLoadRect X2 = blk2 CB (256 * (k.val + 1)) 0 :=
    load2 hC (k0_off4_eq k) _
  have hq : arg1.view.readAt (Elt F) (Rect.unit (s := S1024x512) ![0, 0] S1024x512.size inb_S1024x512_S1024x512_0_0).toLoadRect X1 = blk2 Q 0 0 := load2 hQ rfl _
  let L3 := linv3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 k (Scf.iv 1#32 1#32 k) (blk2 CB (256 * (k.val + 1)) 0) Q CB N X1 hQ rfl
  sl_exec
  sl_step
  isplitl [H1]; · iexact H1
  isplitl [H2]; · iexact H2
  isplitl [H9]
  · iexists _; isplitl [H9]; · iexact H9
    ipureintro
    refine On2.write _ _ [] (k0_off5_eq k) (fun x => ?_) (D' := fun _ b => b < 256 * (k.val + 1)) h9 ?_
    · exact (lutN_at Q CB x (Nat.zero_add _ ▸ Nat.one_mul _) (by show 256 * k.val + 256 + 1 * (x 1).val = _; omega)).symm
    · intro a b ha hb hd
      by_cases h : b < 256 * (k.val + 1)
      · exact .inl h
      · exact .inr ⟨⟨a, ha, show a = 0 + 1 * a by omega⟩, ⟨b - (256 * k.val + 256), show b - (256 * k.val + 256) < 256 by omega, show b = 256 * k.val + 256 + 1 * (b - (256 * k.val + 256)) by omega⟩⟩
  isplitl [H11]
  · iexists _; isplitl [H11]; · iexact H11
    ipureintro
    refine On3.write _ _ [] (k0_off6_eq k) (fun x => ?_) (D' := fun m _ _ => m < k.val + 1) h11 ?_
    · have hx : (x 0).val < 1 := (x 0).isLt
      exact (cbtN_at CB x (by show k.val + 1 + 1 * (x 0).val = _; omega) (by show 0 + 1 * (x 1).val = _; omega) (by show 0 + 1 * (x 2).val = _; omega)).symm
    · intro a b c' ha hb hc hd
      by_cases h : a < k.val + 1
      · exact .inl h
      · exact .inr ⟨⟨0, Nat.one_pos, show a = k.val + 1 + 1 * 0 by omega⟩, ⟨b, hb, show b = 0 + 1 * b by omega⟩, ⟨c', hc, show c' = 0 + 1 * c' by omega⟩⟩
  iexists _; isplitl [H10]; · iexact H10
  ipureintro
  exact On2.mono hL2 fun a b _ _ h => (show Scf.trips k0_t3_loop.lb k0_t3_loop.ub k0_t3_loop.st = 8 from rfl) ▸ tabDone_book h

set_option warn.classDefReducibility false in
/-- The loop by its invariant. -/
def linv2 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (Q CB : ℕ → ℕ → F .bf16) (N : ℕ → ℕ → F .f32) (X1 : BufTy.Contents (Elt F) arg1.view.ty) (X2 : BufTy.Contents (Elt F) arg2.view.ty) (hQ : Is2 arg1.view X1 Q) (hC : Is2 arg2.view X2 CB) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 where
  inv k _ := iprop((arg1.view.loc (c : Thread nD τ) ↦[arg1.view.set]{fullShare} X1) ∗ (arg2.view.loc (c : Thread nD τ) ↦[arg2.view.set]{fullShare} X2) ∗ (∃ f, (arg9.view.loc (c : Thread nD τ) ↦[arg9.view.set]{fullShare} f) ∗ ⌜On2 arg9.view f (fun _ b => b < 256 * (k + 1)) (lutN Q CB)⌝) ∗ (∃ f, (arg11.view.loc (c : Thread nD τ) ↦[arg11.view.set]{fullShare} f) ∗ ⌜On3 arg11.view f (fun m _ _ => m < k + 1) (cbtN CB)⌝) ∗ (∃ f, (arg10.view.loc (c : Thread nD τ) ↦[arg10.view.set]{fullShare} f) ∗ ⌜On2 arg10.view f (fun a _ => tabDone (k + 1) 0 0 a) (tabN Q CB N)⌝))
  step k _ := trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 Q CB N X1 X2 hQ hC k

/-- One trip looks up eight lines of norms. -/
theorem trip4 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v56 : Vec F S1x256 .f32) (NC : ℕ → ℕ → BitVec 32) (NT : ℕ → ℕ → F .f32) (X3 : BufTy.Contents (Elt F) arg3.view.ty) (hN : Is2 (Val := Elt F) arg3.view X3 NC) (hv : v56 = blk2 NT 0 0) (k : Fin k0_t4_loop.trips) :
    (iprop((arg3.view.loc (c : Thread nD τ) ↦[arg3.view.set]{fullShare} X3) ∗ (∃ f, (arg13.view.loc (c : Thread nD τ) ↦[arg13.view.set]{fullShare} f) ∗ ⌜On2 arg13.view f (fun a _ => a < 8 * k.val) (xnN NC NT)⌝)) : sProp 𝕄U)
    ⊢ wp frame (wpE (defs₀ (F := F)) 𝒱₀ (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 k PUnit.unit)
      (fun _ => iprop((arg3.view.loc (c : Thread nD τ) ↦[arg3.view.set]{fullShare} X3) ∗ (∃ f, (arg13.view.loc (c : Thread nD τ) ↦[arg13.view.set]{fullShare} f) ∗ ⌜On2 arg13.view f (fun a _ => a < 8 * (k.val + 1)) (xnN NC NT)⌝))) := by
  have hk : k.val < 24 := k.isLt
  subst hv
  unfold k0_t4_body
  iintro ⟨H3, ⟨%f, H13, %h13⟩⟩
  have hl : arg3.view.readAt (Elt F) (Rect.unit (s := S192x128) (k0_off9 k) S8x128.size (k0_off9_inb i k k0_h1)).toLoadRect X3 = (blk2 NC (8 * k.val) 0 : S8x128.Idx → BitVec 32) := load2 hN (k0_off9_eq k) _
  sl_exec
  sl_step
  isplitl [H3]; · iexact H3
  iexists _; isplitl [H13]; · iexact H13
  ipureintro
  refine On2.write _ _ [] (k0_off9_eq k) (fun x => ?_) (D' := fun a _ => a < 8 * k.val) h13 ?_
  · have hx : (x 0).val < 8 := (x 0).isLt
    exact (xnN_at NC NT x (m := k.val) (by show 8 * k.val + 1 * (x 0).val = _; omega) (by show 0 + 1 * (x 1).val = _; omega)).symm
  · intro a b ha hb hd
    by_cases h : a < 8 * k.val
    · exact .inl h
    · exact .inr ⟨⟨a - 8 * k.val, show a - 8 * k.val < 8 by omega, show a = 8 * k.val + 1 * (a - 8 * k.val) by omega⟩, ⟨b, hb, show b = 0 + 1 * b by omega⟩⟩

set_option warn.classDefReducibility false in
/-- The loop by its invariant. -/
def linv4 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (k0_h1 : k0_cond1 i = 1#1) (v56 : Vec F S1x256 .f32) (NC : ℕ → ℕ → BitVec 32) (NT : ℕ → ℕ → F .f32) (X3 : BufTy.Contents (Elt F) arg3.view.ty) (hN : Is2 (Val := Elt F) arg3.view X3 NC) (hv : v56 = blk2 NT 0 0) :
    LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 where
  inv k _ := iprop((arg3.view.loc (c : Thread nD τ) ↦[arg3.view.set]{fullShare} X3) ∗ (∃ f, (arg13.view.loc (c : Thread nD τ) ↦[arg13.view.set]{fullShare} f) ∗ ⌜On2 arg13.view f (fun a _ => a < 8 * k) (xnN NC NT)⌝))
  step k _ := trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 k0_h1 v56 NC NT X3 hN hv k

set_option warn.classDefReducibility false in
/-- The loop by its invariant. -/
def linv5 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h2 : k0_cond2 i = 1#1) (T : ℕ → ℕ → F .f32) (W : ℕ → ℕ → BitVec 32) (X10 : BufTy.Contents (Elt F) arg10.view.ty) (XW : BufTy.Contents (Elt F) arg16.view.ty) (hT : Is2 arg10.view X10 T) (hX : Is2 arg16.view XW W) (hW : AllGood W) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 where
  inv k _ := iprop((arg10.view.loc (c : Thread nD τ) ↦[arg10.view.set]{fullShare} X10) ∗ (arg16.view.loc (c : Thread nD τ) ↦[arg16.view.set]{fullShare} XW) ∗ (∃ f, (arg14.view.loc (c : Thread nD τ) ↦[arg14.view.set]{fullShare} f) ∗ ⌜On3 arg14.view f (rowsDone 0 k) (stageN T W)⌝))
  step k _ := trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h2 T W X10 XW hT hX hW k

set_option warn.classDefReducibility false in
/-- The loop by its invariant. -/
def linv6 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h2 : k0_cond2 i = 1#1) (v73 : FVec F S128x128 .f32) (T : ℕ → ℕ → F .f32) (W : ℕ → ℕ → BitVec 32) (X10 : BufTy.Contents (Elt F) arg10.view.ty) (XW : BufTy.Contents (Elt F) arg16.view.ty) (hT : Is2 arg10.view X10 T) (hX : Is2 arg16.view XW W) (hW : AllGood W) :
    LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 where
  inv k _ := iprop((arg10.view.loc (c : Thread nD τ) ↦[arg10.view.set]{fullShare} X10) ∗ (arg16.view.loc (c : Thread nD τ) ↦[arg16.view.set]{fullShare} XW) ∗ (∃ f, (arg14.view.loc (c : Thread nD τ) ↦[arg14.view.set]{fullShare} f) ∗ ⌜On3 arg14.view f (rowsDone 1 k) (stageN T W)⌝))
  step k _ := trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h2 v73 T W X10 XW hT hX hW k

set_option warn.classDefReducibility false in
/-- The loop by its invariant. -/
def linv7 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (arg0 : BitVec 32) (v4 : IVec S16x256 32) (v8 : BitVec 32) (k0_h4 : k0_cond4 i = 1#1) (T : ℕ → ℕ → F .f32) (W : ℕ → ℕ → BitVec 32) (X10 : BufTy.Contents (Elt F) arg10.view.ty) (XW : BufTy.Contents (Elt F) arg17.view.ty) (hT : Is2 arg10.view X10 T) (hX : Is2 arg17.view XW W) (hW : AllGood W) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 where
  inv k _ := iprop((arg10.view.loc (c : Thread nD τ) ↦[arg10.view.set]{fullShare} X10) ∗ (arg17.view.loc (c : Thread nD τ) ↦[arg17.view.set]{fullShare} XW) ∗ (∃ f, (arg14.view.loc (c : Thread nD τ) ↦[arg14.view.set]{fullShare} f) ∗ ⌜On3 arg14.view f (rowsDone 0 k) (stageN T W)⌝))
  step k _ := trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 arg0 v4 v8 k0_h4 T W X10 XW hT hX hW k

set_option warn.classDefReducibility false in
/-- The loop by its invariant. -/
def linv8 (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (v8 : BitVec 32) (k0_h4 : k0_cond4 i = 1#1) (v73 : FVec F S128x128 .f32) (T : ℕ → ℕ → F .f32) (W : ℕ → ℕ → BitVec 32) (X10 : BufTy.Contents (Elt F) arg10.view.ty) (XW : BufTy.Contents (Elt F) arg17.view.ty) (hT : Is2 arg10.view X10 T) (hX : Is2 arg17.view XW W) (hW : AllGood W) :
    LoopInvTy_k0_t8 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 where
  inv k _ := iprop((arg10.view.loc (c : Thread nD τ) ↦[arg10.view.set]{fullShare} X10) ∗ (arg17.view.loc (c : Thread nD τ) ↦[arg17.view.set]{fullShare} XW) ∗ (∃ f, (arg14.view.loc (c : Thread nD τ) ↦[arg14.view.set]{fullShare} f) ∗ ⌜On3 arg14.view f (rowsDone 1 k) (stageN T W)⌝))
  step k _ := trip8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 v8 k0_h4 v73 T W X10 XW hT hX hW k
-- ==== Proof.Ki.BodyA.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Out
public import proofs.«01_k».proof.Proof.Ki.State
public import proofs.«01_k».proof.Proof.Ki.Trip
public import proofs.«01_k».proof.Proof.Ki.Trip1
public import proofs.«01_k».proof.Proof.Ki.Trip3
public import proofs.«01_k».proof.Proof.Ki.Loop

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyFirst (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (Q CB : ℕ → ℕ → F .bf16) (NC : ℕ → ℕ → BitVec 32) (NT : ℕ → ℕ → F .f32) (C C' : ℕ → ℕ → BitVec 32)
   {L T : ℕ → ℕ → F .f32} {B : ℕ → ℕ → ℕ → F .bf16} {N X : ℕ → ℕ → F .f32} (hL : lutN Q CB = L) (hT : tabN Q CB (qnN Q) = T) (hB : cbtN CB = B) (hNN : qnN Q = N) (hXX : xnN NC NT = X)
   (hQ : Is2 arg1.view X1 Q) (hCB : Is2 arg2.view X2 CB) (hNC : Is2 (Val := Elt F) arg3.view X3 NC) (hNT : Is2 arg4.view X4 NT)
   (h1 : k0_cond1 i = 1#1) (h2 : k0_cond2 i = 1#1) (h4 : ¬ k0_cond4 i = 1#1) (h3 : Scalar.cmpi .ne (Scalar.extui (Scalar.cmpi .slt (Scalar.addi (BitVec.ofNat 32 (i 0).val) 1#32) 48#32) : BitVec 32) 0#32 = 1#1) (h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ semVal ((c : Thread nD τ), SemLoc.dma arg18.sem) 0 ∗ semVal ((c : Thread nD τ), SemLoc.dma arg19.sem) 0 ∗ semVal ((c : Thread nD τ), SemLoc.dma arg20.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly1 c arg15 arg17 arg20 (wordN C') ∗ held c arg16 ∗ semVal ((c : Thread nD τ), SemLoc.dma arg19.sem) 0 ∗ ∃ W, owes (c : Thread nD τ) 0 W)) := by
  unfold cc0_adc_skel held2 held3 held lutFly offFly1
  iintro ⟨H1, H2, H3, H4, H5, H6, H7, H8, H9, H10, H11, H12, H13, H14, H15, H16, H17, S18, S19, S20, HO⟩
  have hcb0 : arg2.view.readAt (Elt F) (Rect.unit (s := S2304x512) ![0, 0] S256x512.size inb_S2304x512_S256x512_0_0).toLoadRect X2 = blk2 CB 0 0 := load2 hCB rfl _
  have hnt0 : arg4.view.readAt (Elt F) (Rect.unit (s := S1x256) ![0, 0] S1x256.size inb_S1x256_S1x256_0_0).toLoadRect X4 = blk2 NT 0 0 := load2 hNT rfl _
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  sl_exec
  have hN : Is2 arg12.view (arg12.view.writes (Elt F) arg12.view.junk (bodyFirst.sl.H12_1 Q)) (qnN Q) := by
    show On2 arg12.view (arg12.view.writes (Elt F) arg12.view.junk [⟨Rect.unit (s := S1024x128) ![0, 0] S1024x128.size inb_S1024x128_S1024x128_0_0, k0_pay88 (blk2 Q 0 0)⟩]) _ _
    refine On2.write _ _ [] rfl (fun x => ?_) (D' := fun _ _ => False) (fun _ h => h.elim) ?_
    · exact (at2_idx _ x (by show 0 + 1 * (x 0).val = _; omega) (by show 0 + 1 * (x 1).val = _; omega)).symm
    · intro a b ha hb hd
      exact .inr ⟨⟨a, ha, show a = 0 + 1 * a by omega⟩, ⟨b, hb, show b = 0 + 1 * b by omega⟩⟩
  have h10 : On2 arg10.view X10 (fun a _ => tabDone 0 0 0 a) (tabN Q CB (qnN Q)) := fun y h => absurd h (by unfold tabDone; omega)
  have h9 : On2 arg9.view (arg9.view.writes (Elt F) X9 [⟨Rect.unit (s := S1024x2304) ![0, 0] S1024x256.size inb_S1024x2304_S1024x256_0_0, k0_pay90 (blk2 Q 0 0) (blk2 CB 0 0)⟩]) (fun _ b => b < 256 * (0 + 1)) (lutN Q CB) := by
    refine On2.write _ _ [] rfl (fun x => ?_) (D' := fun _ _ => False) (fun _ h => h.elim) ?_
    · exact (lutN_at Q CB x (m := 0) (by show 0 + 1 * (x 0).val = _; omega) (by show 0 + 1 * (x 1).val = _; omega)).symm
    · intro a b ha hb hd
      exact .inr ⟨⟨a, ha, show a = 0 + 1 * a by omega⟩, ⟨b, show b < 256 by omega, show b = 0 + 1 * b by omega⟩⟩
  have h11 : On3 arg11.view (arg11.view.writes (Elt F) X11 [⟨Rect.unit (s := S9x512x256) ![0, 0, 0] S1x512x256.size inb_S9x512x256_S1x512x256_0_0_0, k0_pay2 (bodyFirst.sl.r_1 CB)⟩]) (fun m _ _ => m < 0 + 1) (cbtN CB) := by
    refine On3.write _ _ [] rfl (fun x => ?_) (D' := fun _ _ _ => False) (fun _ h => h.elim) ?_
    · have hx : (x 0).val < 1 := (x 0).isLt
      exact (cbtN_at CB x (m := 0) (by show 0 + 1 * (x 0).val = _; omega) (by show 0 + 1 * (x 1).val = _; omega) (by show 0 + 1 * (x 2).val = _; omega)).symm
    · intro a b c' ha hb hc hd
      exact .inr ⟨⟨0, Nat.one_pos, show a = 0 + 1 * 0 by omega⟩, ⟨b, hb, show b = 0 + 1 * b by omega⟩, ⟨c', hc, show c' = 0 + 1 * c' by omega⟩⟩
  have h13 : On2 arg13.view X13 (fun a _ => a < 8 * 0) (xnN NC NT) := fun y h => absurd h (by omega)
  let L1 := linv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 (bodyFirst.sl.r CB) Q CB (qnN Q) X1 _ hQ hN rfl
  sl_exec
  have h10b : On2 (Val := Elt F) arg10.view fL0 (fun a _ => tabDone (0 + 1) 0 0 a) (tabN Q CB (qnN Q)) := On2.mono hL3 fun a b _ _ h => (show Scf.trips k0_t1_loop.lb k0_t1_loop.ub k0_t1_loop.st = 8 from rfl) ▸ tabDone_book h
  let L2 := linv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 Q CB (qnN Q) X1 X2 hQ hCB
  let L4 := linv4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 h1 (blk2 NT 0 0) NC NT X3 hNC rfl
  sl_exec
  have hx10 : Is2 (Val := Elt F) arg10.view fL2 T := hT ▸ On2.mono hL7 fun a b ha _ _ => (show Scf.trips k0_t2_loop.lb k0_t2_loop.ub k0_t2_loop.st + 1 = 9 from rfl) ▸ tabDone_all ha
  have hx9 : Is2 (Val := Elt F) arg9.view fL0 L := hL ▸ On2.mono hL3 fun a b _ hb _ => (show b < 256 * (Scf.trips k0_t2_loop.lb k0_t2_loop.ub k0_t2_loop.st + 1) from hb)
  have hx11 : Is3 (Val := Elt F) arg11.view fL1 B := hB ▸ On3.mono hL5 fun a b c ha _ _ _ => (show a < Scf.trips k0_t2_loop.lb k0_t2_loop.ub k0_t2_loop.st + 1 from ha)
  have hx13 : Is2 (Val := Elt F) arg13.view fL3 X := hXX ▸ On2.mono hL10 fun a b ha _ _ => (show a < 8 * Scf.trips k0_t4_loop.lb k0_t4_loop.ub k0_t4_loop.st from ha)
  have hx12 : Is2 (Val := Elt F) arg12.view (arg12.view.writes (Elt F) arg12.view.junk (bodyFirst.sl.H12_1 Q)) N := hNN ▸ hN
  have h11w0 : arg11.view.readAt (Elt F) (Rect.unit (s := S9x512x256) ![0, 0, 0] S1x512x256.size inb_S9x512x256_S1x512x256_0_0_0).toLoadRect fL1 = blk3 B 0 0 0 := load3 hx11 rfl _
  have h11w1 : arg11.view.readAt (Elt F) (Rect.unit (s := S9x512x256) ![1, 0, 0] S1x512x256.size inb_S9x512x256_S1x512x256_1_0_0).toLoadRect fL1 = blk3 B 1 0 0 := load3 hx11 rfl _
  have h11w2 : arg11.view.readAt (Elt F) (Rect.unit (s := S9x512x256) ![2, 0, 0] S1x512x256.size inb_S9x512x256_S1x512x256_2_0_0).toLoadRect fL1 = blk3 B 2 0 0 := load3 hx11 rfl _
  have h11w3 : arg11.view.readAt (Elt F) (Rect.unit (s := S9x512x256) ![3, 0, 0] S1x512x256.size inb_S9x512x256_S1x512x256_3_0_0).toLoadRect fL1 = blk3 B 3 0 0 := load3 hx11 rfl _
  have h11w4 : arg11.view.readAt (Elt F) (Rect.unit (s := S9x512x256) ![4, 0, 0] S1x512x256.size inb_S9x512x256_S1x512x256_4_0_0).toLoadRect fL1 = blk3 B 4 0 0 := load3 hx11 rfl _
  have h11w5 : arg11.view.readAt (Elt F) (Rect.unit (s := S9x512x256) ![5, 0, 0] S1x512x256.size inb_S9x512x256_S1x512x256_5_0_0).toLoadRect fL1 = blk3 B 5 0 0 := load3 hx11 rfl _
  have h11w6 : arg11.view.readAt (Elt F) (Rect.unit (s := S9x512x256) ![6, 0, 0] S1x512x256.size inb_S9x512x256_S1x512x256_6_0_0).toLoadRect fL1 = blk3 B 6 0 0 := load3 hx11 rfl _
  have h11w7 : arg11.view.readAt (Elt F) (Rect.unit (s := S9x512x256) ![7, 0, 0] S1x512x256.size inb_S9x512x256_S1x512x256_7_0_0).toLoadRect fL1 = blk3 B 7 0 0 := load3 hx11 rfl _
  have h11w8 : arg11.view.readAt (Elt F) (Rect.unit (s := S9x512x256) ![8, 0, 0] S1x512x256.size inb_S9x512x256_S1x512x256_8_0_0).toLoadRect fL1 = blk3 B 8 0 0 := load3 hx11 rfl _
  have hxw : Is2 (Val := Elt F) arg16.view (arg16.view.writes (Elt F) arg16.view.junk [⟨Rect.whole S16x256, bodyFirst.sl.dma3 arg15 X15 C⟩]) (wordN C) :=
    whole_words _ _ fun y => slot_words C _ _ _ _ _ (word_pay (F := F) C) [] y
  have h14 : On3 (Val := Elt F) arg14.view X14 (rowsDone 0 0) (stageN T (wordN C)) := fun y h => absurd h (by unfold rowsDone; omega)
  let L5 := linv5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyFirst.sl.v8 i) h2 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyFirst.sl.v8 i) h2 (bodyFirst.sl.r_4 c i arg13 arg14 h2 fL3 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off49_eq i ⟨1, by decide⟩) _ _ _ rfl x)
        (fun x => mxu_pay11 hx13 hx12 (k0_off49_eq i ⟨0, by decide⟩) _ _ _ rfl x)
        (fun x => row_pay (r := (i 0).val) (g := 1) (j := 7) (by decide) hx13 h14c (k0_off29_eq i ⟨1, by decide⟩) _ rfl _ x)
        (fun x => row_pay (r := (i 0).val) (g := 1) (j := 6) (by decide) hx13 h14c (k0_off29_eq i ⟨1, by decide⟩) _ rfl _ x)
        (fun x => row_pay (r := (i 0).val) (g := 1) (j := 5) (by decide) hx13 h14c (k0_off29_eq i ⟨1, by decide⟩) _ rfl _ x)
        (fun x => row_pay (r := (i 0).val) (g := 1) (j := 4) (by decide) hx13 h14c (k0_off29_eq i ⟨1, by decide⟩) _ rfl _ x)
        (fun x => row_pay (r := (i 0).val) (g := 1) (j := 3) (by decide) hx13 h14c (k0_off29_eq i ⟨1, by decide⟩) _ rfl _ x)
        (fun x => row_pay (r := (i 0).val) (g := 1) (j := 2) (by decide) hx13 h14c (k0_off29_eq i ⟨1, by decide⟩) _ rfl _ x)
        (fun x => row_pay (r := (i 0).val) (g := 1) (j := 1) (by decide) hx13 h14c (k0_off29_eq i ⟨1, by decide⟩) _ rfl _ x)
        (fun x => row_pay (r := (i 0).val) (g := 1) (j := 0) (by decide) hx13 h14c (k0_off29_eq i ⟨1, by decide⟩) _ rfl _ x)
        (fun x => row_pay (r := (i 0).val) (g := 0) (j := 7) (by decide) hx13 h14a (k0_off29_eq i ⟨0, by decide⟩) _ rfl _ x)
        (fun x => row_pay (r := (i 0).val) (g := 0) (j := 6) (by decide) hx13 h14a (k0_off29_eq i ⟨0, by decide⟩) _ rfl _ x)
        (fun x => row_pay (r := (i 0).val) (g := 0) (j := 5) (by decide) hx13 h14a (k0_off29_eq i ⟨0, by decide⟩) _ rfl _ x)
        (fun x => row_pay (r := (i 0).val) (g := 0) (j := 4) (by decide) hx13 h14a (k0_off29_eq i ⟨0, by decide⟩) _ rfl _ x)
        (fun x => row_pay (r := (i 0).val) (g := 0) (j := 3) (by decide) hx13 h14a (k0_off29_eq i ⟨0, by decide⟩) _ rfl _ x)
        (fun x => row_pay (r := (i 0).val) (g := 0) (j := 2) (by decide) hx13 h14a (k0_off29_eq i ⟨0, by decide⟩) _ rfl _ x)
        (fun x => row_pay (r := (i 0).val) (g := 0) (j := 1) (by decide) hx13 h14a (k0_off29_eq i ⟨0, by decide⟩) _ rfl _ x)
        (fun x => row_pay (r := (i 0).val) (g := 0) (j := 0) (by decide) hx13 h14a (k0_off29_eq i ⟨0, by decide⟩) _ rfl _ x)

  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact whole_words _ _ fun y => hx9 y trivial
  isplitl [H14]; · iexists _; iexact H14
  isplitl [S20 H15]
  · iexists _, _; isplitl [S20]; · iexact S20
    isplitl [H15]; · iexact H15
    ipureintro; exact whole_words _ _ fun y => slot_words C' _ _ _ _ _ (word_pay (F := F) C') _ y
  isplitl [H16]; · iexists _; iexact H16
  isplitl [S19]; · iexact S19
  iexists _; iexact HO
-- ==== Proof.Ki.BodyB.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Out
public import proofs.«01_k».proof.Proof.Ki.State
public import proofs.«01_k».proof.Proof.Ki.Trip
public import proofs.«01_k».proof.Proof.Ki.Trip1
public import proofs.«01_k».proof.Proof.Ki.Trip3
public import proofs.«01_k».proof.Proof.Ki.Loop

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyEven (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : k0_cond2 i = 1#1) (h4 : ¬ k0_cond4 i = 1#1) (h3 : Scalar.cmpi .ne (Scalar.extui (Scalar.cmpi .slt (Scalar.addi (BitVec.ofNat 32 (i 0).val) 1#32) 48#32) : BitVec 32) 0#32 = 1#1)(h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly0 c arg15 arg16 arg19 (wordN C) ∗ held c arg17 ∗ semVal ((c : Thread nD τ), SemLoc.dma arg20.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly1 c arg15 arg17 arg20 (wordN C') ∗ held c arg16 ∗ semVal ((c : Thread nD τ), SemLoc.dma arg19.sem) 0 ∗ ∃ W, owes (c : Thread nD τ) 0 W)) := by
  unfold cc0_adc_skel held2 held3 held lutFly offFly0 offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S19, H15, %hxw⟩, ⟨%fh, H17⟩, S20, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyEven.sl.v8 i) h2 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyEven.sl.v8 i) h2 (bodyEven.sl.r_2 c i arg13 arg14 h2 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off49_eq i ⟨1, by decide⟩) _ _ _ rfl x)
        (fun x => mxu_pay11 hx13 hx12 (k0_off49_eq i ⟨0, by decide⟩) _ _ _ rfl x)
        (fun x => row_pay (r := (i 0).val) (g := 1) (j := 7) (by decide) hx13 h14c (k0_off29_eq i ⟨1, by decide⟩) _ rfl _ x)
        (fun x => row_pay (r := (i 0).val) (g := 1) (j := 6) (by decide) hx13 h14c (k0_off29_eq i ⟨1, by decide⟩) _ rfl _ x)
        (fun x => row_pay (r := (i 0).val) (g := 1) (j := 5) (by decide) hx13 h14c (k0_off29_eq i ⟨1, by decide⟩) _ rfl _ x)
        (fun x => row_pay (r := (i 0).val) (g := 1) (j := 4) (by decide) hx13 h14c (k0_off29_eq i ⟨1, by decide⟩) _ rfl _ x)
        (fun x => row_pay (r := (i 0).val) (g := 1) (j := 3) (by decide) hx13 h14c (k0_off29_eq i ⟨1, by decide⟩) _ rfl _ x)
        (fun x => row_pay (r := (i 0).val) (g := 1) (j := 2) (by decide) hx13 h14c (k0_off29_eq i ⟨1, by decide⟩) _ rfl _ x)
        (fun x => row_pay (r := (i 0).val) (g := 1) (j := 1) (by decide) hx13 h14c (k0_off29_eq i ⟨1, by decide⟩) _ rfl _ x)
        (fun x => row_pay (r := (i 0).val) (g := 1) (j := 0) (by decide) hx13 h14c (k0_off29_eq i ⟨1, by decide⟩) _ rfl _ x)
        (fun x => row_pay (r := (i 0).val) (g := 0) (j := 7) (by decide) hx13 h14a (k0_off29_eq i ⟨0, by decide⟩) _ rfl _ x)
        (fun x => row_pay (r := (i 0).val) (g := 0) (j := 6) (by decide) hx13 h14a (k0_off29_eq i ⟨0, by decide⟩) _ rfl _ x)
        (fun x => row_pay (r := (i 0).val) (g := 0) (j := 5) (by decide) hx13 h14a (k0_off29_eq i ⟨0, by decide⟩) _ rfl _ x)
        (fun x => row_pay (r := (i 0).val) (g := 0) (j := 4) (by decide) hx13 h14a (k0_off29_eq i ⟨0, by decide⟩) _ rfl _ x)
        (fun x => row_pay (r := (i 0).val) (g := 0) (j := 3) (by decide) hx13 h14a (k0_off29_eq i ⟨0, by decide⟩) _ rfl _ x)
        (fun x => row_pay (r := (i 0).val) (g := 0) (j := 2) (by decide) hx13 h14a (k0_off29_eq i ⟨0, by decide⟩) _ rfl _ x)
        (fun x => row_pay (r := (i 0).val) (g := 0) (j := 1) (by decide) hx13 h14a (k0_off29_eq i ⟨0, by decide⟩) _ rfl _ x)
        (fun x => row_pay (r := (i 0).val) (g := 0) (j := 0) (by decide) hx13 h14a (k0_off29_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact hx8
  isplitl [H14]; · iexists _; iexact H14
  isplitl [S20 H15]
  · iexists _, _; isplitl [S20]; · iexact S20
    isplitl [H15]; · iexact H15
    ipureintro; exact whole_words _ _ fun y => slot_words C' _ _ _ _ _ (word_pay (F := F) C') _ y
  isplitl [S19_dst]; · iexists _; iexact S19_dst
  isplitl [S19]; · iexact S19
  iexists _; iexact HO
-- ==== Proof.Ki.BodyC.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Out
public import proofs.«01_k».proof.Proof.Ki.State
public import proofs.«01_k».proof.Proof.Ki.Trip
public import proofs.«01_k».proof.Proof.Ki.Trip1
public import proofs.«01_k».proof.Proof.Ki.Trip3
public import proofs.«01_k».proof.Proof.Ki.Loop

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyOdd (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : ¬ k0_cond2 i = 1#1) (h4 : k0_cond4 i = 1#1) (h5 : Scalar.cmpi .ne (Scalar.extui (Scalar.cmpi .slt (Scalar.addi (BitVec.ofNat 32 (i 0).val) 1#32) 48#32) : BitVec 32) 0#32 = 1#1)(h6 : ¬ Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly1 c arg15 arg17 arg20 (wordN C) ∗ held c arg16 ∗ semVal ((c : Thread nD τ), SemLoc.dma arg19.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ lutFly c arg8 arg9 arg18 L ∗ held c arg14 ∗ offFly0 c arg15 arg16 arg19 (wordN C') ∗ held c arg17 ∗ semVal ((c : Thread nD τ), SemLoc.dma arg20.sem) 0 ∗ ∃ W, owes (c : Thread nD τ) 0 W)) := by
  unfold cc0_adc_skel held2 held3 held lutFly offFly0 offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S20, H15, %hxw⟩, ⟨%fh, H16⟩, S19, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyOdd.sl.v8 i) h4 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyOdd.sl.v8 i) h4 (bodyOdd.sl.r_2 c i arg13 arg14 h4 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off89_eq i ⟨1, by decide⟩) _ _ _ rfl x)
        (fun x => mxu_pay11 hx13 hx12 (k0_off89_eq i ⟨0, by decide⟩) _ _ _ rfl x)
        (fun x => row_pay (r := (i 0).val) (g := 1) (j := 7) (by decide) hx13 h14c (k0_off69_eq i ⟨1, by decide⟩) _ rfl _ x)
        (fun x => row_pay (r := (i 0).val) (g := 1) (j := 6) (by decide) hx13 h14c (k0_off69_eq i ⟨1, by decide⟩) _ rfl _ x)
        (fun x => row_pay (r := (i 0).val) (g := 1) (j := 5) (by decide) hx13 h14c (k0_off69_eq i ⟨1, by decide⟩) _ rfl _ x)
        (fun x => row_pay (r := (i 0).val) (g := 1) (j := 4) (by decide) hx13 h14c (k0_off69_eq i ⟨1, by decide⟩) _ rfl _ x)
        (fun x => row_pay (r := (i 0).val) (g := 1) (j := 3) (by decide) hx13 h14c (k0_off69_eq i ⟨1, by decide⟩) _ rfl _ x)
        (fun x => row_pay (r := (i 0).val) (g := 1) (j := 2) (by decide) hx13 h14c (k0_off69_eq i ⟨1, by decide⟩) _ rfl _ x)
        (fun x => row_pay (r := (i 0).val) (g := 1) (j := 1) (by decide) hx13 h14c (k0_off69_eq i ⟨1, by decide⟩) _ rfl _ x)
        (fun x => row_pay (r := (i 0).val) (g := 1) (j := 0) (by decide) hx13 h14c (k0_off69_eq i ⟨1, by decide⟩) _ rfl _ x)
        (fun x => row_pay (r := (i 0).val) (g := 0) (j := 7) (by decide) hx13 h14a (k0_off69_eq i ⟨0, by decide⟩) _ rfl _ x)
        (fun x => row_pay (r := (i 0).val) (g := 0) (j := 6) (by decide) hx13 h14a (k0_off69_eq i ⟨0, by decide⟩) _ rfl _ x)
        (fun x => row_pay (r := (i 0).val) (g := 0) (j := 5) (by decide) hx13 h14a (k0_off69_eq i ⟨0, by decide⟩) _ rfl _ x)
        (fun x => row_pay (r := (i 0).val) (g := 0) (j := 4) (by decide) hx13 h14a (k0_off69_eq i ⟨0, by decide⟩) _ rfl _ x)
        (fun x => row_pay (r := (i 0).val) (g := 0) (j := 3) (by decide) hx13 h14a (k0_off69_eq i ⟨0, by decide⟩) _ rfl _ x)
        (fun x => row_pay (r := (i 0).val) (g := 0) (j := 2) (by decide) hx13 h14a (k0_off69_eq i ⟨0, by decide⟩) _ rfl _ x)
        (fun x => row_pay (r := (i 0).val) (g := 0) (j := 1) (by decide) hx13 h14a (k0_off69_eq i ⟨0, by decide⟩) _ rfl _ x)
        (fun x => row_pay (r := (i 0).val) (g := 0) (j := 0) (by decide) hx13 h14a (k0_off69_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18]
  · iexists _, _; isplitl [S18]; (· iexact S18); ipureintro; exact hx8
  isplitl [H14]; · iexists _; iexact H14
  isplitl [S19 H15]
  · iexists _, _; isplitl [S19]; · iexact S19
    isplitl [H15]; · iexact H15
    ipureintro; exact whole_words _ _ fun y => slot_words C' _ _ _ _ _ (word_pay (F := F) C') _ y
  isplitl [S20_dst]; · iexists _; iexact S20_dst
  isplitl [S20]; · iexact S20
  iexists _; iexact HO
-- ==== Proof.Ki.BodyD.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Ki.Base
public import proofs.«01_k».proof.Proof.Ki.Model
public import proofs.«01_k».proof.Proof.Ki.Tab
public import proofs.«01_k».proof.Proof.Ki.Out
public import proofs.«01_k».proof.Proof.Ki.State
public import proofs.«01_k».proof.Proof.Ki.Trip
public import proofs.«01_k».proof.Proof.Ki.Trip1
public import proofs.«01_k».proof.Proof.Ki.Trip3
public import proofs.«01_k».proof.Proof.Ki.Loop

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxHeartbeats 2000000 in
set_option pp.deepTerms false in
set_option pp.deepTerms.threshold 6 in
set_option pp.maxSteps 4000 in
theorem bodyLast (c : Dev nD) (i : grid0.Coords) (arg1 : Memref sig .tc .vmem S1024x512 .bf16) (harg1 : arg1.IsWhole) (arg2 : Memref sig .tc .vmem S2304x512 .bf16) (harg2 : arg2.IsWhole) (arg3 : Memref sig .tc .vmem S192x128 .i32) (harg3 : arg3.IsWhole) (arg4 : Memref sig .tc .vmem S1x256 .f32) (harg4 : arg4.IsWhole) (arg5 : Memref sig .tc .vmem S1x16x512 .i32) (harg5 : arg5.IsWhole) (arg6 : Memref sig .tc .vmem S1x16x512 .i32) (harg6 : arg6.IsWhole) (arg7 : Memref sig .tc .vmem S1024x512 .f32) (harg7 : arg7.IsWhole) (arg8 : Memref sig .tc .hbm S1024x2304 .f32) (harg8 : arg8.IsWhole) (arg9 : Memref sig .tc .vmem S1024x2304 .f32) (harg9 : arg9.IsWhole) (arg10 : Memref sig .tc .vmem S18432x128 .f32) (harg10 : arg10.IsWhole) (arg11 : Memref sig .tc .vmem S9x512x256 .bf16) (harg11 : arg11.IsWhole) (arg12 : Memref sig .tc .vmem S1024x128 .f32) (harg12 : arg12.IsWhole) (arg13 : Memref sig .tc .vmem S192x128 .f32) (harg13 : arg13.IsWhole) (arg14 : Memref sig .tc .vmem S2x1056x128 .f32) (harg14 : arg14.IsWhole) (arg15 : Memref sig .tc .vmem S2x16x256 .i32) (harg15 : arg15.IsWhole) (arg16 : Memref sig .tc .smem S16x256 .i32) (harg16 : arg16.IsWhole) (arg17 : Memref sig .tc .smem S16x256 .i32) (harg17 : arg17.IsWhole) (arg18 : DmaSems sig S_) (arg19 : DmaSems sig S_) (arg20 : DmaSems sig S_) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (W0) {L T : ℕ → ℕ → F .f32} {B : ℕ → ℕ → ℕ → F .bf16} {N X : ℕ → ℕ → F .f32} (Q : ℕ → ℕ → F .bf16) (C C' : ℕ → ℕ → BitVec 32) (hQ : Is2 arg1.view X1 Q)
   (h1 : ¬ k0_cond1 i = 1#1) (h2 : ¬ k0_cond2 i = 1#1) (h4 : k0_cond4 i = 1#1) (h5 : ¬ Scalar.cmpi .ne (Scalar.extui (Scalar.cmpi .slt (Scalar.addi (BitVec.ofNat 32 (i 0).val) 1#32) 48#32) : BitVec 32) 0#32 = 1#1)(h6 : Scalar.cmpi .ne (Scalar.extui (Scalar.cmpi .eq (BitVec.ofNat 32 (i 0).val) 47#32) : BitVec 32) 0#32 = 1#1)
   (hC5 : Is3 (Val := Elt F) arg5.view X5 (fun _ => C)) (hC6 : Is3 (Val := Elt F) arg6.view X6 (fun _ => C')) (hW : AllGood (wordN C)) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (held2 c arg10 T ∗ held3 c arg11 B ∗ held2 c arg12 N ∗ held2 c arg13 X) ∗ lutFly c arg8 arg9 arg18 L ∗ held c arg14 ∗ offFly1 c arg15 arg17 arg20 (wordN C) ∗ held c arg16 ∗ semVal ((c : Thread nD τ), SemLoc.dma arg19.sem) 0 ∗ owes (c : Thread nD τ) 0 W0) : sProp 𝕄U)
    ⊢ wp frame (wpE (defs₀ (F := F)) 𝒱₀ (c : Thread nD τ) none) Set.univ (cc0_adc_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20)
      (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ held2 c arg7 (outN Q T B N X C (i 0).val) ∗ (held2 c arg10 T ∗ held3 c arg11 B ∗ held2 c arg12 N ∗ held2 c arg13 X) ∗ held2 c arg8 L ∗ held c arg9 ∗ held c arg14 ∗ held c arg15 ∗ held c arg16 ∗ held c arg17 ∗ semVal ((c : Thread nD τ), SemLoc.dma arg18.sem) 0 ∗ semVal ((c : Thread nD τ), SemLoc.dma arg19.sem) 0 ∗ semVal ((c : Thread nD τ), SemLoc.dma arg20.sem) 0 ∗ ∃ W, owes (c : Thread nD τ) 0 W)) := by
  unfold cc0_adc_skel held2 held3 held lutFly offFly1
  iintro ⟨H1, H2, H3, H4, H5, H6, H7, ⟨⟨%f10, H10, %hx10⟩, ⟨%f11, H11, %hx11⟩, ⟨%f12, H12, %hx12⟩, ⟨%f13, H13, %hx13⟩⟩, ⟨%fd, %fs, S18, %hx8⟩, ⟨%f14, H14⟩, ⟨%fw, %fo, S20, H15, %hxw⟩, ⟨%fh, H16⟩, S19, HO⟩
  have hq0 : arg1.view.readAt (Elt F) (Rect.unit (s := S1024x512) ![0, 0] S1024x512.size inb_S1024x512_S1024x512_0_0).toLoadRect X1 = blk2 Q 0 0 := load2 hQ rfl _
  have h5w : arg5.view.readAt (Elt F) (Rect.unit (s := S1x16x512) ![0, 0, 0] S1x16x512.size inb_S1x16x512_S1x16x512_0_0_0).toLoadRect X5 = blk3 (fun _ => C) 0 0 0 := load3 hC5 rfl _
  have h6w : arg6.view.readAt (Elt F) (Rect.unit (s := S1x16x512) ![0, 0, 0] S1x16x512.size inb_S1x16x512_S1x16x512_0_0_0).toLoadRect X6 = blk3 (fun _ => C') 0 0 0 := load3 hC6 rfl _
  have h11w0 : arg11.view.readAt (Elt F) (Rect.unit (s := S9x512x256) ![0, 0, 0] S1x512x256.size inb_S9x512x256_S1x512x256_0_0_0).toLoadRect f11 = blk3 B 0 0 0 := load3 hx11 rfl _
  have h11w1 : arg11.view.readAt (Elt F) (Rect.unit (s := S9x512x256) ![1, 0, 0] S1x512x256.size inb_S9x512x256_S1x512x256_1_0_0).toLoadRect f11 = blk3 B 1 0 0 := load3 hx11 rfl _
  have h11w2 : arg11.view.readAt (Elt F) (Rect.unit (s := S9x512x256) ![2, 0, 0] S1x512x256.size inb_S9x512x256_S1x512x256_2_0_0).toLoadRect f11 = blk3 B 2 0 0 := load3 hx11 rfl _
  have h11w3 : arg11.view.readAt (Elt F) (Rect.unit (s := S9x512x256) ![3, 0, 0] S1x512x256.size inb_S9x512x256_S1x512x256_3_0_0).toLoadRect f11 = blk3 B 3 0 0 := load3 hx11 rfl _
  have h11w4 : arg11.view.readAt (Elt F) (Rect.unit (s := S9x512x256) ![4, 0, 0] S1x512x256.size inb_S9x512x256_S1x512x256_4_0_0).toLoadRect f11 = blk3 B 4 0 0 := load3 hx11 rfl _
  have h11w5 : arg11.view.readAt (Elt F) (Rect.unit (s := S9x512x256) ![5, 0, 0] S1x512x256.size inb_S9x512x256_S1x512x256_5_0_0).toLoadRect f11 = blk3 B 5 0 0 := load3 hx11 rfl _
  have h11w6 : arg11.view.readAt (Elt F) (Rect.unit (s := S9x512x256) ![6, 0, 0] S1x512x256.size inb_S9x512x256_S1x512x256_6_0_0).toLoadRect f11 = blk3 B 6 0 0 := load3 hx11 rfl _
  have h11w7 : arg11.view.readAt (Elt F) (Rect.unit (s := S9x512x256) ![7, 0, 0] S1x512x256.size inb_S9x512x256_S1x512x256_7_0_0).toLoadRect f11 = blk3 B 7 0 0 := load3 hx11 rfl _
  have h11w8 : arg11.view.readAt (Elt F) (Rect.unit (s := S9x512x256) ![8, 0, 0] S1x512x256.size inb_S9x512x256_S1x512x256_8_0_0).toLoadRect f11 = blk3 B 8 0 0 := load3 hx11 rfl _
  sl_exec
  have h14 : On3 (Val := Elt F) arg14.view f14 (rowsDone 0 0) (stageN T (wordN C)) := fun y h => absurd h (by unfold rowsDone; omega)
  let L5 := linv7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (BitVec.ofNat 32 (i 0).val) k0_pay1 (bodyLast.sl.v8 i) h4 T (wordN C) _ _ hx10 hxw hW
  sl_exec
  have h14a : On3 (Val := Elt F) arg14.view fL0 (rowsDone 0 128) (stageN T (wordN C)) := hL3
  have h14b : On3 (Val := Elt F) arg14.view fL0 (rowsDone 1 0) (stageN T (wordN C)) := On3.mono h14a fun a b c _ _ _ h => by unfold rowsDone at *; omega
  let L6 := linv8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 arg20 (bodyLast.sl.v8 i) h4 (bodyLast.sl.r_2 c i arg13 arg14 h4 f13 fL0) T (wordN C) _ _ hx10 hxw hW
  sl_exec
  have h14c : On3 (Val := Elt F) arg14.view fL0 (rowsDone 1 128) (stageN T (wordN C)) := hL3
  sl_step
  isplitl [H1]; · iexact H1
  isplitl [H2]; · iexact H2
  isplitl [H3]; · iexact H3
  isplitl [H4]; · iexact H4
  isplitl [H5]; · iexact H5
  isplitl [H6]; · iexact H6
  isplitl [H7]
  · iexists _; isplitl [H7]; · iexact H7
    ipureintro; exact out_pieces (fun x => mxu_pay12 hx13 hx12 (k0_off89_eq i ⟨1, by decide⟩) _ _ _ rfl x)
        (fun x => mxu_pay11 hx13 hx12 (k0_off89_eq i ⟨0, by decide⟩) _ _ _ rfl x)
        (fun x => row_pay (r := (i 0).val) (g := 1) (j := 7) (by decide) hx13 h14c (k0_off69_eq i ⟨1, by decide⟩) _ rfl _ x)
        (fun x => row_pay (r := (i 0).val) (g := 1) (j := 6) (by decide) hx13 h14c (k0_off69_eq i ⟨1, by decide⟩) _ rfl _ x)
        (fun x => row_pay (r := (i 0).val) (g := 1) (j := 5) (by decide) hx13 h14c (k0_off69_eq i ⟨1, by decide⟩) _ rfl _ x)
        (fun x => row_pay (r := (i 0).val) (g := 1) (j := 4) (by decide) hx13 h14c (k0_off69_eq i ⟨1, by decide⟩) _ rfl _ x)
        (fun x => row_pay (r := (i 0).val) (g := 1) (j := 3) (by decide) hx13 h14c (k0_off69_eq i ⟨1, by decide⟩) _ rfl _ x)
        (fun x => row_pay (r := (i 0).val) (g := 1) (j := 2) (by decide) hx13 h14c (k0_off69_eq i ⟨1, by decide⟩) _ rfl _ x)
        (fun x => row_pay (r := (i 0).val) (g := 1) (j := 1) (by decide) hx13 h14c (k0_off69_eq i ⟨1, by decide⟩) _ rfl _ x)
        (fun x => row_pay (r := (i 0).val) (g := 1) (j := 0) (by decide) hx13 h14c (k0_off69_eq i ⟨1, by decide⟩) _ rfl _ x)
        (fun x => row_pay (r := (i 0).val) (g := 0) (j := 7) (by decide) hx13 h14a (k0_off69_eq i ⟨0, by decide⟩) _ rfl _ x)
        (fun x => row_pay (r := (i 0).val) (g := 0) (j := 6) (by decide) hx13 h14a (k0_off69_eq i ⟨0, by decide⟩) _ rfl _ x)
        (fun x => row_pay (r := (i 0).val) (g := 0) (j := 5) (by decide) hx13 h14a (k0_off69_eq i ⟨0, by decide⟩) _ rfl _ x)
        (fun x => row_pay (r := (i 0).val) (g := 0) (j := 4) (by decide) hx13 h14a (k0_off69_eq i ⟨0, by decide⟩) _ rfl _ x)
        (fun x => row_pay (r := (i 0).val) (g := 0) (j := 3) (by decide) hx13 h14a (k0_off69_eq i ⟨0, by decide⟩) _ rfl _ x)
        (fun x => row_pay (r := (i 0).val) (g := 0) (j := 2) (by decide) hx13 h14a (k0_off69_eq i ⟨0, by decide⟩) _ rfl _ x)
        (fun x => row_pay (r := (i 0).val) (g := 0) (j := 1) (by decide) hx13 h14a (k0_off69_eq i ⟨0, by decide⟩) _ rfl _ x)
        (fun x => row_pay (r := (i 0).val) (g := 0) (j := 0) (by decide) hx13 h14a (k0_off69_eq i ⟨0, by decide⟩) _ rfl _ x)
  isplitl [H10 H11 H12 H13]
  · isplitl [H10]; · iexists _; isplitl [H10]; (· iexact H10); ipureintro; exact hx10
    isplitl [H11]; · iexists _; isplitl [H11]; (· iexact H11); ipureintro; exact hx11
    isplitl [H12]; · iexists _; isplitl [H12]; (· iexact H12); ipureintro; exact hx12
    iexists _; isplitl [H13]; (· iexact H13); ipureintro; exact hx13
  isplitl [S18_dst]; · iexists _; isplitl [S18_dst]; (· iexact S18_dst); ipureintro; exact hx8
  isplitl [S18_src]; · iexists _; iexact S18_src
  isplitl [H14]; · iexists _; iexact H14
  isplitl [H15]; · iexists _; iexact H15
  isplitl [H16]; · iexists _; iexact H16
  isplitl [S20_dst]; · iexists _; iexact S20_dst
  isplitl [S18]; · iexact S18
  isplitl [S19]; · iexact S19
  isplitl [S20]; · iexact S20
  iexists _; iexact HO
-- ==== Proof.Ki.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import proofs.«01_k».proof.Proof.Ki.Base
public import proofs.«01_k».proof.Proof.Ki.Model
public import proofs.«01_k».proof.Proof.Ki.Tab
public import proofs.«01_k».proof.Proof.Ki.Out
public import proofs.«01_k».proof.Proof.Ki.State
public import proofs.«01_k».proof.Proof.Ki.Host
public import proofs.«01_k».proof.Proof.Ki.BodyA
public import proofs.«01_k».proof.Proof.Ki.BodyB
public import proofs.«01_k».proof.Proof.Ki.BodyC
public import proofs.«01_k».proof.Proof.Ki.BodyD
public import Idealize.ShloMosaic.Lib.Pipeline.FrameValue

@[expose] public section

noncomputable section

namespace Cert.Proof.KernelIdeal

open Cert.KernelIdeal Cert.KernelIdeal.Gen Cert.Proof.Hold
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose)
open Idealize.SL.BI.BIBase Idealize.SL.BI.Laws Idealize.SL.ProofMode Idealize.SL.Sem

variable {F : FTy → Type} [FloatOps F]
local notation "𝕄U" => MT nD τ sig Unit (Elt F) ℕ (UU nD τ) ℕ

set_option maxRecDepth 16384
variable (m : (ℓ : Loc nD τ sig) → Buf (Elt F) ℓ) (ρ : Dev nD → PrngReg)

/-! ## What the launch holds, by name -/

def Qm (c : Dev nD) : ℕ → ℕ → F .bf16 := qA (m ((c : Thread nD τ).loc main_arg0))
def CBm (c : Dev nD) : ℕ → ℕ → F .bf16 := cbA (m ((c : Thread nD τ).loc main_arg1))
def NCm (c : Dev nD) : ℕ → ℕ → BitVec 32 := ncA (m ((c : Thread nD τ).loc main_arg3))
def NTm (c : Dev nD) : ℕ → ℕ → F .f32 := ntA (m ((c : Thread nD τ).loc main_arg4))
def Cm (c : Dev nD) (t : ℕ) : ℕ → ℕ → BitVec 32 := coA (m ((c : Thread nD τ).loc main_arg2)) t
def Lm (c : Dev nD) : ℕ → ℕ → F .f32 := lutN (Qm m c) (CBm m c)
def Nm (c : Dev nD) : ℕ → ℕ → F .f32 := qnN (Qm m c)
def Tm (c : Dev nD) : ℕ → ℕ → F .f32 := tabN (Qm m c) (CBm m c) (qnN (Qm m c))
def Bm (c : Dev nD) : ℕ → ℕ → ℕ → F .bf16 := cbtN (CBm m c)
def Xm (c : Dev nD) : ℕ → ℕ → F .f32 := xnN (NCm m c) (NTm m c)

/-! ## The state between two grid points -/

/-- What stays from the first point on: the table, the transposed books and the two kinds of norms. -/
def kept (c : Dev nD) : sProp 𝕄U :=
  iprop(held2 c (Memref.whole cc0_scratch1) (Tm m c) ∗ held3 c (Memref.whole cc0_scratch2) (Bm m c) ∗ held2 c (Memref.whole cc0_scratch3) (Nm m c) ∗ held2 c (Memref.whole cc0_scratch4) (Xm m c))
/-- Before the first point nothing is known. -/
def stStart (c : Dev nD) : sProp 𝕄U :=
  iprop(held c (Memref.whole main_v9_1) ∗ held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ held c (Memref.whole cc0_scratch7) ∗ held c (Memref.whole cc0_scratch8) ∗ semVal ((c : Thread nD τ), SemLoc.dma cc0_scratch9.sem) 0 ∗ semVal ((c : Thread nD τ), SemLoc.dma cc0_scratch10.sem) 0 ∗ semVal ((c : Thread nD τ), SemLoc.dma cc0_scratch11.sem) 0)
/-- Before an odd point the offsets of its block are on their way to the second scalar memory. -/
def stOdd (c : Dev nD) (n : ℕ) : sProp 𝕄U :=
  iprop(kept m c ∗ lutFly c (Memref.whole main_v9_1) (Memref.whole cc0_scratch0) cc0_scratch9 (Lm m c) ∗ held c (Memref.whole cc0_scratch5)
    ∗ offFly1 c (Memref.whole cc0_scratch6) (Memref.whole cc0_scratch8) cc0_scratch11 (wordN (Cm m c n)) ∗ held c (Memref.whole cc0_scratch7) ∗ semVal ((c : Thread nD τ), SemLoc.dma cc0_scratch10.sem) 0)
/-- Before an even point they are on their way to the first. -/
def stEven (c : Dev nD) (n : ℕ) : sProp 𝕄U :=
  iprop(kept m c ∗ lutFly c (Memref.whole main_v9_1) (Memref.whole cc0_scratch0) cc0_scratch9 (Lm m c) ∗ held c (Memref.whole cc0_scratch5)
    ∗ offFly0 c (Memref.whole cc0_scratch6) (Memref.whole cc0_scratch7) cc0_scratch10 (wordN (Cm m c n)) ∗ held c (Memref.whole cc0_scratch8) ∗ semVal ((c : Thread nD τ), SemLoc.dma cc0_scratch11.sem) 0)
/-- After the last point the second result holds the products and nothing is on its way. -/
def stStop (c : Dev nD) : sProp 𝕄U :=
  iprop(kept m c ∗ held2 c (Memref.whole main_v9_1) (Lm m c) ∗ held c (Memref.whole cc0_scratch0) ∗ held c (Memref.whole cc0_scratch5) ∗ held c (Memref.whole cc0_scratch6) ∗ held c (Memref.whole cc0_scratch7) ∗ held c (Memref.whole cc0_scratch8) ∗ semVal ((c : Thread nD τ), SemLoc.dma cc0_scratch9.sem) 0 ∗ semVal ((c : Thread nD τ), SemLoc.dma cc0_scratch10.sem) 0 ∗ semVal ((c : Thread nD τ), SemLoc.dma cc0_scratch11.sem) 0)
/-- The state before point `n`. -/
def stAt (c : Dev nD) (n : ℕ) : sProp 𝕄U :=
  if n = 0 then stStart c else if n = 48 then stStop m c else if n % 2 = 1 then stOdd m c n else stEven m c n
/-- The state before point `n`, with the core's generator register. -/
def PhiS (c : Dev nD) (n : ℕ) (_h : n ≤ cfg0.N) : sProp 𝕄U := iprop(stAt m c n ∗ ∃ r, prngReg c r)

theorem stAt_zero (c : Dev nD) : stAt m c 0 = stStart c := rfl
theorem stAt_last (c : Dev nD) : stAt m c 48 = stStop m c := rfl
theorem stAt_odd (c : Dev nD) {n : ℕ} (h : n % 2 = 1) : stAt m c n = stOdd m c n := by
  unfold stAt; rw [if_neg (by omega), if_neg (by omega), if_pos h]
theorem stAt_even (c : Dev nD) {n : ℕ} (h0 : n ≠ 0) (h : n % 2 = 0) (hl : n ≠ 48) : stAt m c n = stEven m c n := by
  unfold stAt; rw [if_neg h0, if_neg hl, if_neg (by omega)]

/-- What point `t` leaves in the result's block. -/
def outA (c : Dev nD) (t : ℕ) : Vec F S1024x512 .f32 := fun y =>
  outN (Qm m c) (Tm m c) (Bm m c) (Nm m c) (Xm m c) (Cm m c t) t (y 0).val (y 1).val

/-! ## The proof data -/

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outA m c t.val
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outA m c t.val := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem phi_cast (c : Dev nD) (t : Fin cfg0.N) : (dats m 0 c).Φ t.castSucc = PhiS m c t.val (Nat.le_of_lt t.isLt) := by
  dsimp only [dats]; exact Pipeline.Dat.Φ_castSucc (PhiS m c) t
theorem phi_succ (c : Dev nD) (t : Fin cfg0.N) : (dats m 0 c).Φ t.succ = PhiS m c (t.val + 1) t.isLt := rfl

abbrev ms0_0 (t : Fin cfg0.N) : Memref sig .tc .vmem S1024x512 .bf16 := win0_0.stage (cfg0.slots t 0)
abbrev ms0_1 (t : Fin cfg0.N) : Memref sig .tc .vmem S2304x512 .bf16 := win0_1.stage (cfg0.slots t 1)
abbrev ms0_2 (t : Fin cfg0.N) : Memref sig .tc .vmem S192x128 .i32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1x16x512 .i32 := win0_4.stage (cfg0.slots t 4)
abbrev ms0_5 (t : Fin cfg0.N) : Memref sig .tc .vmem S1x16x512 .i32 := win0_5.stage (cfg0.slots t 5)
abbrev ms0_6 (t : Fin cfg0.N) : Memref sig .tc .vmem S1024x512 .f32 := win0_6.stage (cfg0.slots t 6)

def bodyPre (c : Dev nD) (t : Fin cfg0.N) : sProp 𝕄U :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)))
def bodyPost (c : Dev nD) (t : Fin cfg0.N) : sProp 𝕄U :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t))

/-! ## The conditions, by point -/

theorem cond_first : ∀ t : Fin cfg0.N, k0_cond1 (grid0.coords t) = 1#1 ↔ t.val = 0 := (by decide +kernel : ∀ t : Fin grid0.N, _)
theorem cond_even : ∀ t : Fin cfg0.N, k0_cond2 (grid0.coords t) = 1#1 ↔ t.val % 2 = 0 := (by decide +kernel : ∀ t : Fin grid0.N, _)
theorem cond_odd : ∀ t : Fin cfg0.N, k0_cond4 (grid0.coords t) = 1#1 ↔ t.val % 2 = 1 := (by decide +kernel : ∀ t : Fin grid0.N, _)
theorem cond_next : ∀ t : Fin cfg0.N, (Scalar.cmpi .ne (Scalar.extui (Scalar.cmpi .slt (Scalar.addi (BitVec.ofNat 32 ((grid0.coords t) 0).val) 1#32) 48#32) : BitVec 32) 0#32 = 1#1) ↔ t.val < 47 := (by decide +kernel : ∀ t : Fin grid0.N, _)
theorem cond_last : ∀ t : Fin cfg0.N, (Scalar.cmpi .ne (Scalar.extui (Scalar.cmpi .eq (BitVec.ofNat 32 ((grid0.coords t) 0).val) 47#32) : BitVec 32) 0#32 = 1#1) ↔ t.val = 47 := (by decide +kernel : ∀ t : Fin grid0.N, _)

/-! ## One point -/

set_option maxHeartbeats 1600000 in
theorem sound_first (c : Dev nD) (t : Fin cfg0.N) (h : t.val = 0) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  have ht : t.val = 0 := h
  rw [ht, stAt_zero, show (0 + 1 : ℕ) = 1 from rfl, stAt_odd m c (n := 1) rfl]
  unfold stStart stOdd
  unfold Dat.owesAt Pipeline.owesWithin
  rw [show (dats m 0 c).owed t.castSucc = 0 from rfl, show (dats m 0 c).owed t.succ = 0 from rfl]
  unfold owns held kept
  iintro ⟨⟨⟨⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, S18, S19, S20⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c 1 := by rw [show min (t.val + 1) 47 = 1 by have := t.isLt; have : cfg0.N = 48 := rfl; omega]
  have hb := bodyFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W X8 X9 X10 X11 X12 X13 X14 X15 X16 X17 (Qm m c) (CBm m c) (NCm m c) (NTm m c) (Cm m c t.val) (Cm m c (min (t.val + 1) 47)) (L := Lm m c) (T := Tm m c) (B := Bm m c) (N := Nm m c) (X := Xm m c) rfl rfl rfl rfl rfl hQ hCB hNC hNT ((cond_first t).mpr ht) ((cond_even t).mpr (by omega)) (mt (cond_odd t).mp (by omega)) ((cond_next t).mpr (by omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [S18]; · iexact S18
      isplitl [S19]; · iexact S19
      isplitl [S20]; · iexact S20
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t, ht]; rfl)

set_option maxHeartbeats 1600000 in
theorem sound_even (c : Dev nD) (t : Fin cfg0.N) (h0 : t.val ≠ 0) (he : t.val % 2 = 0) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_even m c (n := t.val) h0 he (by have := t.isLt; have : cfg0.N = 48 := rfl; omega), stAt_odd m c (n := t.val + 1) (by omega)]
  unfold stEven stOdd
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c (t.val + 1) := by rw [show min (t.val + 1) 47 = (t.val + 1) by have := t.isLt; have : cfg0.N = 48 := rfl; omega]
  have hb := bodyEven c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) ((cond_even t).mpr (by omega)) (mt (cond_odd t).mp (by omega)) ((cond_next t).mpr (by have := t.isLt; have : cfg0.N = 48 := rfl; omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

set_option maxHeartbeats 1600000 in
theorem sound_odd (c : Dev nD) (t : Fin cfg0.N) (hl : t.val ≠ 47) (he : t.val % 2 = 1) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_odd m c (n := t.val) he, stAt_even m c (n := t.val + 1) (by omega) (by omega) (by omega)]
  unfold stOdd stEven
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hn : Cm m c (min (t.val + 1) 47) = Cm m c (t.val + 1) := by rw [show min (t.val + 1) 47 = (t.val + 1) by have := t.isLt; have : cfg0.N = 48 := rfl; omega]
  have hb := bodyOdd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) (mt (cond_even t).mp (by omega)) ((cond_odd t).mpr (by omega)) ((cond_next t).mpr (by have := t.isLt; have : cfg0.N = 48 := rfl; omega)) (mt (cond_last t).mp (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, HL, HS, HO, HH, SS, HW⟩, Hg⟩
  rw [hn]
  isplitl [K HL HS HO HH SS Hg]
  · isplitr [Hg]
    · isplitl [K]; · iexact K
      isplitl [HL]; · iexact HL
      isplitl [HS]; · iexact HS
      isplitl [HO]; · iexact HO
      isplitl [HH]; · iexact HH
      iexact SS
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

set_option maxHeartbeats 1600000 in
theorem sound_last (c : Dev nD) (t : Fin cfg0.N) (hl : t.val = 47) :
    bodyPre m c t ⊢ wp frame (wpE (defs₀ (F := F)) 𝒱₀ (c : Thread nD τ) none) Set.univ (bodyAt0 t) (fun _ => bodyPost m c t) := by
  unfold bodyPre bodyPost bodyAt0
  rw [cc0_adc_eq_skeleton, phi_cast, phi_succ, after0_0, after0_1, after0_2, after0_3, after0_4, after0_5, after0_6]
  simp only [before0_0, before0_1, before0_2, before0_3, before0_4, before0_5]
  unfold PhiS
  rw [stAt_odd m c (n := t.val) (by omega), show t.val + 1 = 48 by omega, stAt_last]
  unfold stOdd stStop
  unfold Dat.owesAt Pipeline.owesWithin
  rw [show (dats m 0 c).owed t.castSucc = 0 from rfl, show (dats m 0 c).owed t.succ = 0 from rfl]
  unfold owns held kept
  iintro ⟨⟨⟨K, HL, HS, HO, HH, SS⟩, Hg⟩, ⟨%W, -, HW⟩, ⟨%d1, %X1, %h1, H1⟩, ⟨%d2, %X2, %h2, H2⟩, ⟨%d3, %X3, %h3, H3⟩, ⟨%d4, %X4, %h4, H4⟩, ⟨%d5, %X5, %h5, H5⟩, ⟨%d6, %X6, %h6, H6⟩, ⟨%d7, %X7, %h7, H7⟩⟩
  have hQ : Is2 (ms0_0 t).view X1 (Qm m c) := fun y _ => (congrFun h1 y).trans (iblk0 m c t y)
  have hCB : Is2 (ms0_1 t).view X2 (CBm m c) := fun y _ => (congrFun h2 y).trans (iblk1 m c t y)
  have hNC : Is2 (Val := Elt F) (ms0_2 t).view X3 (NCm m c) := fun y _ => (congrFun h3 y).trans (iblk2 m c t y)
  have hNT : Is2 (ms0_3 t).view X4 (NTm m c) := fun y _ => (congrFun h4 y).trans (iblk3 m c t y)
  have hC5 : Is3 (Val := Elt F) (ms0_4 t).view X5 (fun _ => Cm m c t.val) := fun y _ => (congrFun h5 y).trans (iblk4 m c t y)
  have hC6 : Is3 (Val := Elt F) (ms0_5 t).view X6 (fun _ => Cm m c (min (t.val + 1) 47)) := fun y _ => (congrFun h6 y).trans (iblk5 m c t y)
  have hb := bodyLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole main_v9_1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11  X1 X2 X3 X4 X5 X6 X7 W (L := Lm m c) (T := Tm m c) (B := Bm m c) (N := Nm m c) (X := Xm m c) (Qm m c) (Cm m c t.val) (Cm m c (min (t.val + 1) 47)) hQ (mt (cond_first t).mp (by omega)) (mt (cond_even t).mp (by omega)) ((cond_odd t).mpr (by omega)) (mt (cond_next t).mp (by omega)) ((cond_last t).mpr (by omega)) hC5 hC6 (good_code _ _)
  unfold held at hb
  iapply (((sep_mono_left hb).trans (wp_frame_r _ _ _)).trans (wp_mono _ _ _ fun _ => ?_))
  rotate_left
  · isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [K]; · iexact K
      isplitl [HL]; · iexact HL
      isplitl [HS]; · iexact HS
      isplitl [HO]; · iexact HO
      isplitl [HH]; · iexact HH
      isplitl [SS]; · iexact SS
      iexact HW
    iexact Hg
  iintro ⟨⟨H1, H2, H3, H4, H5, H6, H7, K, H8, H9, H14, H15, H16, H17, S18, S19, S20, HW⟩, Hg⟩
  isplitl [K H8 H9 H14 H15 H16 H17 S18 S19 S20 Hg]
  · isplitr [Hg]
    · isplitl [K]; · iexact K
      isplitl [H8]; · iexact H8
      isplitl [H9]; · iexact H9
      isplitl [H14]; · iexact H14
      isplitl [H15]; · iexact H15
      isplitl [H16]; · iexact H16
      isplitl [H17]; · iexact H17
      isplitl [S18]; · iexact S18
      isplitl [S19]; · iexact S19
      iexact S20
    iexact Hg
  isplitl [HW]
  · icases HW with ⟨%W', HW⟩
    iexists W'; isplitr; · ipureintro; exact fun _ _ => Or.inl trivial
    iexact HW
  isplitl [H1]; · iexists X1; isplitr; (· ipureintro; exact h1); iexact H1
  isplitl [H2]; · iexists X2; isplitr; (· ipureintro; exact h2); iexact H2
  isplitl [H3]; · iexists X3; isplitr; (· ipureintro; exact h3); iexact H3
  isplitl [H4]; · iexists X4; isplitr; (· ipureintro; exact h4); iexact H4
  isplitl [H5]; · iexists X5; isplitr; (· ipureintro; exact h5); iexact H5
  isplitl [H6]; · iexists X6; isplitr; (· ipureintro; exact h6); iexact H6
  unfold held2
  icases H7 with ⟨%f7, H7, %hf⟩
  iexists f7; isplitr; swap; (· iexact H7)
  ipureintro; exact funext fun y => (hf y trivial).trans (by rw [coords_val t]; rfl)

theorem sound_body (c : Dev nD) (t : Fin cfg0.N) :
    bodyPre m c t ⊢ wp frame (wpE (defs₀ (F := F)) 𝒱₀ (c : Thread nD τ) none) Set.univ (bodyAt0 t) (fun _ => bodyPost m c t) := by
  by_cases h0 : t.val = 0
  · exact sound_first m c t h0
  by_cases hl : t.val = 47
  · exact sound_last m c t hl
  by_cases he : t.val % 2 = 0
  · exact sound_even m c t h0 he
  exact sound_odd m c t hl (by omega)

theorem defs₀_row (t : Fin cfg0.N) :
    defs₀ (F := F) .tc cfg0.body (cfg0.bodyArgs t (cfg0.slots t)) = bodyAt0 t := by
  unfold defs₀; rw [Defs.onTc_tc]

/-- Every point writes the result's block. -/
theorem idle_6 : ∀ t : Fin cfg0.N, cfg0.idle 6 (cfg0.grid.coords t) = false := (by decide +kernel : ∀ t : Fin grid0.N, idle0 6 (grid0.coords t) = false)

set_option maxHeartbeats 1600000 in
theorem body_obligation (c : Dev nD) : BodyObligation (dats (F := F) m 0 c) (defs₀ (F := F)) 𝒱₀ () Set.univ := fun t => by
  rw [bigSep_W0, bigSep_W0, defs₀_row]
  rw [idle_6 t]
  exact triple_restated (sound_body m c t) rfl .rfl fun _ => .rfl

/-! ## The launch -/

set_option maxHeartbeats 800000 in
theorem hmainU : Pipeline.HMain (Ix := Unit) (Name := ℕ) (U := UU nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- The body's own three semaphores: the product table's, and one for each scalar memory. -/
abbrev osem0 : Fin 3 → SemLoc sig := fun j => (![SemLoc.dma 10, SemLoc.dma 11, SemLoc.dma 12] : Fin 3 → SemLoc sig) j
theorem ownSemFacts0 : Pipeline.OwnSemFacts spec0 osem0 := by decide
theorem ownSems00_eq (c : Dev nD) :
    (Pipeline.ownSems0 (Ix := Unit) (Name := ℕ) (U := UU nD τ) (Lvl := ℕ) (Val := Elt F) (τ := τ) osem0 c : sProp 𝕄U)
      = iprop(semVal ((c : Thread nD τ), SemLoc.dma cc0_scratch9.sem) 0 ∗ semVal ((c : Thread nD τ), SemLoc.dma cc0_scratch10.sem) 0 ∗ semVal ((c : Thread nD τ), SemLoc.dma cc0_scratch11.sem) 0) := by
  rw [Pipeline.ownSems0_eq_of_list c osem0 [0, 1, 2] (by decide) (by decide)]; rfl

/-- The second result, which the body writes itself, at the products. -/
def Yc (c : Dev nD) (b : Ref sig .tc) : Buf (Elt F) ((c : Thread nD τ).loc b) :=
  if h : b = main_v9_1 then h ▸ (show Buf (Elt F) ((c : Thread nD τ).loc main_v9_1) from (fun y : S1024x2304.Idx => Lm m c (y 0).val (y 1).val : FVec F S1024x2304 .f32)) else V m c b
theorem Yc_v9_1 (c : Dev nD) : Yc m c main_v9_1 = (fun y : S1024x2304.Idx => Lm m c (y 0).val (y 1).val : FVec F S1024x2304 .f32) := dif_pos rfl

theorem ends_start (c : Dev nD) : Pipeline.ΦDRG osem0 spec0 ∅ {main_v9_1} (V m) (V m) c ⊢ (dats m 0 c).Φ 0 := by
  rw [show (dats m 0 c).Φ 0 = iprop(stStart c ∗ ∃ r, prngReg c r) from rfl]
  unfold stStart held
  rw [Pipeline.ΦDRG_eq, BI.bigSep_empty, Pipeline.routed_singleton, ownSems00_eq, scopedRest0_eq]
  simp only [Memref.view_whole, View.set_whole]
  iintro ⟨⟨H0, H1, H2, H3, H4, H5, H6, H7, H8⟩, Hg, ⟨S1, S2, S3⟩, -, H⟩
  isplitr [Hg]
  · isplitl [H]; · iexists _; iexact H
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S1]; · iexact S1
    isplitl [S2]; · iexact S2
    iexact S3
  iexact Hg

theorem ends_stop (c : Dev nD) : (dats m 0 c).Φ (Fin.last cfg0.N) ⊢ Pipeline.ΦDRG osem0 spec0 ∅ {main_v9_1} (V m) (Yc m) c := by
  rw [show (dats m 0 c).Φ (Fin.last cfg0.N) = iprop(stStop m c ∗ ∃ r, prngReg c r) from rfl]
  unfold stStop kept held held2 held3
  rw [Pipeline.ΦDRG_eq, BI.bigSep_empty, Pipeline.routed_singleton, ownSems00_eq, scopedRest0_eq, Yc_v9_1]
  simp only [Memref.view_whole, View.set_whole]
  iintro ⟨⟨⟨⟨%f1, H1, -⟩, ⟨%f2, H2, -⟩, ⟨%f3, H3, -⟩, ⟨%f4, H4, -⟩⟩, ⟨%f, H, %hf⟩, H0, H5, H6, H7, H8, S1, S2, S3⟩, Hg⟩
  have e : f = (fun y : S1024x2304.Idx => Lm m c (y 0).val (y 1).val : FVec F S1024x2304 .f32) := funext fun y => hf y trivial
  subst e
  isplitr [Hg S1 S2 S3 H]
  · isplitl [H0]; · iexact H0
    isplitl [H1]; · iexists f1; iexact H1
    isplitl [H2]; · iexists f2; iexact H2
    isplitl [H3]; · iexists f3; iexact H3
    isplitl [H4]; · iexists f4; iexact H4
    isplitl [H5]; · iexact H5
    isplitl [H6]; · iexact H6
    isplitl [H7]; · iexact H7
    iexact H8
  isplitl [Hg]; · iexact Hg
  isplitl [S1 S2 S3]
  · isplitl [S1]; · iexact S1
    isplitl [S2]; · iexact S2
    iexact S3
  isplitr [H]
  · iempintro
  iexact H

set_option backward.isDefEq.respectTransparency.types false in
theorem run_main : θ_run defs (onTc (τ := τ) (main (F := F))) (s₀ m ρ)
    (fun r => Pipeline.FramePostRG cfgs (dats m) 0 {main_v9_1} (V m) (Yc m) r ∧ r.2.sem = fun _ => 0) :=
  Pipeline.θ_run_frame_dmaRG_shared (Q' := _) cfgs (dats m) (0 : Fin 1) launch₀0 osem0 defs₀ 𝒱₀ ownSemFacts0 ∅ {main_v9_1}
    (Finset.empty_subset _) (by decide) m ρ main
    (hbody := fun c => (body_obligation m c).loose) (hq := fun _ _ _ => rfl)
    (howed := fun _ _ => rfl) (V := V m) (hmain := hmainU m) (hA := A_eq m) (G := Yc m)
    (hin := ends_start m) (hout := ends_stop m)

/-- THE FRAME, and what the two results hold. -/
theorem frame_values : θ_run defs (onTc (τ := τ) (main (F := F))) ⟨m, fun _ => 0, ρ⟩ (fun r => (∀ c : Dev nD,
      (r.2.mem ((c.tc : Thread nD τ).loc main_v9_0) = (dats m 0 c).arrAt 6 cfg0.N
      ∧ r.2.mem ((c.tc : Thread nD τ).loc main_v9_1) = Yc m c main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨(h.1.1 c).1 6, h.1.2 c main_v9_1 (Finset.mem_singleton_self _)⟩,
      ((h.1.1 c).1 0).trans (((dats m 0 c).arrAt_in 0 rfl _).trans ((A_eq m c 0).trans (V_main_arg0 m c))),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c)⟩, h.2⟩) (run_main m ρ)

/-- THE FRAME alone. -/
theorem frame_only : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (frame_values m ρ)

end Cert.Proof.KernelIdeal
-- ==== Proof.Ki.Ideal.lean ====
module

public import proofs.«01_k».proof.Proof.Gen.KernelIdeal
public import proofs.«01_k».proof.Proof.Gen.KernelIdeal.Skeleton
public import proofs.«01_k».proof.Proof.Ki.Out
public import Idealize.ShloMosaic.Lib.Pipeline.ValueKit
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## The payloads at the ideal numbers, read at an index -/

theorem pay5_at (q : FVec Ideal S1024x512 .bf16) (c : FVec Ideal S256x512 .bf16) (a : Fin 1024) (b : Fin 256) :
    k0_pay5 (F := Ideal) q c (ix2 a b) = ∑ d : Fin 512, q (ix2 a d) * c (ix2 b d) := by
  pointwise [k0_pay5, k0_pay4]

theorem pay6_at (c : FVec Ideal S256x512 .bf16) (a : Fin 512) (b : Fin 256) :
    k0_pay6 (F := Ideal) c (ix3 0 a b) = c (ix2 b a) * Ideal.ofBits .bf16 0xC000#16 := by
  pointwise [k0_pay6, k0_pay4]

theorem pay88_at (q : FVec Ideal S1024x512 .bf16) (a : Fin 1024) (b : Fin 128) :
    k0_pay88 (F := Ideal) q (ix2 a b) = ∑ d : Fin 512, q (ix2 a d) * q (ix2 a d) := by
  pointwise [k0_pay88]

theorem pay15_at (c : FVec Ideal S256x512 .bf16) (q : FVec Ideal S128x512 .bf16) (n : FVec Ideal S128x128 .f32) (a : Fin 256) (b : Fin 128) :
    k0_pay15 (F := Ideal) (k0_pay89 c) q n (ix2 a b) = Ideal.ofBits .f32 0xC0000000#32 * (∑ d : Fin 512, c (ix2 a d) * q (ix2 b d)) + n (ix2 b 0) := by
  pointwise [k0_pay15, k0_pay89]

theorem pay51_at (c : FVec Ideal S256x512 .bf16) (q : FVec Ideal S128x512 .bf16) (a : Fin 256) (b : Fin 128) :
    k0_pay51 (F := Ideal) (k0_pay4 c) q (ix2 a b) = Ideal.ofBits .f32 0xC0000000#32 * (∑ d : Fin 512, c (ix2 a d) * q (ix2 b d)) := by
  pointwise [k0_pay51, k0_pay4]

/-- The one-hot product picks the column that the code names. -/
theorem prod_at (u : FVec Ideal S1x512x256 .bf16) (w : IVec S1x256 32) (a : Fin 512) (b : Fin 256) (h : (w (ix2 0 b)).toNat < 256) :
    matmul (F := Ideal) dot_S512x256_S256x256_S512x256_1_0_0_1_n_n none (shapeCast S512x256 u shapeCasts_S1x512x256_S512x256)
      (truncf .bf16 (select (cmpi .eq (iota .tc S256x256 32 [0] iota_S256x256_d0_w32) (broadcastTo S256x256 w broadcasts_S1x256_S256x256))
        (broadcast S256x256 (Scalar.ofBits .f32 0x3F800000#32)) (broadcast S256x256 (Scalar.ofBits .f32 0x00000000#32))) bitsLt_bf16_f32)
      (constant S512x256 .f32 0x00000000#32) (ix2 a b) = u (ix3 0 a ⟨(w (ix2 0 b)).toNat, h⟩) := by
  pointwise
  refine (Finset.sum_eq_single (⟨(w (ix2 0 b)).toNat, h⟩ : Fin 256) (fun k _ hk => ?_) fun hn => absurd (Finset.mem_univ _) hn).trans ?_
  · have hne : BitVec.ofNat 32 k.val ≠ w (ix2 0 b) := fun e => hk (Fin.ext (by
      have := congrArg BitVec.toNat e
      rw [BitVec.toNat_ofNat, Nat.mod_eq_of_lt (by have := k.isLt; omega)] at this
      exact this))
    show (if BitVec.ofBool (BitVec.ofNat 32 k.val == w (ix2 0 b)) = 1#1 then u (ix3 0 a k) else 0) = 0
    rw [beq_eq_false_iff_ne.mpr hne]; rfl
  · have he : BitVec.ofNat 32 (w (ix2 0 b)).toNat = w (ix2 0 b) := by simp
    show (if BitVec.ofBool (BitVec.ofNat 32 (w (ix2 0 b)).toNat == w (ix2 0 b)) = 1#1 then _ else (0 : EReal)) = _
    rw [he, beq_self_eq_true]; rfl

/-- The half of the norm table that a code selects, and its place there. -/
theorem norm_index : ∀ k : Fin 256, IntOp.cmpi .sge (BitVec.ofNat 32 k.val) 128#32 = (if 128 ≤ k.val then 1#1 else 0#1)
    ∧ (Scalar.select (IntOp.cmpi .slt (IntOp.andi (BitVec.ofNat 32 k.val) 127#32) 0#32) (IntOp.addi (IntOp.andi (BitVec.ofNat 32 k.val) 127#32) 128#32)
        (IntOp.andi (BitVec.ofNat 32 k.val) 127#32)).toNat % 128 = k.val % 128 := by decide +kernel

/-- Either half gives the entry that the code names. -/
theorem norm_pick (t : FVec Ideal S1x256 .f32) (x : BitVec 32) (h : x.toNat < 256) (i j : Fin 256)
    (hi : i.val = 128 + (Scalar.select (IntOp.cmpi .slt (IntOp.andi x 127#32) 0#32) (IntOp.addi (IntOp.andi x 127#32) 128#32) (IntOp.andi x 127#32)).toNat % 128)
    (hj : j.val = (Scalar.select (IntOp.cmpi .slt (IntOp.andi x 127#32) 0#32) (IntOp.addi (IntOp.andi x 127#32) 128#32) (IntOp.andi x 127#32)).toNat % 128) :
    Scalar.select (IntOp.cmpi .sge x 128#32) (t (ix2 0 i)) (t (ix2 0 j)) = t (ix2 0 ⟨x.toNat, h⟩) := by
  obtain ⟨h1, h2⟩ := norm_index ⟨x.toNat, h⟩
  rw [show BitVec.ofNat 32 ((⟨x.toNat, h⟩ : Fin 256).val) = x by simp] at h1 h2
  rw [h2] at hi hj
  have hi' : i.val = 128 + x.toNat % 128 := hi
  have hj' : j.val = x.toNat % 128 := hj
  rw [h1]
  show (if (if 128 ≤ x.toNat then 1#1 else 0#1) = 1#1 then _ else _) = _
  by_cases hx : 128 ≤ x.toNat
  · rw [if_pos hx, if_pos rfl, show i = ⟨x.toNat, h⟩ from Fin.ext (by show i.val = x.toNat; omega)]
  · rw [if_neg hx, if_neg (by decide), show j = ⟨x.toNat, h⟩ from Fin.ext (by show j.val = x.toNat; omega)]

/-- The looked-up norm: the codes 0 to 127 name the first half of the table, the others the second. -/
theorem pay10_at (t : FVec Ideal S1x256 .f32) (c : IVec S8x128 32) (a : Fin 8) (b : Fin 128) (h : (c (ix2 a b)).toNat < 256) :
    k0_pay10 (F := Ideal) t c (ix2 a b) = t (ix2 0 ⟨(c (ix2 a b)).toNat, h⟩) := by
  pointwise [k0_pay10]
  exact norm_pick t _ h _ _ rfl rfl

/-! ## Finite numbers -/

/-- A sum of reals, as an extended real. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem neg2_f32 : Ideal.ofBits .f32 0xC0000000#32 = ((-2 : ℝ) : EReal) := by
  simp [Ideal.ofBits, Ideal.ieee, -EReal.coe_mul, -EReal.coe_neg]; norm_num
theorem two_f32 : Ideal.ofBits .f32 0x40000000#32 = ((2 : ℝ) : EReal) := by
  simp [Ideal.ofBits, Ideal.ieee, -EReal.coe_mul, -EReal.coe_neg]; norm_num
theorem neg2_bf16 : Ideal.ofBits .bf16 0xC000#16 = ((-2 : ℝ) : EReal) := by
  simp [Ideal.ofBits, Ideal.ieee, -EReal.coe_mul, -EReal.coe_neg]; norm_num
theorem inf_bf16 : Ideal.ofBits .bf16 0x7F80#16 = ⊤ := by
  simp [Ideal.ofBits, Ideal.ieee]

/-- The product with the three parts of a finite array: the two lower parts are zero. -/
theorem ip_at (q : FVec Ideal S1024x512 .bf16) (W : FVec Ideal S512x256 .f32) (a : Fin 1024) (b : Fin 256)
    (hW : ∀ d : Fin 512, ∃ r : ℝ, W (ix2 d b) = (r : EReal)) :
    addf (addf
        (matmul (F := Ideal) dot_S1024x512_S512x256_S1024x256_1_0_0_1_n_n none q
          (truncf .bf16 (subf (subf W (extf .f32 (truncf .bf16 W bitsLt_bf16_f32) bitsLt_bf16_f32))
            (extf .f32 (truncf .bf16 (subf W (extf .f32 (truncf .bf16 W bitsLt_bf16_f32) bitsLt_bf16_f32)) bitsLt_bf16_f32) bitsLt_bf16_f32)) bitsLt_bf16_f32)
          (constant S1024x256 .f32 0x00000000#32))
        (matmul (F := Ideal) dot_S1024x512_S512x256_S1024x256_1_0_0_1_n_n none q
          (truncf .bf16 (subf W (extf .f32 (truncf .bf16 W bitsLt_bf16_f32) bitsLt_bf16_f32)) bitsLt_bf16_f32) (constant S1024x256 .f32 0x00000000#32)))
      (matmul (F := Ideal) dot_S1024x512_S512x256_S1024x256_1_0_0_1_n_n none q (truncf .bf16 W bitsLt_bf16_f32) (constant S1024x256 .f32 0x00000000#32)) (ix2 a b)
      = ∑ d : Fin 512, q (ix2 a d) * W (ix2 d b) := by
  have h0 : ∀ d : Fin 512, W (ix2 d b) - W (ix2 d b) = 0 := fun d => by
    obtain ⟨r, hr⟩ := hW d
    rw [hr, ← EReal.coe_sub, sub_self, EReal.coe_zero]
  pointwise [h0]
  simp only [mul_zero, Finset.sum_const_zero, zero_add]

end Cert.Proof.KernelIdeal
-- ==== Proof.Ki.Value.lean ====
module

public import proofs.«01_k».proof.Proof.Gen.KernelIdeal
public import proofs.«01_k».proof.Proof.Gen.KernelIdeal.Skeleton
public import proofs.«01_k».proof.Proof.Ki.Out
public import Idealize.ShloMosaic.Lib.Pipeline.ValueKit
public import proofs.«01_k».proof.Proof.Ki.Ideal
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-! ## What the kernel stores, in real numbers -/

/-- The product of query `b` and codebook row `k`. -/
def ipR (q c : ℕ → ℕ → ℝ) (b k : ℕ) : ℝ := ∑ d : Fin 512, q b d.val * c k d.val

/-- The squared norm of query `b`. -/
def nR (q : ℕ → ℕ → ℝ) (b : ℕ) : ℝ := ∑ d : Fin 512, q b d.val * q b d.val

/-- The distance of query `b` and a row with the codes `k`, without the norm of the row. -/
def dR (q c : ℕ → ℕ → ℝ) (k : ℕ → ℕ) (b : ℕ) : ℝ := nR q b - 2 * ∑ m : Fin 9, ipR q c b (256 * m.val + k m.val)

theorem at2_ix {n0 n1 : ℕ} [NeZero n0] [NeZero n1] {α : Type} (v : (⟨2, ![n0, n1]⟩ : Shape).Idx → α) {a b : ℕ} (ha : a < n0) (hb : b < n1) :
    at2 v a b = v (ix2 ⟨a, ha⟩ ⟨b, hb⟩) := at2_idx v (ix2 ⟨a, ha⟩ ⟨b, hb⟩) rfl rfl

variable {Q CB : ℕ → ℕ → Ideal .bf16} {q c : ℕ → ℕ → ℝ}

theorem sum_coe (f : Fin 512 → EReal) (g : Fin 512 → ℝ) (h : ∀ d, f d = ((g d : ℝ) : EReal)) : ∑ d, f d = ((∑ d, g d : ℝ) : EReal) := by
  rw [coe_sum]; exact Finset.sum_congr rfl fun d _ => h d

theorem sum_nine (f : ℕ → ℝ) : ∑ m : Fin 9, f m.val = f 0 + f 1 + f 2 + f 3 + f 4 + f 5 + f 6 + f 7 + f 8 := by
  rw [Fin.sum_univ_eq_sum_range f 9]
  simp only [Finset.sum_range_succ, Finset.sum_range_zero, zero_add]

theorem mul_coe {x y : EReal} {a b : ℝ} (hx : x = (a : EReal)) (hy : y = (b : EReal)) : x * y = ((a * b : ℝ) : EReal) := by rw [hx, hy, EReal.coe_mul]
theorem add_coe {x y : EReal} {a b : ℝ} (hx : x = (a : EReal)) (hy : y = (b : EReal)) : x + y = ((a + b : ℝ) : EReal) := by rw [hx, hy, EReal.coe_add]
theorem sub_coe {x y : EReal} {a b : ℝ} (hx : x = (a : EReal)) (hy : y = (b : EReal)) : x - y = ((a - b : ℝ) : EReal) := by rw [hx, hy, EReal.coe_sub]

theorem lut_val (hQ : ∀ a d, Q a d = ((q a d : ℝ) : EReal)) (hC : ∀ a d, CB a d = ((c a d : ℝ) : EReal)) {a b : ℕ} (ha : a < 1024) :
    lutN Q CB a b = ((ipR q c a b : ℝ) : EReal) := by
  unfold lutN
  rw [at2_ix _ ha (Nat.mod_lt b (by decide)), pay5_at]
  refine sum_coe _ _ fun d => mul_coe ?_ ?_
  · show Q (0 + a) (0 + d.val) = _
    rw [hQ, Nat.zero_add, Nat.zero_add]
  · show CB (256 * (b / 256) + b % 256) (0 + d.val) = _
    rw [hC, Nat.zero_add, Nat.div_add_mod]

theorem qn_val (hQ : ∀ a d, Q a d = ((q a d : ℝ) : EReal)) {a b : ℕ} (ha : a < 1024) (hb : b < 128) : qnN Q a b = ((nR q a : ℝ) : EReal) := by
  unfold qnN
  rw [at2_ix _ ha hb, pay88_at]
  have e : ∀ d : Fin 512, blk2 Q 0 0 (ix2 (⟨a, ha⟩ : Fin 1024) d) = ((q a d.val : ℝ) : EReal) := fun d => by
    show Q (0 + a) (0 + d.val) = _
    rw [hQ, Nat.zero_add, Nat.zero_add]
  exact sum_coe _ _ fun d => mul_coe (e d) (e d)

theorem tab_val (hQ : ∀ a d, Q a d = ((q a d : ℝ) : EReal)) (hC : ∀ a d, CB a d = ((c a d : ℝ) : EReal)) {m k j l : ℕ} (hk : k < 256) (hj : j < 8) (hl : l < 128) :
    tabN Q CB (qnN Q) (k * 8 + m * 2048 + j) l
      = (((if m = 0 then -2 * ipR q c (128 * j + l) (256 * m + k) + nR q (128 * j + l) else -2 * ipR q c (128 * j + l) (256 * m + k)) : ℝ) : EReal) := by
  unfold tabN tabV
  rw [show (k * 8 + m * 2048 + j) / 2048 = m by omega, show (k * 8 + m * 2048 + j) % 8 = j by omega, show (k * 8 + m * 2048 + j) % 2048 / 8 = k by omega, at2_ix _ hk hl]
  have hs : ∀ r : ℕ, ∑ d : Fin 512, blk2 CB r 0 (ix2 (⟨k, hk⟩ : Fin 256) d) * blk2 Q (128 * j) 0 (ix2 (⟨l, hl⟩ : Fin 128) d)
      = ((ipR q c (128 * j + l) (r + k) : ℝ) : EReal) := fun r => by
    refine sum_coe _ _ fun d => ?_
    have e := mul_coe (hC (r + k) d.val) (hQ (128 * j + l) d.val)
    rw [mul_comm (c _ _)] at e
    show CB (r + k) (0 + d.val) * Q (128 * j + l) (0 + d.val) = _
    rw [Nat.zero_add]; exact e
  by_cases hm : m = 0
  · subst hm
    rw [if_pos rfl, if_pos rfl, pay15_at]
    refine add_coe (mul_coe neg2_f32 ?_) ?_
    · exact (hs 0).trans (by rw [Nat.mul_zero])
    · exact qn_val hQ (a := 128 * j + l) (b := 0 + 0) (by omega) (by omega)
  · rw [if_neg hm, if_neg hm, pay51_at]
    exact mul_coe neg2_f32 (hs _)

/-- The matrix unit's column of book `m`: the one that the code names. -/
def pickV (B : ℕ → ℕ → ℕ → Ideal .bf16) (C : IVec S1x256 32) (m : ℕ) : FVec Ideal S512x256 .f32 :=
  matmul dot_S512x256_S256x256_S512x256_1_0_0_1_n_n none (shapeCast S512x256 (blk3 B m 0 0 : S1x512x256.Idx → Ideal .bf16) shapeCasts_S1x512x256_S512x256)
    (truncf .bf16 (select (cmpi .eq (iota .tc S256x256 32 [0] iota_S256x256_d0_w32) (broadcastTo S256x256 C broadcasts_S1x256_S256x256))
      (broadcast S256x256 (Scalar.ofBits .f32 0x3F800000#32)) (broadcast S256x256 (Scalar.ofBits .f32 0x00000000#32))) bitsLt_bf16_f32)
    (constant S512x256 .f32 0x00000000#32)

/-- The product of the queries with the three parts of an array. -/
def partsV (q : FVec Ideal S1024x512 .bf16) (W : FVec Ideal S512x256 .f32) : FVec Ideal S1024x256 .f32 :=
  addf (addf
      (matmul (F := Ideal) dot_S1024x512_S512x256_S1024x256_1_0_0_1_n_n none q
        (truncf .bf16 (subf (subf W (extf .f32 (truncf .bf16 W bitsLt_bf16_f32) bitsLt_bf16_f32))
          (extf .f32 (truncf .bf16 (subf W (extf .f32 (truncf .bf16 W bitsLt_bf16_f32) bitsLt_bf16_f32)) bitsLt_bf16_f32) bitsLt_bf16_f32)) bitsLt_bf16_f32)
        (constant S1024x256 .f32 0x00000000#32))
      (matmul (F := Ideal) dot_S1024x512_S512x256_S1024x256_1_0_0_1_n_n none q
        (truncf .bf16 (subf W (extf .f32 (truncf .bf16 W bitsLt_bf16_f32) bitsLt_bf16_f32)) bitsLt_bf16_f32) (constant S1024x256 .f32 0x00000000#32)))
    (matmul (F := Ideal) dot_S1024x512_S512x256_S1024x256_1_0_0_1_n_n none q (truncf .bf16 W bitsLt_bf16_f32) (constant S1024x256 .f32 0x00000000#32))

/-- The codes of book `m` in the second half of the columns. -/
def halfV (C : ℕ → ℕ → BitVec 32) (m : ℕ) (h : Shape.Slices S16x512 ![m, 256] S1x256) : IVec S1x256 32 :=
  extractStridedSlice S1x256 ![m, 256] (shapeCast S16x512 (blk3 (fun _ => C) 0 0 0 : S1x16x512.Idx → BitVec 32) shapeCasts_S1x16x512_S16x512) h

theorem mxuV_eq (Q : ℕ → ℕ → Ideal .bf16) (B : ℕ → ℕ → ℕ → Ideal .bf16) (C : ℕ → ℕ → BitVec 32) :
    mxuV Q B C = partsV (blk2 Q 0 0) (addf (addf (addf (addf (addf (addf (addf (addf
      (pickV B (halfV C 0 slices_S16x512_o0_256_S1x256) 0) (pickV B (halfV C 1 slices_S16x512_o1_256_S1x256) 1)) (pickV B (halfV C 2 slices_S16x512_o2_256_S1x256) 2))
      (pickV B (halfV C 3 slices_S16x512_o3_256_S1x256) 3)) (pickV B (halfV C 4 slices_S16x512_o4_256_S1x256) 4)) (pickV B (halfV C 5 slices_S16x512_o5_256_S1x256) 5))
      (pickV B (halfV C 6 slices_S16x512_o6_256_S1x256) 6)) (pickV B (halfV C 7 slices_S16x512_o7_256_S1x256) 7)) (pickV B (halfV C 8 slices_S16x512_o8_256_S1x256) 8)) := by
  unfold mxuV k0_pay120 k0_pay118 k0_pay116 k0_pay119 k0_pay117 k0_pay114 k0_pay115 k0_pay113
  rfl

theorem half_at (C : ℕ → ℕ → BitVec 32) (m : ℕ) (hm : m < 16) (h) (s : Fin 256) : halfV C m h (ix2 0 s) = C m (256 + s.val) := by
  unfold halfV
  refine (shapeCast_dropUnit_apply (α := BitVec 32) (n := 2) ![16, 512] _ _ _).trans ?_
  show C _ _ = C _ _
  congr 1
  · show 0 + (m + 0) = _; omega
  · show 0 + (256 + s.val) = _; omega

theorem pick_val (hC : ∀ a d, CB a d = ((c a d : ℝ) : EReal)) (C : ℕ → ℕ → BitVec 32) {m : ℕ} (hm : m < 9) (h) (d : Fin 512) (s : Fin 256) (hc : (C m (256 + s.val)).toNat < 256) :
    pickV (cbtN CB) (halfV C m h) m (ix2 d s) = ((c (256 * m + (C m (256 + s.val)).toNat) d.val * -2 : ℝ) : EReal) := by
  have e := half_at C m (by omega) h s
  have hc' : (halfV C m h (ix2 0 s)).toNat < 256 := by rw [e]; exact hc
  unfold pickV
  rw [prod_at _ _ _ _ hc']
  show cbtN CB (m + 0) (0 + d.val) (0 + (halfV C m h (ix2 0 s)).toNat) = _
  rw [e, Nat.add_zero, Nat.zero_add, Nat.zero_add]
  unfold cbtN
  refine Eq.trans (b := k0_pay6 (F := Ideal) (blk2 CB (256 * m) 0) (ix3 0 d ⟨(C m (256 + s.val)).toNat, hc⟩)) ?_ ?_
  · refine congrArg (k0_pay6 (F := Ideal) (blk2 CB (256 * m) 0)) (funext fun i => ?_)
    match i with
    | ⟨0, _⟩ => rfl
    | ⟨1, _⟩ => exact Fin.ext (Nat.mod_eq_of_lt d.isLt)
    | ⟨2, _⟩ => exact Fin.ext (Nat.mod_eq_of_lt hc)
  · rw [pay6_at]
    refine mul_coe ?_ neg2_bf16
    show CB (256 * m + (C m (256 + s.val)).toNat) (0 + d.val) = _
    rw [hC, Nat.zero_add]

theorem mxu_val (hQ : ∀ a d, Q a d = ((q a d : ℝ) : EReal)) (hC : ∀ a d, CB a d = ((c a d : ℝ) : EReal)) (C : ℕ → ℕ → BitVec 32) {b s : ℕ} (hb : b < 1024) (hs : s < 256)
    (hc : ∀ m, m < 9 → (C m (256 + s)).toNat < 256) :
    at2 (mxuV Q (cbtN CB) C) b s = ((-2 * ∑ m : Fin 9, ipR q c b (256 * m.val + (C m.val (256 + s)).toNat) : ℝ) : EReal) := by
  rw [mxuV_eq, at2_ix _ hb hs]
  have hp : ∀ (m : ℕ) (hm : m < 9) (h) (d : Fin 512), pickV (cbtN CB) (halfV C m h) m (ix2 d ⟨s, hs⟩) = ((c (256 * m + (C m (256 + s)).toNat) d.val * -2 : ℝ) : EReal) :=
    fun m hm h d => pick_val hC C hm h d ⟨s, hs⟩ (hc m hm)
  have hW := fun d : Fin 512 => add_coe (add_coe (add_coe (add_coe (add_coe (add_coe (add_coe (add_coe (hp 0 (by omega) slices_S16x512_o0_256_S1x256 d) (hp 1 (by omega) slices_S16x512_o1_256_S1x256 d))
    (hp 2 (by omega) slices_S16x512_o2_256_S1x256 d)) (hp 3 (by omega) slices_S16x512_o3_256_S1x256 d)) (hp 4 (by omega) slices_S16x512_o4_256_S1x256 d)) (hp 5 (by omega) slices_S16x512_o5_256_S1x256 d))
    (hp 6 (by omega) slices_S16x512_o6_256_S1x256 d)) (hp 7 (by omega) slices_S16x512_o7_256_S1x256 d)) (hp 8 (by omega) slices_S16x512_o8_256_S1x256 d)
  unfold partsV
  rw [ip_at _ _ _ _ fun d => ⟨_, hW d⟩]
  have hq : ∀ d : Fin 512, blk2 Q 0 0 (ix2 (⟨b, hb⟩ : Fin 1024) d) = ((q b d.val : ℝ) : EReal) := fun d => by
    show Q (0 + b) (0 + d.val) = _
    rw [hQ, Nat.zero_add, Nat.zero_add]
  refine (sum_coe _ _ fun d => mul_coe (hq d) (hW d)).trans (congrArg Real.toEReal ?_)
  unfold ipR
  rw [Finset.sum_comm, Finset.mul_sum]
  refine Finset.sum_congr rfl fun d _ => ?_
  rw [sum_nine fun m => q b d.val * c (256 * m + (C m (256 + s)).toNat) d.val]
  show _ = -2 * (q b d.val * c (256 * 0 + (C 0 (256 + s)).toNat) d.val + q b d.val * c (256 * 1 + (C 1 (256 + s)).toNat) d.val + q b d.val * c (256 * 2 + (C 2 (256 + s)).toNat) d.val
    + q b d.val * c (256 * 3 + (C 3 (256 + s)).toNat) d.val + q b d.val * c (256 * 4 + (C 4 (256 + s)).toNat) d.val + q b d.val * c (256 * 5 + (C 5 (256 + s)).toNat) d.val
    + q b d.val * c (256 * 6 + (C 6 (256 + s)).toNat) d.val + q b d.val * c (256 * 7 + (C 7 (256 + s)).toNat) d.val + q b d.val * c (256 * 8 + (C 8 (256 + s)).toNat) d.val)
  ring

/-- One distance that the kernel stores: both ways of computing it give the same number. -/
theorem out_val (hQ : ∀ a d, Q a d = ((q a d : ℝ) : EReal)) (hC : ∀ a d, CB a d = ((c a d : ℝ) : EReal)) (X : ℕ → ℕ → Ideal .f32) (C : ℕ → ℕ → BitVec 32) {r b s : ℕ} (hb : b < 1024) (hs : s < 512)
    (hc : ∀ m, m < 9 → (C m s).toNat < 256) (hw : ∀ m, m < 9 → (wordN C m s).toNat = (C m s).toNat * 8 + m * 2048) :
    outN Q (tabN Q CB (qnN Q)) (cbtN CB) (qnN Q) X C r b s = ((dR q c (fun m => (C m s).toNat) b : ℝ) : EReal) + X (4 * r + s / 128) (s % 128) := by
  unfold outN
  refine congrArg (· + X (4 * r + s / 128) (s % 128)) ?_
  by_cases h : s < 256
  · rw [if_pos h]
    unfold rowN sum9
    have ht : ∀ m, m < 9 → tabN Q CB (qnN Q) ((wordN C m s).toNat + b / 128) (b % 128)
        = (((if m = 0 then -2 * ipR q c (128 * (b / 128) + b % 128) (256 * m + (C m s).toNat) + nR q (128 * (b / 128) + b % 128)
            else -2 * ipR q c (128 * (b / 128) + b % 128) (256 * m + (C m s).toNat)) : ℝ) : EReal) := fun m hm => by
      rw [hw m hm]
      exact tab_val hQ hC (hc m hm) (by omega : b / 128 < 8) (Nat.mod_lt b (by decide))
    refine (add_coe (add_coe (add_coe (add_coe (add_coe (add_coe (add_coe (add_coe (ht 0 (by omega)) (ht 1 (by omega))) (ht 2 (by omega))) (ht 3 (by omega))) (ht 4 (by omega)))
      (ht 5 (by omega))) (ht 6 (by omega))) (ht 7 (by omega))) (ht 8 (by omega))).trans (congrArg Real.toEReal ?_)
    rw [Nat.div_add_mod]
    unfold dR
    rw [sum_nine fun m => ipR q c b (256 * m + (C m s).toNat)]
    simp only [if_true, OfNat.ofNat_ne_zero, one_ne_zero, if_false]
    show _ = nR q b - 2 * (ipR q c b (256 * 0 + (C 0 s).toNat) + ipR q c b (256 * 1 + (C 1 s).toNat) + ipR q c b (256 * 2 + (C 2 s).toNat) + ipR q c b (256 * 3 + (C 3 s).toNat)
      + ipR q c b (256 * 4 + (C 4 s).toNat) + ipR q c b (256 * 5 + (C 5 s).toNat) + ipR q c b (256 * 6 + (C 6 s).toNat) + ipR q c b (256 * 7 + (C 7 s).toNat) + ipR q c b (256 * 8 + (C 8 s).toNat))
    ring
  · rw [if_neg h]
    have e : 256 + (s - 256) = s := by omega
    have hm := mxu_val hQ hC C hb (by omega : s - 256 < 256) (by rw [e]; exact hc)
    rw [e] at hm
    refine (add_coe hm (qn_val hQ hb (Nat.mod_lt s (by decide)))).trans (congrArg Real.toEReal ?_)
    unfold dR; ring

theorem xn_val (NC : ℕ → ℕ → BitVec 32) (NT : ℕ → ℕ → Ideal .f32) (a : ℕ) {b : ℕ} (hb : b < 128) (h : (NC a b).toNat < 256) : xnN NC NT a b = NT 0 (NC a b).toNat := by
  unfold xnN
  rw [at2_ix _ (Nat.mod_lt a (by decide)) hb]
  have e : blk2 NC (8 * (a / 8)) 0 (ix2 (⟨a % 8, Nat.mod_lt a (by decide)⟩ : Fin 8) (⟨b, hb⟩ : Fin 128)) = NC a b := by
    show NC (8 * (a / 8) + a % 8) (0 + b) = _
    rw [Nat.div_add_mod, Nat.zero_add]
  have h' : (blk2 NC (8 * (a / 8)) 0 (ix2 (⟨a % 8, Nat.mod_lt a (by decide)⟩ : Fin 8) (⟨b, hb⟩ : Fin 128))).toNat < 256 := by rw [e]; exact h
  rw [pay10_at _ _ _ _ h']
  show NT (0 + 0) (0 + (blk2 NC (8 * (a / 8)) 0 (ix2 (⟨a % 8, Nat.mod_lt a (by decide)⟩ : Fin 8) (⟨b, hb⟩ : Fin 128))).toNat) = _
  rw [e, Nat.zero_add, Nat.zero_add]

end Cert.Proof.KernelIdeal
-- ==== Proof.Ki.Ref.lean ====
module

public import proofs.«01_k».proof.Proof.Gen.KernelIdeal
public import proofs.«01_k».proof.Proof.Gen.KernelIdeal.Skeleton
public import proofs.«01_k».proof.Proof.Ki.Out
public import Idealize.ShloMosaic.Lib.Pipeline.ValueKit
public import proofs.«01_k».proof.Proof.Ki.Value
public import proofs.«01_k».proof.Defs
public import proofs.«01_k».proof.Proof.Gen.ReferenceIdeal
public import Idealize.ShloMosaic.Lib.Pointwise

@[expose] public section

set_option maxRecDepth 16384
set_option maxRecDepth 16384

noncomputable section

namespace Cert.Proof.KernelIdeal

open Cert.KernelIdeal Cert.KernelIdeal.Gen
open Idealize.ShloMosaic Idealize.ShloMosaic.TcCoe

/-! ## The gathers of the reference, read at an index -/

variable [Cert.ReferenceIdeal.Facts]

theorem gcol_at {α : Type} (x : Cert.ReferenceIdeal.S1024x2304.Idx → α) (idx : IVec Cert.ReferenceIdeal.S24576x9x1 32) (a : Fin 1024) (n : Fin 24576) (k : Fin 9) :
    Host.gather Cert.ReferenceIdeal.gather_S1024x2304_S24576x9x1_S1024x24576x9_0_1_n_n_1_2_10241 x idx (ix3 a n k)
      = x (ix2 a ⟨min (idx (ix3 n k 0)).toInt.toNat 2303, by omega⟩) := by
  unfold Host.gather
  refine congrArg x (funext fun d => Fin.ext ?_)
  show GatherDims.start _ _ idx d + GatherDims.batchCoord _ _ d + GatherDims.offCoord _ _ d = _
  match d with
  | ⟨0, _⟩ =>
    rw [GatherDims.batchCoord_eq_zero _ _ _ List.not_mem_nil]
    unfold GatherDims.start
    rw [dif_neg (show (⟨0, by decide⟩ : Fin Cert.ReferenceIdeal.S1024x2304.rank) ∉ Cert.ReferenceIdeal.gather_S1024x2304_S24576x9x1_S1024x24576x9_0_1_n_n_1_2_10241.startIndexMap from (by decide : (0 : Fin 2) ∉ ([1] : List (Fin 2))))]
    unfold GatherDims.offCoord
    rw [dif_pos (show (⟨0, by decide⟩ : Fin Cert.ReferenceIdeal.S1024x2304.rank) ∈ Cert.ReferenceIdeal.gather_S1024x2304_S24576x9x1_S1024x24576x9_0_1_n_n_1_2_10241.sKept from (by decide : (0 : Fin 2) ∈ Shape.kept Cert.ReferenceIdeal.S1024x2304 ([1] ++ [])))]
    simp only [Nat.zero_add]
    rfl
  | ⟨1, _⟩ =>
    rw [GatherDims.batchCoord_eq_zero _ _ _ List.not_mem_nil, GatherDims.offCoord_eq_zero _ _ _ (show (1 : Fin 2) ∉ Shape.kept Cert.ReferenceIdeal.S1024x2304 ([1] ++ []) by decide)]
    simp only [Nat.add_zero]
    unfold GatherDims.start
    rw [dif_pos (show (⟨1, by decide⟩ : Fin Cert.ReferenceIdeal.S1024x2304.rank) ∈ Cert.ReferenceIdeal.gather_S1024x2304_S24576x9x1_S1024x24576x9_0_1_n_n_1_2_10241.startIndexMap from (by decide : (1 : Fin 2) ∈ ([1] : List (Fin 2))))]
    have hsi : Cert.ReferenceIdeal.gather_S1024x2304_S24576x9x1_S1024x24576x9_0_1_n_n_1_2_10241.siIdx (ix3 a n k) ⟨0, by decide⟩ = (ix3 n k 0 : Cert.ReferenceIdeal.S24576x9x1.Idx) := by
      funext b; refine Fin.ext ?_
      match b with
      | ⟨0, _⟩ => rfl
      | ⟨1, _⟩ => rfl
      | ⟨2, _⟩ => rfl
    exact congrArg (fun z => min (idx z).toInt.toNat 2303) hsi

theorem grow_at {α : Type} (x : Cert.ReferenceIdeal.S256.Idx → α) (idx : IVec Cert.ReferenceIdeal.S24576x1 32) (n : Fin 24576) :
    Host.gather Cert.ReferenceIdeal.gather_S256_S24576x1_S24576_n_0_n_n_0_1_1 x idx (ix1 n)
      = x (ix1 ⟨min (idx (ix2 n 0)).toInt.toNat 255, by omega⟩) := by
  unfold Host.gather
  refine congrArg x (funext fun d => Fin.ext ?_)
  show GatherDims.start _ _ idx d + GatherDims.batchCoord _ _ d + GatherDims.offCoord _ _ d = _
  match d with
  | ⟨0, _⟩ =>
    rw [GatherDims.batchCoord_eq_zero _ _ _ List.not_mem_nil, GatherDims.offCoord_eq_zero _ _ _ (show (0 : Fin 1) ∉ Shape.kept Cert.ReferenceIdeal.S256 ([0] ++ []) by decide)]
    simp only [Nat.add_zero]
    unfold GatherDims.start
    rw [dif_pos (show (⟨0, by decide⟩ : Fin Cert.ReferenceIdeal.S256.rank) ∈ Cert.ReferenceIdeal.gather_S256_S24576x1_S24576_n_0_n_n_0_1_1.startIndexMap from (by decide : (0 : Fin 1) ∈ ([0] : List (Fin 1))))]
    have hsi : Cert.ReferenceIdeal.gather_S256_S24576x1_S24576_n_0_n_n_0_1_1.siIdx (ix1 n) ⟨0, by decide⟩ = (ix2 n 0 : Cert.ReferenceIdeal.S24576x1.Idx) := by
      funext b; refine Fin.ext ?_
      match b with
      | ⟨0, _⟩ => rfl
      | ⟨1, _⟩ => rfl
    exact congrArg (fun z => min (idx z).toInt.toNat 255) hsi

theorem gcol_val {α : Type} (x : Cert.ReferenceIdeal.S1024x2304.Idx → α) (idx : IVec Cert.ReferenceIdeal.S24576x9x1 32) (a : Fin 1024) (n : Fin 24576) (k : Fin 9) {v : ℕ} (hv : v < 2304)
    (h : min (idx (ix3 n k 0)).toInt.toNat 2303 = v) :
    Host.gather Cert.ReferenceIdeal.gather_S1024x2304_S24576x9x1_S1024x24576x9_0_1_n_n_1_2_10241 x idx (ix3 a n k) = x (ix2 a ⟨v, hv⟩) := by
  subst h; exact gcol_at x idx a n k

theorem grow_val {α : Type} (x : Cert.ReferenceIdeal.S256.Idx → α) (idx : IVec Cert.ReferenceIdeal.S24576x1 32) (n : Fin 24576) {v : ℕ} (hv : v < 256)
    (h : min (idx (ix2 n 0)).toInt.toNat 255 = v) :
    Host.gather Cert.ReferenceIdeal.gather_S256_S24576x1_S24576_n_0_n_n_0_1_1 x idx (ix1 n) = x (ix1 ⟨v, hv⟩) := by
  subst h; exact grow_at x idx n

/-- A code of eight bits never counts as negative, and the row that it names is in the table of all books. -/
theorem flat_word (c : BitVec 8) (m : Fin 9) :
    min (Scalar.select (IntOp.cmpi .slt (IntOp.addi (c.setWidth 32) (IntOp.muli 256#32 (BitVec.ofNat 32 m.val))) 0#32)
      (IntOp.addi (IntOp.addi (c.setWidth 32) (IntOp.muli 256#32 (BitVec.ofNat 32 m.val))) 2304#32)
      (IntOp.addi (c.setWidth 32) (IntOp.muli 256#32 (BitVec.ofNat 32 m.val)))).toInt.toNat 2303 = 256 * m.val + c.toNat := by
  have hc := c.isLt
  have hm := m.isLt
  have e : IntOp.addi (c.setWidth 32) (IntOp.muli 256#32 (BitVec.ofNat 32 m.val)) = BitVec.ofNat 32 (256 * m.val + c.toNat) := by
    apply BitVec.eq_of_toNat_eq
    simp only [IntOp.addi, IntOp.muli, BitVec.toNat_add, BitVec.toNat_mul, BitVec.toNat_setWidth, BitVec.toNat_ofNat]
    omega
  rw [e]
  generalize hk : 256 * m.val + c.toNat = k
  have hk' : k < 2304 := by omega
  have hi : (BitVec.ofNat 32 k).toInt = (k : ℤ) := by
    rw [BitVec.toInt_eq_toNat_of_lt (by rw [BitVec.toNat_ofNat]; omega), BitVec.toNat_ofNat]; omega
  have hs : IntOp.cmpi .slt (BitVec.ofNat 32 k) 0#32 = 0#1 := by
    show BitVec.ofBool (BitVec.slt _ _) = _
    rw [BitVec.slt, hi, decide_eq_false (by rw [show (0#32).toInt = 0 from rfl]; omega)]; rfl
  rw [hs]
  show min (BitVec.ofNat 32 k).toInt.toNat 2303 = k
  rw [hi]; omega

theorem norm_word (c : BitVec 8) :
    min (Scalar.select (IntOp.cmpi .slt (c.setWidth 32) 0#32) (IntOp.addi (c.setWidth 32) 256#32) (c.setWidth 32)).toInt.toNat 255 = c.toNat := by
  have hc := c.isLt
  have hi : (c.setWidth 32).toInt = (c.toNat : ℤ) := by
    rw [BitVec.toInt_eq_toNat_of_lt (by rw [BitVec.toNat_setWidth]; omega), BitVec.toNat_setWidth]; omega
  have hs : IntOp.cmpi .slt (c.setWidth 32) 0#32 = 0#1 := by
    show BitVec.ofBool (BitVec.slt _ _) = _
    rw [BitVec.slt, hi, decide_eq_false (by rw [show (0#32).toInt = 0 from rfl]; omega)]; rfl
  rw [hs]
  show min (c.setWidth 32).toInt.toNat 255 = _
  rw [hi]; omega

end Cert.Proof.KernelIdeal
-- ==== Proof.Ki.Alg.lean ====
module

public import proofs.«01_k».proof.Proof.Gen.KernelIdeal
public import proofs.«01_k».proof.Proof.Gen.KernelIdeal.Skeleton
public import proofs.«01_k».proof.Proof.Ki.Out
public import Idealize.ShloMosaic.Lib.Pipeline.ValueKit
public import proofs.«01_k».proof.Proof.Ki.Value
public import proofs.«01_k».proof.Proof.Ki.Ref
public import proofs.«01_k».proof.Proof.Ki.Run
public import proofs.«01_k».proof.Defs
public import proofs.«01_k».proof.Proof.Gen.ReferenceIdeal
public import Idealize.ShloMosaic.Adequacy
public import Idealize.ShloMosaic.Init
public import Idealize.ShloMosaic.Lib.Pipeline.ValueKit
public import Idealize.ShloMosaic.Lib.Pointwise

@[expose] public section

set_option maxRecDepth 16384
set_option maxRecDepth 16384

noncomputable section

namespace Cert.Proof.KernelIdeal

open Cert.KernelIdeal Cert.KernelIdeal.Gen
open Idealize.ShloMosaic Idealize.ShloMosaic.TcCoe

/-! ## The precondition -/

instance finite_facts : Cert.Pre_finite.Facts where
  shapeCasts_S9x256x512_S2304x512 := by decide +kernel
  concatenates_S1024x512_S2304x512_S3328x512_d0 := by decide +kernel
  bcast_S_S3328x512 := by decide +kernel

/-- A number whose absolute value is below infinity is a real one. -/
theorem real_of_lt {x : EReal} (h : max x (-x) < ⊤) : ∃ r : ℝ, x = (r : EReal) := by
  induction x using EReal.rec with
  | bot => simp at h
  | coe r => exact ⟨r, rfl⟩
  | top => simp at h

/-- The same, of the comparison as the precondition prints it. -/
theorem real_of_word {x : Ideal .bf16} (h : BitVec.ofBool (decide (FloatOps.absf x < Ideal.ofBits .bf16 0x7F80#16)) = 1#1) : ∃ r : ℝ, x = (r : EReal) := by
  rw [inf_bf16] at h
  refine real_of_lt ?_
  by_contra hn
  rw [decide_eq_false (show ¬ (FloatOps.absf x : Ideal .bf16) < (⊤ : EReal) from hn)] at h
  exact absurd h (by decide)

/-- The precondition makes every query entry a real number. -/
theorem finite_q [Cert.Pre_finite.Facts] {Q : FVec Ideal S1024x512 .bf16} {CB : FVec Ideal S9x256x512 .bf16} {CO : IVec S24576x9 8} {NC : IVec S24576 8} {NT : FVec Ideal S256 .f32}
    (h : Cert.Pre_finite.fn (F := Ideal) Q CB CO NC NT = fun _ => 1#1) (a : Fin 1024) (d : Fin 512) : ∃ r : ℝ, Q (ix2 a d) = (r : EReal) := by
  have e := congrFun h (ix2 ⟨a.val, by omega⟩ d)
  revert e
  pointwise [Cert.Pre_finite.fn]
  exact real_of_word

/-- The precondition makes every codebook entry a real number. -/
theorem finite_c [Cert.Pre_finite.Facts] {Q : FVec Ideal S1024x512 .bf16} {CB : FVec Ideal S9x256x512 .bf16} {CO : IVec S24576x9 8} {NC : IVec S24576 8} {NT : FVec Ideal S256 .f32}
    (h : Cert.Pre_finite.fn (F := Ideal) Q CB CO NC NT = fun _ => 1#1) (k : Fin 9) (a : Fin 256) (d : Fin 512) : ∃ r : ℝ, CB (ix3 k a d) = (r : EReal) := by
  have e := congrFun h (ix2 ⟨1024 + (256 * k.val + a.val), by omega⟩ d)
  revert e
  pointwise [Cert.Pre_finite.fn]
  exact real_of_word

/-! ## What the kernel leaves -/

section Final
variable {F : FTy → Type} [FloatOps F] (m : (ℓ : Loc nD τ sig) → Buf (Elt F) ℓ)

/-- The distances, one by one. -/
theorem final_raw (c : Dev nD) : (dats m 0 c).arrAt 6 cfg0.N = fun y : S1024x24576.Idx =>
    outN (Qm m c) (Tm m c) (Bm m c) (Nm m c) (Xm m c) (Cm m c ((y 1).val / 512)) ((y 1).val / 512) (y 0).val ((y 1).val % 512) := by
  refine (dats m 0 c).arrAt_eq_of_covers 6 _ (by decide +kernel) fun t hf y => ?_
  blk_simp [idx_val t]
  rw [after0_6]
  unfold outA
  have h1 : (y 1).val < 512 := (y 1).isLt
  rw [show (t.val * 512 + (y 1).val) / 512 = t.val by omega, show (t.val * 512 + (y 1).val) % 512 = (y 1).val by omega]

end Final

/-! ## The two results, in real numbers -/

/-- The codebooks' rows one after the other, read in their own book. -/
theorem cbA_ix (CB : FVec Ideal S9x256x512 .bf16) (v : ℕ) (hv : v < 2304) (d : Fin 512) :
    cbA CB v d.val = CB (ix3 ⟨v / 256, by omega⟩ ⟨v % 256, by omega⟩ d) := by
  refine congrArg CB (funext fun i => ?_)
  match i with
  | ⟨0, _⟩ => exact Fin.ext (Nat.mod_eq_of_lt (by omega : v / 256 < 9))
  | ⟨1, _⟩ => exact Fin.ext (Nat.mod_eq_of_lt (by omega : v % 256 < 256))
  | ⟨2, _⟩ => exact Fin.ext (Nat.mod_eq_of_lt d.isLt)

/-- The queries as reals. -/
def qR (Q : FVec Ideal S1024x512 .bf16) (a d : ℕ) : ℝ := (qA Q a d : EReal).toReal
/-- The codebooks as reals. -/
def cR (CB : FVec Ideal S9x256x512 .bf16) (a d : ℕ) : ℝ := (cbA CB a d : EReal).toReal
/-- The codes of one database row. -/
def codeN (CO : IVec S24576x9 8) (n k : ℕ) : ℕ := (CO (ix2 (Fin.ofNat 24576 n) (Fin.ofNat 9 k))).toNat

theorem qR_eq {Q : FVec Ideal S1024x512 .bf16} (h : ∀ a d, ∃ r : ℝ, Q (ix2 a d) = (r : EReal)) (a d : ℕ) : qA Q a d = ((qR Q a d : ℝ) : EReal) := by
  obtain ⟨r, hr⟩ := h (Fin.ofNat 1024 a) (Fin.ofNat 512 d)
  have e : qA Q a d = ((r : ℝ) : EReal) := hr
  unfold qR; rw [e, EReal.toReal_coe]
theorem cR_eq {CB : FVec Ideal S9x256x512 .bf16} (h : ∀ k a d, ∃ r : ℝ, CB (ix3 k a d) = (r : EReal)) (a d : ℕ) : cbA CB a d = ((cR CB a d : ℝ) : EReal) := by
  obtain ⟨r, hr⟩ := h (Fin.ofNat 9 (a / 256)) (Fin.ofNat 256 (a % 256)) (Fin.ofNat 512 d)
  have e : cbA CB a d = ((r : ℝ) : EReal) := hr
  unfold cR; rw [e, EReal.toReal_coe]

theorem q_ix {Q : FVec Ideal S1024x512 .bf16} (h : ∀ a d, qA Q a d = ((qR Q a d : ℝ) : EReal)) (a : Fin 1024) (d : Fin 512) :
    Q (ix2 a d) = ((qR Q a.val d.val : ℝ) : EReal) := (at2_ix Q a.isLt d.isLt).symm.trans (h a.val d.val)

variable (m : (ℓ : Loc nD τ sig) → Buf (Elt Ideal) ℓ)

theorem dR_congr {q c : ℕ → ℕ → ℝ} {k k' : ℕ → ℕ} {b : ℕ} (h : ∀ m, m < 9 → k m = k' m) : dR q c k b = dR q c k' b := by
  unfold dR
  rw [Finset.sum_congr rfl fun (m : Fin 9) _ => by rw [h m.val m.isLt]]

/-- One distance that the kernel leaves: the two halves of a block have given it in the same real number. -/
theorem final_dist (c : Dev nD) (hQ : ∀ a d, Qm m c a d = ((qR (m ((c : Thread nD τ).loc main_arg0)) a d : ℝ) : EReal)) (hC : ∀ a d, CBm m c a d = ((cR (m ((c : Thread nD τ).loc main_arg1)) a d : ℝ) : EReal))
    (b : Fin 1024) (n : Fin 24576) :
    (dats m 0 c).arrAt 6 cfg0.N (ix2 b n) = ((dR (qR (m ((c : Thread nD τ).loc main_arg0))) (cR (m ((c : Thread nD τ).loc main_arg1))) (codeN (m ((c : Thread nD τ).loc main_arg2)) n.val) b.val : ℝ) : EReal)
      + (m ((c : Thread nD τ).loc main_arg4) : FVec Ideal S256 .f32) (ix1 ⟨((m ((c : Thread nD τ).loc main_arg3) : IVec S24576 8) (ix1 n)).toNat, BitVec.isLt _⟩) := by
  have hn := n.isLt
  rw [final_raw m c]
  have hcode : ∀ k, k < 9 → (Cm m c (n.val / 512) k (n.val % 512)).toNat < 256 := fun k hk => by
    unfold Cm
    rw [coA_pos _ _ _ hk, BitVec.toNat_setWidth]
    have := ((m ((c : Thread nD τ).loc main_arg2) : IVec S24576x9 8) (ValueIdx.ix2 (Fin.ofNat 24576 (512 * (n.val / 512) + n.val % 512)) (Fin.ofNat 9 k))).isLt
    omega
  refine (out_val hQ hC (Xm m c) (Cm m c (n.val / 512)) (r := n.val / 512) b.isLt (Nat.mod_lt n.val (by decide)) ?_ ?_).trans ?_
  · exact hcode
  · intro k hk
    show ((Cm m c (n.val / 512) k (n.val % 512)) * 8#32 + BitVec.ofNat 32 k * 2048#32).toNat = _
    have h2 := hcode k hk
    simp only [BitVec.toNat_add, BitVec.toNat_mul, BitVec.toNat_ofNat]
    omega
  · refine congrArg₂ (· + ·) (congrArg Real.toEReal (dR_congr fun k hk => ?_)) ?_
    · unfold Cm codeN
      rw [coA_pos _ _ _ hk, BitVec.toNat_setWidth, Nat.div_add_mod]
      have := ((m ((c : Thread nD τ).loc main_arg2) : IVec S24576x9 8) (ix2 (Fin.ofNat 24576 n.val) (Fin.ofNat 9 k))).isLt
      exact Nat.mod_eq_of_lt (by omega)
    · have e : NCm m c (4 * (n.val / 512) + n.val % 512 / 128) (n.val % 512 % 128) = ((m ((c : Thread nD τ).loc main_arg3) : IVec S24576 8) (ix1 n)).setWidth 32 := by
        unfold NCm ncA
        refine congrArg (fun k : Fin 24576 => ((m ((c : Thread nD τ).loc main_arg3) : IVec S24576 8) (ix1 k)).setWidth 32) (Fin.ext ?_)
        show (128 * (4 * (n.val / 512) + n.val % 512 / 128) + n.val % 512 % 128) % 24576 = n.val
        omega
      have hl := ((m ((c : Thread nD τ).loc main_arg3) : IVec S24576 8) (ix1 n)).isLt
      have e' : (NCm m c (4 * (n.val / 512) + n.val % 512 / 128) (n.val % 512 % 128)).toNat = ((m ((c : Thread nD τ).loc main_arg3) : IVec S24576 8) (ix1 n)).toNat := by
        rw [e, BitVec.toNat_setWidth]; exact Nat.mod_eq_of_lt (by omega)
      unfold Xm
      rw [xn_val _ _ _ (Nat.mod_lt _ (by decide)) (by rw [e']; exact hl), e']
      unfold NTm ntA
      exact congrArg (fun k : Fin 256 => (m ((c : Thread nD τ).loc main_arg4) : FVec Ideal S256 .f32) (ix1 k)) (Fin.ext (Nat.mod_eq_of_lt hl))

set_option maxHeartbeats 1600000 in
/-- Both results of the kernel are those of the reference, on finite queries and codebooks. -/
theorem algebraic : Cert.algebraic_KernelIdeal_ReferenceIdeal_pre_finite := by
  pair_intro
  · run_from frame_values m g
  · have hQ := fun c => qR_eq (finite_q (hpre c))
    have hC := fun c => cR_eq (finite_c (hpre c))
    hlo_run
    · funext i
      idx_vars i
      pointwise
      rw [final_dist m c (hQ c) (hC c) i0 i1]
      refine congrArg₂ (· + ·) (sub_coe (sum_coe _ _ fun d => ?_) (mul_coe two_f32 ((Finset.sum_congr rfl fun k _ => ?_).trans (coe_sum Finset.univ _).symm))) ?_
      · exact mul_coe (q_ix (hQ c) i0 d) (q_ix (hQ c) i0 d)
      · have hk := k.isLt
        have hl := ((m ((c.tc : Thread nD τ).loc main_arg2) : IVec S24576x9 8) (ix2 i1 k)).isLt
        have e : codeN (m ((c.tc : Thread nD τ).loc main_arg2)) i1.val k.val = ((m ((c.tc : Thread nD τ).loc main_arg2) : IVec S24576x9 8) (ix2 i1 k)).toNat := by
          unfold codeN
          refine congrArg (fun z : S24576x9.Idx => ((m ((c.tc : Thread nD τ).loc main_arg2) : IVec S24576x9 8) z).toNat) (congrArg₂ ix2 (Fin.ext ?_) (Fin.ext ?_))
          · exact Nat.mod_eq_of_lt i1.isLt
          · exact Nat.mod_eq_of_lt k.isLt
        rw [e]
        refine (gcol_val _ _ i0 i1 k (v := 256 * k.val + ((m ((c.tc : Thread nD τ).loc main_arg2) : IVec S24576x9 8) (ix2 i1 k)).toNat) (by omega) ?_).trans ?_
        · pointwise
          exact flat_word _ k
        · exact sum_coe _ _ fun d => mul_coe (q_ix (hQ c) i0 d) ((cbA_ix _ _ (by omega) d).symm.trans (hC c _ _))
      · refine (grow_val _ _ i1 (BitVec.isLt _) ?_).trans rfl
        pointwise
        exact norm_word _
    · funext i
      idx_vars i
      pointwise
      rw [Yc_v9_1]
      refine (sum_coe _ _ fun d => mul_coe (q_ix (hQ c) i0 d) ((cbA_ix _ _ i1.isLt d).symm.trans (hC c _ _))).trans (lut_val (hQ c) (hC c) i0.isLt).symm

end Cert.Proof.KernelIdeal
-- ==== Proof.lean ====
/- The claims proved together. The modules under Proof/Ki run the idealized kernel and name what it leaves; those under
   Proof/Kc run the kernel itself; the references are lines of host operations. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kc.Run
public import proofs.«01_k».proof.Proof.Ki.Run
public import proofs.«01_k».proof.Proof.Ki.Alg
public import Idealize.ShloMosaic.Adequacy
public import Idealize.ShloMosaic.Init
public import Idealize.ShloMosaic.Lib.Pipeline.ValueKit
public import Idealize.ShloMosaic.Lib.Quiescent

@[expose] public section

set_option maxRecDepth 16384

noncomputable section

namespace Cert.Proof

open Idealize.ShloMosaic Idealize.ShloMosaic.TcCoe Idealize.SL.Sem

set_option maxHeartbeats 1600000 in
/-- The reference runs, leaves its arguments as they were and every semaphore at zero. -/
theorem frame_reference [Cert.ReferenceIdeal.Facts] : Cert.quiescent_ReferenceIdeal := fun m g _ => by
  hlo_run
  · exact fun _ => ⟨trivial, trivial, trivial, trivial, trivial⟩
  · exact sem_eq_zero_of_no_sems (sig := Cert.ReferenceIdeal.sig) (by decide) _

theorem claim : Cert.Claim :=
  ⟨Cert.Kernel.Gen.facts, Cert.KernelIdeal.Gen.facts, Cert.ReferenceIdeal.Gen.facts, Cert.Proof.KernelIdeal.finite_facts,
    ⟨fun m g _ => Cert.Proof.Kernel.frame_only m g, fun m g _ => Cert.Proof.KernelIdeal.frame_only m g, fun m g _ => Cert.Proof.KernelIdeal.frame_only m g,
      frame_reference, fun m g _ => frame_reference m g trivial, trivial, Cert.Proof.KernelIdeal.algebraic⟩⟩

end Cert.Proof
